-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v158)) (v1 : (c : Dev Cert.KernelIdeal.nD) → Buf (Elt Ideal) ((c.tc : Thread Cert.KernelIdeal.nD Cert.KernelIdeal.τ).loc Cert.KernelIdeal.main_v161)) (v2 : (c : Dev Cert.KernelIdeal.nD) → Buf (Elt Ideal) ((c.tc : Thread Cert.KernelIdeal.nD Cert.KernelIdeal.τ).loc Cert.KernelIdeal.main_v167)) (v3 : (c : Dev Cert.KernelIdeal.nD) → Buf (Elt Ideal) ((c.tc : Thread Cert.KernelIdeal.nD Cert.KernelIdeal.τ).loc Cert.KernelIdeal.main_v166)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_v161) = v1 c
          ∧ r.2.mem ((c.tc : Thread Cert.KernelIdeal.nD Cert.KernelIdeal.τ).loc Cert.KernelIdeal.main_v167) = v2 c
          ∧ r.2.mem ((c.tc : Thread Cert.KernelIdeal.nD Cert.KernelIdeal.τ).loc Cert.KernelIdeal.main_v166) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_v9) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v6) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v5) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v6_0)) (v1 : (c : Dev Cert.Kernel15Ideal.nD) → Buf (Elt Ideal) ((c.tc : Thread Cert.Kernel15Ideal.nD Cert.Kernel15Ideal.τ).loc Cert.Kernel15Ideal.main_v6_1)) (v2 : (c : Dev Cert.Kernel15Ideal.nD) → Buf (Elt Ideal) ((c.tc : Thread Cert.Kernel15Ideal.nD Cert.Kernel15Ideal.τ).loc Cert.Kernel15Ideal.main_v6_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v6_0) = v0 c
          ∧ r.2.mem ((c.tc : Thread Cert.Kernel15Ideal.nD Cert.Kernel15Ideal.τ).loc Cert.Kernel15Ideal.main_v6_1) = v1 c
          ∧ r.2.mem ((c.tc : Thread Cert.Kernel15Ideal.nD Cert.Kernel15Ideal.τ).loc Cert.Kernel15Ideal.main_v6_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v3) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S8x8192x128 : Shape := ⟨3, ![8, 8192, 128]⟩
abbrev S8x8192 : Shape := ⟨2, ![8, 8192]⟩
abbrev S_ : Shape := ⟨0, ![]⟩

class Facts : Prop where
  bcast_S_S8x8192x128 : S_.BroadcastsInDim S8x8192x128 (![] : Fin 0 → Fin S8x8192x128.rank)
  bcast_S_S8x8192 : S_.BroadcastsInDim S8x8192 (![] : Fin 0 → Fin S8x8192.rank)

variable [Facts]

def fn {F : FTy → Type} [FloatOps F] (main_arg0 : FVec F S8x8192x128 .f32) (main_arg1 : FVec F S8x8192x128 .f32) (main_arg2 : FVec F S8x8192x128 .f32) (main_arg3 : FVec F S8x8192 .f32) (main_arg4 : FVec F S8x8192x128 .f32) : IVec S8x8192x128 1 × IVec S8x8192x128 1 × IVec S8x8192x128 1 × IVec S8x8192 1 × IVec S8x8192x128 1 :=
  let main_v0 : FVec F S8x8192x128 .f32 := Host.absf main_arg0
  let main_cst : FVec F S_ .f32 := constant S_ .f32 0x7F800000#32
  let main_v1 : FVec F S8x8192x128 .f32 := broadcastInDim S8x8192x128 ![] bcast_S_S8x8192x128 main_cst
  let main_v2 : IVec S8x8192x128 1 := cmpf .olt main_v0 main_v1
  let main_v3 : FVec F S8x8192x128 .f32 := Host.absf main_arg1
  let main_cst_0 : FVec F S_ .f32 := constant S_ .f32 0x7F800000#32
  let main_v4 : FVec F S8x8192x128 .f32 := broadcastInDim S8x8192x128 ![] bcast_S_S8x8192x128 main_cst_0
  let main_v5 : IVec S8x8192x128 1 := cmpf .olt main_v3 main_v4
  let main_v6 : FVec F S8x8192x128 .f32 := Host.absf main_arg2
  let main_cst_1 : FVec F S_ .f32 := constant S_ .f32 0x7F800000#32
  let main_v7 : FVec F S8x8192x128 .f32 := broadcastInDim S8x8192x128 ![] bcast_S_S8x8192x128 main_cst_1
  let main_v8 : IVec S8x8192x128 1 := cmpf .olt main_v6 main_v7
  let main_v9 : FVec F S8x8192 .f32 := Host.absf main_arg3
  let main_cst_2 : FVec F S_ .f32 := constant S_ .f32 0x7F800000#32
  let main_v10 : FVec F S8x8192 .f32 := broadcastInDim S8x8192 ![] bcast_S_S8x8192 main_cst_2
  let main_v11 : IVec S8x8192 1 := cmpf .olt main_v9 main_v10
  let main_v12 : FVec F S8x8192x128 .f32 := Host.absf main_arg4
  let main_cst_3 : FVec F S_ .f32 := constant S_ .f32 0x7F800000#32
  let main_v13 : FVec F S8x8192x128 .f32 := broadcastInDim S8x8192x128 ![] bcast_S_S8x8192x128 main_cst_3
  let main_v14 : IVec S8x8192x128 1 := cmpf .olt main_v12 main_v13
  (main_v2, main_v5, main_v8, main_v11, main_v14)
-- ==== Pre_finite2.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

class Facts : Prop where
  bcast_S_S8192x5632 : S_.BroadcastsInDim S8192x5632 (![] : Fin 0 → Fin S8192x5632.rank)
  bcast_S_S5632x2048 : S_.BroadcastsInDim S5632x2048 (![] : Fin 0 → Fin S5632x2048.rank)
  bcast_S_S8192x2048 : S_.BroadcastsInDim S8192x2048 (![] : Fin 0 → Fin S8192x2048.rank)

variable [Facts]

def fn {F : FTy → Type} [FloatOps F] (main_arg0 : FVec F S8192x5632 .f32) (main_arg1 : FVec F S8192x5632 .f32) (main_arg2 : FVec F S5632x2048 .f32) (main_arg3 : FVec F S8192x2048 .f32) : IVec S8192x5632 1 × IVec S5632x2048 1 × IVec S8192x2048 1 :=
  let main_v0 : FVec F S8192x5632 .f32 := Host.absf main_arg1
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S5632x2048 .f32 := Host.absf main_arg2
  let main_cst_0 : FVec F S_ .f32 := constant S_ .f32 0x7F800000#32
  let main_v4 : FVec F S5632x2048 .f32 := broadcastInDim S5632x2048 ![] bcast_S_S5632x2048 main_cst_0
  let main_v5 : IVec S5632x2048 1 := cmpf .olt main_v3 main_v4
  let main_v6 : FVec F S8192x2048 .f32 := Host.absf main_arg3
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  (main_v2, main_v5, main_v8)
-- ==== Kernel.lean ====
abbrev S8x8192x128 : Shape := ⟨3, ![8, 8192, 128]⟩
abbrev S8x8192 : Shape := ⟨2, ![8, 8192]⟩
abbrev S_ : Shape := ⟨0, ![]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S8192x8192 : Shape := ⟨2, ![8192, 8192]⟩
abbrev S1x8192x8192 : Shape := ⟨3, ![1, 8192, 8192]⟩
abbrev S8x8192x256 : Shape := ⟨3, ![8, 8192, 256]⟩
abbrev S8192x8x256 : Shape := ⟨3, ![8192, 8, 256]⟩
abbrev S8192x2048 : Shape := ⟨2, ![8192, 2048]⟩
abbrev S8x256x8192 : Shape := ⟨3, ![8, 256, 8192]⟩
abbrev S2048x8192 : Shape := ⟨2, ![2048, 8192]⟩
abbrev S8x128x8192 : Shape := ⟨3, ![8, 128, 8192]⟩
abbrev S1024x8192 : Shape := ⟨2, ![1024, 8192]⟩
abbrev S8192x1024 : Shape := ⟨2, ![8192, 1024]⟩
abbrev S8192x256 : Shape := ⟨2, ![8192, 256]⟩
abbrev S256x8192 : Shape := ⟨2, ![256, 8192]⟩
abbrev S128x8192 : Shape := ⟨2, ![128, 8192]⟩
abbrev S256x256 : Shape := ⟨2, ![256, 256]⟩
abbrev S256x128 : Shape := ⟨2, ![256, 128]⟩
abbrev S128x256 : Shape := ⟨2, ![128, 256]⟩
abbrev S512x256 : Shape := ⟨2, ![512, 256]⟩
abbrev S128x512 : Shape := ⟨2, ![128, 512]⟩
abbrev S256x512 : Shape := ⟨2, ![256, 512]⟩
abbrev S1024x256 : Shape := ⟨2, ![1024, 256]⟩
abbrev S128x1024 : Shape := ⟨2, ![128, 1024]⟩
abbrev S256x1024 : Shape := ⟨2, ![256, 1024]⟩
abbrev S8192x8x128 : Shape := ⟨3, ![8192, 8, 128]⟩

abbrev nBuf : Space → Nat
  | .hbm => 226
  | .vmem => 20
  | .smem => 0
  | _ => 0

abbrev hbmTy0_0 (i : Nat) : BufTy := match i % 128 with
  | 0 => ⟨S8x8192x128, .f32⟩
  | 1 => ⟨S8x8192x128, .f32⟩
  | 2 => ⟨S8x8192x128, .f32⟩
  | 3 => ⟨S8x8192, .f32⟩
  | 4 => ⟨S8x8192x128, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S8x8192x8192, .f32⟩
  | 12 => ⟨S_, .f32⟩
  | 13 => ⟨S8x8192x8192, .f32⟩
  | 14 => ⟨S8x8192x8192, .f32⟩
  | 15 => ⟨S8x8192x1, .f32⟩
  | 16 => ⟨S8x8192x8192, .f32⟩
  | 17 => ⟨S8x8192x8192, .f32⟩
  | 18 => ⟨S8x1x8192, .f32⟩
  | 19 => ⟨S8x8192x8192, .f32⟩
  | 20 => ⟨S8x8192x8192, .f32⟩
  | 21 => ⟨S8192x8192, .i32⟩
  | 22 => ⟨S8192x8192, .i32⟩
  | 23 => ⟨S8192x8192, .i1⟩
  | 24 => ⟨S1x8192x8192, .i1⟩
  | 25 => ⟨S_, .f32⟩
  | 26 => ⟨S_, .f32⟩
  | 27 => ⟨S8x8192x8192, .i1⟩
  | 28 => ⟨S8x8192x8192, .f32⟩
  | 29 => ⟨S8x8192x8192, .f32⟩
  | 30 => ⟨S_, .f32⟩
  | 31 => ⟨S8x8192, .f32⟩
  | 32 => ⟨S8x8192x1, .f32⟩
  | 33 => ⟨S8x8192x8192, .f32⟩
  | 34 => ⟨S8x8192x8192, .f32⟩
  | 35 => ⟨S8x8192x8192, .f32⟩
  | 36 => ⟨S_, .f32⟩
  | 37 => ⟨S8x8192, .f32⟩
  | 38 => ⟨S8x8192x1, .f32⟩
  | 39 => ⟨S8x8192x8192, .f32⟩
  | 40 => ⟨S8x8192x8192, .f32⟩
  | 41 => ⟨S8x8192x128, .f32⟩
  | 42 => ⟨S8x8192x1, .f32⟩
  | 43 => ⟨S8x8192x1, .f32⟩
  | 44 => ⟨S8x8192, .f32⟩
  | 45 => ⟨S8x8192, .f32⟩
  | 46 => ⟨S8x8192, .f32⟩
  | 47 => ⟨S8x8192x128, .f32⟩
  | 48 => ⟨S8x8192x128, .f32⟩
  | 49 => ⟨S8x8192x128, .f32⟩
  | 50 => ⟨S_, .f32⟩
  | 51 => ⟨S8x8192, .f32⟩
  | 52 => ⟨S8x8192, .f32⟩
  | 53 => ⟨S8x8192, .f32⟩
  | 54 => ⟨S8x8192, .bf16⟩
  | 55 => ⟨S8x8192, .f32⟩
  | 56 => ⟨S8x8192, .f32⟩
  | 57 => ⟨S8x8192, .bf16⟩
  | 58 => ⟨S8x8192, .f32⟩
  | 59 => ⟨S8x8192, .f32⟩
  | 60 => ⟨S8x8192, .bf16⟩
  | 61 => ⟨S8x8192, .f32⟩
  | 62 => ⟨S8x8192, .f32⟩
  | 63 => ⟨S8x8192, .bf16⟩
  | 64 => ⟨S8x8192, .f32⟩
  | 65 => ⟨S8x8192, .f32⟩
  | 66 => ⟨S8x8192, .bf16⟩
  | 67 => ⟨S8x8192, .f32⟩
  | 68 => ⟨S8x8192, .f32⟩
  | 69 => ⟨S8x8192, .bf16⟩
  | 70 => ⟨S8x8192, .f32⟩
  | 71 => ⟨S8x8192x128, .i32⟩
  | 72 => ⟨S_, .i32⟩
  | 73 => ⟨S8x8192x128, .i32⟩
  | 74 => ⟨S8x8192x128, .i1⟩
  | 75 => ⟨S_, .i32⟩
  | 76 => ⟨S8x8192x128, .i32⟩
  | 77 => ⟨S8x8192x128, .i1⟩
  | 78 => ⟨S8x8192x128, .i1⟩
  | 79 => ⟨S_, .f32⟩
  | 80 => ⟨S_, .f32⟩
  | 81 => ⟨S8x8192x128, .f32⟩
  | 82 => ⟨S8x8192x128, .f32⟩
  | 83 => ⟨S8x8192x128, .f32⟩
  | 84 => ⟨S_, .i32⟩
  | 85 => ⟨S8x8192x128, .i32⟩
  | 86 => ⟨S8x8192x128, .i1⟩
  | 87 => ⟨S8x8192x1, .f32⟩
  | 88 => ⟨S8x8192x128, .f32⟩
  | 89 => ⟨S8x8192x128, .f32⟩
  | 90 => ⟨S8x8192x128, .f32⟩
  | 91 => ⟨S_, .i32⟩
  | 92 => ⟨S8x8192x128, .i32⟩
  | 93 => ⟨S8x8192x128, .i1⟩
  | 94 => ⟨S8x8192x1, .f32⟩
  | 95 => ⟨S8x8192x128, .f32⟩
  | 96 => ⟨S8x8192x128, .f32⟩
  | 97 => ⟨S_, .i32⟩
  | 98 => ⟨S8x8192x128, .i32⟩
  | 99 => ⟨S8x8192x128, .i1⟩
  | 100 => ⟨S8x8192x1, .f32⟩
  | 101 => ⟨S8x8192x128, .f32⟩
  | 102 => ⟨S8x8192x128, .f32⟩
  | 103 => ⟨S8x8192x256, .f32⟩
  | 104 => ⟨S8192x8x256, .f32⟩
  | 105 => ⟨S8192x2048, .f32⟩
  | 106 => ⟨S8192x2048, .bf16⟩
  | 107 => ⟨S8x256x8192, .f32⟩
  | 108 => ⟨S2048x8192, .f32⟩
  | 109 => ⟨S2048x8192, .bf16⟩
  | 110 => ⟨S8x8192, .f32⟩
  | 111 => ⟨S8x8192, .bf16⟩
  | 112 => ⟨S8x8192, .f32⟩
  | 113 => ⟨S8x8192, .f32⟩
  | 114 => ⟨S8x8192, .bf16⟩
  | 115 => ⟨S8x8192, .f32⟩
  | 116 => ⟨S8x8192, .f32⟩
  | 117 => ⟨S8x8192, .bf16⟩
  | 118 => ⟨S8x8192, .f32⟩
  | 119 => ⟨S8x8192x128, .i32⟩
  | 120 => ⟨S_, .f32⟩
  | 121 => ⟨S8x8192x128, .f32⟩
  | 122 => ⟨S_, .i32⟩
  | 123 => ⟨S8x8192x128, .i32⟩
  | 124 => ⟨S8x8192x128, .i1⟩
  | 125 => ⟨S8x8192x1, .f32⟩
  | 126 => ⟨S8x8192x128, .f32⟩
  | 127 => ⟨S8x8192x128, .f32⟩
  | _ => ⟨S8x8192x128, .f32⟩

abbrev hbmTy0_1 (i : Nat) : BufTy := match i % 128 with
  | 0 => ⟨S_, .i32⟩
  | 1 => ⟨S8x8192x128, .i32⟩
  | 2 => ⟨S8x8192x128, .i1⟩
  | 3 => ⟨S8x8192x1, .f32⟩
  | 4 => ⟨S8x8192x128, .f32⟩
  | 5 => ⟨S8x8192x128, .f32⟩
  | 6 => ⟨S_, .i32⟩
  | 7 => ⟨S8x8192x128, .i32⟩
  | 8 => ⟨S8x8192x128, .i1⟩
  | 9 => ⟨S8x8192x1, .f32⟩
  | 10 => ⟨S8x8192x128, .f32⟩
  | 11 => ⟨S8x8192x128, .f32⟩
  | 12 => ⟨S8x8192x256, .f32⟩
  | 13 => ⟨S8192x8x256, .f32⟩
  | 14 => ⟨S8192x2048, .f32⟩
  | 15 => ⟨S8192x2048, .bf16⟩
  | 16 => ⟨S8x128x8192, .f32⟩
  | 17 => ⟨S1024x8192, .f32⟩
  | 18 => ⟨S1024x8192, .bf16⟩
  | 19 => ⟨S8x8192, .f32⟩
  | 20 => ⟨S8x8192, .f32⟩
  | 21 => ⟨S8x8192, .f32⟩
  | 22 => ⟨S8x8192x128, .i32⟩
  | 23 => ⟨S_, .i32⟩
  | 24 => ⟨S8x8192x128, .i32⟩
  | 25 => ⟨S8x8192x128, .i1⟩
  | 26 => ⟨S_, .i32⟩
  | 27 => ⟨S8x8192x128, .i32⟩
  | 28 => ⟨S8x8192x128, .i1⟩
  | 29 => ⟨S8x8192x128, .i1⟩
  | 30 => ⟨S_, .f32⟩
  | 31 => ⟨S_, .f32⟩
  | 32 => ⟨S8x8192x128, .f32⟩
  | 33 => ⟨S8x8192x128, .f32⟩
  | 34 => ⟨S8x8192x128, .f32⟩
  | 35 => ⟨S_, .i32⟩
  | 36 => ⟨S8x8192x128, .i32⟩
  | 37 => ⟨S8x8192x128, .i1⟩
  | 38 => ⟨S8x8192x1, .f32⟩
  | 39 => ⟨S8x8192x128, .f32⟩
  | 40 => ⟨S8x8192x128, .f32⟩
  | 41 => ⟨S8x8192x128, .f32⟩
  | 42 => ⟨S_, .i32⟩
  | 43 => ⟨S8x8192x128, .i32⟩
  | 44 => ⟨S8x8192x128, .i1⟩
  | 45 => ⟨S8x8192x1, .f32⟩
  | 46 => ⟨S8x8192x128, .f32⟩
  | 47 => ⟨S8x8192x128, .f32⟩
  | 48 => ⟨S_, .i32⟩
  | 49 => ⟨S8x8192x128, .i32⟩
  | 50 => ⟨S8x8192x128, .i1⟩
  | 51 => ⟨S8x8192x1, .f32⟩
  | 52 => ⟨S8x8192x128, .f32⟩
  | 53 => ⟨S8x8192x128, .f32⟩
  | 54 => ⟨S8x8192x256, .f32⟩
  | 55 => ⟨S8192x8x256, .f32⟩
  | 56 => ⟨S8192x2048, .f32⟩
  | 57 => ⟨S8192x2048, .bf16⟩
  | 58 => ⟨S8x8192x128, .i32⟩
  | 59 => ⟨S_, .i32⟩
  | 60 => ⟨S8x8192x128, .i32⟩
  | 61 => ⟨S8x8192x128, .i1⟩
  | 62 => ⟨S_, .i32⟩
  | 63 => ⟨S8x8192x128, .i32⟩
  | 64 => ⟨S8x8192x128, .i1⟩
  | 65 => ⟨S8x8192x128, .i1⟩
  | 66 => ⟨S_, .f32⟩
  | 67 => ⟨S_, .f32⟩
  | 68 => ⟨S8x8192x128, .f32⟩
  | 69 => ⟨S8x8192x128, .f32⟩
  | 70 => ⟨S8x8192x128, .f32⟩
  | 71 => ⟨S8x8192x128, .f32⟩
  | 72 => ⟨S8x8192x256, .f32⟩
  | 73 => ⟨S8192x8x256, .f32⟩
  | 74 => ⟨S8192x2048, .f32⟩
  | 75 => ⟨S8192x2048, .bf16⟩
  | 76 => ⟨S8192x2048, .f32⟩
  | 77 => ⟨S8192x2048, .f32⟩
  | 78 => ⟨S8192x1024, .bf16⟩
  | 79 => ⟨S8192x8x256, .f32⟩
  | 80 => ⟨S8x8192x256, .f32⟩
  | 81 => ⟨S8192x8x256, .f32⟩
  | 82 => ⟨S8x8192x256, .f32⟩
  | 83 => ⟨S8192x8x128, .bf16⟩
  | 84 => ⟨S8x8192x128, .bf16⟩
  | 85 => ⟨S8x8192x128, .f32⟩
  | 86 => ⟨S_, .f32⟩
  | 87 => ⟨S8x8192x128, .f32⟩
  | 88 => ⟨S8x8192x128, .f32⟩
  | 89 => ⟨S8x8192x128, .f32⟩
  | 90 => ⟨S8x8192x128, .f32⟩
  | 91 => ⟨S8x8192x128, .f32⟩
  | 92 => ⟨S8x8192x1, .f32⟩
  | 93 => ⟨S8x8192, .f32⟩
  | 94 => ⟨S8x8192x1, .f32⟩
  | 95 => ⟨S8x8192, .f32⟩
  | 96 => ⟨S8x8192, .f32⟩
  | 97 => ⟨S8x8192x128, .f32⟩
  | _ => ⟨S8x8192x128, .f32⟩

abbrev hbmTy (i : Nat) : BufTy := match i / 128 with
  | 0 => hbmTy0_0 i
  | 1 => hbmTy0_1 i
  | _ => ⟨S8x8192x128, .f32⟩

abbrev bufTy : (tb : Table) → Fin (tcTables nBuf tb) → BufTy
  | .hbm, ⟨i, _⟩ => hbmTy i
  | .local _ .vmem, ⟨0, _⟩ => ⟨S8192x256, .bf16⟩
  | .local _ .vmem, ⟨1, _⟩ => ⟨S8192x256, .bf16⟩
  | .local _ .vmem, ⟨2, _⟩ => ⟨S8192x256, .bf16⟩
  | .local _ .vmem, ⟨3, _⟩ => ⟨S8192x256, .bf16⟩
  | .local _ .vmem, ⟨4, _⟩ => ⟨S256x8192, .bf16⟩
  | .local _ .vmem, ⟨5, _⟩ => ⟨S256x8192, .bf16⟩
  | .local _ .vmem, ⟨6, _⟩ => ⟨S128x8192, .bf16⟩
  | .local _ .vmem, ⟨7, _⟩ => ⟨S128x8192, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S8192x256, .f32⟩
  | .local _ .vmem, ⟨13, _⟩ => ⟨S8192x256, .f32⟩
  | .local _ .vmem, ⟨14, _⟩ => ⟨S256x256, .f32⟩
  | .local _ .vmem, ⟨15, _⟩ => ⟨S256x256, .f32⟩
  | .local _ .vmem, ⟨16, _⟩ => ⟨S256x128, .bf16⟩
  | .local _ .vmem, ⟨17, _⟩ => ⟨S256x128, .bf16⟩
  | .local _ .vmem, ⟨18, _⟩ => ⟨S256x256, .f32⟩
  | .local _ .vmem, ⟨19, _⟩ => ⟨S128x256, .f32⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c : Ref sig .tc := ⟨.hbm, 72, rfl⟩
abbrev main_v56 : Ref sig .tc := ⟨.hbm, 73, rfl⟩
abbrev main_v57 : Ref sig .tc := ⟨.hbm, 74, rfl⟩
abbrev main_c_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_cst_9 : Ref sig .tc := ⟨.hbm, 80, rfl⟩
abbrev main_call1_v0 : Ref sig .tc := ⟨.hbm, 81, rfl⟩
abbrev main_call1_v1 : Ref sig .tc := ⟨.hbm, 82, rfl⟩
abbrev main_v61 : Ref sig .tc := ⟨.hbm, 83, rfl⟩
abbrev main_c_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call2_v0 : Ref sig .tc := ⟨.hbm, 88, rfl⟩
abbrev main_call2_v1 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call3_v0 : Ref sig .tc := ⟨.hbm, 95, rfl⟩
abbrev main_v69 : Ref sig .tc := ⟨.hbm, 96, rfl⟩
abbrev main_c_12 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_call4_v0 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_13 : Ref sig .tc := ⟨.hbm, 120, rfl⟩
abbrev main_v91 : Ref sig .tc := ⟨.hbm, 121, rfl⟩
abbrev main_c_14 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_call5_v0 : Ref sig .tc := ⟨.hbm, 126, rfl⟩
abbrev main_v95 : Ref sig .tc := ⟨.hbm, 127, rfl⟩
abbrev main_c_15 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_call6_v0 : Ref sig .tc := ⟨.hbm, 132, rfl⟩
abbrev main_v99 : Ref sig .tc := ⟨.hbm, 133, rfl⟩
abbrev main_c_16 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_call7_v0 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_c_17 : Ref sig .tc := ⟨.hbm, 151, rfl⟩
abbrev main_v115 : Ref sig .tc := ⟨.hbm, 152, rfl⟩
abbrev main_v116 : Ref sig .tc := ⟨.hbm, 153, rfl⟩
abbrev main_c_18 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_19 : Ref sig .tc := ⟨.hbm, 158, rfl⟩
abbrev main_cst_20 : Ref sig .tc := ⟨.hbm, 159, rfl⟩
abbrev main_call8_v0 : Ref sig .tc := ⟨.hbm, 160, rfl⟩
abbrev main_call8_v1 : Ref sig .tc := ⟨.hbm, 161, rfl⟩
abbrev main_v120 : Ref sig .tc := ⟨.hbm, 162, rfl⟩
abbrev main_c_21 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_call9_v0 : Ref sig .tc := ⟨.hbm, 167, rfl⟩
abbrev main_call9_v1 : Ref sig .tc := ⟨.hbm, 168, rfl⟩
abbrev main_v124 : Ref sig .tc := ⟨.hbm, 169, rfl⟩
abbrev main_c_22 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_call10_v0 : Ref sig .tc := ⟨.hbm, 174, rfl⟩
abbrev main_v128 : Ref sig .tc := ⟨.hbm, 175, rfl⟩
abbrev main_c_23 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_call11_v0 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_c_24 : Ref sig .tc := ⟨.hbm, 187, rfl⟩
abbrev main_v138 : Ref sig .tc := ⟨.hbm, 188, rfl⟩
abbrev main_v139 : Ref sig .tc := ⟨.hbm, 189, rfl⟩
abbrev main_c_25 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_26 : Ref sig .tc := ⟨.hbm, 194, rfl⟩
abbrev main_cst_27 : Ref sig .tc := ⟨.hbm, 195, rfl⟩
abbrev main_call12_v0 : Ref sig .tc := ⟨.hbm, 196, rfl⟩
abbrev main_call12_v1 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149_0 : Ref sig .tc := ⟨.hbm, 204, rfl⟩
abbrev main_v149_1 : Ref sig .tc := ⟨.hbm, 205, rfl⟩
abbrev main_v149_2 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_cst_28 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c30_i32 : BitVec 32 := 30#32
  let v8 : BitVec 32 := Scalar.minsi arg1 c30_i32
  let c256_i32_7 : BitVec 32 := 256#32
  let v27 : BitVec 32 := Scalar.muli v8 c256_i32_7
  v27
def k0_off1 (i : grid0.Coords) : Fin 2 → Nat :=
  let arg1 : BitVec 32 := BitVec.ofNat 32 (i 1).val
  let c30_i32 : BitVec 32 := 30#32
  let v8 : BitVec 32 := Scalar.minsi arg1 c30_i32
  let c256_i32_7 : BitVec 32 := 256#32
  let v27 : BitVec 32 := Scalar.muli v8 c256_i32_7
  let v28 : BitVec 32 := v27
  let v29 : Index := Scalar.indexCast v28
  let c0_8 : Index := 0#32
  ![v29.toNat, 0]
def k0_off2 (i : grid0.Coords) : Fin 2 → Nat :=
  let c0_12 : Index := 0#32
  let arg1 : BitVec 32 := BitVec.ofNat 32 (i 1).val
  let c30_i32 : BitVec 32 := 30#32
  let v8 : BitVec 32 := Scalar.minsi arg1 c30_i32
  let c256_i32_7 : BitVec 32 := 256#32
  let v27 : BitVec 32 := Scalar.muli v8 c256_i32_7
  let v28 : BitVec 32 := v27
  let v42 : Index := Scalar.indexCast v28
  ![0, v42.toNat]
def k0_off3 (i : grid0.Coords) : Fin 2 → Nat :=
  let c0_14 : Index := 0#32
  let arg1 : BitVec 32 := BitVec.ofNat 32 (i 1).val
  let c30_i32 : BitVec 32 := 30#32
  let v8 : BitVec 32 := Scalar.minsi arg1 c30_i32
  let c256_i32_7 : BitVec 32 := 256#32
  let v27 : BitVec 32 := Scalar.muli v8 c256_i32_7
  let v28 : BitVec 32 := v27
  let v47 : Index := Scalar.indexCast v28
  ![0, v47.toNat]
@[reducible] def k0_t1_loop (i : grid0.Coords) : Scf.Loop 32 :=
  let c0_i32_34 : BitVec 32 := 0#32
  let c31_i32 : BitVec 32 := 31#32
  let arg1 : BitVec 32 := BitVec.ofNat 32 (i 1).val
  let v7 : BitVec 32 := Scalar.subi c31_i32 arg1
  let c0_i32_26 : BitVec 32 := 0#32
  let v68 : BitVec 1 := Scalar.cmpi .sgt v7 c0_i32_26
  let v69 : BitVec 32 := Scalar.extui v68
  let c0_i32_27 : BitVec 32 := 0#32
  let v70 : BitVec 1 := Scalar.cmpi .slt v7 c0_i32_27
  let v71 : BitVec 32 := Scalar.extui v70
  let v72 : BitVec 32 := Scalar.subi v69 v71
  let c2_i32_25 : BitVec 32 := 2#32
  let c0_i32_28 : BitVec 32 := 0#32
  let v73 : BitVec 1 := Scalar.cmpi .sgt c2_i32_25 c0_i32_28
  let v74 : BitVec 32 := Scalar.extui v73
  let c0_i32_29 : BitVec 32 := 0#32
  let v75 : BitVec 1 := Scalar.cmpi .slt c2_i32_25 c0_i32_29
  let v76 : BitVec 32 := Scalar.extui v75
  let v77 : BitVec 32 := Scalar.subi v74 v76
  let v78 : BitVec 1 := Scalar.cmpi .ne v72 v77
  let v79 : BitVec 32 := Scalar.remsi v7 c2_i32_25
  let c0_i32_30 : BitVec 32 := 0#32
  let v80 : BitVec 1 := Scalar.cmpi .ne v79 c0_i32_30
  let v81 : BitVec 1 := Scalar.andi v78 v80
  let v67 : BitVec 32 := Scalar.divsi v7 c2_i32_25
  let c1_i32_31 : BitVec 32 := 1#32
  let v82 : BitVec 32 := Scalar.subi v67 c1_i32_31
  let v83 : BitVec 32 := Scalar.select v81 v82 v67
  let c2_i32_32 : BitVec 32 := 2#32
  let v84 : BitVec 32 := Scalar.remsi v83 c2_i32_32
  let v85 : BitVec 32 := Scalar.subi v84 c0_i32_34
  let c1_i32_35 : BitVec 32 := 1#32
  let v87 : BitVec 32 := Scalar.divsi v85 c1_i32_35
  let v88 : BitVec 32 := Scalar.muli v87 c1_i32_35
  let v89 : BitVec 32 := Scalar.addi c0_i32_34 v88
  let c1_i32_36 : BitVec 32 := 1#32
  ⟨c0_i32_34, v89, c1_i32_36⟩
def k0_mult2 (i : grid0.Coords) : BitVec 32 :=
  let arg1 : BitVec 32 := BitVec.ofNat 32 (i 1).val
  let c1_i32_23 : BitVec 32 := 1#32
  let v64 : BitVec 32 := Scalar.addi arg1 c1_i32_23
  let c31_i32 : BitVec 32 := 31#32
  let v7 : BitVec 32 := Scalar.subi c31_i32 arg1
  let c2_i32_24 : BitVec 32 := 2#32
  let v65 : BitVec 32 := Scalar.remsi v7 c2_i32_24
  let v66 : BitVec 32 := Scalar.addi v64 v65
  let c256_i32_58 : BitVec 32 := 256#32
  let v119 : BitVec 32 := Scalar.muli v66 c256_i32_58
  v119
def k0_off4 (i : grid0.Coords) : Fin 2 → Nat :=
  let arg1 : BitVec 32 := BitVec.ofNat 32 (i 1).val
  let c1_i32_23 : BitVec 32 := 1#32
  let v64 : BitVec 32 := Scalar.addi arg1 c1_i32_23
  let c31_i32 : BitVec 32 := 31#32
  let v7 : BitVec 32 := Scalar.subi c31_i32 arg1
  let c2_i32_24 : BitVec 32 := 2#32
  let v65 : BitVec 32 := Scalar.remsi v7 c2_i32_24
  let v66 : BitVec 32 := Scalar.addi v64 v65
  let c256_i32_58 : BitVec 32 := 256#32
  let v119 : BitVec 32 := Scalar.muli v66 c256_i32_58
  let v120 : BitVec 32 := v119
  let v121 : Index := Scalar.indexCast v120
  let c0_59 : Index := 0#32
  ![v121.toNat, 0]
def k0_off5 (i : grid0.Coords) : Fin 2 → Nat :=
  let c0_63 : Index := 0#32
  let arg1 : BitVec 32 := BitVec.ofNat 32 (i 1).val
  let c1_i32_23 : BitVec 32 := 1#32
  let v64 : BitVec 32 := Scalar.addi arg1 c1_i32_23
  let c31_i32 : BitVec 32 := 31#32
  let v7 : BitVec 32 := Scalar.subi c31_i32 arg1
  let c2_i32_24 : BitVec 32 := 2#32
  let v65 : BitVec 32 := Scalar.remsi v7 c2_i32_24
  let v66 : BitVec 32 := Scalar.addi v64 v65
  let c256_i32_58 : BitVec 32 := 256#32
  let v119 : BitVec 32 := Scalar.muli v66 c256_i32_58
  let v120 : BitVec 32 := v119
  let v132 : Index := Scalar.indexCast v120
  ![0, v132.toNat]
def k0_off6 (i : grid0.Coords) : Fin 2 → Nat :=
  let c0_65 : Index := 0#32
  let arg1 : BitVec 32 := BitVec.ofNat 32 (i 1).val
  let c1_i32_23 : BitVec 32 := 1#32
  let v64 : BitVec 32 := Scalar.addi arg1 c1_i32_23
  let c31_i32 : BitVec 32 := 31#32
  let v7 : BitVec 32 := Scalar.subi c31_i32 arg1
  let c2_i32_24 : BitVec 32 := 2#32
  let v65 : BitVec 32 := Scalar.remsi v7 c2_i32_24
  let v66 : BitVec 32 := Scalar.addi v64 v65
  let c256_i32_58 : BitVec 32 := 256#32
  let v119 : BitVec 32 := Scalar.muli v66 c256_i32_58
  let v120 : BitVec 32 := v119
  let v137 : Index := Scalar.indexCast v120
  ![0, v137.toNat]
@[reducible] def k0_t2_loop (i : grid0.Coords) : Scf.Loop 32 :=
  let c0_i32_34 : BitVec 32 := 0#32
  let c31_i32 : BitVec 32 := 31#32
  let arg1 : BitVec 32 := BitVec.ofNat 32 (i 1).val
  let v7 : BitVec 32 := Scalar.subi c31_i32 arg1
  let c0_i32_26 : BitVec 32 := 0#32
  let v68 : BitVec 1 := Scalar.cmpi .sgt v7 c0_i32_26
  let v69 : BitVec 32 := Scalar.extui v68
  let c0_i32_27 : BitVec 32 := 0#32
  let v70 : BitVec 1 := Scalar.cmpi .slt v7 c0_i32_27
  let v71 : BitVec 32 := Scalar.extui v70
  let v72 : BitVec 32 := Scalar.subi v69 v71
  let c2_i32_25 : BitVec 32 := 2#32
  let c0_i32_28 : BitVec 32 := 0#32
  let v73 : BitVec 1 := Scalar.cmpi .sgt c2_i32_25 c0_i32_28
  let v74 : BitVec 32 := Scalar.extui v73
  let c0_i32_29 : BitVec 32 := 0#32
  let v75 : BitVec 1 := Scalar.cmpi .slt c2_i32_25 c0_i32_29
  let v76 : BitVec 32 := Scalar.extui v75
  let v77 : BitVec 32 := Scalar.subi v74 v76
  let v78 : BitVec 1 := Scalar.cmpi .ne v72 v77
  let v79 : BitVec 32 := Scalar.remsi v7 c2_i32_25
  let c0_i32_30 : BitVec 32 := 0#32
  let v80 : BitVec 1 := Scalar.cmpi .ne v79 c0_i32_30
  let v81 : BitVec 1 := Scalar.andi v78 v80
  let v67 : BitVec 32 := Scalar.divsi v7 c2_i32_25
  let c1_i32_31 : BitVec 32 := 1#32
  let v82 : BitVec 32 := Scalar.subi v67 c1_i32_31
  let v83 : BitVec 32 := Scalar.select v81 v82 v67
  let c2_i32_32 : BitVec 32 := 2#32
  let v84 : BitVec 32 := Scalar.remsi v83 c2_i32_32
  let v85 : BitVec 32 := Scalar.subi v84 c0_i32_34
  let c1_i32_35 : BitVec 32 := 1#32
  let v87 : BitVec 32 := Scalar.divsi v85 c1_i32_35
  let v88 : BitVec 32 := Scalar.muli v87 c1_i32_35
  let v89 : BitVec 32 := Scalar.addi c0_i32_34 v88
  let v86 : BitVec 32 := Scalar.addi c0_i32_34 v85
  let c1_i32_37 : BitVec 32 := 1#32
  ⟨v89, v86, c1_i32_37⟩
def k0_mult3 (i : grid0.Coords) : BitVec 32 :=
  let arg1 : BitVec 32 := BitVec.ofNat 32 (i 1).val
  let c1_i32_23 : BitVec 32 := 1#32
  let v64 : BitVec 32 := Scalar.addi arg1 c1_i32_23
  let c31_i32 : BitVec 32 := 31#32
  let v7 : BitVec 32 := Scalar.subi c31_i32 arg1
  let c2_i32_24 : BitVec 32 := 2#32
  let v65 : BitVec 32 := Scalar.remsi v7 c2_i32_24
  let v66 : BitVec 32 := Scalar.addi v64 v65
  let c256_i32_58 : BitVec 32 := 256#32
  let v119 : BitVec 32 := Scalar.muli v66 c256_i32_58
  v119
def k0_off7 (i : grid0.Coords) : Fin 2 → Nat :=
  let arg1 : BitVec 32 := BitVec.ofNat 32 (i 1).val
  let c1_i32_23 : BitVec 32 := 1#32
  let v64 : BitVec 32 := Scalar.addi arg1 c1_i32_23
  let c31_i32 : BitVec 32 := 31#32
  let v7 : BitVec 32 := Scalar.subi c31_i32 arg1
  let c2_i32_24 : BitVec 32 := 2#32
  let v65 : BitVec 32 := Scalar.remsi v7 c2_i32_24
  let v66 : BitVec 32 := Scalar.addi v64 v65
  let c256_i32_58 : BitVec 32 := 256#32
  let v119 : BitVec 32 := Scalar.muli v66 c256_i32_58
  let v120 : BitVec 32 := v119
  let v121 : Index := Scalar.indexCast v120
  let c0_59 : Index := 0#32
  ![v121.toNat, 0]
def k0_off8 (i : grid0.Coords) : Fin 2 → Nat :=
  let c0_63 : Index := 0#32
  let arg1 : BitVec 32 := BitVec.ofNat 32 (i 1).val
  let c1_i32_23 : BitVec 32 := 1#32
  let v64 : BitVec 32 := Scalar.addi arg1 c1_i32_23
  let c31_i32 : BitVec 32 := 31#32
  let v7 : BitVec 32 := Scalar.subi c31_i32 arg1
  let c2_i32_24 : BitVec 32 := 2#32
  let v65 : BitVec 32 := Scalar.remsi v7 c2_i32_24
  let v66 : BitVec 32 := Scalar.addi v64 v65
  let c256_i32_58 : BitVec 32 := 256#32
  let v119 : BitVec 32 := Scalar.muli v66 c256_i32_58
  let v120 : BitVec 32 := v119
  let v132 : Index := Scalar.indexCast v120
  ![0, v132.toNat]
def k0_off9 (i : grid0.Coords) : Fin 2 → Nat :=
  let c0_65 : Index := 0#32
  let arg1 : BitVec 32 := BitVec.ofNat 32 (i 1).val
  let c1_i32_23 : BitVec 32 := 1#32
  let v64 : BitVec 32 := Scalar.addi arg1 c1_i32_23
  let c31_i32 : BitVec 32 := 31#32
  let v7 : BitVec 32 := Scalar.subi c31_i32 arg1
  let c2_i32_24 : BitVec 32 := 2#32
  let v65 : BitVec 32 := Scalar.remsi v7 c2_i32_24
  let v66 : BitVec 32 := Scalar.addi v64 v65
  let c256_i32_58 : BitVec 32 := 256#32
  let v119 : BitVec 32 := Scalar.muli v66 c256_i32_58
  let v120 : BitVec 32 := v119
  let v137 : Index := Scalar.indexCast v120
  ![0, v137.toNat]
@[reducible] def k0_t3_loop (i : grid0.Coords) : Scf.Loop 32 :=
  let c0_i32_46 : BitVec 32 := 0#32
  let c31_i32 : BitVec 32 := 31#32
  let arg1 : BitVec 32 := BitVec.ofNat 32 (i 1).val
  let v7 : BitVec 32 := Scalar.subi c31_i32 arg1
  let c0_i32_26 : BitVec 32 := 0#32
  let v68 : BitVec 1 := Scalar.cmpi .sgt v7 c0_i32_26
  let v69 : BitVec 32 := Scalar.extui v68
  let c0_i32_27 : BitVec 32 := 0#32
  let v70 : BitVec 1 := Scalar.cmpi .slt v7 c0_i32_27
  let v71 : BitVec 32 := Scalar.extui v70
  let v72 : BitVec 32 := Scalar.subi v69 v71
  let c2_i32_25 : BitVec 32 := 2#32
  let c0_i32_28 : BitVec 32 := 0#32
  let v73 : BitVec 1 := Scalar.cmpi .sgt c2_i32_25 c0_i32_28
  let v74 : BitVec 32 := Scalar.extui v73
  let c0_i32_29 : BitVec 32 := 0#32
  let v75 : BitVec 1 := Scalar.cmpi .slt c2_i32_25 c0_i32_29
  let v76 : BitVec 32 := Scalar.extui v75
  let v77 : BitVec 32 := Scalar.subi v74 v76
  let v78 : BitVec 1 := Scalar.cmpi .ne v72 v77
  let v79 : BitVec 32 := Scalar.remsi v7 c2_i32_25
  let c0_i32_30 : BitVec 32 := 0#32
  let v80 : BitVec 1 := Scalar.cmpi .ne v79 c0_i32_30
  let v81 : BitVec 1 := Scalar.andi v78 v80
  let v67 : BitVec 32 := Scalar.divsi v7 c2_i32_25
  let c1_i32_31 : BitVec 32 := 1#32
  let v82 : BitVec 32 := Scalar.subi v67 c1_i32_31
  let v83 : BitVec 32 := Scalar.select v81 v82 v67
  let c0_i32_39 : BitVec 32 := 0#32
  let v91 : BitVec 1 := Scalar.cmpi .sgt v83 c0_i32_39
  let v92 : BitVec 32 := Scalar.extui v91
  let c0_i32_40 : BitVec 32 := 0#32
  let v93 : BitVec 1 := Scalar.cmpi .slt v83 c0_i32_40
  let v94 : BitVec 32 := Scalar.extui v93
  let v95 : BitVec 32 := Scalar.subi v92 v94
  let c2_i32_38 : BitVec 32 := 2#32
  let c0_i32_41 : BitVec 32 := 0#32
  let v96 : BitVec 1 := Scalar.cmpi .sgt c2_i32_38 c0_i32_41
  let v97 : BitVec 32 := Scalar.extui v96
  let c0_i32_42 : BitVec 32 := 0#32
  let v98 : BitVec 1 := Scalar.cmpi .slt c2_i32_38 c0_i32_42
  let v99 : BitVec 32 := Scalar.extui v98
  let v100 : BitVec 32 := Scalar.subi v97 v99
  let v101 : BitVec 1 := Scalar.cmpi .ne v95 v100
  let v102 : BitVec 32 := Scalar.remsi v83 c2_i32_38
  let c0_i32_43 : BitVec 32 := 0#32
  let v103 : BitVec 1 := Scalar.cmpi .ne v102 c0_i32_43
  let v104 : BitVec 1 := Scalar.andi v101 v103
  let v90 : BitVec 32 := Scalar.divsi v83 c2_i32_38
  let c1_i32_44 : BitVec 32 := 1#32
  let v105 : BitVec 32 := Scalar.subi v90 c1_i32_44
  let v106 : BitVec 32 := Scalar.select v104 v105 v90
  let v107 : BitVec 32 := Scalar.subi v106 c0_i32_46
  let c1_i32_47 : BitVec 32 := 1#32
  let v109 : BitVec 32 := Scalar.divsi v107 c1_i32_47
  let v110 : BitVec 32 := Scalar.muli v109 c1_i32_47
  let v111 : BitVec 32 := Scalar.addi c0_i32_46 v110
  let c1_i32_48 : BitVec 32 := 1#32
  ⟨c0_i32_46, v111, c1_i32_48⟩
def k0_mult4 (i : grid0.Coords) (k0_t3 : Fin (k0_t3_loop i).trips) : BitVec 32 :=
  let arg1 : BitVec 32 := BitVec.ofNat 32 (i 1).val
  let c1_i32_23 : BitVec 32 := 1#32
  let v64 : BitVec 32 := Scalar.addi arg1 c1_i32_23
  let c31_i32 : BitVec 32 := 31#32
  let v7 : BitVec 32 := Scalar.subi c31_i32 arg1
  let c2_i32_24 : BitVec 32 := 2#32
  let v65 : BitVec 32 := Scalar.remsi v7 c2_i32_24
  let v66 : BitVec 32 := Scalar.addi v64 v65
  let c2_i32_59 : BitVec 32 := 2#32
  let c0_i32_26 : BitVec 32 := 0#32
  let v68 : BitVec 1 := Scalar.cmpi .sgt v7 c0_i32_26
  let v69 : BitVec 32 := Scalar.extui v68
  let c0_i32_27 : BitVec 32 := 0#32
  let v70 : BitVec 1 := Scalar.cmpi .slt v7 c0_i32_27
  let v71 : BitVec 32 := Scalar.extui v70
  let v72 : BitVec 32 := Scalar.subi v69 v71
  let c2_i32_25 : BitVec 32 := 2#32
  let c0_i32_28 : BitVec 32 := 0#32
  let v73 : BitVec 1 := Scalar.cmpi .sgt c2_i32_25 c0_i32_28
  let v74 : BitVec 32 := Scalar.extui v73
  let c0_i32_29 : BitVec 32 := 0#32
  let v75 : BitVec 1 := Scalar.cmpi .slt c2_i32_25 c0_i32_29
  let v76 : BitVec 32 := Scalar.extui v75
  let v77 : BitVec 32 := Scalar.subi v74 v76
  let v78 : BitVec 1 := Scalar.cmpi .ne v72 v77
  let v79 : BitVec 32 := Scalar.remsi v7 c2_i32_25
  let c0_i32_30 : BitVec 32 := 0#32
  let v80 : BitVec 1 := Scalar.cmpi .ne v79 c0_i32_30
  let v81 : BitVec 1 := Scalar.andi v78 v80
  let v67 : BitVec 32 := Scalar.divsi v7 c2_i32_25
  let c1_i32_31 : BitVec 32 := 1#32
  let v82 : BitVec 32 := Scalar.subi v67 c1_i32_31
  let v83 : BitVec 32 := Scalar.select v81 v82 v67
  let c2_i32_58 : BitVec 32 := 2#32
  let v119 : BitVec 32 := Scalar.remsi v83 c2_i32_58
  let v120 : BitVec 32 := Scalar.muli c2_i32_59 v119
  let v121 : BitVec 32 := Scalar.addi v66 v120
  let c4_i32 : BitVec 32 := 4#32
  let c0_i32_46 : BitVec 32 := 0#32
  let c1_i32_48 : BitVec 32 := 1#32
  let arg13 : BitVec 32 := Scf.iv c0_i32_46 c1_i32_48 k0_t3
  let v122 : BitVec 32 := Scalar.muli c4_i32 arg13
  let v123 : BitVec 32 := Scalar.addi v121 v122
  let c256_i32_60 : BitVec 32 := 256#32
  let v124 : BitVec 32 := Scalar.muli v123 c256_i32_60
  v124
def k0_off10 (i : grid0.Coords) (k0_t3 : Fin (k0_t3_loop i).trips) : Fin 2 → Nat :=
  let arg1 : BitVec 32 := BitVec.ofNat 32 (i 1).val
  let c1_i32_23 : BitVec 32 := 1#32
  let v64 : BitVec 32 := Scalar.addi arg1 c1_i32_23
  let c31_i32 : BitVec 32 := 31#32
  let v7 : BitVec 32 := Scalar.subi c31_i32 arg1
  let c2_i32_24 : BitVec 32 := 2#32
  let v65 : BitVec 32 := Scalar.remsi v7 c2_i32_24
  let v66 : BitVec 32 := Scalar.addi v64 v65
  let c2_i32_59 : BitVec 32 := 2#32
  let c0_i32_26 : BitVec 32 := 0#32
  let v68 : BitVec 1 := Scalar.cmpi .sgt v7 c0_i32_26
  let v69 : BitVec 32 := Scalar.extui v68
  let c0_i32_27 : BitVec 32 := 0#32
  let v70 : BitVec 1 := Scalar.cmpi .slt v7 c0_i32_27
  let v71 : BitVec 32 := Scalar.extui v70
  let v72 : BitVec 32 := Scalar.subi v69 v71
  let c2_i32_25 : BitVec 32 := 2#32
  let c0_i32_28 : BitVec 32 := 0#32
  let v73 : BitVec 1 := Scalar.cmpi .sgt c2_i32_25 c0_i32_28
  let v74 : BitVec 32 := Scalar.extui v73
  let c0_i32_29 : BitVec 32 := 0#32
  let v75 : BitVec 1 := Scalar.cmpi .slt c2_i32_25 c0_i32_29
  let v76 : BitVec 32 := Scalar.extui v75
  let v77 : BitVec 32 := Scalar.subi v74 v76
  let v78 : BitVec 1 := Scalar.cmpi .ne v72 v77
  let v79 : BitVec 32 := Scalar.remsi v7 c2_i32_25
  let c0_i32_30 : BitVec 32 := 0#32
  let v80 : BitVec 1 := Scalar.cmpi .ne v79 c0_i32_30
  let v81 : BitVec 1 := Scalar.andi v78 v80
  let v67 : BitVec 32 := Scalar.divsi v7 c2_i32_25
  let c1_i32_31 : BitVec 32 := 1#32
  let v82 : BitVec 32 := Scalar.subi v67 c1_i32_31
  let v83 : BitVec 32 := Scalar.select v81 v82 v67
  let c2_i32_58 : BitVec 32 := 2#32
  let v119 : BitVec 32 := Scalar.remsi v83 c2_i32_58
  let v120 : BitVec 32 := Scalar.muli c2_i32_59 v119
  let v121 : BitVec 32 := Scalar.addi v66 v120
  let c4_i32 : BitVec 32 := 4#32
  let c0_i32_46 : BitVec 32 := 0#32
  let c1_i32_48 : BitVec 32 := 1#32
  let arg13 : BitVec 32 := Scf.iv c0_i32_46 c1_i32_48 k0_t3
  let v122 : BitVec 32 := Scalar.muli c4_i32 arg13
  let v123 : BitVec 32 := Scalar.addi v121 v122
  let c256_i32_60 : BitVec 32 := 256#32
  let v124 : BitVec 32 := Scalar.muli v123 c256_i32_60
  let v125 : BitVec 32 := v124
  let v126 : Index := Scalar.indexCast v125
  let c0_61 : Index := 0#32
  ![v126.toNat, 0]
def k0_off11 (i : grid0.Coords) (k0_t3 : Fin (k0_t3_loop i).trips) : Fin 2 → Nat :=
  let c0_65 : Index := 0#32
  let arg1 : BitVec 32 := BitVec.ofNat 32 (i 1).val
  let c1_i32_23 : BitVec 32 := 1#32
  let v64 : BitVec 32 := Scalar.addi arg1 c1_i32_23
  let c31_i32 : BitVec 32 := 31#32
  let v7 : BitVec 32 := Scalar.subi c31_i32 arg1
  let c2_i32_24 : BitVec 32 := 2#32
  let v65 : BitVec 32 := Scalar.remsi v7 c2_i32_24
  let v66 : BitVec 32 := Scalar.addi v64 v65
  let c2_i32_59 : BitVec 32 := 2#32
  let c0_i32_26 : BitVec 32 := 0#32
  let v68 : BitVec 1 := Scalar.cmpi .sgt v7 c0_i32_26
  let v69 : BitVec 32 := Scalar.extui v68
  let c0_i32_27 : BitVec 32 := 0#32
  let v70 : BitVec 1 := Scalar.cmpi .slt v7 c0_i32_27
  let v71 : BitVec 32 := Scalar.extui v70
  let v72 : BitVec 32 := Scalar.subi v69 v71
  let c2_i32_25 : BitVec 32 := 2#32
  let c0_i32_28 : BitVec 32 := 0#32
  let v73 : BitVec 1 := Scalar.cmpi .sgt c2_i32_25 c0_i32_28
  let v74 : BitVec 32 := Scalar.extui v73
  let c0_i32_29 : BitVec 32 := 0#32
  let v75 : BitVec 1 := Scalar.cmpi .slt c2_i32_25 c0_i32_29
  let v76 : BitVec 32 := Scalar.extui v75
  let v77 : BitVec 32 := Scalar.subi v74 v76
  let v78 : BitVec 1 := Scalar.cmpi .ne v72 v77
  let v79 : BitVec 32 := Scalar.remsi v7 c2_i32_25
  let c0_i32_30 : BitVec 32 := 0#32
  let v80 : BitVec 1 := Scalar.cmpi .ne v79 c0_i32_30
  let v81 : BitVec 1 := Scalar.andi v78 v80
  let v67 : BitVec 32 := Scalar.divsi v7 c2_i32_25
  let c1_i32_31 : BitVec 32 := 1#32
  let v82 : BitVec 32 := Scalar.subi v67 c1_i32_31
  let v83 : BitVec 32 := Scalar.select v81 v82 v67
  let c2_i32_58 : BitVec 32 := 2#32
  let v119 : BitVec 32 := Scalar.remsi v83 c2_i32_58
  let v120 : BitVec 32 := Scalar.muli c2_i32_59 v119
  let v121 : BitVec 32 := Scalar.addi v66 v120
  let c4_i32 : BitVec 32 := 4#32
  let c0_i32_46 : BitVec 32 := 0#32
  let c1_i32_48 : BitVec 32 := 1#32
  let arg13 : BitVec 32 := Scf.iv c0_i32_46 c1_i32_48 k0_t3
  let v122 : BitVec 32 := Scalar.muli c4_i32 arg13
  let v123 : BitVec 32 := Scalar.addi v121 v122
  let c256_i32_60 : BitVec 32 := 256#32
  let v124 : BitVec 32 := Scalar.muli v123 c256_i32_60
  let v125 : BitVec 32 := v124
  let v137 : Index := Scalar.indexCast v125
  ![0, v137.toNat]
def k0_off12 (i : grid0.Coords) (k0_t3 : Fin (k0_t3_loop i).trips) : Fin 2 → Nat :=
  let c0_67 : Index := 0#32
  let arg1 : BitVec 32 := BitVec.ofNat 32 (i 1).val
  let c1_i32_23 : BitVec 32 := 1#32
  let v64 : BitVec 32 := Scalar.addi arg1 c1_i32_23
  let c31_i32 : BitVec 32 := 31#32
  let v7 : BitVec 32 := Scalar.subi c31_i32 arg1
  let c2_i32_24 : BitVec 32 := 2#32
  let v65 : BitVec 32 := Scalar.remsi v7 c2_i32_24
  let v66 : BitVec 32 := Scalar.addi v64 v65
  let c2_i32_59 : BitVec 32 := 2#32
  let c0_i32_26 : BitVec 32 := 0#32
  let v68 : BitVec 1 := Scalar.cmpi .sgt v7 c0_i32_26
  let v69 : BitVec 32 := Scalar.extui v68
  let c0_i32_27 : BitVec 32 := 0#32
  let v70 : BitVec 1 := Scalar.cmpi .slt v7 c0_i32_27
  let v71 : BitVec 32 := Scalar.extui v70
  let v72 : BitVec 32 := Scalar.subi v69 v71
  let c2_i32_25 : BitVec 32 := 2#32
  let c0_i32_28 : BitVec 32 := 0#32
  let v73 : BitVec 1 := Scalar.cmpi .sgt c2_i32_25 c0_i32_28
  let v74 : BitVec 32 := Scalar.extui v73
  let c0_i32_29 : BitVec 32 := 0#32
  let v75 : BitVec 1 := Scalar.cmpi .slt c2_i32_25 c0_i32_29
  let v76 : BitVec 32 := Scalar.extui v75
  let v77 : BitVec 32 := Scalar.subi v74 v76
  let v78 : BitVec 1 := Scalar.cmpi .ne v72 v77
  let v79 : BitVec 32 := Scalar.remsi v7 c2_i32_25
  let c0_i32_30 : BitVec 32 := 0#32
  let v80 : BitVec 1 := Scalar.cmpi .ne v79 c0_i32_30
  let v81 : BitVec 1 := Scalar.andi v78 v80
  let v67 : BitVec 32 := Scalar.divsi v7 c2_i32_25
  let c1_i32_31 : BitVec 32 := 1#32
  let v82 : BitVec 32 := Scalar.subi v67 c1_i32_31
  let v83 : BitVec 32 := Scalar.select v81 v82 v67
  let c2_i32_58 : BitVec 32 := 2#32
  let v119 : BitVec 32 := Scalar.remsi v83 c2_i32_58
  let v120 : BitVec 32 := Scalar.muli c2_i32_59 v119
  let v121 : BitVec 32 := Scalar.addi v66 v120
  let c4_i32 : BitVec 32 := 4#32
  let c0_i32_46 : BitVec 32 := 0#32
  let c1_i32_48 : BitVec 32 := 1#32
  let arg13 : BitVec 32 := Scf.iv c0_i32_46 c1_i32_48 k0_t3
  let v122 : BitVec 32 := Scalar.muli c4_i32 arg13
  let v123 : BitVec 32 := Scalar.addi v121 v122
  let c256_i32_60 : BitVec 32 := 256#32
  let v124 : BitVec 32 := Scalar.muli v123 c256_i32_60
  let v125 : BitVec 32 := v124
  let v142 : Index := Scalar.indexCast v125
  ![0, v142.toNat]
@[reducible] def k0_t4_loop (i : grid0.Coords) : Scf.Loop 32 :=
  let c0_i32_46 : BitVec 32 := 0#32
  let c31_i32 : BitVec 32 := 31#32
  let arg1 : BitVec 32 := BitVec.ofNat 32 (i 1).val
  let v7 : BitVec 32 := Scalar.subi c31_i32 arg1
  let c0_i32_26 : BitVec 32 := 0#32
  let v68 : BitVec 1 := Scalar.cmpi .sgt v7 c0_i32_26
  let v69 : BitVec 32 := Scalar.extui v68
  let c0_i32_27 : BitVec 32 := 0#32
  let v70 : BitVec 1 := Scalar.cmpi .slt v7 c0_i32_27
  let v71 : BitVec 32 := Scalar.extui v70
  let v72 : BitVec 32 := Scalar.subi v69 v71
  let c2_i32_25 : BitVec 32 := 2#32
  let c0_i32_28 : BitVec 32 := 0#32
  let v73 : BitVec 1 := Scalar.cmpi .sgt c2_i32_25 c0_i32_28
  let v74 : BitVec 32 := Scalar.extui v73
  let c0_i32_29 : BitVec 32 := 0#32
  let v75 : BitVec 1 := Scalar.cmpi .slt c2_i32_25 c0_i32_29
  let v76 : BitVec 32 := Scalar.extui v75
  let v77 : BitVec 32 := Scalar.subi v74 v76
  let v78 : BitVec 1 := Scalar.cmpi .ne v72 v77
  let v79 : BitVec 32 := Scalar.remsi v7 c2_i32_25
  let c0_i32_30 : BitVec 32 := 0#32
  let v80 : BitVec 1 := Scalar.cmpi .ne v79 c0_i32_30
  let v81 : BitVec 1 := Scalar.andi v78 v80
  let v67 : BitVec 32 := Scalar.divsi v7 c2_i32_25
  let c1_i32_31 : BitVec 32 := 1#32
  let v82 : BitVec 32 := Scalar.subi v67 c1_i32_31
  let v83 : BitVec 32 := Scalar.select v81 v82 v67
  let c0_i32_39 : BitVec 32 := 0#32
  let v91 : BitVec 1 := Scalar.cmpi .sgt v83 c0_i32_39
  let v92 : BitVec 32 := Scalar.extui v91
  let c0_i32_40 : BitVec 32 := 0#32
  let v93 : BitVec 1 := Scalar.cmpi .slt v83 c0_i32_40
  let v94 : BitVec 32 := Scalar.extui v93
  let v95 : BitVec 32 := Scalar.subi v92 v94
  let c2_i32_38 : BitVec 32 := 2#32
  let c0_i32_41 : BitVec 32 := 0#32
  let v96 : BitVec 1 := Scalar.cmpi .sgt c2_i32_38 c0_i32_41
  let v97 : BitVec 32 := Scalar.extui v96
  let c0_i32_42 : BitVec 32 := 0#32
  let v98 : BitVec 1 := Scalar.cmpi .slt c2_i32_38 c0_i32_42
  let v99 : BitVec 32 := Scalar.extui v98
  let v100 : BitVec 32 := Scalar.subi v97 v99
  let v101 : BitVec 1 := Scalar.cmpi .ne v95 v100
  let v102 : BitVec 32 := Scalar.remsi v83 c2_i32_38
  let c0_i32_43 : BitVec 32 := 0#32
  let v103 : BitVec 1 := Scalar.cmpi .ne v102 c0_i32_43
  let v104 : BitVec 1 := Scalar.andi v101 v103
  let v90 : BitVec 32 := Scalar.divsi v83 c2_i32_38
  let c1_i32_44 : BitVec 32 := 1#32
  let v105 : BitVec 32 := Scalar.subi v90 c1_i32_44
  let v106 : BitVec 32 := Scalar.select v104 v105 v90
  let v107 : BitVec 32 := Scalar.subi v106 c0_i32_46
  let c1_i32_47 : BitVec 32 := 1#32
  let v109 : BitVec 32 := Scalar.divsi v107 c1_i32_47
  let v110 : BitVec 32 := Scalar.muli v109 c1_i32_47
  let v111 : BitVec 32 := Scalar.addi c0_i32_46 v110
  let v108 : BitVec 32 := Scalar.addi c0_i32_46 v107
  let c1_i32_49 : BitVec 32 := 1#32
  ⟨v111, v108, c1_i32_49⟩
def k0_mult5 (i : grid0.Coords) (k0_t4 : Fin (k0_t4_loop i).trips) : BitVec 32 :=
  let arg1 : BitVec 32 := BitVec.ofNat 32 (i 1).val
  let c1_i32_23 : BitVec 32 := 1#32
  let v64 : BitVec 32 := Scalar.addi arg1 c1_i32_23
  let c31_i32 : BitVec 32 := 31#32
  let v7 : BitVec 32 := Scalar.subi c31_i32 arg1
  let c2_i32_24 : BitVec 32 := 2#32
  let v65 : BitVec 32 := Scalar.remsi v7 c2_i32_24
  let v66 : BitVec 32 := Scalar.addi v64 v65
  let c2_i32_59 : BitVec 32 := 2#32
  let c0_i32_26 : BitVec 32 := 0#32
  let v68 : BitVec 1 := Scalar.cmpi .sgt v7 c0_i32_26
  let v69 : BitVec 32 := Scalar.extui v68
  let c0_i32_27 : BitVec 32 := 0#32
  let v70 : BitVec 1 := Scalar.cmpi .slt v7 c0_i32_27
  let v71 : BitVec 32 := Scalar.extui v70
  let v72 : BitVec 32 := Scalar.subi v69 v71
  let c2_i32_25 : BitVec 32 := 2#32
  let c0_i32_28 : BitVec 32 := 0#32
  let v73 : BitVec 1 := Scalar.cmpi .sgt c2_i32_25 c0_i32_28
  let v74 : BitVec 32 := Scalar.extui v73
  let c0_i32_29 : BitVec 32 := 0#32
  let v75 : BitVec 1 := Scalar.cmpi .slt c2_i32_25 c0_i32_29
  let v76 : BitVec 32 := Scalar.extui v75
  let v77 : BitVec 32 := Scalar.subi v74 v76
  let v78 : BitVec 1 := Scalar.cmpi .ne v72 v77
  let v79 : BitVec 32 := Scalar.remsi v7 c2_i32_25
  let c0_i32_30 : BitVec 32 := 0#32
  let v80 : BitVec 1 := Scalar.cmpi .ne v79 c0_i32_30
  let v81 : BitVec 1 := Scalar.andi v78 v80
  let v67 : BitVec 32 := Scalar.divsi v7 c2_i32_25
  let c1_i32_31 : BitVec 32 := 1#32
  let v82 : BitVec 32 := Scalar.subi v67 c1_i32_31
  let v83 : BitVec 32 := Scalar.select v81 v82 v67
  let c2_i32_58 : BitVec 32 := 2#32
  let v119 : BitVec 32 := Scalar.remsi v83 c2_i32_58
  let v120 : BitVec 32 := Scalar.muli c2_i32_59 v119
  let v121 : BitVec 32 := Scalar.addi v66 v120
  let c4_i32 : BitVec 32 := 4#32
  let c0_i32_46 : BitVec 32 := 0#32
  let c0_i32_39 : BitVec 32 := 0#32
  let v91 : BitVec 1 := Scalar.cmpi .sgt v83 c0_i32_39
  let v92 : BitVec 32 := Scalar.extui v91
  let c0_i32_40 : BitVec 32 := 0#32
  let v93 : BitVec 1 := Scalar.cmpi .slt v83 c0_i32_40
  let v94 : BitVec 32 := Scalar.extui v93
  let v95 : BitVec 32 := Scalar.subi v92 v94
  let c2_i32_38 : BitVec 32 := 2#32
  let c0_i32_41 : BitVec 32 := 0#32
  let v96 : BitVec 1 := Scalar.cmpi .sgt c2_i32_38 c0_i32_41
  let v97 : BitVec 32 := Scalar.extui v96
  let c0_i32_42 : BitVec 32 := 0#32
  let v98 : BitVec 1 := Scalar.cmpi .slt c2_i32_38 c0_i32_42
  let v99 : BitVec 32 := Scalar.extui v98
  let v100 : BitVec 32 := Scalar.subi v97 v99
  let v101 : BitVec 1 := Scalar.cmpi .ne v95 v100
  let v102 : BitVec 32 := Scalar.remsi v83 c2_i32_38
  let c0_i32_43 : BitVec 32 := 0#32
  let v103 : BitVec 1 := Scalar.cmpi .ne v102 c0_i32_43
  let v104 : BitVec 1 := Scalar.andi v101 v103
  let v90 : BitVec 32 := Scalar.divsi v83 c2_i32_38
  let c1_i32_44 : BitVec 32 := 1#32
  let v105 : BitVec 32 := Scalar.subi v90 c1_i32_44
  let v106 : BitVec 32 := Scalar.select v104 v105 v90
  let v107 : BitVec 32 := Scalar.subi v106 c0_i32_46
  let c1_i32_47 : BitVec 32 := 1#32
  let v109 : BitVec 32 := Scalar.divsi v107 c1_i32_47
  let v110 : BitVec 32 := Scalar.muli v109 c1_i32_47
  let v111 : BitVec 32 := Scalar.addi c0_i32_46 v110
  let c1_i32_49 : BitVec 32 := 1#32
  let arg13 : BitVec 32 := Scf.iv v111 c1_i32_49 k0_t4
  let v122 : BitVec 32 := Scalar.muli c4_i32 arg13
  let v123 : BitVec 32 := Scalar.addi v121 v122
  let c256_i32_60 : BitVec 32 := 256#32
  let v124 : BitVec 32 := Scalar.muli v123 c256_i32_60
  v124
def k0_off13 (i : grid0.Coords) (k0_t4 : Fin (k0_t4_loop i).trips) : Fin 2 → Nat :=
  let arg1 : BitVec 32 := BitVec.ofNat 32 (i 1).val
  let c1_i32_23 : BitVec 32 := 1#32
  let v64 : BitVec 32 := Scalar.addi arg1 c1_i32_23
  let c31_i32 : BitVec 32 := 31#32
  let v7 : BitVec 32 := Scalar.subi c31_i32 arg1
  let c2_i32_24 : BitVec 32 := 2#32
  let v65 : BitVec 32 := Scalar.remsi v7 c2_i32_24
  let v66 : BitVec 32 := Scalar.addi v64 v65
  let c2_i32_59 : BitVec 32 := 2#32
  let c0_i32_26 : BitVec 32 := 0#32
  let v68 : BitVec 1 := Scalar.cmpi .sgt v7 c0_i32_26
  let v69 : BitVec 32 := Scalar.extui v68
  let c0_i32_27 : BitVec 32 := 0#32
  let v70 : BitVec 1 := Scalar.cmpi .slt v7 c0_i32_27
  let v71 : BitVec 32 := Scalar.extui v70
  let v72 : BitVec 32 := Scalar.subi v69 v71
  let c2_i32_25 : BitVec 32 := 2#32
  let c0_i32_28 : BitVec 32 := 0#32
  let v73 : BitVec 1 := Scalar.cmpi .sgt c2_i32_25 c0_i32_28
  let v74 : BitVec 32 := Scalar.extui v73
  let c0_i32_29 : BitVec 32 := 0#32
  let v75 : BitVec 1 := Scalar.cmpi .slt c2_i32_25 c0_i32_29
  let v76 : BitVec 32 := Scalar.extui v75
  let v77 : BitVec 32 := Scalar.subi v74 v76
  let v78 : BitVec 1 := Scalar.cmpi .ne v72 v77
  let v79 : BitVec 32 := Scalar.remsi v7 c2_i32_25
  let c0_i32_30 : BitVec 32 := 0#32
  let v80 : BitVec 1 := Scalar.cmpi .ne v79 c0_i32_30
  let v81 : BitVec 1 := Scalar.andi v78 v80
  let v67 : BitVec 32 := Scalar.divsi v7 c2_i32_25
  let c1_i32_31 : BitVec 32 := 1#32
  let v82 : BitVec 32 := Scalar.subi v67 c1_i32_31
  let v83 : BitVec 32 := Scalar.select v81 v82 v67
  let c2_i32_58 : BitVec 32 := 2#32
  let v119 : BitVec 32 := Scalar.remsi v83 c2_i32_58
  let v120 : BitVec 32 := Scalar.muli c2_i32_59 v119
  let v121 : BitVec 32 := Scalar.addi v66 v120
  let c4_i32 : BitVec 32 := 4#32
  let c0_i32_46 : BitVec 32 := 0#32
  let c0_i32_39 : BitVec 32 := 0#32
  let v91 : BitVec 1 := Scalar.cmpi .sgt v83 c0_i32_39
  let v92 : BitVec 32 := Scalar.extui v91
  let c0_i32_40 : BitVec 32 := 0#32
  let v93 : BitVec 1 := Scalar.cmpi .slt v83 c0_i32_40
  let v94 : BitVec 32 := Scalar.extui v93
  let v95 : BitVec 32 := Scalar.subi v92 v94
  let c2_i32_38 : BitVec 32 := 2#32
  let c0_i32_41 : BitVec 32 := 0#32
  let v96 : BitVec 1 := Scalar.cmpi .sgt c2_i32_38 c0_i32_41
  let v97 : BitVec 32 := Scalar.extui v96
  let c0_i32_42 : BitVec 32 := 0#32
  let v98 : BitVec 1 := Scalar.cmpi .slt c2_i32_38 c0_i32_42
  let v99 : BitVec 32 := Scalar.extui v98
  let v100 : BitVec 32 := Scalar.subi v97 v99
  let v101 : BitVec 1 := Scalar.cmpi .ne v95 v100
  let v102 : BitVec 32 := Scalar.remsi v83 c2_i32_38
  let c0_i32_43 : BitVec 32 := 0#32
  let v103 : BitVec 1 := Scalar.cmpi .ne v102 c0_i32_43
  let v104 : BitVec 1 := Scalar.andi v101 v103
  let v90 : BitVec 32 := Scalar.divsi v83 c2_i32_38
  let c1_i32_44 : BitVec 32 := 1#32
  let v105 : BitVec 32 := Scalar.subi v90 c1_i32_44
  let v106 : BitVec 32 := Scalar.select v104 v105 v90
  let v107 : BitVec 32 := Scalar.subi v106 c0_i32_46
  let c1_i32_47 : BitVec 32 := 1#32
  let v109 : BitVec 32 := Scalar.divsi v107 c1_i32_47
  let v110 : BitVec 32 := Scalar.muli v109 c1_i32_47
  let v111 : BitVec 32 := Scalar.addi c0_i32_46 v110
  let c1_i32_49 : BitVec 32 := 1#32
  let arg13 : BitVec 32 := Scf.iv v111 c1_i32_49 k0_t4
  let v122 : BitVec 32 := Scalar.muli c4_i32 arg13
  let v123 : BitVec 32 := Scalar.addi v121 v122
  let c256_i32_60 : BitVec 32 := 256#32
  let v124 : BitVec 32 := Scalar.muli v123 c256_i32_60
  let v125 : BitVec 32 := v124
  let v126 : Index := Scalar.indexCast v125
  let c0_61 : Index := 0#32
  ![v126.toNat, 0]
def k0_off14 (i : grid0.Coords) (k0_t4 : Fin (k0_t4_loop i).trips) : Fin 2 → Nat :=
  let c0_65 : Index := 0#32
  let arg1 : BitVec 32 := BitVec.ofNat 32 (i 1).val
  let c1_i32_23 : BitVec 32 := 1#32
  let v64 : BitVec 32 := Scalar.addi arg1 c1_i32_23
  let c31_i32 : BitVec 32 := 31#32
  let v7 : BitVec 32 := Scalar.subi c31_i32 arg1
  let c2_i32_24 : BitVec 32 := 2#32
  let v65 : BitVec 32 := Scalar.remsi v7 c2_i32_24
  let v66 : BitVec 32 := Scalar.addi v64 v65
  let c2_i32_59 : BitVec 32 := 2#32
  let c0_i32_26 : BitVec 32 := 0#32
  let v68 : BitVec 1 := Scalar.cmpi .sgt v7 c0_i32_26
  let v69 : BitVec 32 := Scalar.extui v68
  let c0_i32_27 : BitVec 32 := 0#32
  let v70 : BitVec 1 := Scalar.cmpi .slt v7 c0_i32_27
  let v71 : BitVec 32 := Scalar.extui v70
  let v72 : BitVec 32 := Scalar.subi v69 v71
  let c2_i32_25 : BitVec 32 := 2#32
  let c0_i32_28 : BitVec 32 := 0#32
  let v73 : BitVec 1 := Scalar.cmpi .sgt c2_i32_25 c0_i32_28
  let v74 : BitVec 32 := Scalar.extui v73
  let c0_i32_29 : BitVec 32 := 0#32
  let v75 : BitVec 1 := Scalar.cmpi .slt c2_i32_25 c0_i32_29
  let v76 : BitVec 32 := Scalar.extui v75
  let v77 : BitVec 32 := Scalar.subi v74 v76
  let v78 : BitVec 1 := Scalar.cmpi .ne v72 v77
  let v79 : BitVec 32 := Scalar.remsi v7 c2_i32_25
  let c0_i32_30 : BitVec 32 := 0#32
  let v80 : BitVec 1 := Scalar.cmpi .ne v79 c0_i32_30
  let v81 : BitVec 1 := Scalar.andi v78 v80
  let v67 : BitVec 32 := Scalar.divsi v7 c2_i32_25
  let c1_i32_31 : BitVec 32 := 1#32
  let v82 : BitVec 32 := Scalar.subi v67 c1_i32_31
  let v83 : BitVec 32 := Scalar.select v81 v82 v67
  let c2_i32_58 : BitVec 32 := 2#32
  let v119 : BitVec 32 := Scalar.remsi v83 c2_i32_58
  let v120 : BitVec 32 := Scalar.muli c2_i32_59 v119
  let v121 : BitVec 32 := Scalar.addi v66 v120
  let c4_i32 : BitVec 32 := 4#32
  let c0_i32_46 : BitVec 32 := 0#32
  let c0_i32_39 : BitVec 32 := 0#32
  let v91 : BitVec 1 := Scalar.cmpi .sgt v83 c0_i32_39
  let v92 : BitVec 32 := Scalar.extui v91
  let c0_i32_40 : BitVec 32 := 0#32
  let v93 : BitVec 1 := Scalar.cmpi .slt v83 c0_i32_40
  let v94 : BitVec 32 := Scalar.extui v93
  let v95 : BitVec 32 := Scalar.subi v92 v94
  let c2_i32_38 : BitVec 32 := 2#32
  let c0_i32_41 : BitVec 32 := 0#32
  let v96 : BitVec 1 := Scalar.cmpi .sgt c2_i32_38 c0_i32_41
  let v97 : BitVec 32 := Scalar.extui v96
  let c0_i32_42 : BitVec 32 := 0#32
  let v98 : BitVec 1 := Scalar.cmpi .slt c2_i32_38 c0_i32_42
  let v99 : BitVec 32 := Scalar.extui v98
  let v100 : BitVec 32 := Scalar.subi v97 v99
  let v101 : BitVec 1 := Scalar.cmpi .ne v95 v100
  let v102 : BitVec 32 := Scalar.remsi v83 c2_i32_38
  let c0_i32_43 : BitVec 32 := 0#32
  let v103 : BitVec 1 := Scalar.cmpi .ne v102 c0_i32_43
  let v104 : BitVec 1 := Scalar.andi v101 v103
  let v90 : BitVec 32 := Scalar.divsi v83 c2_i32_38
  let c1_i32_44 : BitVec 32 := 1#32
  let v105 : BitVec 32 := Scalar.subi v90 c1_i32_44
  let v106 : BitVec 32 := Scalar.select v104 v105 v90
  let v107 : BitVec 32 := Scalar.subi v106 c0_i32_46
  let c1_i32_47 : BitVec 32 := 1#32
  let v109 : BitVec 32 := Scalar.divsi v107 c1_i32_47
  let v110 : BitVec 32 := Scalar.muli v109 c1_i32_47
  let v111 : BitVec 32 := Scalar.addi c0_i32_46 v110
  let c1_i32_49 : BitVec 32 := 1#32
  let arg13 : BitVec 32 := Scf.iv v111 c1_i32_49 k0_t4
  let v122 : BitVec 32 := Scalar.muli c4_i32 arg13
  let v123 : BitVec 32 := Scalar.addi v121 v122
  let c256_i32_60 : BitVec 32 := 256#32
  let v124 : BitVec 32 := Scalar.muli v123 c256_i32_60
  let v125 : BitVec 32 := v124
  let v137 : Index := Scalar.indexCast v125
  ![0, v137.toNat]
def k0_off15 (i : grid0.Coords) (k0_t4 : Fin (k0_t4_loop i).trips) : Fin 2 → Nat :=
  let c0_67 : Index := 0#32
  let arg1 : BitVec 32 := BitVec.ofNat 32 (i 1).val
  let c1_i32_23 : BitVec 32 := 1#32
  let v64 : BitVec 32 := Scalar.addi arg1 c1_i32_23
  let c31_i32 : BitVec 32 := 31#32
  let v7 : BitVec 32 := Scalar.subi c31_i32 arg1
  let c2_i32_24 : BitVec 32 := 2#32
  let v65 : BitVec 32 := Scalar.remsi v7 c2_i32_24
  let v66 : BitVec 32 := Scalar.addi v64 v65
  let c2_i32_59 : BitVec 32 := 2#32
  let c0_i32_26 : BitVec 32 := 0#32
  let v68 : BitVec 1 := Scalar.cmpi .sgt v7 c0_i32_26
  let v69 : BitVec 32 := Scalar.extui v68
  let c0_i32_27 : BitVec 32 := 0#32
  let v70 : BitVec 1 := Scalar.cmpi .slt v7 c0_i32_27
  let v71 : BitVec 32 := Scalar.extui v70
  let v72 : BitVec 32 := Scalar.subi v69 v71
  let c2_i32_25 : BitVec 32 := 2#32
  let c0_i32_28 : BitVec 32 := 0#32
  let v73 : BitVec 1 := Scalar.cmpi .sgt c2_i32_25 c0_i32_28
  let v74 : BitVec 32 := Scalar.extui v73
  let c0_i32_29 : BitVec 32 := 0#32
  let v75 : BitVec 1 := Scalar.cmpi .slt c2_i32_25 c0_i32_29
  let v76 : BitVec 32 := Scalar.extui v75
  let v77 : BitVec 32 := Scalar.subi v74 v76
  let v78 : BitVec 1 := Scalar.cmpi .ne v72 v77
  let v79 : BitVec 32 := Scalar.remsi v7 c2_i32_25
  let c0_i32_30 : BitVec 32 := 0#32
  let v80 : BitVec 1 := Scalar.cmpi .ne v79 c0_i32_30
  let v81 : BitVec 1 := Scalar.andi v78 v80
  let v67 : BitVec 32 := Scalar.divsi v7 c2_i32_25
  let c1_i32_31 : BitVec 32 := 1#32
  let v82 : BitVec 32 := Scalar.subi v67 c1_i32_31
  let v83 : BitVec 32 := Scalar.select v81 v82 v67
  let c2_i32_58 : BitVec 32 := 2#32
  let v119 : BitVec 32 := Scalar.remsi v83 c2_i32_58
  let v120 : BitVec 32 := Scalar.muli c2_i32_59 v119
  let v121 : BitVec 32 := Scalar.addi v66 v120
  let c4_i32 : BitVec 32 := 4#32
  let c0_i32_46 : BitVec 32 := 0#32
  let c0_i32_39 : BitVec 32 := 0#32
  let v91 : BitVec 1 := Scalar.cmpi .sgt v83 c0_i32_39
  let v92 : BitVec 32 := Scalar.extui v91
  let c0_i32_40 : BitVec 32 := 0#32
  let v93 : BitVec 1 := Scalar.cmpi .slt v83 c0_i32_40
  let v94 : BitVec 32 := Scalar.extui v93
  let v95 : BitVec 32 := Scalar.subi v92 v94
  let c2_i32_38 : BitVec 32 := 2#32
  let c0_i32_41 : BitVec 32 := 0#32
  let v96 : BitVec 1 := Scalar.cmpi .sgt c2_i32_38 c0_i32_41
  let v97 : BitVec 32 := Scalar.extui v96
  let c0_i32_42 : BitVec 32 := 0#32
  let v98 : BitVec 1 := Scalar.cmpi .slt c2_i32_38 c0_i32_42
  let v99 : BitVec 32 := Scalar.extui v98
  let v100 : BitVec 32 := Scalar.subi v97 v99
  let v101 : BitVec 1 := Scalar.cmpi .ne v95 v100
  let v102 : BitVec 32 := Scalar.remsi v83 c2_i32_38
  let c0_i32_43 : BitVec 32 := 0#32
  let v103 : BitVec 1 := Scalar.cmpi .ne v102 c0_i32_43
  let v104 : BitVec 1 := Scalar.andi v101 v103
  let v90 : BitVec 32 := Scalar.divsi v83 c2_i32_38
  let c1_i32_44 : BitVec 32 := 1#32
  let v105 : BitVec 32 := Scalar.subi v90 c1_i32_44
  let v106 : BitVec 32 := Scalar.select v104 v105 v90
  let v107 : BitVec 32 := Scalar.subi v106 c0_i32_46
  let c1_i32_47 : BitVec 32 := 1#32
  let v109 : BitVec 32 := Scalar.divsi v107 c1_i32_47
  let v110 : BitVec 32 := Scalar.muli v109 c1_i32_47
  let v111 : BitVec 32 := Scalar.addi c0_i32_46 v110
  let c1_i32_49 : BitVec 32 := 1#32
  let arg13 : BitVec 32 := Scf.iv v111 c1_i32_49 k0_t4
  let v122 : BitVec 32 := Scalar.muli c4_i32 arg13
  let v123 : BitVec 32 := Scalar.addi v121 v122
  let c256_i32_60 : BitVec 32 := 256#32
  let v124 : BitVec 32 := Scalar.muli v123 c256_i32_60
  let v125 : BitVec 32 := v124
  let v142 : Index := Scalar.indexCast v125
  ![0, v142.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x8192x128 : Shape := ⟨3, ![8, 8192, 128]⟩
abbrev S8x8192 : Shape := ⟨2, ![8, 8192]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩

abbrev nBuf : Space → Nat
  | .hbm => 104
  | .vmem => 0
  | .smem => 0
  | _ => 0

abbrev bufTy : (tb : Table) → Fin (tcTables nBuf tb) → BufTy
  | .hbm, ⟨0, _⟩ => ⟨S8x8192x128, .f32⟩
  | .hbm, ⟨1, _⟩ => ⟨S8x8192x128, .f32⟩
  | .hbm, ⟨2, _⟩ => ⟨S8x8192x128, .f32⟩
  | .hbm, ⟨3, _⟩ => ⟨S8x8192, .f32⟩
  | .hbm, ⟨4, _⟩ => ⟨S8x8192x128, .f32⟩
  | .hbm, ⟨5, _⟩ => ⟨S8x8192x8192, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8x8192x1, .f32⟩
  | .hbm, ⟨10, _⟩ => ⟨S8x8192x8192, .f32⟩
  | .hbm, ⟨11, _⟩ => ⟨S8x8192x8192, .f32⟩
  | .hbm, ⟨12, _⟩ => ⟨S8x1x8192, .f32⟩
  | .hbm, ⟨13, _⟩ => ⟨S8x8192x8192, .f32⟩
  | .hbm, ⟨14, _⟩ => ⟨S8x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8x8192x8192, .i1⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S8x8192x1, .f32⟩
  | .hbm, ⟨31, _⟩ => ⟨S8x8192x8192, .f32⟩
  | .hbm, ⟨32, _⟩ => ⟨S8x8192x8192, .i1⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S_, .f32⟩
  | .hbm, ⟨37, _⟩ => ⟨S8x8192, .f32⟩
  | .hbm, ⟨38, _⟩ => ⟨S8x8192, .f32⟩
  | .hbm, ⟨39, _⟩ => ⟨S_, .f32⟩
  | .hbm, ⟨40, _⟩ => ⟨S8x8192, .f32⟩
  | .hbm, ⟨41, _⟩ => ⟨S8x8192, .i1⟩
  | .hbm, ⟨42, _⟩ => ⟨S_, .f32⟩
  | .hbm, ⟨43, _⟩ => ⟨S8x8192, .f32⟩
  | .hbm, ⟨44, _⟩ => ⟨S8x8192, .i1⟩
  | .hbm, ⟨45, _⟩ => ⟨S_, .f32⟩
  | .hbm, ⟨46, _⟩ => ⟨S8x8192, .f32⟩
  | .hbm, ⟨47, _⟩ => ⟨S_, .f32⟩
  | .hbm, ⟨48, _⟩ => ⟨S8x8192, .f32⟩
  | .hbm, ⟨49, _⟩ => ⟨S_, .f32⟩
  | .hbm, ⟨50, _⟩ => ⟨S8x8192, .f32⟩
  | .hbm, ⟨51, _⟩ => ⟨S8x8192, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S_, .f32⟩
  | .hbm, ⟨58, _⟩ => ⟨S8x8192, .f32⟩
  | .hbm, ⟨59, _⟩ => ⟨S8x8192x1, .f32⟩
  | .hbm, ⟨60, _⟩ => ⟨S8x8192x8192, .f32⟩
  | .hbm, ⟨61, _⟩ => ⟨S8x8192x8192, .f32⟩
  | .hbm, ⟨62, _⟩ => ⟨S8x8192x1, .f32⟩
  | .hbm, ⟨63, _⟩ => ⟨S_, .f32⟩
  | .hbm, ⟨64, _⟩ => ⟨S8x8192x1, .f32⟩
  | .hbm, ⟨65, _⟩ => ⟨S8x8192x1, .f32⟩
  | .hbm, ⟨66, _⟩ => ⟨S8x8192x128, .f32⟩
  | .hbm, ⟨67, _⟩ => ⟨S8x128x8192, .f32⟩
  | .hbm, ⟨68, _⟩ => ⟨S8x8192x128, .f32⟩
  | .hbm, ⟨69, _⟩ => ⟨S8x8192x8192, .f32⟩
  | .hbm, ⟨70, _⟩ => ⟨S8x8192x8192, .f32⟩
  | .hbm, ⟨71, _⟩ => ⟨S8x8192x8192, .f32⟩
  | .hbm, ⟨72, _⟩ => ⟨S8x8192x8192, .f32⟩
  | .hbm, ⟨73, _⟩ => ⟨S_, .f32⟩
  | .hbm, ⟨74, _⟩ => ⟨S8x8192, .f32⟩
  | .hbm, ⟨75, _⟩ => ⟨S8x8192x1, .f32⟩
  | .hbm, ⟨76, _⟩ => ⟨S8x8192x1, .f32⟩
  | .hbm, ⟨77, _⟩ => ⟨S8x8192x8192, .f32⟩
  | .hbm, ⟨78, _⟩ => ⟨S8x8192x8192, .f32⟩
  | .hbm, ⟨79, _⟩ => ⟨S_, .f32⟩
  | .hbm, ⟨80, _⟩ => ⟨S8x8192, .f32⟩
  | .hbm, ⟨81, _⟩ => ⟨S8x8192x8192, .f32⟩
  | .hbm, ⟨82, _⟩ => ⟨S8x8192x8192, .f32⟩
  | .hbm, ⟨83, _⟩ => ⟨S8x8192x8192, .f32⟩
  | .hbm, ⟨84, _⟩ => ⟨S_, .f32⟩
  | .hbm, ⟨85, _⟩ => ⟨S8x8192x8192, .f32⟩
  | .hbm, ⟨86, _⟩ => ⟨S8x8192x8192, .f32⟩
  | .hbm, ⟨87, _⟩ => ⟨S8x8192x8192, .f32⟩
  | .hbm, ⟨88, _⟩ => ⟨S_, .f32⟩
  | .hbm, ⟨89, _⟩ => ⟨S8x8192, .f32⟩
  | .hbm, ⟨90, _⟩ => ⟨S8x1x8192, .f32⟩
  | .hbm, ⟨91, _⟩ => ⟨S_, .f32⟩
  | .hbm, ⟨92, _⟩ => ⟨S8x8192, .f32⟩
  | .hbm, ⟨93, _⟩ => ⟨S_, .f32⟩
  | .hbm, ⟨94, _⟩ => ⟨S8x8192, .f32⟩
  | .hbm, ⟨95, _⟩ => ⟨S8x8192x1, .f32⟩
  | .hbm, ⟨96, _⟩ => ⟨S_, .f32⟩
  | .hbm, ⟨97, _⟩ => ⟨S8x8192, .f32⟩
  | .hbm, ⟨98, _⟩ => ⟨S8x8192, .f32⟩
  | .hbm, ⟨99, _⟩ => ⟨S_, .f32⟩
  | .hbm, ⟨100, _⟩ => ⟨S8x8192x8192, .f32⟩
  | .hbm, ⟨101, _⟩ => ⟨S8x8192x8192, .f32⟩
  | .hbm, ⟨102, _⟩ => ⟨S8x8192x128, .f32⟩
  | .hbm, ⟨103, _⟩ => ⟨S8x8192x128, .f32⟩
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_cst_16 : Ref sig .tc := ⟨.hbm, 96, rfl⟩
abbrev main_v67 : Ref sig .tc := ⟨.hbm, 97, rfl⟩
abbrev main_v68 : Ref sig .tc := ⟨.hbm, 98, rfl⟩
abbrev main_cst_17 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]
-- ==== Kernel2.lean ====
abbrev S8192x5632 : Shape := ⟨2, ![8192, 5632]⟩
abbrev S5632x2048 : Shape := ⟨2, ![5632, 2048]⟩
abbrev S8192x2048 : Shape := ⟨2, ![8192, 2048]⟩
abbrev S1024x2048 : Shape := ⟨2, ![1024, 2048]⟩
abbrev S512x2048 : Shape := ⟨2, ![512, 2048]⟩
abbrev S1024x512 : Shape := ⟨2, ![1024, 512]⟩
abbrev S256x2048 : Shape := ⟨2, ![256, 2048]⟩
abbrev S1024x256 : Shape := ⟨2, ![1024, 256]⟩

abbrev nBuf : Space → Nat
  | .hbm => 11
  | .vmem => 15
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .f32⟩
  | .hbm, ⟨3, _⟩ => ⟨S8192x2048, .f32⟩
  | .hbm, ⟨4, _⟩ => ⟨S8192x2048, .bf16⟩
  | .hbm, ⟨5, _⟩ => ⟨S5632x2048, .bf16⟩
  | .hbm, ⟨6, _⟩ => ⟨S8192x5632, .bf16⟩
  | .hbm, ⟨7, _⟩ => ⟨S8192x5632, .bf16⟩
  | .hbm, ⟨8, _⟩ => ⟨S8192x5632, .bf16⟩
  | .hbm, ⟨9, _⟩ => ⟨S8192x5632, .bf16⟩
  | .hbm, ⟨10, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference2Ideal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .f32⟩
  | .hbm, ⟨3, _⟩ => ⟨S8192x2048, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x2048, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .bf16⟩
  | .hbm, ⟨27, _⟩ => ⟨S8192x5632, .bf16⟩
  | .hbm, ⟨28, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== Kernel3.lean ====
abbrev S8192x5632 : Shape := ⟨2, ![8192, 5632]⟩
abbrev S5632x2048 : Shape := ⟨2, ![5632, 2048]⟩
abbrev S8192x2048 : Shape := ⟨2, ![8192, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x5632, .bf16⟩
  | .hbm, ⟨4, _⟩ => ⟨S8192x2048, .bf16⟩
  | .hbm, ⟨5, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S5632x2048 : Shape := ⟨2, ![5632, 2048]⟩
abbrev S8192x2048 : Shape := ⟨2, ![8192, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S2048x5632, .f32⟩
  | .hbm, ⟨5, _⟩ => ⟨S5632x2048, .f32⟩
  | .hbm, ⟨6, _⟩ => ⟨S5632x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x2048 : Shape := ⟨2, ![8192, 2048]⟩
abbrev S2048x5632 : Shape := ⟨2, ![2048, 5632]⟩
abbrev S8192x5632 : Shape := ⟨2, ![8192, 5632]⟩
abbrev S5632x2048 : Shape := ⟨2, ![5632, 2048]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 12
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x5632, .f32⟩
  | .hbm, ⟨4, _⟩ => ⟨S8192x5632, .f32⟩
  | .hbm, ⟨5, _⟩ => ⟨S8192x5632, .bf16⟩
  | .hbm, ⟨6, _⟩ => ⟨S5632x2048, .f32⟩
  | .hbm, ⟨7, _⟩ => ⟨S5632x2048, .bf16⟩
  | .hbm, ⟨8, _⟩ => ⟨S8192x5632, .bf16⟩
  | .hbm, ⟨9, _⟩ => ⟨S5632x2048, .f32⟩
  | .hbm, ⟨10, _⟩ => ⟨S5632x2048, .bf16⟩
  | .hbm, ⟨11, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x2816, .bf16⟩
  | .local _ .vmem, ⟨5, _⟩ => ⟨S1024x2816, .bf16⟩
  | .local _ .vmem, ⟨6, _⟩ => ⟨S2816x512, .bf16⟩
  | .local _ .vmem, ⟨7, _⟩ => ⟨S2816x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v19 : BitVec 1 := Scalar.cmpi .eq arg2 c1_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S8192x2048 : Shape := ⟨2, ![8192, 2048]⟩
abbrev S2048x5632 : Shape := ⟨2, ![2048, 5632]⟩
abbrev S8192x5632 : Shape := ⟨2, ![8192, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel5.lean ====
abbrev S8192x2048 : Shape := ⟨2, ![8192, 2048]⟩
abbrev S2048x5632 : Shape := ⟨2, ![2048, 5632]⟩
abbrev S8192x5632 : Shape := ⟨2, ![8192, 5632]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x5632, .bf16⟩
  | .hbm, ⟨4, _⟩ => ⟨S8192x2048, .bf16⟩
  | .hbm, ⟨5, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S2048x5632 : Shape := ⟨2, ![2048, 5632]⟩
abbrev S8192x5632 : Shape := ⟨2, ![8192, 5632]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x5632, .f32⟩
  | .hbm, ⟨4, _⟩ => ⟨S5632x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x2048 : Shape := ⟨2, ![8192, 2048]⟩
abbrev S2048x5632 : Shape := ⟨2, ![2048, 5632]⟩
abbrev S8192x5632 : Shape := ⟨2, ![8192, 5632]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x5632, .bf16⟩
  | .hbm, ⟨4, _⟩ => ⟨S8192x2048, .bf16⟩
  | .hbm, ⟨5, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S2048x5632 : Shape := ⟨2, ![2048, 5632]⟩
abbrev S8192x5632 : Shape := ⟨2, ![8192, 5632]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x5632, .f32⟩
  | .hbm, ⟨4, _⟩ => ⟨S5632x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x2048 : Shape := ⟨2, ![8192, 2048]⟩
abbrev S1x2048 : Shape := ⟨2, ![1, 2048]⟩
abbrev S8192x5632 : Shape := ⟨2, ![8192, 5632]⟩
abbrev S5632x2048 : Shape := ⟨2, ![5632, 2048]⟩
abbrev S_ : Shape := ⟨0, ![]⟩
abbrev S1024x2816 : Shape := ⟨2, ![1024, 2816]⟩
abbrev S2816x512 : Shape := ⟨2, ![2816, 512]⟩
abbrev S1024x512 : Shape := ⟨2, ![1024, 512]⟩
abbrev S1x512 : Shape := ⟨2, ![1, 512]⟩

abbrev nBuf : Space → Nat
  | .hbm => 11
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x5632, .f32⟩
  | .hbm, ⟨3, _⟩ => ⟨S5632x2048, .f32⟩
  | .hbm, ⟨4, _⟩ => ⟨S8192x5632, .bf16⟩
  | .hbm, ⟨5, _⟩ => ⟨S5632x2048, .bf16⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference7Ideal.lean ====
abbrev S8192x2048 : Shape := ⟨2, ![8192, 2048]⟩
abbrev S1x2048 : Shape := ⟨2, ![1, 2048]⟩
abbrev S8192x5632 : Shape := ⟨2, ![8192, 5632]⟩
abbrev S5632x2048 : Shape := ⟨2, ![5632, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x5632, .f32⟩
  | .hbm, ⟨3, _⟩ => ⟨S5632x2048, .f32⟩
  | .hbm, ⟨4, _⟩ => ⟨S8192x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel8.lean ====
abbrev S8192x2048 : Shape := ⟨2, ![8192, 2048]⟩
abbrev S2048x3072 : Shape := ⟨2, ![2048, 3072]⟩
abbrev S3072x2048 : Shape := ⟨2, ![3072, 2048]⟩
abbrev S8192x3072 : Shape := ⟨2, ![8192, 3072]⟩
abbrev S1024x2048 : Shape := ⟨2, ![1024, 2048]⟩
abbrev S512x2048 : Shape := ⟨2, ![512, 2048]⟩
abbrev S1024x512 : Shape := ⟨2, ![1024, 512]⟩
abbrev S256x2048 : Shape := ⟨2, ![256, 2048]⟩
abbrev S1024x256 : Shape := ⟨2, ![1024, 256]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x3072, .f32⟩
  | .hbm, ⟨2, _⟩ => ⟨S8192x2048, .bf16⟩
  | .hbm, ⟨3, _⟩ => ⟨S3072x2048, .f32⟩
  | .hbm, ⟨4, _⟩ => ⟨S3072x2048, .bf16⟩
  | .hbm, ⟨5, _⟩ => ⟨S8192x3072, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x3072 : Shape := ⟨2, ![2048, 3072]⟩
abbrev S8192x3072 : Shape := ⟨2, ![8192, 3072]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x3072, .f32⟩
  | .hbm, ⟨2, _⟩ => ⟨S8192x3072, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S8192x2048 : Shape := ⟨2, ![8192, 2048]⟩
abbrev S1x2048 : Shape := ⟨2, ![1, 2048]⟩
abbrev S8192x1024 : Shape := ⟨2, ![8192, 1024]⟩
abbrev S2048x2048 : Shape := ⟨2, ![2048, 2048]⟩
abbrev S1024x2048 : Shape := ⟨2, ![1024, 2048]⟩
abbrev S1024x1024 : Shape := ⟨2, ![1024, 1024]⟩
abbrev S1024x512 : Shape := ⟨2, ![1024, 512]⟩
abbrev S1x512 : Shape := ⟨2, ![1, 512]⟩
abbrev S1024x256 : Shape := ⟨2, ![1024, 256]⟩
abbrev S1x256 : Shape := ⟨2, ![1, 256]⟩

abbrev nBuf : Space → Nat
  | .hbm => 13
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x1024, .f32⟩
  | .hbm, ⟨3, _⟩ => ⟨S8192x1024, .f32⟩
  | .hbm, ⟨4, _⟩ => ⟨S2048x2048, .f32⟩
  | .hbm, ⟨5, _⟩ => ⟨S8192x1024, .bf16⟩
  | .hbm, ⟨6, _⟩ => ⟨S1024x2048, .f32⟩
  | .hbm, ⟨7, _⟩ => ⟨S1024x2048, .bf16⟩
  | .hbm, ⟨8, _⟩ => ⟨S8192x1024, .bf16⟩
  | .hbm, ⟨9, _⟩ => ⟨S1024x2048, .f32⟩
  | .hbm, ⟨10, _⟩ => ⟨S1024x2048, .bf16⟩
  | .hbm, ⟨11, _⟩ => ⟨S8192x2048, .f32⟩
  | .hbm, ⟨12, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1x512, .f32⟩
  | .local _ .vmem, ⟨11, _⟩ => ⟨S1x512, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference9Ideal.lean ====
abbrev S8192x2048 : Shape := ⟨2, ![8192, 2048]⟩
abbrev S1x2048 : Shape := ⟨2, ![1, 2048]⟩
abbrev S8192x1024 : Shape := ⟨2, ![8192, 1024]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x1024, .f32⟩
  | .hbm, ⟨3, _⟩ => ⟨S8192x1024, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel10.lean ====
abbrev S8192x2048 : Shape := ⟨2, ![8192, 2048]⟩
abbrev S2048x1024 : Shape := ⟨2, ![2048, 1024]⟩
abbrev S1024x2048 : Shape := ⟨2, ![1024, 2048]⟩
abbrev S8192x1024 : Shape := ⟨2, ![8192, 1024]⟩
abbrev S512x2048 : Shape := ⟨2, ![512, 2048]⟩
abbrev S1024x512 : Shape := ⟨2, ![1024, 512]⟩
abbrev S256x2048 : Shape := ⟨2, ![256, 2048]⟩
abbrev S1024x256 : Shape := ⟨2, ![1024, 256]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x2048, .bf16⟩
  | .hbm, ⟨3, _⟩ => ⟨S1024x2048, .f32⟩
  | .hbm, ⟨4, _⟩ => ⟨S1024x2048, .bf16⟩
  | .hbm, ⟨5, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S8192x1024 : Shape := ⟨2, ![8192, 1024]⟩
abbrev S2048x2048 : Shape := ⟨2, ![2048, 2048]⟩
abbrev S8192x2048 : Shape := ⟨2, ![8192, 2048]⟩
abbrev S1024x2048 : Shape := ⟨2, ![1024, 2048]⟩
abbrev S512x2048 : Shape := ⟨2, ![512, 2048]⟩
abbrev S1024x512 : Shape := ⟨2, ![1024, 512]⟩
abbrev S256x2048 : Shape := ⟨2, ![256, 2048]⟩
abbrev S1024x256 : Shape := ⟨2, ![1024, 256]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x2048, .f32⟩
  | .hbm, ⟨3, _⟩ => ⟨S8192x2048, .f32⟩
  | .hbm, ⟨4, _⟩ => ⟨S8192x2048, .bf16⟩
  | .hbm, ⟨5, _⟩ => ⟨S1024x2048, .f32⟩
  | .hbm, ⟨6, _⟩ => ⟨S1024x2048, .bf16⟩
  | .hbm, ⟨7, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S2048x2048 : Shape := ⟨2, ![2048, 2048]⟩
abbrev S8192x2048 : Shape := ⟨2, ![8192, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192x1024, .f32⟩
  | .hbm, ⟨7, _⟩ => ⟨S8192x2048, .f32⟩
  | .hbm, ⟨8, _⟩ => ⟨S8192x2048, .f32⟩
  | .hbm, ⟨9, _⟩ => ⟨S8192x1024, .f32⟩
  | .hbm, ⟨10, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel12.lean ====
abbrev S8192x1024 : Shape := ⟨2, ![8192, 1024]⟩
abbrev S2048x2048 : Shape := ⟨2, ![2048, 2048]⟩
abbrev S8192x2048 : Shape := ⟨2, ![8192, 2048]⟩
abbrev S1024x2048 : Shape := ⟨2, ![1024, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x2048, .f32⟩
  | .hbm, ⟨3, _⟩ => ⟨S8192x2048, .f32⟩
  | .hbm, ⟨4, _⟩ => ⟨S8192x1024, .bf16⟩
  | .hbm, ⟨5, _⟩ => ⟨S8192x2048, .bf16⟩
  | .hbm, ⟨6, _⟩ => ⟨S1024x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S2048x2048 : Shape := ⟨2, ![2048, 2048]⟩
abbrev S8192x2048 : Shape := ⟨2, ![8192, 2048]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S1024x2048, .f32⟩
  | .hbm, ⟨9, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel13.lean ====
abbrev S8192x1024 : Shape := ⟨2, ![8192, 1024]⟩
abbrev S2048x2048 : Shape := ⟨2, ![2048, 2048]⟩
abbrev S8192x2048 : Shape := ⟨2, ![8192, 2048]⟩
abbrev S1024x2048 : Shape := ⟨2, ![1024, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x2048, .f32⟩
  | .hbm, ⟨3, _⟩ => ⟨S8192x2048, .f32⟩
  | .hbm, ⟨4, _⟩ => ⟨S8192x1024, .bf16⟩
  | .hbm, ⟨5, _⟩ => ⟨S8192x2048, .bf16⟩
  | .hbm, ⟨6, _⟩ => ⟨S1024x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S2048x2048 : Shape := ⟨2, ![2048, 2048]⟩
abbrev S8192x2048 : Shape := ⟨2, ![8192, 2048]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S1024x2048, .f32⟩
  | .hbm, ⟨9, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel14.lean ====
abbrev S8192x2048 : Shape := ⟨2, ![8192, 2048]⟩
abbrev S2048x3072 : Shape := ⟨2, ![2048, 3072]⟩
abbrev S1x3072 : Shape := ⟨2, ![1, 3072]⟩
abbrev S3072x2048 : Shape := ⟨2, ![3072, 2048]⟩
abbrev S8192x3072 : Shape := ⟨2, ![8192, 3072]⟩
abbrev S1024x2048 : Shape := ⟨2, ![1024, 2048]⟩
abbrev S512x2048 : Shape := ⟨2, ![512, 2048]⟩
abbrev S1x512 : Shape := ⟨2, ![1, 512]⟩
abbrev S1024x512 : Shape := ⟨2, ![1024, 512]⟩
abbrev S256x2048 : Shape := ⟨2, ![256, 2048]⟩
abbrev S1024x256 : Shape := ⟨2, ![1024, 256]⟩
abbrev S1x256 : Shape := ⟨2, ![1, 256]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x3072, .f32⟩
  | .hbm, ⟨2, _⟩ => ⟨S1x3072, .f32⟩
  | .hbm, ⟨3, _⟩ => ⟨S8192x2048, .bf16⟩
  | .hbm, ⟨4, _⟩ => ⟨S3072x2048, .f32⟩
  | .hbm, ⟨5, _⟩ => ⟨S3072x2048, .bf16⟩
  | .hbm, ⟨6, _⟩ => ⟨S8192x3072, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S8192x2048 : Shape := ⟨2, ![8192, 2048]⟩
abbrev S2048x3072 : Shape := ⟨2, ![2048, 3072]⟩
abbrev S1x3072 : Shape := ⟨2, ![1, 3072]⟩
abbrev S8192x3072 : Shape := ⟨2, ![8192, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x3072, .f32⟩
  | .hbm, ⟨2, _⟩ => ⟨S1x3072, .f32⟩
  | .hbm, ⟨3, _⟩ => ⟨S8192x3072, .f32⟩
  | .hbm, ⟨4, _⟩ => ⟨S8192x3072, .f32⟩
  | .hbm, ⟨5, _⟩ => ⟨S8192x3072, .f32⟩
  | .hbm, ⟨6, _⟩ => ⟨S8192x3072, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩
abbrev S256x2048 : Shape := ⟨2, ![256, 2048]⟩
abbrev S1024x256 : Shape := ⟨2, ![1024, 256]⟩

abbrev nBuf : Space → Nat
  | .hbm => 12
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x2048, .bf16⟩
  | .hbm, ⟨4, _⟩ => ⟨S5632x2048, .f32⟩
  | .hbm, ⟨5, _⟩ => ⟨S5632x2048, .bf16⟩
  | .hbm, ⟨6, _⟩ => ⟨S8192x2048, .bf16⟩
  | .hbm, ⟨7, _⟩ => ⟨S5632x2048, .f32⟩
  | .hbm, ⟨8, _⟩ => ⟨S5632x2048, .bf16⟩
  | .hbm, ⟨9, _⟩ => ⟨S8192x5632, .bf16⟩
  | .hbm, ⟨10, _⟩ => ⟨S8192x5632, .bf16⟩
  | .hbm, ⟨11, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .bf16⟩
  | .local _ .vmem, ⟨7, _⟩ => ⟨S512x2048, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference15Ideal.lean ====
abbrev S8192x2048 : Shape := ⟨2, ![8192, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x5632, .f32⟩
  | .hbm, ⟨4, _⟩ => ⟨S8192x5632, .f32⟩
  | .hbm, ⟨5, _⟩ => ⟨S8192x5632, .bf16⟩
  | .hbm, ⟨6, _⟩ => ⟨S8192x5632, .bf16⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel16.lean ====
abbrev S8192x1024 : Shape := ⟨2, ![8192, 1024]⟩
abbrev S2048x2048 : Shape := ⟨2, ![2048, 2048]⟩
abbrev S8192x2048 : Shape := ⟨2, ![8192, 2048]⟩
abbrev S1024x2048 : Shape := ⟨2, ![1024, 2048]⟩
abbrev S512x2048 : Shape := ⟨2, ![512, 2048]⟩
abbrev S1024x512 : Shape := ⟨2, ![1024, 512]⟩
abbrev S256x2048 : Shape := ⟨2, ![256, 2048]⟩
abbrev S1024x256 : Shape := ⟨2, ![1024, 256]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x2048, .f32⟩
  | .hbm, ⟨3, _⟩ => ⟨S8192x2048, .f32⟩
  | .hbm, ⟨4, _⟩ => ⟨S8192x2048, .bf16⟩
  | .hbm, ⟨5, _⟩ => ⟨S1024x2048, .f32⟩
  | .hbm, ⟨6, _⟩ => ⟨S1024x2048, .bf16⟩
  | .hbm, ⟨7, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S2048x2048 : Shape := ⟨2, ![2048, 2048]⟩
abbrev S8192x2048 : Shape := ⟨2, ![8192, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192x1024, .f32⟩
  | .hbm, ⟨7, _⟩ => ⟨S8192x2048, .f32⟩
  | .hbm, ⟨8, _⟩ => ⟨S8192x2048, .f32⟩
  | .hbm, ⟨9, _⟩ => ⟨S8192x1024, .f32⟩
  | .hbm, ⟨10, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel17.lean ====
abbrev S8192x2048 : Shape := ⟨2, ![8192, 2048]⟩
abbrev S2048x7296 : Shape := ⟨2, ![2048, 7296]⟩
abbrev S8192x7296 : Shape := ⟨2, ![8192, 7296]⟩
abbrev S7296x2048 : Shape := ⟨2, ![7296, 2048]⟩
abbrev S4096x384 : Shape := ⟨2, ![4096, 384]⟩
abbrev S4096x1024 : Shape := ⟨2, ![4096, 1024]⟩
abbrev S384x1024 : Shape := ⟨2, ![384, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x7296, .f32⟩
  | .hbm, ⟨2, _⟩ => ⟨S8192x7296, .f32⟩
  | .hbm, ⟨3, _⟩ => ⟨S8192x7296, .bf16⟩
  | .hbm, ⟨4, _⟩ => ⟨S8192x2048, .bf16⟩
  | .hbm, ⟨5, _⟩ => ⟨S7296x2048, .bf16⟩
  | .local _ .vmem, ⟨0, _⟩ => ⟨S4096x384, .bf16⟩
  | .local _ .vmem, ⟨1, _⟩ => ⟨S4096x384, .bf16⟩
  | .local _ .vmem, ⟨2, _⟩ => ⟨S4096x1024, .bf16⟩
  | .local _ .vmem, ⟨3, _⟩ => ⟨S4096x1024, .bf16⟩
  | .local _ .vmem, ⟨4, _⟩ => ⟨S384x1024, .bf16⟩
  | .local _ .vmem, ⟨5, _⟩ => ⟨S384x1024, .bf16⟩
  | .local _ .vmem, ⟨6, _⟩ => ⟨S384x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![19, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x2048 : Shape := ⟨2, ![8192, 2048]⟩
abbrev S2048x7296 : Shape := ⟨2, ![2048, 7296]⟩
abbrev S8192x7296 : Shape := ⟨2, ![8192, 7296]⟩
abbrev S7296x2048 : Shape := ⟨2, ![7296, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x7296, .f32⟩
  | .hbm, ⟨2, _⟩ => ⟨S8192x7296, .f32⟩
  | .hbm, ⟨3, _⟩ => ⟨S8192x7296, .f32⟩
  | .hbm, ⟨4, _⟩ => ⟨S7296x2048, .f32⟩
  | .hbm, ⟨5, _⟩ => ⟨S2048x7296, .f32⟩
  | .hbm, ⟨6, _⟩ => ⟨S7296x2048, .f32⟩
  | .hbm, ⟨7, _⟩ => ⟨S7296x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S8192x2048 : Shape := ⟨2, ![8192, 2048]⟩
abbrev S2048x7296 : Shape := ⟨2, ![2048, 7296]⟩
abbrev S8192x7296 : Shape := ⟨2, ![8192, 7296]⟩
abbrev S7296x2048 : Shape := ⟨2, ![7296, 2048]⟩
abbrev S1024x2432 : Shape := ⟨2, ![1024, 2432]⟩
abbrev S2432x512 : Shape := ⟨2, ![2432, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x7296, .f32⟩
  | .hbm, ⟨2, _⟩ => ⟨S8192x7296, .f32⟩
  | .hbm, ⟨3, _⟩ => ⟨S8192x7296, .bf16⟩
  | .hbm, ⟨4, _⟩ => ⟨S7296x2048, .f32⟩
  | .hbm, ⟨5, _⟩ => ⟨S7296x2048, .bf16⟩
  | .hbm, ⟨6, _⟩ => ⟨S8192x2048, .bf16⟩
  | .local _ .vmem, ⟨0, _⟩ => ⟨S1024x2432, .bf16⟩
  | .local _ .vmem, ⟨1, _⟩ => ⟨S1024x2432, .bf16⟩
  | .local _ .vmem, ⟨2, _⟩ => ⟨S2432x512, .bf16⟩
  | .local _ .vmem, ⟨3, _⟩ => ⟨S2432x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2432x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x2048 : Shape := ⟨2, ![8192, 2048]⟩
abbrev S2048x7296 : Shape := ⟨2, ![2048, 7296]⟩
abbrev S8192x7296 : Shape := ⟨2, ![8192, 7296]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x7296, .f32⟩
  | .hbm, ⟨2, _⟩ => ⟨S8192x7296, .f32⟩
  | .hbm, ⟨3, _⟩ => ⟨S8192x7296, .f32⟩
  | .hbm, ⟨4, _⟩ => ⟨S8192x2048, .f32⟩
  | .hbm, ⟨5, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel19.lean ====
abbrev S8192x2048 : Shape := ⟨2, ![8192, 2048]⟩
abbrev S2048x128 : Shape := ⟨2, ![2048, 128]⟩
abbrev S128x2048 : Shape := ⟨2, ![128, 2048]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x128, .f32⟩
  | .hbm, ⟨2, _⟩ => ⟨S8192x2048, .bf16⟩
  | .hbm, ⟨3, _⟩ => ⟨S128x2048, .f32⟩
  | .hbm, ⟨4, _⟩ => ⟨S128x2048, .bf16⟩
  | .hbm, ⟨5, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x2048 : Shape := ⟨2, ![8192, 2048]⟩
abbrev S2048x128 : Shape := ⟨2, ![2048, 128]⟩
abbrev S8192x128 : Shape := ⟨2, ![8192, 128]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x128, .f32⟩
  | .hbm, ⟨2, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Fox.HostStages.lean ====
/- The kernel's six operands as a chain of named arrays: the forward pass's row maxima and sums, the numbers that ride in
   the free lanes, each split in three parts, and the two layouts. -/
module

public import proofs.«01_k».proof.Proof.Gen.KernelIdeal.Frame
public import Idealize.ShloMosaic.Lib.StableHlo.RunRead
public import Idealize.ShloMosaic.Lib.Pointwise

@[expose] public section

set_option maxRecDepth 16384

noncomputable section

namespace Cert.KernelIdeal.Fox

open Idealize.ShloMosaic Idealize.ShloMosaic.TcCoe Idealize.ShloMosaic.Tactic
open Cert.KernelIdeal Cert.KernelIdeal.Gen

/-- A head's vectors, one per position. -/
abbrev Vecs : Type := FVec Ideal S8x8192x128 .f32
/-- A head's numbers, one per position. -/
abbrev Rows : Type := FVec Ideal S8x8192 .f32
/-- A head's numbers, one per pair of positions. -/
abbrev Pairs : Type := FVec Ideal S8x8192x8192 .f32
/-- One number. -/
abbrev One : Type := FVec Ideal S_ .f32

/-- The scale of the scores. -/
abbrev cScale : One := constant S_ .f32 0x3DB504F3#32
/-- The score of a pair that is not seen. -/
abbrev cNone : One := constant S_ .f32 0xFF800000#32
/-- Zero. -/
abbrev cZero : One := constant S_ .f32 0x00000000#32
/-- One. -/
abbrev cOne : One := constant S_ .f32 0x3F800000#32

/-- The natural logarithm of two. -/
def kLn2 : One := Host.log (constant S_ .f32 0x40000000#32)
/-- Its inverse. -/
def kInv : One := Host.divf cOne kLn2
/-- The queries' factor. -/
def kFac : One := mulf kInv cScale

/-- Which pairs are seen: the column is not after the row. -/
def kMask : IVec S8x8192x8192 1 :=
  broadcastInDim S8x8192x8192 ![0, 1, 2] bcast_S1x8192x8192_S8x8192x8192_0_1_2
    (broadcastInDim S1x8192x8192 ![1, 2] bcast_S8192x8192_S1x8192x8192_1_2 (cmpi .sle (iotaInDim S8192x8192 32 1) (iotaInDim S8192x8192 32 0)))

/-- One number per row, over the pairs. -/
abbrev overRows (x : FVec Ideal S8x8192x1 .f32) : Pairs := broadcastInDim S8x8192x8192 ![0, 1, 2] bcast_S8x8192x1_S8x8192x8192_0_1_2 x
/-- One number per row, with a last axis of one. -/
abbrev asCol (x : Rows) : FVec Ideal S8x8192x1 .f32 := broadcastInDim S8x8192x1 ![0, 1] bcast_S8x8192_S8x8192x1_0_1 x

/-- The masked scores. -/
def kL (q k : Vecs) (cum : Rows) : Pairs :=
  select kMask
    (subf (addf (mulf (Host.dotGeneral dot_S8x8192x128_S8x8192x128_S8x8192x8192_2_2_1_1_0_0 none q k) (broadcastInDim S8x8192x8192 ![] bcast_S_S8x8192x8192 cScale)) (overRows (asCol cum)))
      (broadcastInDim S8x8192x8192 ![0, 1, 2] bcast_S8x1x8192_S8x8192x8192_0_1_2 (broadcastInDim S8x1x8192 ![0, 2] bcast_S8x8192_S8x1x8192_0_2 cum)))
    (broadcastInDim S8x8192x8192 ![] bcast_S_S8x8192x8192 cNone)

/-- The row maxima. -/
def kTop (L : Pairs) : Rows := Host.reduce FloatOps.maximumf L cNone reducesTo_S8x8192x8192_S8x8192_d2 h_S_
/-- The exponentials of the scores below the row maximum. -/
def kE (L : Pairs) (top : Rows) : Pairs := Host.exp (subf L (overRows (asCol top)))
/-- The sum of each row of pairs. -/
def kSum (e : Pairs) : Rows := Host.reduceAdd e cZero reducesTo_S8x8192x8192_S8x8192_d2 h_S_
/-- The output of the attention. -/
def kO (e : Pairs) (l : Rows) (v : Vecs) : Vecs :=
  Host.dotGeneral dot_S8x8192x8192_S8x8192x128_S8x8192x128_2_1_1_2_0_0 none (Host.divf e (overRows (asCol l))) v
/-- The logarithm of each row's sum, in base two. -/
def kLse (top l : Rows) : Rows :=
  mulf (shapeCast S8x8192 (addf (asCol top) (Host.log (asCol l))) shapeCasts_S8x8192x1_S8x8192) (broadcastInDim S8x8192 ![] bcast_S_S8x8192 kInv)
/-- The sum over the lanes of the output's gradient times the output. -/
def kDelta (g o : Vecs) : Rows := Host.reduceAdd (mulf g o) cZero reducesTo_S8x8192x128_S8x8192_d2 h_S_
/-- The cumulative gates in base two. -/
def kC2 (cum : Rows) : Rows := mulf cum (broadcastInDim S8x8192 ![] bcast_S_S8x8192 kInv)

/-- The first part of a number. -/
def hi (x : Rows) : Rows := extf .f32 (truncf .bf16 x bitsLt_bf16_f32) bitsLt_bf16_f32
/-- What the first part leaves. -/
def lo (x : Rows) : Rows := subf x (hi x)

/-- The number of each lane. -/
abbrev lane : IVec S8x8192x128 32 := iotaInDim S8x8192x128 32 2
/-- One in some lanes, zero in the others. -/
def ones (a b : BitVec 32) : Vecs :=
  select (andi (cmpi .sge lane (broadcastInDim S8x8192x128 ![] bcast_S_S8x8192x128 (constantI S_ 32 a)))
      (cmpi .slt lane (broadcastInDim S8x8192x128 ![] bcast_S_S8x8192x128 (constantI S_ 32 b))))
    (broadcastInDim S8x8192x128 ![] bcast_S_S8x8192x128 cOne) (broadcastInDim S8x8192x128 ![] bcast_S_S8x8192x128 cZero)
/-- A row's number put into one lane. -/
def put (n : BitVec 32) (x : Rows) (y : Vecs) : Vecs :=
  select (cmpi .eq lane (broadcastInDim S8x8192x128 ![] bcast_S_S8x8192x128 (constantI S_ 32 n)))
    (broadcastInDim S8x8192x128 ![0, 1, 2] bcast_S8x8192x1_S8x8192x128_0_1_2 (asCol x)) y

/-- Two arrays of vectors side by side. -/
abbrev beside (x y : Vecs) : FVec Ideal S8x8192x256 .f32 :=
  concatenate S8x8192x256 2 [⟨S8x8192x128, x⟩, ⟨S8x8192x128, y⟩] concatenates_S8x8192x128_S8x8192x128_S8x8192x256_d2
/-- The heads' lanes along each row. -/
def flat (x : FVec Ideal S8x8192x256 .f32) : FVec Ideal S8192x2048 .bf16 :=
  truncf .bf16 (shapeCast S8192x2048 (transpose S8192x8x256 [1, 0, 2] x transposes_S8x8192x256_S8192x8x256_1_0_2) shapeCasts_S8192x8x256_S8192x2048) bitsLt_bf16_f32
/-- The positions along each row. -/
def turned (x : FVec Ideal S8x8192x256 .f32) : FVec Ideal S2048x8192 .bf16 :=
  truncf .bf16 (shapeCast S2048x8192 (transpose S8x256x8192 [0, 2, 1] x transposes_S8x8192x256_S8x256x8192_0_2_1) shapeCasts_S8x256x8192_S2048x8192) bitsLt_bf16_f32
/-- The positions along each row, of bare vectors. -/
def turned' (x : Vecs) : FVec Ideal S1024x8192 .bf16 :=
  truncf .bf16 (shapeCast S1024x8192 (transpose S8x128x8192 [0, 2, 1] x transposes_S8x8192x128_S8x128x8192_0_2_1) shapeCasts_S8x128x8192_S1024x8192) bitsLt_bf16_f32

/-- The augmented queries. -/
def augQ (q : Vecs) (w : Rows) : FVec Ideal S8x8192x256 .f32 :=
  beside (mulf q (broadcastInDim S8x8192x128 ![] bcast_S_S8x8192x128 kFac)) (put 2#32 (hi (lo (lo w))) (put 1#32 (hi (lo w)) (put 0#32 (hi w) (ones 3#32 6#32))))
/-- The augmented output gradients. -/
def augG (g : Vecs) (w : Rows) : FVec Ideal S8x8192x256 .f32 :=
  beside g (put 2#32 (hi (lo (lo w))) (put 1#32 (hi (lo w)) (put 0#32 (hi w) (broadcastInDim S8x8192x128 ![] bcast_S_S8x8192x128 cZero))))
/-- The augmented keys. -/
def augK (k : Vecs) (w : Rows) : FVec Ideal S8x8192x256 .f32 :=
  beside k (put 5#32 (Host.negf (hi (lo (lo w)))) (put 4#32 (Host.negf (hi (lo w))) (put 3#32 (Host.negf (hi w)) (ones 0#32 3#32))))
/-- The augmented values. -/
def augV (v : Vecs) : FVec Ideal S8x8192x256 .f32 := beside v (ones 0#32 3#32)

variable (m : (ℓ : Loc nD τ sig) → Buf (Elt Ideal) ℓ) (c : Dev nD)

/-- The arguments. -/
abbrev aq : Vecs := m ((c.tc : Thread nD τ).loc main_arg0)
/-- The keys. -/
abbrev ak : Vecs := m ((c.tc : Thread nD τ).loc main_arg1)
/-- The values. -/
abbrev av : Vecs := m ((c.tc : Thread nD τ).loc main_arg2)
/-- The cumulative log gates. -/
abbrev ac : Rows := m ((c.tc : Thread nD τ).loc main_arg3)
/-- The gradient of the output. -/
abbrev ado : Vecs := m ((c.tc : Thread nD τ).loc main_arg4)

/-- The scores of the arguments. -/
def L := kL (aq m c) (ak m c) (ac m c)
/-- Their exponentials. -/
def E := kE (L m c) (kTop (L m c))
/-- The rows' numbers of the queries: the gate less the logarithm of the row's sum. -/
def W := subf (kC2 (ac m c)) (kLse (kTop (L m c)) (kSum (E m c)))
/-- The rows' numbers of the output gradients. -/
def D := Host.negf (kDelta (ado m c) (kO (E m c) (kSum (E m c)) (av m c)))

theorem V_ln2 : V m c main_v0 = kLn2 := by
  unfold V V0
  after_reads_simp
  rfl

theorem V_o : V m c main_v26 = kO (E m c) (kSum (E m c)) (av m c) := by
  unfold V V0
  after_reads_simp
  unfold E L
  rfl

theorem V_D : V m c main_v81 = D m c := by
  have e : V m c main_v81 = Host.negf (kDelta (ado m c) (V m c main_v26)) := by
    unfold V V0
    after_reads_simp
    rfl
  rw [e, V_o, D]

theorem V_lse : V m c main_v31 = kLse (kTop (L m c)) (kSum (E m c)) := by
  unfold V V0
  after_reads_simp
  unfold E L
  rfl

theorem V_W : V m c main_v46 = W m c := by
  have e : V m c main_v46 = subf (kC2 (ac m c)) (V m c main_v31) := by
    unfold V V0
    after_reads_simp
    rfl
  rw [e, V_lse, W]

theorem V_c2 : V m c main_v37 = kC2 (ac m c) := by
  unfold V V0
  after_reads_simp
  rfl

theorem cat_v : V m c main_v145 = augV (av m c) := by
  unfold V V0
  after_reads_simp
  refine congrArg₂ beside ?_ ?_
  · after_reads_simp
  · after_reads_simp
    rfl

theorem cat_k : V m c main_v133 = augK (ak m c) (V m c main_v37) := by
  unfold V V0
  after_reads_simp
  refine congrArg₂ beside ?_ ?_
  · after_reads_simp
  · after_reads_simp
    rfl

theorem cat_g : V m c main_v104 = augG (ado m c) (V m c main_v81) := by
  unfold V V0
  after_reads_simp
  refine congrArg₂ beside ?_ ?_
  · after_reads_simp
  · after_reads_simp
    rfl

theorem cat_q : V m c main_v74 = augQ (aq m c) (V m c main_v46) := by
  unfold V V0
  after_reads_simp
  refine congrArg₂ beside ?_ ?_
  · after_reads_simp
    rfl
  · after_reads_simp
    rfl

theorem V_gt : V m c main_v110 = turned' (ado m c) := by
  unfold V V0
  after_reads_simp
  rfl

theorem V_v : V m c main_v148 = flat (augV (av m c)) := by
  have e : V m c main_v148 = flat (V m c main_v145) := by
    unfold V V0
    after_reads_simp
    rfl
  rw [e, cat_v]

theorem V_k : V m c main_v136 = flat (augK (ak m c) (kC2 (ac m c))) := by
  have e : V m c main_v136 = flat (V m c main_v133) := by
    unfold V V0
    after_reads_simp
    rfl
  rw [e, cat_k, V_c2]

theorem V_g : V m c main_v107 = flat (augG (ado m c) (D m c)) := by
  have e : V m c main_v107 = flat (V m c main_v104) := by
    unfold V V0
    after_reads_simp
    rfl
  rw [e, cat_g, V_D]

theorem V_q : V m c main_v77 = flat (augQ (aq m c) (W m c)) := by
  have e : V m c main_v77 = flat (V m c main_v74) := by
    unfold V V0
    after_reads_simp
    rfl
  rw [e, cat_q, V_W]

theorem V_qt : V m c main_v80 = turned (augQ (aq m c) (W m c)) := by
  have e : V m c main_v80 = turned (V m c main_v74) := by
    unfold V V0
    after_reads_simp
    rfl
  rw [e, cat_q, V_W]

end Cert.KernelIdeal.Fox
-- ==== Proof.Fox.Tile.lean ====
/- What one tile of the kernel's body computes, at the ideal values: the panel's rows, and the two
   accumulators, as sums over the rows of queries processed so far. -/
module

public import proofs.«01_k».proof.Proof.Gen.KernelIdeal.Skeleton
public import Idealize.ShloMosaic.Lib.Pointwise
public import Idealize.ShloMosaic.Lib.VecWindow

@[expose] public section

set_option maxRecDepth 16384

noncomputable section

namespace Cert.KernelIdeal.Fox

open Idealize.ShloMosaic
open Cert.KernelIdeal Cert.KernelIdeal.Gen
open scoped BigOperators

/-- Two to the power `x`. -/
abbrev ex2 (x : EReal) : EReal := FloatOps.exp2 (F := Ideal) (φ := FTy.f32) x

/-- The attention weight of query row `r` and the block's key `c`, before the causal mask. -/
def p0 (x0 : Vec Ideal S8192x256 .bf16) (x4 : Vec Ideal S256x256 .bf16) (r : Fin 8192) (c : Fin 256) : EReal :=
  ex2 (∑ a : Fin 256, x0 (ix2 r a) * x4 (ix2 c a))

/-- What the weight's gradient multiplies the weight by. -/
def g0 (x1 : Vec Ideal S8192x256 .bf16) (x5 : Vec Ideal S256x256 .bf16) (r : Fin 8192) (c : Fin 256) : EReal :=
  ∑ a : Fin 256, x1 (ix2 r a) * x5 (ix2 c a)

/-- The weight under the causal mask: key `256 * j + c` is seen by the rows from it on. -/
def pm (j : ℕ) (x0 : Vec Ideal S8192x256 .bf16) (x4 : Vec Ideal S256x256 .bf16) (r : Fin 8192) (c : Fin 256) : EReal :=
  if 256 * j + c.val ≤ r.val then p0 x0 x4 r c else 0

/-- The gradient of the exponent. -/
def dsm (j : ℕ) (x0 x1 : Vec Ideal S8192x256 .bf16) (x4 x5 : Vec Ideal S256x256 .bf16) (r : Fin 8192) (c : Fin 256) : EReal :=
  pm j x0 x4 r c * g0 x1 x5 r c

/-- A sum over the rows below `o + n` is the sum over the rows below `o` and the sum over the `n` rows from `o` on. -/
theorem sum_below_add (f : Fin 8192 → EReal) (o n : ℕ) (h : o + n ≤ 8192) :
    (∑ r : Fin 8192, if r.val < o + n then f r else 0)
      = (∑ r : Fin 8192, if r.val < o then f r else 0) + ∑ x : Fin n, f ⟨o + x.val, by omega⟩ := by
  have e : (∑ x : Fin n, f ⟨o + x.val, by omega⟩)
      = ∑ r : Fin 8192, if o ≤ r.val ∧ r.val < o + n then f r else 0 := by
    rw [← Finset.sum_filter]
    refine Finset.sum_bij (fun x _ => (⟨o + x.val, by omega⟩ : Fin 8192)) ?_ ?_ ?_ ?_
    · intro x _; simp only [Finset.mem_filter, Finset.mem_univ, true_and]; omega
    · intro x _ y _ hxy; have := congrArg Fin.val hxy; simp only at this; exact Fin.ext (by omega)
    · intro r hr
      simp only [Finset.mem_filter, Finset.mem_univ, true_and] at hr
      exact ⟨⟨r.val - o, by omega⟩, Finset.mem_univ _, Fin.ext (by simp only; omega)⟩
    · intro x _; rfl
  rw [e, ← Finset.sum_add_distrib]
  refine Finset.sum_congr rfl fun r _ => ?_
  by_cases h1 : r.val < o
  · rw [if_pos (by omega), if_pos h1, if_neg (by omega), add_zero]
  · by_cases h2 : r.val < o + n
    · rw [if_pos h2, if_neg h1, if_pos (by omega), zero_add]
    · rw [if_neg h2, if_neg h1, if_neg (by omega), add_zero]

/-- A sum of terms that vanish outside the `n` rows from `o` on is the sum over those rows. -/
theorem sum_of_support (f : Fin 8192 → EReal) (o n : ℕ) (h : o + n ≤ 8192)
    (hf : ∀ r : Fin 8192, r.val < o ∨ o + n ≤ r.val → f r = 0) :
    (∑ r : Fin 8192, f r) = ∑ x : Fin n, f ⟨o + x.val, by omega⟩ := by
  have h1 := sum_below_add f o n h
  have h2 : (∑ r : Fin 8192, if r.val < o then f r else 0) = 0 :=
    Finset.sum_eq_zero fun r _ => by
      by_cases hr : r.val < o
      · rw [if_pos hr]; exact hf r (.inl hr)
      · rw [if_neg hr]
  have h3 : (∑ r : Fin 8192, if r.val < o + n then f r else 0) = ∑ r : Fin 8192, f r :=
    Finset.sum_congr rfl fun r _ => by
      by_cases hr : r.val < o + n
      · rw [if_pos hr]
      · rw [if_neg hr]; exact (hf r (.inr (by omega))).symm
  rw [h3, h2, zero_add] at h1
  exact h1

/-- A window of whole rows, read at an index. -/
theorem window_rows {m w : ℕ} {α : Type} (x : (⟨2, ![m, w]⟩ : Shape).Idx → α) (o n : ℕ)
    (inb : ∀ a, (![o, 0] : Fin 2 → ℕ) a + (![n, w] : Fin 2 → ℕ) a ≤ (⟨2, ![m, w]⟩ : Shape).size a) (y : Fin n) (a : Fin w) (h : o + n ≤ m) :
    VecWindow.window (s := ⟨2, ![m, w]⟩) x ![o, 0] ![n, w] inb (ix2 y a) = x (ix2 ⟨o + y.val, by omega⟩ a) := by
  refine congrArg x (funext fun q => Fin.ext ?_)
  match q with
  | ⟨0, _⟩ => show o + 1 * y.val = o + y.val; omega
  | ⟨1, _⟩ => show 0 + 1 * a.val = a.val; omega

/-- A window of whole columns, read at an index. -/
theorem window_cols {m w : ℕ} {α : Type} (x : (⟨2, ![m, w]⟩ : Shape).Idx → α) (o n : ℕ)
    (inb : ∀ a, (![0, o] : Fin 2 → ℕ) a + (![m, n] : Fin 2 → ℕ) a ≤ (⟨2, ![m, w]⟩ : Shape).size a) (y : Fin m) (a : Fin n) (h : o + n ≤ w) :
    VecWindow.window (s := ⟨2, ![m, w]⟩) x ![0, o] ![m, n] inb (ix2 y a) = x (ix2 y ⟨o + a.val, by omega⟩) := by
  refine congrArg x (funext fun q => Fin.ext ?_)
  match q with
  | ⟨0, _⟩ => show 0 + 1 * y.val = y.val; omega
  | ⟨1, _⟩ => show o + 1 * a.val = o + a.val; omega

/-- Rows put over the panel, read at an index. -/
theorem put_rows {m w : ℕ} {α : Type} (x : (⟨2, ![m, w]⟩ : Shape).Idx → α) (o n : ℕ) (y : (⟨2, ![n, w]⟩ : Shape).Idx → α) (r : Fin m) (a : Fin w) :
    VecWindow.put (s := ⟨2, ![m, w]⟩) x ![o, 0] ![n, w] y (ix2 r a)
      = if h : o ≤ r.val ∧ r.val < o + n then y (ix2 ⟨r.val - o, by omega⟩ a) else x (ix2 r a) := by
  unfold VecWindow.put
  by_cases h : o ≤ r.val ∧ r.val < o + n
  · have h' : ∀ q, (![o, 0] : Fin 2 → ℕ) q ≤ ((ix2 r a : (⟨2, ![m, w]⟩ : Shape).Idx) q).val
        ∧ ((ix2 r a : (⟨2, ![m, w]⟩ : Shape).Idx) q).val < (![o, 0] : Fin 2 → ℕ) q + (![n, w] : Fin 2 → ℕ) q := by
      intro q
      match q with
      | ⟨0, _⟩ => exact h
      | ⟨1, _⟩ => exact ⟨Nat.zero_le _, by show a.val < 0 + w; omega⟩
    rw [dif_pos h, dif_pos h']
    refine congrArg y (funext fun q => Fin.ext ?_)
    match q with
    | ⟨0, _⟩ => rfl
    | ⟨1, _⟩ => rfl
  · rw [dif_neg h, dif_neg]
    intro h'
    exact h (h' (0 : Fin 2))

/-- The state once the rows below `e` are processed, from the panel `D` found: the panel has their contributions,
    the accumulators their sums. -/
structure Done (j : ℕ) (x0 x1 : Vec Ideal S8192x256 .bf16) (x2 : Vec Ideal S256x8192 .bf16) (x3 : Vec Ideal S128x8192 .bf16)
    (x4 x5 : Vec Ideal S256x256 .bf16) (D : Vec Ideal S8192x256 .f32) (e : ℕ)
    (P : Vec Ideal S8192x256 .f32) (A : Vec Ideal S256x256 .f32) (B : Vec Ideal S128x256 .f32) : Prop where
  hP : ∀ (r : Fin 8192) (a : Fin 256), P (ix2 r a)
    = D (ix2 r a) + if r.val < e then ∑ c : Fin 256, dsm j x0 x1 x4 x5 r c * x4 (ix2 c a) else 0
  hA : ∀ (a c : Fin 256), A (ix2 a c) = ∑ r : Fin 8192, if r.val < e then x2 (ix2 a r) * dsm j x0 x1 x4 x5 r c else 0
  hB : ∀ (a : Fin 128) (c : Fin 256), B (ix2 a c) = ∑ r : Fin 8192, if r.val < e then x3 (ix2 a r) * pm j x0 x4 r c else 0

theorem pm_of_ge {j : ℕ} (x0 : Vec Ideal S8192x256 .bf16) (x4 : Vec Ideal S256x256 .bf16) (r : Fin 8192) (c : Fin 256)
    (h : 256 * (j + 1) ≤ r.val) : pm j x0 x4 r c = p0 x0 x4 r c := if_pos (by have := c.isLt; omega)

variable {j : ℕ} {x0 x1 : Vec Ideal S8192x256 .bf16} {x2 : Vec Ideal S256x8192 .bf16} {x3 : Vec Ideal S128x8192 .bf16}
  {x4 x5 : Vec Ideal S256x256 .bf16} {D : Vec Ideal S8192x256 .f32} {e : ℕ}
  {P : Vec Ideal S8192x256 .f32} {A : Vec Ideal S256x256 .f32} {B : Vec Ideal S128x256 .f32}

/-- A tile of `n` whole rows from `e` on, all of them past the block's keys. -/
theorem Done.tile {n : ℕ} (hd : Done j x0 x1 x2 x3 x4 x5 D e P A B) (hj : 256 * (j + 1) ≤ e) (he : e + n ≤ 8192)
    (P' : (⟨2, ![n, 256]⟩ : Shape).Idx → EReal) (A' : Vec Ideal S256x256 .f32) (B' : Vec Ideal S128x256 .f32)
    (hP' : ∀ (y : Fin n) (a : Fin 256), P' (ix2 y a) = P (ix2 ⟨e + y.val, by omega⟩ a)
      + ∑ c : Fin 256, p0 x0 x4 ⟨e + y.val, by omega⟩ c * g0 x1 x5 ⟨e + y.val, by omega⟩ c * x4 (ix2 c a))
    (hA' : ∀ (a c : Fin 256), A' (ix2 a c) = A (ix2 a c)
      + ∑ y : Fin n, x2 (ix2 a ⟨e + y.val, by omega⟩) * (p0 x0 x4 ⟨e + y.val, by omega⟩ c * g0 x1 x5 ⟨e + y.val, by omega⟩ c))
    (hB' : ∀ (a : Fin 128) (c : Fin 256), B' (ix2 a c) = B (ix2 a c)
      + ∑ y : Fin n, x3 (ix2 a ⟨e + y.val, by omega⟩) * p0 x0 x4 ⟨e + y.val, by omega⟩ c) :
    Done j x0 x1 x2 x3 x4 x5 D (e + n) (VecWindow.put (s := S8192x256) P ![e, 0] ![n, 256] P') A' B' where
  hP r a := by
    refine (put_rows P e n P' r a).trans ?_
    by_cases h : e ≤ r.val ∧ r.val < e + n
    · have hr : (⟨e + (r.val - e), by omega⟩ : Fin 8192) = r := Fin.ext (by simp only; omega)
      rw [dif_pos h, hP', if_pos h.2]
      simp only [hr]
      rw [hd.hP, if_neg (by omega), add_zero]
      refine congrArg (D (ix2 r a) + ·) (Finset.sum_congr rfl fun c _ => ?_)
      rw [dsm, pm_of_ge x0 x4 r c (by omega)]
    · rw [dif_neg h, hd.hP]
      by_cases h1 : r.val < e
      · rw [if_pos h1, if_pos (by omega)]
      · rw [if_neg h1, if_neg (by omega)]
  hA a c := by
    rw [hA', hd.hA, sum_below_add (fun r => x2 (ix2 a r) * dsm j x0 x1 x4 x5 r c) e n he]
    refine congrArg (_ + ·) (Finset.sum_congr rfl fun y _ => ?_)
    rw [dsm, pm_of_ge x0 x4 _ c (by simp only; omega)]
  hB a c := by
    rw [hB', hd.hB, sum_below_add (fun r => x3 (ix2 a r) * pm j x0 x4 r c) e n he]
    refine congrArg (_ + ·) (Finset.sum_congr rfl fun y _ => ?_)
    rw [pm_of_ge x0 x4 _ c (by simp only; omega)]

/-- A trip of the loop over pairs of blocks. -/
theorem Done.pair (hd : Done j x0 x1 x2 x3 x4 x5 D e P A B) (hj : 256 * (j + 1) ≤ e) (he : e + 512 ≤ 8192)
    (i1 : ∀ a, (![e, 0] : Fin 2 → ℕ) a + S512x256.size a ≤ S8192x256.size a)
    (i2 : ∀ a, (![0, e] : Fin 2 → ℕ) a + S256x512.size a ≤ S256x8192.size a)
    (i3 : ∀ a, (![0, e] : Fin 2 → ℕ) a + S128x512.size a ≤ S128x8192.size a) :
    Done j x0 x1 x2 x3 x4 x5 D (e + 512)
      (VecWindow.put (s := S8192x256) P ![e, 0] ![512, 256]
        (k0_pay7 (F := Ideal) x4 x5 (VecWindow.window x0 ![e, 0] S512x256.size i1) (VecWindow.window x1 ![e, 0] S512x256.size i1)
          (VecWindow.window P ![e, 0] S512x256.size i1)))
      (k0_pay6 (F := Ideal) x4 x5 (VecWindow.window x0 ![e, 0] S512x256.size i1) (VecWindow.window x1 ![e, 0] S512x256.size i1)
        (VecWindow.window x2 ![0, e] S256x512.size i2) A)
      (k0_pay5 (F := Ideal) x4 (VecWindow.window x0 ![e, 0] S512x256.size i1) (VecWindow.window x3 ![0, e] S128x512.size i3) B) := by
  have w0 : ∀ y a, VecWindow.window x0 ![e, 0] S512x256.size i1 (ix2 y a) = x0 (ix2 ⟨e + y.val, by omega⟩ a) := fun y a => window_rows x0 e 512 i1 y a he
  have w1 : ∀ y a, VecWindow.window x1 ![e, 0] S512x256.size i1 (ix2 y a) = x1 (ix2 ⟨e + y.val, by omega⟩ a) := fun y a => window_rows x1 e 512 i1 y a he
  have w8 : ∀ y a, VecWindow.window P ![e, 0] S512x256.size i1 (ix2 y a) = P (ix2 ⟨e + y.val, by omega⟩ a) := fun y a => window_rows P e 512 i1 y a he
  have w2 : ∀ a y, VecWindow.window x2 ![0, e] S256x512.size i2 (ix2 a y) = x2 (ix2 a ⟨e + y.val, by omega⟩) := fun a y => window_cols x2 e 512 i2 a y he
  have w3 : ∀ a y, VecWindow.window x3 ![0, e] S128x512.size i3 (ix2 a y) = x3 (ix2 a ⟨e + y.val, by omega⟩) := fun a y => window_cols x3 e 512 i3 a y he
  generalize VecWindow.window x0 ![e, 0] S512x256.size i1 = W0 at *
  generalize VecWindow.window x1 ![e, 0] S512x256.size i1 = W1 at *
  generalize VecWindow.window P ![e, 0] S512x256.size i1 = W8 at *
  generalize VecWindow.window x2 ![0, e] S256x512.size i2 = W2 at *
  generalize VecWindow.window x3 ![0, e] S128x512.size i3 = W3 at *
  refine hd.tile hj he _ _ _ ?_ ?_ ?_
  · intro y a
    pointwise [k0_pay7, k0_pay4, k0_pay3]
    simp only [w0, w1, w8]; rfl
  · intro a c
    pointwise [k0_pay6, k0_pay4, k0_pay3]
    simp only [w0, w1, w2]; rfl
  · intro a c
    pointwise [k0_pay5, k0_pay3]
    simp only [w0, w3]; rfl

/-- A trip of the loop over four blocks at a time. -/
theorem Done.quad (hd : Done j x0 x1 x2 x3 x4 x5 D e P A B) (hj : 256 * (j + 1) ≤ e) (he : e + 1024 ≤ 8192)
    (i1 : ∀ a, (![e, 0] : Fin 2 → ℕ) a + S1024x256.size a ≤ S8192x256.size a)
    (i2 : ∀ a, (![0, e] : Fin 2 → ℕ) a + S256x1024.size a ≤ S256x8192.size a)
    (i3 : ∀ a, (![0, e] : Fin 2 → ℕ) a + S128x1024.size a ≤ S128x8192.size a) :
    Done j x0 x1 x2 x3 x4 x5 D (e + 1024)
      (VecWindow.put (s := S8192x256) P ![e, 0] ![1024, 256]
        (k0_pay29 (F := Ideal) x4 (k0_pay14 (F := Ideal) x4 x5 (VecWindow.window x0 ![e, 0] S1024x256.size i1) (VecWindow.window x1 ![e, 0] S1024x256.size i1))
          (VecWindow.window P ![e, 0] S1024x256.size i1)))
      (k0_pay16 (F := Ideal) x4 x5 (VecWindow.window x0 ![e, 0] S1024x256.size i1) (VecWindow.window x1 ![e, 0] S1024x256.size i1)
        (VecWindow.window x2 ![0, e] S256x1024.size i2) A)
      (k0_pay15 (F := Ideal) x4 (VecWindow.window x0 ![e, 0] S1024x256.size i1) (VecWindow.window x3 ![0, e] S128x1024.size i3) B) := by
  have w0 : ∀ y a, VecWindow.window x0 ![e, 0] S1024x256.size i1 (ix2 y a) = x0 (ix2 ⟨e + y.val, by omega⟩ a) := fun y a => window_rows x0 e 1024 i1 y a he
  have w1 : ∀ y a, VecWindow.window x1 ![e, 0] S1024x256.size i1 (ix2 y a) = x1 (ix2 ⟨e + y.val, by omega⟩ a) := fun y a => window_rows x1 e 1024 i1 y a he
  have w8 : ∀ y a, VecWindow.window P ![e, 0] S1024x256.size i1 (ix2 y a) = P (ix2 ⟨e + y.val, by omega⟩ a) := fun y a => window_rows P e 1024 i1 y a he
  have w2 : ∀ a y, VecWindow.window x2 ![0, e] S256x1024.size i2 (ix2 a y) = x2 (ix2 a ⟨e + y.val, by omega⟩) := fun a y => window_cols x2 e 1024 i2 a y he
  have w3 : ∀ a y, VecWindow.window x3 ![0, e] S128x1024.size i3 (ix2 a y) = x3 (ix2 a ⟨e + y.val, by omega⟩) := fun a y => window_cols x3 e 1024 i3 a y he
  generalize VecWindow.window x0 ![e, 0] S1024x256.size i1 = W0 at *
  generalize VecWindow.window x1 ![e, 0] S1024x256.size i1 = W1 at *
  generalize VecWindow.window P ![e, 0] S1024x256.size i1 = W8 at *
  generalize VecWindow.window x2 ![0, e] S256x1024.size i2 = W2 at *
  generalize VecWindow.window x3 ![0, e] S128x1024.size i3 = W3 at *
  refine hd.tile hj he _ _ _ ?_ ?_ ?_
  · intro y a
    pointwise [k0_pay29, k0_pay14, k0_pay13]
    simp only [w0, w1, w8]; rfl
  · intro a c
    pointwise [k0_pay16, k0_pay14, k0_pay13]
    simp only [w0, w1, w2]; rfl
  · intro a c
    pointwise [k0_pay15, k0_pay13]
    simp only [w0, w3]; rfl

end Cert.KernelIdeal.Fox
-- ==== Proof.Fox.Places.lean ====
/- Where the body's tiles lie, and how many trips its loops make, as plain numbers of the block's index. -/
module

public import proofs.«01_k».proof.Proof.Gen.KernelIdeal.Skeleton

@[expose] public section

set_option maxRecDepth 16384

noncomputable section

namespace Cert.KernelIdeal.Fox

open Idealize.ShloMosaic
open Cert.KernelIdeal Cert.KernelIdeal.Gen

/-- The block of keys a grid point works on. -/
abbrev jOf (i : grid0.Coords) : ℕ := (i 1).val

/-- The first row past the first tile's rows that count. -/
def e1 (j : ℕ) : ℕ := 256 * (j + 1 + (31 - j) % 2)
/-- The trips of the loop over pairs. -/
def n1 (j : ℕ) : ℕ := ((31 - j) / 2) % 2
/-- The trips of the loop over fours. -/
def n3 (j : ℕ) : ℕ := (31 - j) / 4

/-- Coordinates with a given block of keys. -/
def at1 (j : Fin 32) : grid0.Coords
  | ⟨0, _⟩ => (0 : Fin 8)
  | ⟨1, _⟩ => j

theorem jOf_lt (i : grid0.Coords) : jOf i < 32 := (i 1).isLt

theorem off1_at : ∀ j : Fin 32, k0_off1 (at1 j) = ![256 * min j.val 30, 0] := by decide +kernel
theorem off2_at : ∀ j : Fin 32, k0_off2 (at1 j) = ![0, 256 * min j.val 30] := by decide +kernel
theorem off3_at : ∀ j : Fin 32, k0_off3 (at1 j) = ![0, 256 * min j.val 30] := by decide +kernel
theorem off4_at : ∀ j : Fin 32, k0_off4 (at1 j) = ![e1 j.val, 0] := by decide +kernel
theorem off5_at : ∀ j : Fin 32, k0_off5 (at1 j) = ![0, e1 j.val] := by decide +kernel
theorem off6_at : ∀ j : Fin 32, k0_off6 (at1 j) = ![0, e1 j.val] := by decide +kernel
theorem trips1_at : ∀ j : Fin 32, (k0_t1_loop (at1 j)).trips = n1 j.val := by decide +kernel
theorem trips2_at : ∀ j : Fin 32, (k0_t2_loop (at1 j)).trips = 0 := by decide +kernel
theorem trips3_at : ∀ j : Fin 32, (k0_t3_loop (at1 j)).trips = n3 j.val := by decide +kernel
theorem trips4_at : ∀ j : Fin 32, (k0_t4_loop (at1 j)).trips = 0 := by decide +kernel
theorem off10_at : ∀ j : Fin 32, ∀ k : Fin (k0_t3_loop (at1 j)).trips,
    k0_off10 (at1 j) k = ![e1 j.val + 512 * n1 j.val + 1024 * k.val, 0] := by decide +kernel
theorem off11_at : ∀ j : Fin 32, ∀ k : Fin (k0_t3_loop (at1 j)).trips,
    k0_off11 (at1 j) k = ![0, e1 j.val + 512 * n1 j.val + 1024 * k.val] := by decide +kernel
theorem off12_at : ∀ j : Fin 32, ∀ k : Fin (k0_t3_loop (at1 j)).trips,
    k0_off12 (at1 j) k = ![0, e1 j.val + 512 * n1 j.val + 1024 * k.val] := by decide +kernel

variable (i : grid0.Coords)

theorem off1_eq : k0_off1 i = ![256 * min (jOf i) 30, 0] := off1_at (i 1)
theorem off2_eq : k0_off2 i = ![0, 256 * min (jOf i) 30] := off2_at (i 1)
theorem off3_eq : k0_off3 i = ![0, 256 * min (jOf i) 30] := off3_at (i 1)
theorem off4_eq : k0_off4 i = ![e1 (jOf i), 0] := off4_at (i 1)
theorem off5_eq : k0_off5 i = ![0, e1 (jOf i)] := off5_at (i 1)
theorem off6_eq : k0_off6 i = ![0, e1 (jOf i)] := off6_at (i 1)
theorem trips1 : (k0_t1_loop i).trips = n1 (jOf i) := trips1_at (i 1)
theorem trips2 : (k0_t2_loop i).trips = 0 := trips2_at (i 1)
theorem trips3 : (k0_t3_loop i).trips = n3 (jOf i) := trips3_at (i 1)
theorem trips4 : (k0_t4_loop i).trips = 0 := trips4_at (i 1)
theorem off10_eq (k : Fin (k0_t3_loop i).trips) : k0_off10 i k = ![e1 (jOf i) + 512 * n1 (jOf i) + 1024 * k.val, 0] := off10_at (i 1) k
theorem off11_eq (k : Fin (k0_t3_loop i).trips) : k0_off11 i k = ![0, e1 (jOf i) + 512 * n1 (jOf i) + 1024 * k.val] := off11_at (i 1) k
theorem off12_eq (k : Fin (k0_t3_loop i).trips) : k0_off12 i k = ![0, e1 (jOf i) + 512 * n1 (jOf i) + 1024 * k.val] := off12_at (i 1) k

/-- All the rows are processed after the last trip. -/
theorem last_row {j : ℕ} (h : j < 32) : e1 j + 512 * n1 j + 1024 * n3 j = 8192 := by
  unfold e1 n1 n3; omega

end Cert.KernelIdeal.Fox
-- ==== Proof.Fox.First.lean ====
/- The first tile of a grid point: two blocks of rows, of which the mask keeps the ones that see the block's keys
   and that no later trip processes. -/
module

public import proofs.«01_k».proof.Proof.Fox.Tile
public import proofs.«01_k».proof.Proof.Fox.Places
public import Idealize.ShloMosaic.Lib.WordCmp

@[expose] public section

set_option maxRecDepth 16384

noncomputable section

namespace Cert.KernelIdeal.Fox

open Idealize.ShloMosaic
open Cert.KernelIdeal Cert.KernelIdeal.Gen
open scoped BigOperators

/-- The smaller of a block's index and 30, as words. -/
theorem min_word : ∀ j : Fin 32, Scalar.minsi (BitVec.ofNat 32 j.val) 30#32 = BitVec.ofNat 32 (min j.val 30) := by decide +kernel

/-- Whether an odd number of blocks follows, as words. -/
theorem odd_word : ∀ j : Fin 32, Scalar.cmpi .eq (Scalar.remsi (Scalar.subi (31#32) (BitVec.ofNat 32 j.val)) 2#32) 1#32
    = BitVec.ofBool (decide ((31 - j.val) % 2 = 1)) := by decide +kernel

/-- The first tile's weights: where the mask keeps them, else zero. -/
theorem pay24_eq (i : grid0.Coords) (x4 : Vec Ideal S256x256 .bf16) (W0 : Vec Ideal S512x256 .bf16) (y : Fin 512) (c : Fin 256) :
    k0_pay24 (F := Ideal) i x4 W0 (ix2 y c)
      = if 256 * jOf i + c.val ≤ 256 * min (jOf i) 30 + y.val ∧ 256 * min (jOf i) 30 + y.val < e1 (jOf i) then
          ex2 (∑ a : Fin 256, W0 (ix2 y a) * x4 (ix2 c a)) else 0 := by
  pointwise [k0_pay24, k0_pay22]
  have hj : jOf i < 32 := jOf_lt i
  have h1 : Scalar.minsi (BitVec.ofNat 32 (jOf i)) 30#32 = BitVec.ofNat 32 (min (jOf i) 30) := min_word (i 1)
  have h2 : Scalar.cmpi .eq (Scalar.remsi (Scalar.subi (31#32) (BitVec.ofNat 32 (jOf i))) 2#32) 1#32
    = BitVec.ofBool (decide ((31 - jOf i) % 2 = 1)) := odd_word (i 1)
  show Scalar.select (IntOp.andi
        (IntOp.cmpi CmpIPredicate.sle
          (IntOp.addi (Scalar.muli (BitVec.ofNat 32 (jOf i)) 256#32) (BitVec.ofNat 32 c.val))
          (IntOp.addi (Scalar.muli (Scalar.minsi (BitVec.ofNat 32 (jOf i)) 30#32) 256#32) (BitVec.ofNat 32 y.val)))
        (IntOp.ori
          (IntOp.cmpi CmpIPredicate.slt
            (IntOp.addi (Scalar.muli (Scalar.minsi (BitVec.ofNat 32 (jOf i)) 30#32) 256#32) (BitVec.ofNat 32 y.val))
            (Scalar.muli (Scalar.addi (BitVec.ofNat 32 (jOf i)) 1#32) 256#32))
          (Scalar.cmpi CmpIPredicate.eq (Scalar.remsi (Scalar.subi (31#32) (BitVec.ofNat 32 (jOf i))) 2#32) 1#32)))
      (ex2 (∑ a : Fin 256, W0 (ix2 y a) * x4 (ix2 c a))) 0 = _
  rw [h1, h2]
  generalize ex2 (∑ a : Fin 256, W0 (ix2 y a) * x4 (ix2 c a)) = z
  have hy := y.isLt
  have hc := c.isLt
  unfold e1
  generalize jOf i = j at *
  have m1 : Scalar.muli (BitVec.ofNat 32 j) 256#32 = BitVec.ofNat 32 (j * 256) := (BitVec.ofNat_mul ..).symm
  have m2 : Scalar.muli (BitVec.ofNat 32 (min j 30)) 256#32 = BitVec.ofNat 32 (min j 30 * 256) := (BitVec.ofNat_mul ..).symm
  have m3 : Scalar.muli (Scalar.addi (BitVec.ofNat 32 j) 1#32) 256#32 = BitVec.ofNat 32 ((j + 1) * 256) := by
    show (BitVec.ofNat 32 j + BitVec.ofNat 32 1) * BitVec.ofNat 32 256 = _
    rw [← BitVec.ofNat_add, ← BitVec.ofNat_mul]
  have a1 : ∀ a b : ℕ, IntOp.addi (BitVec.ofNat 32 a) (BitVec.ofNat 32 b) = BitVec.ofNat 32 (a + b) := fun a b => (BitVec.ofNat_add ..).symm
  rw [m1, m2, m3, a1, a1]
  simp (disch := omega) only [hlo_ix]
  by_cases h : 256 * j + c.val ≤ 256 * min j 30 + y.val ∧ 256 * min j 30 + y.val < 256 * (j + 1 + (31 - j) % 2)
  · rw [if_pos h, if_pos]; omega
  · rw [if_neg h, if_neg]; omega

variable {x0 x1 : Vec Ideal S8192x256 .bf16} {x2 : Vec Ideal S256x8192 .bf16} {x3 : Vec Ideal S128x8192 .bf16}
  {x4 x5 : Vec Ideal S256x256 .bf16} {D : Vec Ideal S8192x256 .f32}

/-- The state after the first tile, from a panel `D`. -/
theorem Done.first (i : grid0.Coords) (o : ℕ) (ho : o = 256 * min (jOf i) 30)
    (i1 : ∀ a, (![o, 0] : Fin 2 → ℕ) a + S512x256.size a ≤ S8192x256.size a)
    (i2 : ∀ a, (![0, o] : Fin 2 → ℕ) a + S256x512.size a ≤ S256x8192.size a)
    (i3 : ∀ a, (![0, o] : Fin 2 → ℕ) a + S128x512.size a ≤ S128x8192.size a) :
    Done (jOf i) x0 x1 x2 x3 x4 x5 D (e1 (jOf i))
      (VecWindow.put (s := S8192x256) D ![o, 0] ![512, 256]
        (k0_pay28 (F := Ideal) x4 x5 (k0_pay24 (F := Ideal) i x4 (VecWindow.window x0 ![o, 0] S512x256.size i1))
          (VecWindow.window x1 ![o, 0] S512x256.size i1) (VecWindow.window D ![o, 0] S512x256.size i1)))
      (k0_pay27 (F := Ideal) x5 (k0_pay24 (F := Ideal) i x4 (VecWindow.window x0 ![o, 0] S512x256.size i1))
          (VecWindow.window x1 ![o, 0] S512x256.size i1) (VecWindow.window x2 ![0, o] S256x512.size i2))
      (k0_pay26 (F := Ideal) (k0_pay24 (F := Ideal) i x4 (VecWindow.window x0 ![o, 0] S512x256.size i1))
          (VecWindow.window x3 ![0, o] S128x512.size i3)) := by
  have hj : jOf i < 32 := jOf_lt i
  have he : o + 512 ≤ 8192 := by omega
  have hle : e1 (jOf i) ≤ o + 512 := by unfold e1; omega
  have w0 : ∀ y a, VecWindow.window x0 ![o, 0] S512x256.size i1 (ix2 y a) = x0 (ix2 ⟨o + y.val, by omega⟩ a) := fun y a => window_rows x0 o 512 i1 y a he
  have w1 : ∀ y a, VecWindow.window x1 ![o, 0] S512x256.size i1 (ix2 y a) = x1 (ix2 ⟨o + y.val, by omega⟩ a) := fun y a => window_rows x1 o 512 i1 y a he
  have w8 : ∀ y a, VecWindow.window D ![o, 0] S512x256.size i1 (ix2 y a) = D (ix2 ⟨o + y.val, by omega⟩ a) := fun y a => window_rows D o 512 i1 y a he
  have w2 : ∀ a y, VecWindow.window x2 ![0, o] S256x512.size i2 (ix2 a y) = x2 (ix2 a ⟨o + y.val, by omega⟩) := fun a y => window_cols x2 o 512 i2 a y he
  have w3 : ∀ a y, VecWindow.window x3 ![0, o] S128x512.size i3 (ix2 a y) = x3 (ix2 a ⟨o + y.val, by omega⟩) := fun a y => window_cols x3 o 512 i3 a y he
  have wp : ∀ y c, k0_pay24 (F := Ideal) i x4 (VecWindow.window x0 ![o, 0] S512x256.size i1) (ix2 y c)
      = if (⟨o + y.val, by omega⟩ : Fin 8192).val < e1 (jOf i) then pm (jOf i) x0 x4 ⟨o + y.val, by omega⟩ c else 0 := by
    intro y c
    rw [pay24_eq, ← ho]
    unfold pm p0
    simp only [w0]
    by_cases h1 : o + y.val < e1 (jOf i)
    · rw [if_pos h1]
      by_cases h2 : 256 * jOf i + c.val ≤ o + y.val
      · rw [if_pos ⟨h2, h1⟩, if_pos h2]
      · rw [if_neg (fun h => h2 h.1), if_neg h2]
    · rw [if_neg h1, if_neg (fun h => h1 h.2)]
  generalize k0_pay24 (F := Ideal) i x4 (VecWindow.window x0 ![o, 0] S512x256.size i1) = W at *
  generalize VecWindow.window x1 ![o, 0] S512x256.size i1 = W1 at *
  generalize VecWindow.window D ![o, 0] S512x256.size i1 = W8 at *
  generalize VecWindow.window x2 ![0, o] S256x512.size i2 = W2 at *
  generalize VecWindow.window x3 ![0, o] S128x512.size i3 = W3 at *
  -- the rows before the first tile see none of the block's keys
  have hz : ∀ (r : Fin 8192) (c : Fin 256), r.val < o → pm (jOf i) x0 x4 r c = 0 := fun r c hr => if_neg (by omega)
  have hds : ∀ (y : Fin 512) (c : Fin 256), W (ix2 y c) * (∑ a : Fin 256, W1 (ix2 y a) * x5 (ix2 c a))
      = if (⟨o + y.val, by omega⟩ : Fin 8192).val < e1 (jOf i) then dsm (jOf i) x0 x1 x4 x5 ⟨o + y.val, by omega⟩ c else 0 := by
    intro y c
    rw [wp, ite_mul, zero_mul]
    simp only [w1]
    rfl
  constructor
  · intro r a
    refine (put_rows D o 512 _ r a).trans ?_
    by_cases h : o ≤ r.val ∧ r.val < o + 512
    · rw [dif_pos h]
      have hr : (⟨o + (r.val - o), by omega⟩ : Fin 8192) = r := Fin.ext (by simp only; omega)
      have hn : o + (r.val - o) = r.val := by omega
      pointwise [k0_pay28, k0_pay25]
      simp only [hds, w8, hr, hn]
      by_cases h1 : r.val < e1 (jOf i)
      · simp only [if_pos h1]
      · simp only [if_neg h1, zero_mul, Finset.sum_const_zero]
    · rw [dif_neg h]
      by_cases h1 : r.val < e1 (jOf i)
      · rw [if_pos h1, Finset.sum_eq_zero, add_zero]
        intro c _
        rw [dsm, hz r c (by omega), zero_mul, zero_mul]
      · rw [if_neg h1, add_zero]
  · intro a c
    pointwise [k0_pay27, k0_pay25]
    simp only [hds, w2]
    rw [sum_of_support (fun r => if r.val < e1 (jOf i) then x2 (ix2 a r) * dsm (jOf i) x0 x1 x4 x5 r c else 0) o 512 he]
    · refine Finset.sum_congr rfl fun y _ => ?_
      rw [mul_ite, mul_zero]
    · intro r hr
      rcases hr with hr | hr
      · rw [dsm, hz r c hr, zero_mul, mul_zero, ite_self]
      · rw [if_neg (by omega)]
  · intro a c
    pointwise [k0_pay26]
    simp only [wp, w3]
    rw [sum_of_support (fun r => if r.val < e1 (jOf i) then x3 (ix2 a r) * pm (jOf i) x0 x4 r c else 0) o 512 he]
    · refine Finset.sum_congr rfl fun y _ => ?_
      rw [mul_ite, mul_zero]
    · intro r hr
      rcases hr with hr | hr
      · rw [hz r c hr, mul_zero, ite_self]
      · rw [if_neg (by omega)]

end Cert.KernelIdeal.Fox
-- ==== Proof.Fox.Trips.lean ====
/- The two loops of a grid point: what their writes leave in the panel and the two running sums. -/
module

public import proofs.«01_k».proof.Proof.Gen.KernelIdeal.Loops
public import proofs.«01_k».proof.Proof.Fox.First
public import Idealize.ShloMosaic.Lib.VecWindow

@[expose] public section

set_option maxRecDepth 16384

noncomputable section

namespace Cert.KernelIdeal.Fox

open Idealize.ShloMosaic Idealize.ShloMosaic.TcCoe
open Cert.KernelIdeal Cert.KernelIdeal.Gen

/-- Writes placed before others are made after them. -/
theorem read_append {κ : Kind} {sp : Space} {s : Shape} {e : EltTy} (w : View sig κ sp s e)
    (f : w.ty.Contents (Elt Ideal)) (L L' : List (View.Piece (Elt Ideal) s e)) :
    w.writes (Elt Ideal) f (L ++ L') = w.writes (Elt Ideal) (w.writes (Elt Ideal) f L') L := View.writes_append w f L L'

variable (𝒱 : Variants) (c : Dev nD) (bd : Option 𝒱.V) (i : grid0.Coords)
  (arg2 : Memref sig .tc .vmem S8192x256 .bf16) (harg2 : arg2.IsWhole)
  (arg3 : Memref sig .tc .vmem S8192x256 .bf16) (harg3 : arg3.IsWhole)
  (arg4 : Memref sig .tc .vmem S256x8192 .bf16) (harg4 : arg4.IsWhole)
  (arg5 : Memref sig .tc .vmem S128x8192 .bf16) (harg5 : arg5.IsWhole)
  (arg6 : Memref sig .tc .vmem S256x256 .bf16) (harg6 : arg6.IsWhole)
  (arg7 : Memref sig .tc .vmem S256x256 .bf16) (harg7 : arg7.IsWhole)
  (arg8 : Memref sig .tc .vmem S8192x256 .f32) (harg8 : arg8.IsWhole)
  (arg9 : Memref sig .tc .vmem S256x256 .f32) (harg9 : arg9.IsWhole)
  (arg10 : Memref sig .tc .vmem S256x128 .bf16) (harg10 : arg10.IsWhole)
  (arg11 : Memref sig .tc .vmem S256x256 .f32) (harg11 : arg11.IsWhole)
  (arg12 : Memref sig .tc .vmem S128x256 .f32) (harg12 : arg12.IsWhole)
  (w4 w6 : FVec Ideal S256x256 .bf16) (v7 v66 c2 v67 v72 v74 : BitVec 32) (v75 : BitVec 1) (v83 : BitVec 32)
  (x0 x1 : Vec Ideal S8192x256 .bf16) (x2 : Vec Ideal S256x8192 .bf16) (x3 : Vec Ideal S128x8192 .bf16)
  (x4 x5 : Vec Ideal S256x256 .bf16) {D : Vec Ideal S8192x256 .f32}

/-- One trip of the loop over pairs. -/
theorem trip1_done (k : Fin (k0_t1_loop i).trips) (f8 : BufTy.Contents (Elt Ideal) arg8.view.ty) (f11 : BufTy.Contents (Elt Ideal) arg11.view.ty)
    (f12 : BufTy.Contents (Elt Ideal) arg12.view.ty)
    (h : Done (jOf i) x0 x1 x2 x3 x4 x5 D (e1 (jOf i)) (arg8.view.read (Elt Ideal) f8) (arg11.view.read (Elt Ideal) f11) (arg12.view.read (Elt Ideal) f12)) :
    Done (jOf i) x0 x1 x2 x3 x4 x5 D (e1 (jOf i) + 512)
      (arg8.view.read (Elt Ideal) (arg8.view.writes (Elt Ideal) f8 (tripL_k0_t1 (F := Ideal) 𝒱 c bd i arg2 harg2 arg3 harg3 arg4 harg4 arg5 harg5 arg6 harg6 arg7 harg7 arg8 harg8 arg9 harg9 arg10 harg10 arg11 harg11 arg12 harg12 x4 x5 v7 v66 c2 v67 v72 v74 v75 (harg2.unread x0) (harg3.unread x1) (harg4.unread x2) (harg5.unread x3) k f8 f11 f12).1))
      (arg11.view.read (Elt Ideal) (arg11.view.writes (Elt Ideal) f11 (tripL_k0_t1 (F := Ideal) 𝒱 c bd i arg2 harg2 arg3 harg3 arg4 harg4 arg5 harg5 arg6 harg6 arg7 harg7 arg8 harg8 arg9 harg9 arg10 harg10 arg11 harg11 arg12 harg12 x4 x5 v7 v66 c2 v67 v72 v74 v75 (harg2.unread x0) (harg3.unread x1) (harg4.unread x2) (harg5.unread x3) k f8 f11 f12).2.1))
      (arg12.view.read (Elt Ideal) (arg12.view.writes (Elt Ideal) f12 (tripL_k0_t1 (F := Ideal) 𝒱 c bd i arg2 harg2 arg3 harg3 arg4 harg4 arg5 harg5 arg6 harg6 arg7 harg7 arg8 harg8 arg9 harg9 arg10 harg10 arg11 harg11 arg12 harg12 x4 x5 v7 v66 c2 v67 v72 v74 v75 (harg2.unread x0) (harg3.unread x1) (harg4.unread x2) (harg5.unread x3) k f8 f11 f12).2.2)) := by
  have b1 := k0_off4_inb i k
  have b2 := k0_off6_inb i k
  have b3 := k0_off5_inb i k
  rw [off4_eq i] at b1
  rw [off6_eq i] at b2
  rw [off5_eq i] at b3
  have hb : e1 (jOf i) + 512 ≤ 8192 := b1 0
  have hp := Done.pair h (by unfold e1; omega) hb b1 b2 b3
  have r11 : arg11.view.readAt (Elt Ideal) (Rect.unit ![0, 0] ![256, 256] inb_S256x256_S256x256_0_0).toLoadRect f11 = arg11.view.read (Elt Ideal) f11 :=
    View.readAt_full (s := S256x256) arg11.view f11 inb_S256x256_S256x256_0_0
  have r12 : arg12.view.readAt (Elt Ideal) (Rect.unit ![0, 0] ![128, 256] inb_S128x256_S128x256_0_0).toLoadRect f12 = arg12.view.read (Elt Ideal) f12 :=
    View.readAt_full (s := S128x256) arg12.view f12 inb_S128x256_S128x256_0_0
  unfold tripL_k0_t1 trip_k0_t1
  dsimp only
  rw [View.read_writes_cons_put _ _ _ _ _ (off4_eq i), View.read_writes_full, View.read_writes_full]
  simp only [View.writes_nil, trip_k0_t1.sl.r, View.readAt_unit (s := S8192x256) (size := S512x256.size) _ _ _ (off4_eq i) b1, View.readAt_unit (s := S256x8192) (size := S256x512.size) _ _ _ (off6_eq i) b2,
    View.readAt_unit (s := S128x8192) (size := S128x512.size) _ _ _ (off5_eq i) b3, r11, r12, harg2.read_unread, harg3.read_unread, harg4.read_unread, harg5.read_unread]
  exact hp

/-- The writes of the trips before the `k`-th of the loop over pairs. -/
theorem trips1_done (G8 : BufTy.Contents (Elt Ideal) arg8.view.ty) (G11 : BufTy.Contents (Elt Ideal) arg11.view.ty) (G12 : BufTy.Contents (Elt Ideal) arg12.view.ty)
    (h : Done (jOf i) x0 x1 x2 x3 x4 x5 D (e1 (jOf i) + 512 * 0) (arg8.view.read (Elt Ideal) G8) (arg11.view.read (Elt Ideal) G11) (arg12.view.read (Elt Ideal) G12)) :
    ∀ k : ℕ, k ≤ (k0_t1_loop i).trips → Done (jOf i) x0 x1 x2 x3 x4 x5 D (e1 (jOf i) + 512 * k)
      (arg8.view.read (Elt Ideal) (arg8.view.writes (Elt Ideal) G8 (pb_k0_t1 (F := Ideal) 𝒱 c bd i arg2 harg2 arg3 harg3 arg4 harg4 arg5 harg5 arg6 harg6 arg7 harg7 arg8 harg8 arg9 harg9 arg10 harg10 arg11 harg11 arg12 harg12 x4 x5 v7 v66 c2 v67 v72 v74 v75 (harg2.unread x0) (harg3.unread x1) (harg4.unread x2) (harg5.unread x3) G8 G11 G12 k).1))
      (arg11.view.read (Elt Ideal) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 arg12 harg12 x4 x5 v7 v66 c2 v67 v72 v74 v75 (harg2.unread x0) (harg3.unread x1) (harg4.unread x2) (harg5.unread x3) G8 G11 G12 k).2.1))
      (arg12.view.read (Elt Ideal) (arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 x4 x5 v7 v66 c2 v67 v72 v74 v75 (harg2.unread x0) (harg3.unread x1) (harg4.unread x2) (harg5.unread x3) G8 G11 G12 k).2.2)) := by
  intro k
  induction k with
  | zero => intro _; rw [pb_k0_t1.eq_1]; exact h
  | succ k ih =>
    intro hk
    have ih := ih (by omega)
    have hs := pb_k0_t1_succ (F := Ideal) 𝒱 c bd i arg2 harg2 arg3 harg3 arg4 harg4 arg5 harg5 arg6 harg6 arg7 harg7 arg8 harg8 arg9 harg9 arg10 harg10 arg11 harg11 arg12 harg12 x4 x5 v7 v66 c2 v67 v72 v74 v75 (harg2.unread x0) (harg3.unread x1) (harg4.unread x2) (harg5.unread x3) G8 G11 G12 ⟨k, hk⟩
    rw [hs]
    dsimp only
    rw [read_append, read_append, read_append]
    have hk0 : k = 0 := by
      have h0 : k < n1 (jOf i) := by rw [← trips1]; exact hk
      unfold n1 at h0; omega
    subst hk0
    rw [show e1 (jOf i) + 512 * 0 = e1 (jOf i) from rfl] at ih
    rw [show e1 (jOf i) + 512 * (0 + 1) = e1 (jOf i) + 512 from rfl]
    exact trip1_done (D := D) 𝒱 c bd i arg2 harg2 arg3 harg3 arg4 harg4 arg5 harg5 arg6 harg6 arg7 harg7 arg8 harg8 arg9 harg9 arg10 harg10 arg11 harg11 arg12 harg12 v7 v66 c2 v67 v72 v74 v75 x0 x1 x2 x3 x4 x5 ⟨0, hk⟩ _ _ _ ih

/-- One trip of the loop over quads. -/
theorem trip3_done (k : Fin (k0_t3_loop i).trips) (f8 : BufTy.Contents (Elt Ideal) arg8.view.ty) (f11 : BufTy.Contents (Elt Ideal) arg11.view.ty)
    (f12 : BufTy.Contents (Elt Ideal) arg12.view.ty)
    (h : Done (jOf i) x0 x1 x2 x3 x4 x5 D (e1 (jOf i) + 512 * n1 (jOf i) + 1024 * k.val) (arg8.view.read (Elt Ideal) f8) (arg11.view.read (Elt Ideal) f11) (arg12.view.read (Elt Ideal) f12)) :
    Done (jOf i) x0 x1 x2 x3 x4 x5 D ((e1 (jOf i) + 512 * n1 (jOf i) + 1024 * k.val) + 1024)
      (arg8.view.read (Elt Ideal) (arg8.view.writes (Elt Ideal) f8 (tripL_k0_t3 (F := Ideal) 𝒱 c bd i arg2 harg2 arg3 harg3 arg4 harg4 arg5 harg5 arg6 harg6 arg7 harg7 arg8 harg8 arg9 harg9 arg10 harg10 arg11 harg11 arg12 harg12 x4 x5 v7 v66 c2 v67 v72 v74 v75 v83 (harg2.unread x0) (harg3.unread x1) (harg4.unread x2) (harg5.unread x3) k f8 f11 f12).1))
      (arg11.view.read (Elt Ideal) (arg11.view.writes (Elt Ideal) f11 (tripL_k0_t3 (F := Ideal) 𝒱 c bd i arg2 harg2 arg3 harg3 arg4 harg4 arg5 harg5 arg6 harg6 arg7 harg7 arg8 harg8 arg9 harg9 arg10 harg10 arg11 harg11 arg12 harg12 x4 x5 v7 v66 c2 v67 v72 v74 v75 v83 (harg2.unread x0) (harg3.unread x1) (harg4.unread x2) (harg5.unread x3) k f8 f11 f12).2.1))
      (arg12.view.read (Elt Ideal) (arg12.view.writes (Elt Ideal) f12 (tripL_k0_t3 (F := Ideal) 𝒱 c bd i arg2 harg2 arg3 harg3 arg4 harg4 arg5 harg5 arg6 harg6 arg7 harg7 arg8 harg8 arg9 harg9 arg10 harg10 arg11 harg11 arg12 harg12 x4 x5 v7 v66 c2 v67 v72 v74 v75 v83 (harg2.unread x0) (harg3.unread x1) (harg4.unread x2) (harg5.unread x3) k f8 f11 f12).2.2)) := by
  have b1 := k0_off10_inb i k
  have b2 := k0_off12_inb i k
  have b3 := k0_off11_inb i k
  rw [off10_eq i k] at b1
  rw [off12_eq i k] at b2
  rw [off11_eq i k] at b3
  have hb : (e1 (jOf i) + 512 * n1 (jOf i) + 1024 * k.val) + 1024 ≤ 8192 := b1 0
  have hp := Done.quad h (by unfold e1; omega) hb b1 b2 b3
  have r11 : arg11.view.readAt (Elt Ideal) (Rect.unit ![0, 0] ![256, 256] inb_S256x256_S256x256_0_0).toLoadRect f11 = arg11.view.read (Elt Ideal) f11 :=
    View.readAt_full (s := S256x256) arg11.view f11 inb_S256x256_S256x256_0_0
  have r12 : arg12.view.readAt (Elt Ideal) (Rect.unit ![0, 0] ![128, 256] inb_S128x256_S128x256_0_0).toLoadRect f12 = arg12.view.read (Elt Ideal) f12 :=
    View.readAt_full (s := S128x256) arg12.view f12 inb_S128x256_S128x256_0_0
  unfold tripL_k0_t3 trip_k0_t3
  dsimp only
  rw [View.read_writes_cons_put _ _ _ _ _ (off10_eq i k), View.read_writes_full, View.read_writes_full]
  simp only [View.writes_nil, trip_k0_t3.sl.r, View.readAt_unit (s := S8192x256) (size := S1024x256.size) _ _ _ (off10_eq i k) b1, View.readAt_unit (s := S256x8192) (size := S256x1024.size) _ _ _ (off12_eq i k) b2,
    View.readAt_unit (s := S128x8192) (size := S128x1024.size) _ _ _ (off11_eq i k) b3, r11, r12, harg2.read_unread, harg3.read_unread, harg4.read_unread, harg5.read_unread]
  exact hp

/-- The writes of the trips before the `k`-th of the loop over quads. -/
theorem trips3_done (G8 : BufTy.Contents (Elt Ideal) arg8.view.ty) (G11 : BufTy.Contents (Elt Ideal) arg11.view.ty) (G12 : BufTy.Contents (Elt Ideal) arg12.view.ty)
    (h : Done (jOf i) x0 x1 x2 x3 x4 x5 D (e1 (jOf i) + 512 * n1 (jOf i) + 1024 * 0) (arg8.view.read (Elt Ideal) G8) (arg11.view.read (Elt Ideal) G11) (arg12.view.read (Elt Ideal) G12)) :
    ∀ k : ℕ, k ≤ (k0_t3_loop i).trips → Done (jOf i) x0 x1 x2 x3 x4 x5 D (e1 (jOf i) + 512 * n1 (jOf i) + 1024 * k)
      (arg8.view.read (Elt Ideal) (arg8.view.writes (Elt Ideal) G8 (pb_k0_t3 (F := Ideal) 𝒱 c bd i arg2 harg2 arg3 harg3 arg4 harg4 arg5 harg5 arg6 harg6 arg7 harg7 arg8 harg8 arg9 harg9 arg10 harg10 arg11 harg11 arg12 harg12 x4 x5 v7 v66 c2 v67 v72 v74 v75 v83 (harg2.unread x0) (harg3.unread x1) (harg4.unread x2) (harg5.unread x3) G8 G11 G12 k).1))
      (arg11.view.read (Elt Ideal) (arg11.view.writes (Elt Ideal) G11 (pb_k0_t3 (F := Ideal) 𝒱 c bd i arg2 harg2 arg3 harg3 arg4 harg4 arg5 harg5 arg6 harg6 arg7 harg7 arg8 harg8 arg9 harg9 arg10 harg10 arg11 harg11 arg12 harg12 x4 x5 v7 v66 c2 v67 v72 v74 v75 v83 (harg2.unread x0) (harg3.unread x1) (harg4.unread x2) (harg5.unread x3) G8 G11 G12 k).2.1))
      (arg12.view.read (Elt Ideal) (arg12.view.writes (Elt Ideal) G12 (pb_k0_t3 (F := Ideal) 𝒱 c bd i arg2 harg2 arg3 harg3 arg4 harg4 arg5 harg5 arg6 harg6 arg7 harg7 arg8 harg8 arg9 harg9 arg10 harg10 arg11 harg11 arg12 harg12 x4 x5 v7 v66 c2 v67 v72 v74 v75 v83 (harg2.unread x0) (harg3.unread x1) (harg4.unread x2) (harg5.unread x3) G8 G11 G12 k).2.2)) := by
  intro k
  induction k with
  | zero => intro _; rw [pb_k0_t3.eq_1]; exact h
  | succ k ih =>
    intro hk
    have ih := ih (by omega)
    have hs := pb_k0_t3_succ (F := Ideal) 𝒱 c bd i arg2 harg2 arg3 harg3 arg4 harg4 arg5 harg5 arg6 harg6 arg7 harg7 arg8 harg8 arg9 harg9 arg10 harg10 arg11 harg11 arg12 harg12 x4 x5 v7 v66 c2 v67 v72 v74 v75 v83 (harg2.unread x0) (harg3.unread x1) (harg4.unread x2) (harg5.unread x3) G8 G11 G12 ⟨k, hk⟩
    rw [hs]
    dsimp only
    rw [read_append, read_append, read_append]
    rw [show e1 (jOf i) + 512 * n1 (jOf i) + 1024 * (k + 1) = e1 (jOf i) + 512 * n1 (jOf i) + 1024 * k + 1024 from by omega]
    exact trip3_done (D := D) 𝒱 c bd i arg2 harg2 arg3 harg3 arg4 harg4 arg5 harg5 arg6 harg6 arg7 harg7 arg8 harg8 arg9 harg9 arg10 harg10 arg11 harg11 arg12 harg12 v7 v66 c2 v67 v72 v74 v75 v83 x0 x1 x2 x3 x4 x5 ⟨k, hk⟩ _ _ _ ih

end Cert.KernelIdeal.Fox
-- ==== Proof.Fox.Outs.lean ====
/- What a grid point leaves: the panel with the block's share added, the block's two gradients. -/
module

public import proofs.«01_k».proof.Proof.Fox.Trips

@[expose] public section

set_option maxRecDepth 16384

noncomputable section

namespace Cert.KernelIdeal.Fox

open Idealize.ShloMosaic Idealize.ShloMosaic.TcCoe
open Cert.KernelIdeal Cert.KernelIdeal.Gen
open scoped BigOperators

/-- The body's condition at the coordinates: the block is the head's first. -/
abbrev first0 (i : grid0.Coords) : Prop :=
  (Scalar.cmpi .ne (Scalar.extui (Scalar.cmpi .eq (BitVec.ofNat 32 (i 1).val) 0#32)) 0#32) = 1#1

/-- The panel after a grid point: what it was, plus the block's share of the rows' gradients. -/
def newP (j : ℕ) (x0 x1 : Vec Ideal S8192x256 .bf16) (x4 x5 : Vec Ideal S256x256 .bf16) (D : Vec Ideal S8192x256 .f32) : Vec Ideal S8192x256 .f32 :=
  fun y => D y + ∑ c : Fin 256, dsm j x0 x1 x4 x5 (y 0) c * x4 (ix2 c (y 1))

/-- The gradients of the block's keys. -/
def outK (j : ℕ) (x0 x1 : Vec Ideal S8192x256 .bf16) (x2 : Vec Ideal S256x8192 .bf16) (x4 x5 : Vec Ideal S256x256 .bf16) : Vec Ideal S256x256 .f32 :=
  fun y => ∑ r : Fin 8192, x2 (ix2 (y 1) r) * dsm j x0 x1 x4 x5 r (y 0)

/-- The gradients of the block's values. -/
def outV (j : ℕ) (x0 : Vec Ideal S8192x256 .bf16) (x3 : Vec Ideal S128x8192 .bf16) (x4 : Vec Ideal S256x256 .bf16) : Vec Ideal S256x128 .bf16 :=
  fun y => ∑ r : Fin 8192, x3 (ix2 (y 1) r) * pm j x0 x4 r (y 0)

section final
variable {j : ℕ} {x0 x1 : Vec Ideal S8192x256 .bf16} {x2 : Vec Ideal S256x8192 .bf16} {x3 : Vec Ideal S128x8192 .bf16}
  {x4 x5 : Vec Ideal S256x256 .bf16} {D P : Vec Ideal S8192x256 .f32} {A : Vec Ideal S256x256 .f32} {B : Vec Ideal S128x256 .f32}

theorem Done.panel (h : Done j x0 x1 x2 x3 x4 x5 D 8192 P A B) : P = newP j x0 x1 x4 x5 D := by
  funext y
  obtain ⟨r, a, rfl⟩ : ∃ (r : Fin 8192) (a : Fin 256), y = ix2 r a := ⟨y 0, y 1, eq_ix2 y⟩
  rw [h.hP, if_pos r.isLt]
  rfl

theorem Done.keys (h : Done j x0 x1 x2 x3 x4 x5 D 8192 P A B) : k0_pay1 (F := Ideal) A = outK j x0 x1 x2 x4 x5 := by
  funext y
  obtain ⟨u, w, rfl⟩ : ∃ (u : Fin 256) (w : Fin 256), y = ix2 u w := ⟨y 0, y 1, eq_ix2 y⟩
  pointwise [k0_pay1]
  rw [h.hA]
  exact Finset.sum_congr rfl fun r _ => if_pos r.isLt

theorem Done.values (h : Done j x0 x1 x2 x3 x4 x5 D 8192 P A B) : k0_pay2 (F := Ideal) B = outV j x0 x3 x4 := by
  funext y
  obtain ⟨u, w, rfl⟩ : ∃ (u : Fin 256) (w : Fin 128), y = ix2 u w := ⟨y 0, y 1, eq_ix2 y⟩
  pointwise [k0_pay2]
  rw [h.hB]
  exact Finset.sum_congr rfl fun r _ => if_pos r.isLt
end final

variable (𝒱 : Variants) (c : Dev nD) (bd : Option 𝒱.V) (i : grid0.Coords)
  (arg2 : Memref sig .tc .vmem S8192x256 .bf16) (harg2 : arg2.IsWhole)
  (arg3 : Memref sig .tc .vmem S8192x256 .bf16) (harg3 : arg3.IsWhole)
  (arg4 : Memref sig .tc .vmem S256x8192 .bf16) (harg4 : arg4.IsWhole)
  (arg5 : Memref sig .tc .vmem S128x8192 .bf16) (harg5 : arg5.IsWhole)
  (arg6 : Memref sig .tc .vmem S256x256 .bf16) (harg6 : arg6.IsWhole)
  (arg7 : Memref sig .tc .vmem S256x256 .bf16) (harg7 : arg7.IsWhole)
  (arg8 : Memref sig .tc .vmem S8192x256 .f32) (harg8 : arg8.IsWhole)
  (arg9 : Memref sig .tc .vmem S256x256 .f32) (harg9 : arg9.IsWhole)
  (arg10 : Memref sig .tc .vmem S256x128 .bf16) (harg10 : arg10.IsWhole)
  (arg11 : Memref sig .tc .vmem S256x256 .f32) (harg11 : arg11.IsWhole)
  (arg12 : Memref sig .tc .vmem S128x256 .f32) (harg12 : arg12.IsWhole)
  (w4 w6 : FVec Ideal S256x256 .bf16) (v7 v66 c2 v67 v72 v74 : BitVec 32) (v75 : BitVec 1) (v83 v111 : BitVec 32)
  (x0 x1 : Vec Ideal S8192x256 .bf16) (x2 : Vec Ideal S256x8192 .bf16) (x3 : Vec Ideal S128x8192 .bf16)
  (x4 x5 : Vec Ideal S256x256 .bf16) {D : Vec Ideal S8192x256 .f32}
  (b8 : BufTy.Contents (Elt Ideal) arg8.view.ty) (b11 : BufTy.Contents (Elt Ideal) arg11.view.ty) (b12 : BufTy.Contents (Elt Ideal) arg12.view.ty)
  (L8 : List (View.Piece (Elt Ideal) S8192x256 .f32)) (L11 : List (View.Piece (Elt Ideal) S256x256 .f32)) (L12 : List (View.Piece (Elt Ideal) S128x256 .f32))

/-- The writes after loop 1. -/
theorem after1 (h4 : w4 = x4) (h6 : w6 = x5)
    (h : Done (jOf i) x0 x1 x2 x3 x4 x5 D (e1 (jOf i)) (arg8.view.read (Elt Ideal) (arg8.view.writes (Elt Ideal) b8 L8)) (arg11.view.read (Elt Ideal) (arg11.view.writes (Elt Ideal) b11 L11)) (arg12.view.read (Elt Ideal) (arg12.view.writes (Elt Ideal) b12 L12))) :
    Done (jOf i) x0 x1 x2 x3 x4 x5 D (e1 (jOf i) + 512 * n1 (jOf i))
      (arg8.view.read (Elt Ideal) (arg8.view.writes (Elt Ideal) b8 ((pb_k0_t1 (F := Ideal) 𝒱 c bd i arg2 harg2 arg3 harg3 arg4 harg4 arg5 harg5 arg6 harg6 arg7 harg7 arg8 harg8 arg9 harg9 arg10 harg10 arg11 harg11 arg12 harg12 w4 w6 v7 v66 c2 v67 v72 v74 v75 (harg2.unread x0) (harg3.unread x1) (harg4.unread x2) (harg5.unread x3) (arg8.view.writes (Elt Ideal) b8 L8) (arg11.view.writes (Elt Ideal) b11 L11) (arg12.view.writes (Elt Ideal) b12 L12) (Scf.trips (k0_t1_loop i).lb (k0_t1_loop i).ub (k0_t1_loop i).st)).1 ++ L8)))
      (arg11.view.read (Elt Ideal) (arg11.view.writes (Elt Ideal) b11 ((pb_k0_t1 (F := Ideal) 𝒱 c bd i arg2 harg2 arg3 harg3 arg4 harg4 arg5 harg5 arg6 harg6 arg7 harg7 arg8 harg8 arg9 harg9 arg10 harg10 arg11 harg11 arg12 harg12 w4 w6 v7 v66 c2 v67 v72 v74 v75 (harg2.unread x0) (harg3.unread x1) (harg4.unread x2) (harg5.unread x3) (arg8.view.writes (Elt Ideal) b8 L8) (arg11.view.writes (Elt Ideal) b11 L11) (arg12.view.writes (Elt Ideal) b12 L12) (Scf.trips (k0_t1_loop i).lb (k0_t1_loop i).ub (k0_t1_loop i).st)).2.1 ++ L11)))
      (arg12.view.read (Elt Ideal) (arg12.view.writes (Elt Ideal) b12 ((pb_k0_t1 (F := Ideal) 𝒱 c bd i arg2 harg2 arg3 harg3 arg4 harg4 arg5 harg5 arg6 harg6 arg7 harg7 arg8 harg8 arg9 harg9 arg10 harg10 arg11 harg11 arg12 harg12 w4 w6 v7 v66 c2 v67 v72 v74 v75 (harg2.unread x0) (harg3.unread x1) (harg4.unread x2) (harg5.unread x3) (arg8.view.writes (Elt Ideal) b8 L8) (arg11.view.writes (Elt Ideal) b11 L11) (arg12.view.writes (Elt Ideal) b12 L12) (Scf.trips (k0_t1_loop i).lb (k0_t1_loop i).ub (k0_t1_loop i).st)).2.2 ++ L12))) := by
  subst h4 h6
  have ht : Scf.trips (k0_t1_loop i).lb (k0_t1_loop i).ub (k0_t1_loop i).st = n1 (jOf i) := trips1 i
  have hl := last_row (jOf_lt i)
  rw [read_append, read_append, read_append, ht]
  have hk := trips1_done (D := D) 𝒱 c bd i arg2 harg2 arg3 harg3 arg4 harg4 arg5 harg5 arg6 harg6 arg7 harg7 arg8 harg8 arg9 harg9 arg10 harg10 arg11 harg11 arg12 harg12 v7 v66 c2 v67 v72 v74 v75 x0 x1 x2 x3 w4 w6 _ _ _ h (n1 (jOf i)) (le_of_eq (trips1 i).symm)
  exact hk

/-- The writes after loop 2. -/
theorem after2 (h4 : w4 = x4) (h6 : w6 = x5)
    (h : Done (jOf i) x0 x1 x2 x3 x4 x5 D (e1 (jOf i) + 512 * n1 (jOf i)) (arg8.view.read (Elt Ideal) (arg8.view.writes (Elt Ideal) b8 L8)) (arg11.view.read (Elt Ideal) (arg11.view.writes (Elt Ideal) b11 L11)) (arg12.view.read (Elt Ideal) (arg12.view.writes (Elt Ideal) b12 L12))) :
    Done (jOf i) x0 x1 x2 x3 x4 x5 D (e1 (jOf i) + 512 * n1 (jOf i))
      (arg8.view.read (Elt Ideal) (arg8.view.writes (Elt Ideal) b8 ((pb_k0_t2 (F := Ideal) 𝒱 c bd i arg2 harg2 arg3 harg3 arg4 harg4 arg5 harg5 arg6 harg6 arg7 harg7 arg8 harg8 arg9 harg9 arg10 harg10 arg11 harg11 arg12 harg12 w4 w6 v7 v66 c2 v67 v72 v74 v75 v83 (harg2.unread x0) (harg3.unread x1) (harg4.unread x2) (harg5.unread x3) (arg8.view.writes (Elt Ideal) b8 L8) (arg11.view.writes (Elt Ideal) b11 L11) (arg12.view.writes (Elt Ideal) b12 L12) (Scf.trips (k0_t2_loop i).lb (k0_t2_loop i).ub (k0_t2_loop i).st)).1 ++ L8)))
      (arg11.view.read (Elt Ideal) (arg11.view.writes (Elt Ideal) b11 ((pb_k0_t2 (F := Ideal) 𝒱 c bd i arg2 harg2 arg3 harg3 arg4 harg4 arg5 harg5 arg6 harg6 arg7 harg7 arg8 harg8 arg9 harg9 arg10 harg10 arg11 harg11 arg12 harg12 w4 w6 v7 v66 c2 v67 v72 v74 v75 v83 (harg2.unread x0) (harg3.unread x1) (harg4.unread x2) (harg5.unread x3) (arg8.view.writes (Elt Ideal) b8 L8) (arg11.view.writes (Elt Ideal) b11 L11) (arg12.view.writes (Elt Ideal) b12 L12) (Scf.trips (k0_t2_loop i).lb (k0_t2_loop i).ub (k0_t2_loop i).st)).2.1 ++ L11)))
      (arg12.view.read (Elt Ideal) (arg12.view.writes (Elt Ideal) b12 ((pb_k0_t2 (F := Ideal) 𝒱 c bd i arg2 harg2 arg3 harg3 arg4 harg4 arg5 harg5 arg6 harg6 arg7 harg7 arg8 harg8 arg9 harg9 arg10 harg10 arg11 harg11 arg12 harg12 w4 w6 v7 v66 c2 v67 v72 v74 v75 v83 (harg2.unread x0) (harg3.unread x1) (harg4.unread x2) (harg5.unread x3) (arg8.view.writes (Elt Ideal) b8 L8) (arg11.view.writes (Elt Ideal) b11 L11) (arg12.view.writes (Elt Ideal) b12 L12) (Scf.trips (k0_t2_loop i).lb (k0_t2_loop i).ub (k0_t2_loop i).st)).2.2 ++ L12))) := by
  subst h4 h6
  have ht : Scf.trips (k0_t2_loop i).lb (k0_t2_loop i).ub (k0_t2_loop i).st = 0 := trips2 i
  rw [ht, pb_k0_t2.eq_1]
  exact h

/-- The writes after loop 3. -/
theorem after3 (h4 : w4 = x4) (h6 : w6 = x5)
    (h : Done (jOf i) x0 x1 x2 x3 x4 x5 D (e1 (jOf i) + 512 * n1 (jOf i)) (arg8.view.read (Elt Ideal) (arg8.view.writes (Elt Ideal) b8 L8)) (arg11.view.read (Elt Ideal) (arg11.view.writes (Elt Ideal) b11 L11)) (arg12.view.read (Elt Ideal) (arg12.view.writes (Elt Ideal) b12 L12))) :
    Done (jOf i) x0 x1 x2 x3 x4 x5 D 8192
      (arg8.view.read (Elt Ideal) (arg8.view.writes (Elt Ideal) b8 ((pb_k0_t3 (F := Ideal) 𝒱 c bd i arg2 harg2 arg3 harg3 arg4 harg4 arg5 harg5 arg6 harg6 arg7 harg7 arg8 harg8 arg9 harg9 arg10 harg10 arg11 harg11 arg12 harg12 w4 w6 v7 v66 c2 v67 v72 v74 v75 v83 (harg2.unread x0) (harg3.unread x1) (harg4.unread x2) (harg5.unread x3) (arg8.view.writes (Elt Ideal) b8 L8) (arg11.view.writes (Elt Ideal) b11 L11) (arg12.view.writes (Elt Ideal) b12 L12) (Scf.trips (k0_t3_loop i).lb (k0_t3_loop i).ub (k0_t3_loop i).st)).1 ++ L8)))
      (arg11.view.read (Elt Ideal) (arg11.view.writes (Elt Ideal) b11 ((pb_k0_t3 (F := Ideal) 𝒱 c bd i arg2 harg2 arg3 harg3 arg4 harg4 arg5 harg5 arg6 harg6 arg7 harg7 arg8 harg8 arg9 harg9 arg10 harg10 arg11 harg11 arg12 harg12 w4 w6 v7 v66 c2 v67 v72 v74 v75 v83 (harg2.unread x0) (harg3.unread x1) (harg4.unread x2) (harg5.unread x3) (arg8.view.writes (Elt Ideal) b8 L8) (arg11.view.writes (Elt Ideal) b11 L11) (arg12.view.writes (Elt Ideal) b12 L12) (Scf.trips (k0_t3_loop i).lb (k0_t3_loop i).ub (k0_t3_loop i).st)).2.1 ++ L11)))
      (arg12.view.read (Elt Ideal) (arg12.view.writes (Elt Ideal) b12 ((pb_k0_t3 (F := Ideal) 𝒱 c bd i arg2 harg2 arg3 harg3 arg4 harg4 arg5 harg5 arg6 harg6 arg7 harg7 arg8 harg8 arg9 harg9 arg10 harg10 arg11 harg11 arg12 harg12 w4 w6 v7 v66 c2 v67 v72 v74 v75 v83 (harg2.unread x0) (harg3.unread x1) (harg4.unread x2) (harg5.unread x3) (arg8.view.writes (Elt Ideal) b8 L8) (arg11.view.writes (Elt Ideal) b11 L11) (arg12.view.writes (Elt Ideal) b12 L12) (Scf.trips (k0_t3_loop i).lb (k0_t3_loop i).ub (k0_t3_loop i).st)).2.2 ++ L12))) := by
  subst h4 h6
  have ht : Scf.trips (k0_t3_loop i).lb (k0_t3_loop i).ub (k0_t3_loop i).st = n3 (jOf i) := trips3 i
  have hl := last_row (jOf_lt i)
  rw [read_append, read_append, read_append, ht]
  have hk := trips3_done (D := D) 𝒱 c bd i arg2 harg2 arg3 harg3 arg4 harg4 arg5 harg5 arg6 harg6 arg7 harg7 arg8 harg8 arg9 harg9 arg10 harg10 arg11 harg11 arg12 harg12 v7 v66 c2 v67 v72 v74 v75 v83 x0 x1 x2 x3 w4 w6 _ _ _ h (n3 (jOf i)) (le_of_eq (trips3 i).symm)
  rw [hl] at hk
  exact hk

/-- The writes after loop 4. -/
theorem after4 (h4 : w4 = x4) (h6 : w6 = x5)
    (h : Done (jOf i) x0 x1 x2 x3 x4 x5 D 8192 (arg8.view.read (Elt Ideal) (arg8.view.writes (Elt Ideal) b8 L8)) (arg11.view.read (Elt Ideal) (arg11.view.writes (Elt Ideal) b11 L11)) (arg12.view.read (Elt Ideal) (arg12.view.writes (Elt Ideal) b12 L12))) :
    Done (jOf i) x0 x1 x2 x3 x4 x5 D 8192
      (arg8.view.read (Elt Ideal) (arg8.view.writes (Elt Ideal) b8 ((pb_k0_t4 (F := Ideal) 𝒱 c bd i arg2 harg2 arg3 harg3 arg4 harg4 arg5 harg5 arg6 harg6 arg7 harg7 arg8 harg8 arg9 harg9 arg10 harg10 arg11 harg11 arg12 harg12 w4 w6 v7 v66 c2 v67 v72 v74 v75 v83 v111 (harg2.unread x0) (harg3.unread x1) (harg4.unread x2) (harg5.unread x3) (arg8.view.writes (Elt Ideal) b8 L8) (arg11.view.writes (Elt Ideal) b11 L11) (arg12.view.writes (Elt Ideal) b12 L12) (Scf.trips (k0_t4_loop i).lb (k0_t4_loop i).ub (k0_t4_loop i).st)).1 ++ L8)))
      (arg11.view.read (Elt Ideal) (arg11.view.writes (Elt Ideal) b11 ((pb_k0_t4 (F := Ideal) 𝒱 c bd i arg2 harg2 arg3 harg3 arg4 harg4 arg5 harg5 arg6 harg6 arg7 harg7 arg8 harg8 arg9 harg9 arg10 harg10 arg11 harg11 arg12 harg12 w4 w6 v7 v66 c2 v67 v72 v74 v75 v83 v111 (harg2.unread x0) (harg3.unread x1) (harg4.unread x2) (harg5.unread x3) (arg8.view.writes (Elt Ideal) b8 L8) (arg11.view.writes (Elt Ideal) b11 L11) (arg12.view.writes (Elt Ideal) b12 L12) (Scf.trips (k0_t4_loop i).lb (k0_t4_loop i).ub (k0_t4_loop i).st)).2.1 ++ L11)))
      (arg12.view.read (Elt Ideal) (arg12.view.writes (Elt Ideal) b12 ((pb_k0_t4 (F := Ideal) 𝒱 c bd i arg2 harg2 arg3 harg3 arg4 harg4 arg5 harg5 arg6 harg6 arg7 harg7 arg8 harg8 arg9 harg9 arg10 harg10 arg11 harg11 arg12 harg12 w4 w6 v7 v66 c2 v67 v72 v74 v75 v83 v111 (harg2.unread x0) (harg3.unread x1) (harg4.unread x2) (harg5.unread x3) (arg8.view.writes (Elt Ideal) b8 L8) (arg11.view.writes (Elt Ideal) b11 L11) (arg12.view.writes (Elt Ideal) b12 L12) (Scf.trips (k0_t4_loop i).lb (k0_t4_loop i).ub (k0_t4_loop i).st)).2.2 ++ L12))) := by
  subst h4 h6
  have ht : Scf.trips (k0_t4_loop i).lb (k0_t4_loop i).ub (k0_t4_loop i).st = 0 := trips4 i
  rw [ht, pb_k0_t4.eq_1]
  exact h

/-- The writes of the first tile. -/
theorem base (hD : arg8.view.read (Elt Ideal) (arg8.view.writes (Elt Ideal) b8 L8) = D) :
    Done (jOf i) x0 x1 x2 x3 x4 x5 D (e1 (jOf i))
      (arg8.view.read (Elt Ideal) (arg8.view.writes (Elt Ideal) b8 (⟨Rect.unit (s := S8192x256) (k0_off1 i) S512x256.size (k0_off1_inb i),
        k0_pay28 (F := Ideal) (k0_pay22 (F := Ideal) (arg6.view.readAt (Elt Ideal) (Rect.unit (s := S256x256) ![0, 0] S256x256.size inb_S256x256_S256x256_0_0).toLoadRect (harg6.unread x4))) (k0_pay23 (F := Ideal) (arg7.view.readAt (Elt Ideal) (Rect.unit (s := S256x256) ![0, 0] S256x256.size inb_S256x256_S256x256_0_0).toLoadRect (harg7.unread x5))) (k0_pay24 (F := Ideal) i (arg6.view.readAt (Elt Ideal) (Rect.unit (s := S256x256) ![0, 0] S256x256.size inb_S256x256_S256x256_0_0).toLoadRect (harg6.unread x4)) (arg2.view.readAt (Elt Ideal) (Rect.unit (s := S8192x256) (k0_off1 i) S512x256.size (k0_off1_inb i)).toLoadRect (harg2.unread x0))) (arg3.view.readAt (Elt Ideal) (Rect.unit (s := S8192x256) (k0_off1 i) S512x256.size (k0_off1_inb i)).toLoadRect (harg3.unread x1)) (arg8.view.readAt (Elt Ideal) (Rect.unit (s := S8192x256) (k0_off1 i) S512x256.size (k0_off1_inb i)).toLoadRect (arg8.view.writes (Elt Ideal) b8 L8))⟩ :: L8)))
      (arg11.view.read (Elt Ideal) (arg11.view.writes (Elt Ideal) b11 [⟨Rect.unit (s := S256x256) ![0, 0] S256x256.size inb_S256x256_S256x256_0_0,
        k0_pay27 (F := Ideal) (k0_pay23 (F := Ideal) (arg7.view.readAt (Elt Ideal) (Rect.unit (s := S256x256) ![0, 0] S256x256.size inb_S256x256_S256x256_0_0).toLoadRect (harg7.unread x5))) (k0_pay24 (F := Ideal) i (arg6.view.readAt (Elt Ideal) (Rect.unit (s := S256x256) ![0, 0] S256x256.size inb_S256x256_S256x256_0_0).toLoadRect (harg6.unread x4)) (arg2.view.readAt (Elt Ideal) (Rect.unit (s := S8192x256) (k0_off1 i) S512x256.size (k0_off1_inb i)).toLoadRect (harg2.unread x0))) (arg3.view.readAt (Elt Ideal) (Rect.unit (s := S8192x256) (k0_off1 i) S512x256.size (k0_off1_inb i)).toLoadRect (harg3.unread x1)) (arg4.view.readAt (Elt Ideal) (Rect.unit (s := S256x8192) (k0_off3 i) S256x512.size (k0_off3_inb i)).toLoadRect (harg4.unread x2))⟩]))
      (arg12.view.read (Elt Ideal) (arg12.view.writes (Elt Ideal) b12 [⟨Rect.unit (s := S128x256) ![0, 0] S128x256.size inb_S128x256_S128x256_0_0,
        k0_pay26 (F := Ideal) (k0_pay24 (F := Ideal) i (arg6.view.readAt (Elt Ideal) (Rect.unit (s := S256x256) ![0, 0] S256x256.size inb_S256x256_S256x256_0_0).toLoadRect (harg6.unread x4)) (arg2.view.readAt (Elt Ideal) (Rect.unit (s := S8192x256) (k0_off1 i) S512x256.size (k0_off1_inb i)).toLoadRect (harg2.unread x0))) (arg5.view.readAt (Elt Ideal) (Rect.unit (s := S128x8192) (k0_off2 i) S128x512.size (k0_off2_inb i)).toLoadRect (harg5.unread x3))⟩])) := by
  have b1 := k0_off1_inb i
  have b2 := k0_off3_inb i
  have b3 := k0_off2_inb i
  rw [off1_eq] at b1
  rw [off3_eq] at b2
  rw [off2_eq] at b3
  have hp := Done.first (x0 := x0) (x1 := x1) (x2 := x2) (x3 := x3) (x4 := x4) (x5 := x5) (D := D) i _ rfl b1 b2 b3
  have h6 : arg6.view.readAt (Elt Ideal) (Rect.unit (s := S256x256) ![0, 0] S256x256.size inb_S256x256_S256x256_0_0).toLoadRect (harg6.unread x4) = x4 :=
    (View.readAt_full (s := S256x256) arg6.view _ inb_S256x256_S256x256_0_0).trans (harg6.read_unread x4)
  have h7 : arg7.view.readAt (Elt Ideal) (Rect.unit (s := S256x256) ![0, 0] S256x256.size inb_S256x256_S256x256_0_0).toLoadRect (harg7.unread x5) = x5 :=
    (View.readAt_full (s := S256x256) arg7.view _ inb_S256x256_S256x256_0_0).trans (harg7.read_unread x5)
  have p22 : k0_pay22 (F := Ideal) x4 = x4 := shapeCast_self _ _
  have p23 : k0_pay23 (F := Ideal) x5 = x5 := shapeCast_self _ _
  rw [View.read_writes_cons_put _ _ _ _ _ (off1_eq i), View.read_writes_full, View.read_writes_full]
  simp only [h6, h7, p22, p23, hD, View.readAt_unit (s := S8192x256) (size := S512x256.size) _ _ _ (off1_eq i) b1,
    View.readAt_unit (s := S256x8192) (size := S256x512.size) _ _ _ (off3_eq i) b2,
    View.readAt_unit (s := S128x8192) (size := S128x512.size) _ _ _ (off2_eq i) b3,
    harg2.read_unread, harg3.read_unread, harg4.read_unread, harg5.read_unread]
  exact hp

end Cert.KernelIdeal.Fox
-- ==== Proof.Fox.BodyA.lean ====
/- The run of the kernel's body at one grid point, at the values of its windows. -/
module

public import proofs.«01_k».proof.Proof.Gen.KernelIdeal.Frame
public import proofs.«01_k».proof.Proof.Fox.Outs

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

set_option maxHeartbeats 4000000 in
/-- The body at the head's first block, where the panel begins at zero. -/
theorem runA (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S256x8192 .bf16) (harg4 : arg4.IsWhole) (arg5 : Memref sig .tc .vmem S128x8192 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S8192x256 .f32) (harg8 : arg8.IsWhole) (arg9 : Memref sig .tc .vmem S256x256 .f32) (harg9 : arg9.IsWhole) (arg10 : Memref sig .tc .vmem S256x128 .bf16) (harg10 : arg10.IsWhole) (arg11 : Memref sig .tc .vmem S256x256 .f32) (harg11 : arg11.IsWhole) (arg12 : Memref sig .tc .vmem S128x256 .f32) (harg12 : arg12.IsWhole) (hc0 : first0 i)
    (x0 x1 : Vec Ideal S8192x256 .bf16) (x2 : Vec Ideal S256x8192 .bf16) (x3 : Vec Ideal S128x8192 .bf16) (x4 x5 : Vec Ideal S256x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (newP (jOf i) x0 x1 x4 x5 (k0_pay21 (F := Ideal))) ∗ owns (c : Thread nD τ) arg9 fullShare (outK (jOf i) x0 x1 x2 x4 x5) ∗ owns (c : Thread nD τ) arg10 fullShare (outV (jOf i) x0 x3 x4) ∗ (∃ d, owns (c : Thread nD τ) arg11 fullShare d) ∗ (∃ d, owns (c : Thread nD τ) arg12 fullShare d)) -∗ K ⟨⟩))
          ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12) K := by
    intro E K
    simp only [cc0_fox_bwd_eq_skeleton]; unfold cc0_fox_bwd_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    have r4 : k0_pay22 (F := Ideal) (arg6.view.readAt (Elt Ideal) (Rect.unit (s := S256x256) ![0, 0] S256x256.size inb_S256x256_S256x256_0_0).toLoadRect (harg6.unread x4)) = x4 :=
      (shapeCast_self _ _).trans ((View.readAt_full (s := S256x256) arg6.view _ inb_S256x256_S256x256_0_0).trans (harg6.read_unread x4))
    have r6 : k0_pay23 (F := Ideal) (arg7.view.readAt (Elt Ideal) (Rect.unit (s := S256x256) ![0, 0] S256x256.size inb_S256x256_S256x256_0_0).toLoadRect (harg7.unread x5)) = x5 :=
      (shapeCast_self _ _).trans ((View.readAt_full (s := S256x256) arg7.view _ inb_S256x256_S256x256_0_0).trans (harg7.read_unread x5))
    have hD : ∀ b8, arg8.view.read (Elt Ideal) (arg8.view.writes (Elt Ideal) b8 [⟨Rect.unit (s := S8192x256) ![0, 0] S8192x256.size inb_S8192x256_S8192x256_0_0, k0_pay21 (F := Ideal)⟩]) = k0_pay21 (F := Ideal) :=
      fun b8 => View.read_writes_full (s := S8192x256) arg8.view b8 inb_S8192x256_S8192x256_0_0 _ []
    sl_exec (disch := first | sl_exact hc0)
    sl_step
    iapply Hk
    isplitl [H0]; · iexists _; isplitl []; · ipureintro; exact hf0
                    iexact H0
    isplitl [H1]; · iexists _; isplitl []; · ipureintro; exact hf1
                    iexact H1
    isplitl [H2]; · iexists _; isplitl []; · ipureintro; exact hf2
                    iexact H2
    isplitl [H3]; · iexists _; isplitl []; · ipureintro; exact hf3
                    iexact H3
    isplitl [H4]; · iexists _; isplitl []; · ipureintro; exact hf4
                    iexact H4
    isplitl [H5]; · iexists _; isplitl []; · ipureintro; exact hf5
                    iexact H5
    isplitl [H6]
    · iexists _
      isplitr
      swap; · iexact H6
      ipureintro
      exact (after4 Variants.none c none i arg2 harg2 arg3 harg3 arg4 harg4 arg5 harg5 arg6 harg6 arg7 harg7 arg8 harg8 arg9 harg9 arg10 harg10 arg11 harg11 arg12 harg12 _ _ _ _ _ _ _ _ _ _ _ x0 x1 x2 x3 x4 x5 _ _ _ _ _ _ r4 r6 (after3 Variants.none c none i arg2 harg2 arg3 harg3 arg4 harg4 arg5 harg5 arg6 harg6 arg7 harg7 arg8 harg8 arg9 harg9 arg10 harg10 arg11 harg11 arg12 harg12 _ _ _ _ _ _ _ _ _ _ x0 x1 x2 x3 x4 x5 _ _ _ _ _ _ r4 r6 (after2 Variants.none c none i arg2 harg2 arg3 harg3 arg4 harg4 arg5 harg5 arg6 harg6 arg7 harg7 arg8 harg8 arg9 harg9 arg10 harg10 arg11 harg11 arg12 harg12 _ _ _ _ _ _ _ _ _ _ x0 x1 x2 x3 x4 x5 _ _ _ _ _ _ r4 r6 (after1 Variants.none c none i arg2 harg2 arg3 harg3 arg4 harg4 arg5 harg5 arg6 harg6 arg7 harg7 arg8 harg8 arg9 harg9 arg10 harg10 arg11 harg11 arg12 harg12 _ _ _ _ _ _ _ _ _ x0 x1 x2 x3 x4 x5 _ _ _ _ _ _ r4 r6 (base i arg2 harg2 arg3 harg3 arg4 harg4 arg5 harg5 arg6 harg6 arg7 harg7 arg8 arg11 arg12 x0 x1 x2 x3 x4 x5 _ _ _ _ (hD _)))))).panel
    isplitl [H7]
    · iexists _
      isplitr
      swap; · iexact H7
      ipureintro
      refine (View.read_writes_full (s := S256x256) _ _ _ _ _).trans ?_
      refine (congrArg (k0_pay1 (F := Ideal)) (View.readAt_full (s := S256x256) _ _ _)).trans ?_
      exact (after4 Variants.none c none i arg2 harg2 arg3 harg3 arg4 harg4 arg5 harg5 arg6 harg6 arg7 harg7 arg8 harg8 arg9 harg9 arg10 harg10 arg11 harg11 arg12 harg12 _ _ _ _ _ _ _ _ _ _ _ x0 x1 x2 x3 x4 x5 _ _ _ _ _ _ r4 r6 (after3 Variants.none c none i arg2 harg2 arg3 harg3 arg4 harg4 arg5 harg5 arg6 harg6 arg7 harg7 arg8 harg8 arg9 harg9 arg10 harg10 arg11 harg11 arg12 harg12 _ _ _ _ _ _ _ _ _ _ x0 x1 x2 x3 x4 x5 _ _ _ _ _ _ r4 r6 (after2 Variants.none c none i arg2 harg2 arg3 harg3 arg4 harg4 arg5 harg5 arg6 harg6 arg7 harg7 arg8 harg8 arg9 harg9 arg10 harg10 arg11 harg11 arg12 harg12 _ _ _ _ _ _ _ _ _ _ x0 x1 x2 x3 x4 x5 _ _ _ _ _ _ r4 r6 (after1 Variants.none c none i arg2 harg2 arg3 harg3 arg4 harg4 arg5 harg5 arg6 harg6 arg7 harg7 arg8 harg8 arg9 harg9 arg10 harg10 arg11 harg11 arg12 harg12 _ _ _ _ _ _ _ _ _ x0 x1 x2 x3 x4 x5 _ _ _ _ _ _ r4 r6 (base i arg2 harg2 arg3 harg3 arg4 harg4 arg5 harg5 arg6 harg6 arg7 harg7 arg8 arg11 arg12 x0 x1 x2 x3 x4 x5 _ _ _ _ (hD _)))))).keys
    isplitl [H8]
    · iexists _
      isplitr
      swap; · iexact H8
      ipureintro
      refine (View.read_writes_full (s := S256x128) _ _ _ _ _).trans ?_
      refine (congrArg (k0_pay2 (F := Ideal)) (View.readAt_full (s := S128x256) _ _ _)).trans ?_
      exact (after4 Variants.none c none i arg2 harg2 arg3 harg3 arg4 harg4 arg5 harg5 arg6 harg6 arg7 harg7 arg8 harg8 arg9 harg9 arg10 harg10 arg11 harg11 arg12 harg12 _ _ _ _ _ _ _ _ _ _ _ x0 x1 x2 x3 x4 x5 _ _ _ _ _ _ r4 r6 (after3 Variants.none c none i arg2 harg2 arg3 harg3 arg4 harg4 arg5 harg5 arg6 harg6 arg7 harg7 arg8 harg8 arg9 harg9 arg10 harg10 arg11 harg11 arg12 harg12 _ _ _ _ _ _ _ _ _ _ x0 x1 x2 x3 x4 x5 _ _ _ _ _ _ r4 r6 (after2 Variants.none c none i arg2 harg2 arg3 harg3 arg4 harg4 arg5 harg5 arg6 harg6 arg7 harg7 arg8 harg8 arg9 harg9 arg10 harg10 arg11 harg11 arg12 harg12 _ _ _ _ _ _ _ _ _ _ x0 x1 x2 x3 x4 x5 _ _ _ _ _ _ r4 r6 (after1 Variants.none c none i arg2 harg2 arg3 harg3 arg4 harg4 arg5 harg5 arg6 harg6 arg7 harg7 arg8 harg8 arg9 harg9 arg10 harg10 arg11 harg11 arg12 harg12 _ _ _ _ _ _ _ _ _ x0 x1 x2 x3 x4 x5 _ _ _ _ _ _ r4 r6 (base i arg2 harg2 arg3 harg3 arg4 harg4 arg5 harg5 arg6 harg6 arg7 harg7 arg8 arg11 arg12 x0 x1 x2 x3 x4 x5 _ _ _ _ (hD _)))))).values
    isplitl [HS0]
    · iexists _; iexists _
      isplitr
      swap; · iexact HS0
      ipureintro; rfl
    iexists _; iexists _
    isplitr
    swap; · iexact HS1
    ipureintro; rfl

end Cert.KernelIdeal.Fox
-- ==== Proof.Fox.BodyB.lean ====
/- The run of the kernel's body at one grid point, at the values of its windows. -/
module

public import proofs.«01_k».proof.Proof.Gen.KernelIdeal.Frame
public import proofs.«01_k».proof.Proof.Fox.Outs

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

set_option maxHeartbeats 4000000 in
/-- The body at a later block, where the panel adds to what the block before left. -/
theorem runB (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S256x8192 .bf16) (harg4 : arg4.IsWhole) (arg5 : Memref sig .tc .vmem S128x8192 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S8192x256 .f32) (harg8 : arg8.IsWhole) (arg9 : Memref sig .tc .vmem S256x256 .f32) (harg9 : arg9.IsWhole) (arg10 : Memref sig .tc .vmem S256x128 .bf16) (harg10 : arg10.IsWhole) (arg11 : Memref sig .tc .vmem S256x256 .f32) (harg11 : arg11.IsWhole) (arg12 : Memref sig .tc .vmem S128x256 .f32) (harg12 : arg12.IsWhole) (hc0 : ¬ first0 i)
    (x0 x1 : Vec Ideal S8192x256 .bf16) (x2 : Vec Ideal S256x8192 .bf16) (x3 : Vec Ideal S128x8192 .bf16) (x4 x5 : Vec Ideal S256x256 .bf16) (D : Vec Ideal S8192x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare D ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (newP (jOf i) x0 x1 x4 x5 D) ∗ owns (c : Thread nD τ) arg9 fullShare (outK (jOf i) x0 x1 x2 x4 x5) ∗ owns (c : Thread nD τ) arg10 fullShare (outV (jOf i) x0 x3 x4) ∗ (∃ d, owns (c : Thread nD τ) arg11 fullShare d) ∗ (∃ d, owns (c : Thread nD τ) arg12 fullShare d)) -∗ K ⟨⟩))
          ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12) K := by
    intro E K
    simp only [cc0_fox_bwd_eq_skeleton]; unfold cc0_fox_bwd_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    have r4 : k0_pay22 (F := Ideal) (arg6.view.readAt (Elt Ideal) (Rect.unit (s := S256x256) ![0, 0] S256x256.size inb_S256x256_S256x256_0_0).toLoadRect (harg6.unread x4)) = x4 :=
      (shapeCast_self _ _).trans ((View.readAt_full (s := S256x256) arg6.view _ inb_S256x256_S256x256_0_0).trans (harg6.read_unread x4))
    have r6 : k0_pay23 (F := Ideal) (arg7.view.readAt (Elt Ideal) (Rect.unit (s := S256x256) ![0, 0] S256x256.size inb_S256x256_S256x256_0_0).toLoadRect (harg7.unread x5)) = x5 :=
      (shapeCast_self _ _).trans ((View.readAt_full (s := S256x256) arg7.view _ inb_S256x256_S256x256_0_0).trans (harg7.read_unread x5))
    have hD : arg8.view.read (Elt Ideal) (arg8.view.writes (Elt Ideal) (harg8.unread D) []) = D := harg8.read_unread D
    sl_exec (disch := first | sl_exact hc0)
    sl_step
    iapply Hk
    isplitl [H0]; · iexists _; isplitl []; · ipureintro; exact hf0
                    iexact H0
    isplitl [H1]; · iexists _; isplitl []; · ipureintro; exact hf1
                    iexact H1
    isplitl [H2]; · iexists _; isplitl []; · ipureintro; exact hf2
                    iexact H2
    isplitl [H3]; · iexists _; isplitl []; · ipureintro; exact hf3
                    iexact H3
    isplitl [H4]; · iexists _; isplitl []; · ipureintro; exact hf4
                    iexact H4
    isplitl [H5]; · iexists _; isplitl []; · ipureintro; exact hf5
                    iexact H5
    isplitl [H6]
    · iexists _
      isplitr
      swap; · iexact H6
      ipureintro
      exact (after4 Variants.none c none i arg2 harg2 arg3 harg3 arg4 harg4 arg5 harg5 arg6 harg6 arg7 harg7 arg8 harg8 arg9 harg9 arg10 harg10 arg11 harg11 arg12 harg12 _ _ _ _ _ _ _ _ _ _ _ x0 x1 x2 x3 x4 x5 _ _ _ _ _ _ r4 r6 (after3 Variants.none c none i arg2 harg2 arg3 harg3 arg4 harg4 arg5 harg5 arg6 harg6 arg7 harg7 arg8 harg8 arg9 harg9 arg10 harg10 arg11 harg11 arg12 harg12 _ _ _ _ _ _ _ _ _ _ x0 x1 x2 x3 x4 x5 _ _ _ _ _ _ r4 r6 (after2 Variants.none c none i arg2 harg2 arg3 harg3 arg4 harg4 arg5 harg5 arg6 harg6 arg7 harg7 arg8 harg8 arg9 harg9 arg10 harg10 arg11 harg11 arg12 harg12 _ _ _ _ _ _ _ _ _ _ x0 x1 x2 x3 x4 x5 _ _ _ _ _ _ r4 r6 (after1 Variants.none c none i arg2 harg2 arg3 harg3 arg4 harg4 arg5 harg5 arg6 harg6 arg7 harg7 arg8 harg8 arg9 harg9 arg10 harg10 arg11 harg11 arg12 harg12 _ _ _ _ _ _ _ _ _ x0 x1 x2 x3 x4 x5 _ _ _ _ _ _ r4 r6 (base i arg2 harg2 arg3 harg3 arg4 harg4 arg5 harg5 arg6 harg6 arg7 harg7 arg8 arg11 arg12 x0 x1 x2 x3 x4 x5 _ _ _ _ hD))))).panel
    isplitl [H7]
    · iexists _
      isplitr
      swap; · iexact H7
      ipureintro
      refine (View.read_writes_full (s := S256x256) _ _ _ _ _).trans ?_
      refine (congrArg (k0_pay1 (F := Ideal)) (View.readAt_full (s := S256x256) _ _ _)).trans ?_
      exact (after4 Variants.none c none i arg2 harg2 arg3 harg3 arg4 harg4 arg5 harg5 arg6 harg6 arg7 harg7 arg8 harg8 arg9 harg9 arg10 harg10 arg11 harg11 arg12 harg12 _ _ _ _ _ _ _ _ _ _ _ x0 x1 x2 x3 x4 x5 _ _ _ _ _ _ r4 r6 (after3 Variants.none c none i arg2 harg2 arg3 harg3 arg4 harg4 arg5 harg5 arg6 harg6 arg7 harg7 arg8 harg8 arg9 harg9 arg10 harg10 arg11 harg11 arg12 harg12 _ _ _ _ _ _ _ _ _ _ x0 x1 x2 x3 x4 x5 _ _ _ _ _ _ r4 r6 (after2 Variants.none c none i arg2 harg2 arg3 harg3 arg4 harg4 arg5 harg5 arg6 harg6 arg7 harg7 arg8 harg8 arg9 harg9 arg10 harg10 arg11 harg11 arg12 harg12 _ _ _ _ _ _ _ _ _ _ x0 x1 x2 x3 x4 x5 _ _ _ _ _ _ r4 r6 (after1 Variants.none c none i arg2 harg2 arg3 harg3 arg4 harg4 arg5 harg5 arg6 harg6 arg7 harg7 arg8 harg8 arg9 harg9 arg10 harg10 arg11 harg11 arg12 harg12 _ _ _ _ _ _ _ _ _ x0 x1 x2 x3 x4 x5 _ _ _ _ _ _ r4 r6 (base i arg2 harg2 arg3 harg3 arg4 harg4 arg5 harg5 arg6 harg6 arg7 harg7 arg8 arg11 arg12 x0 x1 x2 x3 x4 x5 _ _ _ _ hD))))).keys
    isplitl [H8]
    · iexists _
      isplitr
      swap; · iexact H8
      ipureintro
      refine (View.read_writes_full (s := S256x128) _ _ _ _ _).trans ?_
      refine (congrArg (k0_pay2 (F := Ideal)) (View.readAt_full (s := S128x256) _ _ _)).trans ?_
      exact (after4 Variants.none c none i arg2 harg2 arg3 harg3 arg4 harg4 arg5 harg5 arg6 harg6 arg7 harg7 arg8 harg8 arg9 harg9 arg10 harg10 arg11 harg11 arg12 harg12 _ _ _ _ _ _ _ _ _ _ _ x0 x1 x2 x3 x4 x5 _ _ _ _ _ _ r4 r6 (after3 Variants.none c none i arg2 harg2 arg3 harg3 arg4 harg4 arg5 harg5 arg6 harg6 arg7 harg7 arg8 harg8 arg9 harg9 arg10 harg10 arg11 harg11 arg12 harg12 _ _ _ _ _ _ _ _ _ _ x0 x1 x2 x3 x4 x5 _ _ _ _ _ _ r4 r6 (after2 Variants.none c none i arg2 harg2 arg3 harg3 arg4 harg4 arg5 harg5 arg6 harg6 arg7 harg7 arg8 harg8 arg9 harg9 arg10 harg10 arg11 harg11 arg12 harg12 _ _ _ _ _ _ _ _ _ _ x0 x1 x2 x3 x4 x5 _ _ _ _ _ _ r4 r6 (after1 Variants.none c none i arg2 harg2 arg3 harg3 arg4 harg4 arg5 harg5 arg6 harg6 arg7 harg7 arg8 harg8 arg9 harg9 arg10 harg10 arg11 harg11 arg12 harg12 _ _ _ _ _ _ _ _ _ x0 x1 x2 x3 x4 x5 _ _ _ _ _ _ r4 r6 (base i arg2 harg2 arg3 harg3 arg4 harg4 arg5 harg5 arg6 harg6 arg7 harg7 arg8 arg11 arg12 x0 x1 x2 x3 x4 x5 _ _ _ _ hD))))).values
    isplitl [HS0]
    · iexists _; iexists _
      isplitr
      swap; · iexact HS0
      ipureintro; rfl
    iexists _; iexists _
    isplitr
    swap; · iexact HS1
    ipureintro; rfl

end Cert.KernelIdeal.Fox
-- ==== Proof.Fox.Run.lean ====
/- The launch: the proof data of the pipeline with what each grid point leaves in its three results, the run of the whole
   kernel, and its frame. -/
module

public import proofs.«01_k».proof.Proof.Fox.BodyA
public import proofs.«01_k».proof.Proof.Fox.BodyB
public import proofs.«01_k».proof.Proof.Gen.KernelIdeal.Points
public import Idealize.ShloMosaic.Lib.Claim

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The block of keys of a point. -/
theorem jOf_coords (t : Fin cfg0.N) : jOf (grid0.coords t) = t.val % 32 := by
  have e1 : (grid0.coords t 1).val = t.val / 1 % 32 := Pipeline.Grid.coords_val (G := grid0) (S := 1) (B := 32) t 1 (by decide) rfl
  rw [Nat.div_one] at e1
  exact e1

/-- The body's condition, by the point. -/
theorem first0_iff (t : Fin cfg0.N) : first0 (grid0.coords t) ↔ t.val % 32 = 0 := by
  have h := jOf_coords t
  simp only [first0]
  rw [show (grid0.coords t 1).val = t.val % 32 from h]
  have hl := Nat.mod_lt t.val (show 0 < 32 by decide)
  generalize t.val % 32 = j at hl
  word_cmp

/-- The rows' running gradient after a point: the head's blocks up to the point's. -/
def panel (c : Dev nD) : (n : ℕ) → (h : n < cfg0.N) → Vec Ideal S8192x256 .f32
  | 0, h => newP (jOf (grid0.coords ⟨0, h⟩)) (iblk m c 0 ⟨0, h⟩) (iblk m c 1 ⟨0, h⟩) (iblk m c 4 ⟨0, h⟩) (iblk m c 5 ⟨0, h⟩) (k0_pay21 (F := Ideal))
  | n + 1, h => newP (jOf (grid0.coords ⟨n + 1, h⟩)) (iblk m c 0 ⟨n + 1, h⟩) (iblk m c 1 ⟨n + 1, h⟩) (iblk m c 4 ⟨n + 1, h⟩) (iblk m c 5 ⟨n + 1, h⟩)
      (if (n + 1) % 32 = 0 then k0_pay21 (F := Ideal) else panel c n (Nat.lt_of_succ_lt h))

theorem panel_first (c : Dev nD) (t : Fin cfg0.N) (h : t.val % 32 = 0) :
    panel m c t.val t.isLt = newP (jOf (grid0.coords t)) (iblk m c 0 t) (iblk m c 1 t) (iblk m c 4 t) (iblk m c 5 t) (k0_pay21 (F := Ideal)) := by
  obtain ⟨n, hn⟩ := t
  cases n with
  | zero => rw [panel]
  | succ n => rw [panel, if_pos h]

theorem panel_later (c : Dev nD) (t : Fin cfg0.N) (h : ¬ t.val % 32 = 0) :
    panel m c t.val t.isLt = newP (jOf (grid0.coords t)) (iblk m c 0 t) (iblk m c 1 t) (iblk m c 4 t) (iblk m c 5 t)
      (panel m c (t.val - 1) (Nat.lt_of_le_of_lt (Nat.sub_le _ _) t.isLt)) := by
  obtain ⟨n, hn⟩ := t
  cases n with
  | zero => exact absurd rfl h
  | succ n => rw [panel, if_neg h]; rfl

/-- The proof data of the pipeline: the inputs at their blocks, the panel at its running sum, the block's gradients. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => panel m c t.val t.isLt
    | ⟨7, _⟩ => outK (jOf (grid0.coords t)) (iblk m c 0 t) (iblk m c 1 t) (iblk m c 2 t) (iblk m c 4 t) (iblk m c 5 t)
    | ⟨8, _⟩ => outV (jOf (grid0.coords t)) (iblk m c 0 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = panel m c t.val t.isLt := by dsimp only [dats]
theorem after_7 (c : Dev nD) (t : Fin cfg0.N) : (dats m 0 c).after 7 t
    = outK (jOf (grid0.coords t)) (iblk m c 0 t) (iblk m c 1 t) (iblk m c 2 t) (iblk m c 4 t) (iblk m c 5 t) := by dsimp only [dats]
theorem after_8 (c : Dev nD) (t : Fin cfg0.N) : (dats m 0 c).after 8 t
    = outV (jOf (grid0.coords t)) (iblk m c 0 t) (iblk m c 3 t) (iblk m c 4 t) := by dsimp only [dats]

/-- At a block that is not the head's first, the panel holds what the block before left. -/
theorem before_6 (c : Dev nD) (t : Fin cfg0.N) (h : ¬ t.val % 32 = 0) (d) :
    (dats m 0 c).before 6 t d = panel m c (t.val - 1) (Nat.lt_of_le_of_lt (Nat.sub_le _ _) t.isLt) := by
  refine ((dats m 0 c).before_out_kept 6 rfl t (fun h0 => h (by rw [h0])) ?_ (fun _ => rfl) (fun _ _ => rfl) d).trans (after_6 m c _)
  refine Bool.eq_false_iff.mpr fun hf => ?_
  have := (flush0_6 ⟨t.val - 1, Nat.lt_of_le_of_lt (Nat.sub_le _ _) t.isLt⟩).mp hf
  simp only at this
  omega

abbrev ms_0 (t : Fin cfg0.N) : Memref sig .tc .vmem S8192x256 .bf16 := win0_0.stage (cfg0.slots t 0)
abbrev ms_1 (t : Fin cfg0.N) : Memref sig .tc .vmem S8192x256 .bf16 := win0_1.stage (cfg0.slots t 1)
abbrev ms_2 (t : Fin cfg0.N) : Memref sig .tc .vmem S256x8192 .bf16 := win0_2.stage (cfg0.slots t 2)
abbrev ms_3 (t : Fin cfg0.N) : Memref sig .tc .vmem S128x8192 .bf16 := win0_3.stage (cfg0.slots t 3)
abbrev ms_4 (t : Fin cfg0.N) : Memref sig .tc .vmem S256x256 .bf16 := win0_4.stage (cfg0.slots t 4)
abbrev ms_5 (t : Fin cfg0.N) : Memref sig .tc .vmem S256x256 .bf16 := win0_5.stage (cfg0.slots t 5)
abbrev ms_6 (t : Fin cfg0.N) : Memref sig .tc .vmem S8192x256 .f32 := win0_6.stage (cfg0.slots t 6)
abbrev ms_7 (t : Fin cfg0.N) : Memref sig .tc .vmem S256x256 .f32 := win0_7.stage (cfg0.slots t 7)
abbrev ms_8 (t : Fin cfg0.N) : Memref sig .tc .vmem S256x128 .bf16 := win0_8.stage (cfg0.slots t 8)
abbrev sc_0 : Memref sig .tc .vmem S256x256 .f32 := Memref.whole cc0_scratch0
abbrev sc_1 : Memref sig .tc .vmem S128x256 .f32 := Memref.whole cc0_scratch1

/-- The pipeline's invariant: the two scratch buffers at some contents, and the generator register. -/
theorem Phi_eq (c : Dev nD) :
    (Pipeline.ΦA spec0 c : sProp 𝕄)
      = iprop(iprop((∃ d, owns (c : Thread nD τ) sc_0 fullShare d) ∗ (∃ d, owns (c : Thread nD τ) sc_1 fullShare d)) ∗ (∃ r, prngReg c r)) := by
  unfold Pipeline.ΦA; rw [scopedRest0_eq]; simp only [sc_0, sc_1, owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t))

set_option maxHeartbeats 1600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, Phi_eq]
  by_cases h0 : t.val % 32 = 0
  · rw [panel_first m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) _ _ _ _ _ _ _ _ _ _ _ _ _ _ _ _ _ _ _ _ _ _ ((first0_iff t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [panel_later m c t h0]
    simp only [before_6 m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB c (grid0.coords t) _ _ _ _ _ _ _ _ _ _ _ _ _ _ _ _ _ _ _ _ _ _ (fun h => h0 ((first0_iff t).mp h)) (iblk m c 0 t) (iblk m c 1 t) (iblk m c 2 t) (iblk m c 3 t) (iblk m c 4 t) (iblk m c 5 t) (panel m c (t.val - 1) (Nat.lt_of_le_of_lt (Nat.sub_le _ _) t.isLt))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at a point's slots is the body. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 1600000 in
/-- The whole run: every array at what the proof data leave in it, and every semaphore at zero. -/
theorem run_both : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame of the kernel over the reals. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_both m ρ)))
    ((θ_run defs _ _).mono (fun _ h => h.2) (run_both m ρ))

end Cert.KernelIdeal.Fox
-- ==== Proof.Fox.Arrays.lean ====
module
public import proofs.«01_k».proof.Proof.Fox.Run
public import Idealize.ShloMosaic.Lib.Pipeline.ValueKit
public import Idealize.ShloMosaic.Lib.Pointwise
@[expose] public section
set_option maxRecDepth 16384
noncomputable section
namespace Cert.KernelIdeal.Fox
open Idealize.ShloMosaic Idealize.ShloMosaic.TcCoe Idealize.ShloMosaic.Tactic
open Cert.KernelIdeal Cert.KernelIdeal.Gen
variable (m : (ℓ : Loc nD τ sig) → Buf (Elt Ideal) ℓ) (c : Dev nD)

theorem N_eq : cfg0.N = 256 := by decide +kernel

/-- The head of a point. -/
def hd (t : Fin cfg0.N) : Fin 8 := ⟨t.val / 32, by have := t.isLt; have := N_eq; omega⟩
/-- A head's lane among all. -/
def col (h : Fin 8) (a : Fin 256) : Fin 2048 := ⟨256 * h.val + a.val, by omega⟩
/-- A head's value lane among all. -/
def vcol (h : Fin 8) (a : Fin 128) : Fin 1024 := ⟨128 * h.val + a.val, by omega⟩
/-- A block's key among all. -/
def key (t : Fin cfg0.N) (x : Fin 256) : Fin 8192 := ⟨256 * (t.val % 32) + x.val, by omega⟩

theorem ix_0 : ∀ t : Fin cfg0.N, win0_0.index t = ![0, t.val / 32] := (by decide +kernel : ∀ t : Fin grid0.N, _)
theorem ix_1 : ∀ t : Fin cfg0.N, win0_1.index t = ![0, t.val / 32] := (by decide +kernel : ∀ t : Fin grid0.N, _)
theorem ix_2 : ∀ t : Fin cfg0.N, win0_2.index t = ![t.val / 32, 0] := (by decide +kernel : ∀ t : Fin grid0.N, _)
theorem ix_3 : ∀ t : Fin cfg0.N, win0_3.index t = ![t.val / 32, 0] := (by decide +kernel : ∀ t : Fin grid0.N, _)
theorem ix_4 : ∀ t : Fin cfg0.N, win0_4.index t = ![t.val % 32, t.val / 32] := (by decide +kernel : ∀ t : Fin grid0.N, _)
theorem ix_5 : ∀ t : Fin cfg0.N, win0_5.index t = ![t.val % 32, t.val / 32] := (by decide +kernel : ∀ t : Fin grid0.N, _)
theorem ix_6 : ∀ t : Fin cfg0.N, win0_6.index t = ![0, t.val / 32] := (by decide +kernel : ∀ t : Fin grid0.N, _)
theorem ix_7 : ∀ t : Fin cfg0.N, win0_7.index t = ![t.val % 32, t.val / 32] := (by decide +kernel : ∀ t : Fin grid0.N, _)
theorem ix_8 : ∀ t : Fin cfg0.N, win0_8.index t = ![t.val % 32, t.val / 32] := (by decide +kernel : ∀ t : Fin grid0.N, _)

theorem blk_0 (t : Fin cfg0.N) (r : Fin 8192) (a : Fin 256) :
    iblk m c 0 t (ix2 r a) = V m c main_v77 (ix2 r (col (hd t) a)) := by
  unfold iblk
  blk_simp
  congr 1
  blk_ext [ix_0 t]
  all_goals (simp only [col, hd]; omega)

theorem blk_1 (t : Fin cfg0.N) (r : Fin 8192) (a : Fin 256) :
    iblk m c 1 t (ix2 r a) = V m c main_v107 (ix2 r (col (hd t) a)) := by
  unfold iblk
  blk_simp
  congr 1
  blk_ext [ix_1 t]
  all_goals (simp only [col, hd]; omega)

theorem blk_2 (t : Fin cfg0.N) (a : Fin 256) (r : Fin 8192) :
    iblk m c 2 t (ix2 a r) = V m c main_v80 (ix2 (col (hd t) a) r) := by
  unfold iblk
  blk_simp
  congr 1
  blk_ext [ix_2 t]
  all_goals (simp only [col, hd]; omega)

theorem blk_3 (t : Fin cfg0.N) (a : Fin 128) (r : Fin 8192) :
    iblk m c 3 t (ix2 a r) = V m c main_v110 (ix2 (vcol (hd t) a) r) := by
  unfold iblk
  blk_simp
  congr 1
  blk_ext [ix_3 t]
  all_goals (simp only [vcol, hd]; omega)

theorem blk_4 (t : Fin cfg0.N) (x : Fin 256) (a : Fin 256) :
    iblk m c 4 t (ix2 x a) = V m c main_v136 (ix2 (key t x) (col (hd t) a)) := by
  unfold iblk
  blk_simp
  congr 1
  blk_ext [ix_4 t]
  all_goals (simp only [key, col, hd]; omega)

theorem blk_5 (t : Fin cfg0.N) (x : Fin 256) (a : Fin 256) :
    iblk m c 5 t (ix2 x a) = V m c main_v148 (ix2 (key t x) (col (hd t) a)) := by
  unfold iblk
  blk_simp
  congr 1
  blk_ext [ix_5 t]
  all_goals (simp only [key, col, hd]; omega)

theorem emb_6 (t : Fin cfg0.N) (y : S8192x256.Idx) :
    (win0_6.blk t).view.emb y = ix2 (y 0) (col (hd t) (y 1)) := by
  blk_ext [ix_6 t]
  all_goals (simp only [col, hd]; omega)

theorem emb_7 (t : Fin cfg0.N) (y : S256x256.Idx) :
    (win0_7.blk t).view.emb y = ix2 (key t (y 0)) (col (hd t) (y 1)) := by
  blk_ext [ix_7 t]
  all_goals (simp only [key, col, hd]; omega)

theorem emb_8 (t : Fin cfg0.N) (y : S256x128.Idx) :
    (win0_8.blk t).view.emb y = ix2 (key t (y 0)) (vcol (hd t) (y 1)) := by
  blk_ext [ix_8 t]
  all_goals (simp only [key, vcol, hd]; omega)

/-- The weight of a query and a key, from the two augmented arrays. -/
def PP (A0 A4 : S8192x2048.Idx → EReal) (h : Fin 8) (r x : Fin 8192) : EReal :=
  if x.val ≤ r.val then ex2 (∑ a : Fin 256, A0 (ix2 r (col h a)) * A4 (ix2 x (col h a))) else 0

/-- The score's gradient of a query and a key, from the four augmented arrays. -/
def DD (A0 A1 A4 A5 : S8192x2048.Idx → EReal) (h : Fin 8) (r x : Fin 8192) : EReal :=
  PP A0 A4 h r x * ∑ a : Fin 256, A1 (ix2 r (col h a)) * A5 (ix2 x (col h a))

/-- The arrays of the launch, at one device. -/
abbrev wP (h : Fin 8) (r x : Fin 8192) : EReal := PP (V m c main_v77) (V m c main_v136) h r x
abbrev wD (h : Fin 8) (r x : Fin 8192) : EReal :=
  DD (V m c main_v77) (V m c main_v107) (V m c main_v136) (V m c main_v148) h r x

theorem pm_blk (t : Fin cfg0.N) (r : Fin 8192) (x : Fin 256) :
    pm (t.val % 32) (iblk m c 0 t) (iblk m c 4 t) r x = wP m c (hd t) r (key t x) := by
  simp only [pm, p0, wP, PP, blk_0, blk_4]
  rfl

theorem dsm_blk (t : Fin cfg0.N) (r : Fin 8192) (x : Fin 256) :
    dsm (t.val % 32) (iblk m c 0 t) (iblk m c 1 t) (iblk m c 4 t) (iblk m c 5 t) r x
      = wD m c (hd t) r (key t x) := by
  rw [dsm, pm_blk]
  simp only [g0, wD, DD, blk_1, blk_5]

/-- One key's part of a query's panel. -/
def part (h : Fin 8) (r : Fin 8192) (a : Fin 256) (x : ℕ) : EReal :=
  if hx : x < 8192 then wD m c h r ⟨x, hx⟩ * V m c main_v136 (ix2 ⟨x, hx⟩ (col h a)) else 0

/-- One block's part of the panel. -/
theorem new_blk (t : Fin cfg0.N) (D : S8192x256.Idx → EReal) (r : Fin 8192) (a : Fin 256) :
    newP (t.val % 32) (iblk m c 0 t) (iblk m c 1 t) (iblk m c 4 t) (iblk m c 5 t) D (ix2 r a)
      = D (ix2 r a) + ∑ x ∈ Finset.range 256, part m c (hd t) r a (256 * (t.val % 32) + x) := by
  simp only [newP]
  congr 1
  rw [Finset.sum_range]
  refine Finset.sum_congr rfl fun x _ => ?_
  have hx : 256 * (t.val % 32) + x.val < 8192 := by omega
  rw [part, dif_pos hx]
  exact congrArg₂ (· * ·) (dsm_blk m c t r x) (blk_4 m c t x a)

/-- The panel after a point holds the keys of the blocks so far. -/
theorem panel_at (n : ℕ) (hn : n < cfg0.N) (r : Fin 8192) (a : Fin 256) :
    panel m c n hn (ix2 r a)
      = ∑ x ∈ Finset.range (256 * (n % 32) + 256), part m c (hd ⟨n, hn⟩) r a x := by
  induction n using Nat.strong_induction_on with
  | _ n ih =>
    rw [Finset.sum_range_add]
    by_cases h0 : n % 32 = 0
    · have e := panel_first m c ⟨n, hn⟩ h0
      have e2 := new_blk m c ⟨n, hn⟩ (k0_pay21 (F := Ideal)) r a
      rw [e]
      refine Eq.trans ?_ (e2.trans ?_)
      · rw [jOf_coords]
      · refine congrArg₂ (· + ·) ?_ rfl
        rw [h0, Nat.mul_zero, Finset.sum_range_zero]
        pointwise [k0_pay21]
    · have hn1 : n - 1 < cfg0.N := by omega
      have e := panel_later m c ⟨n, hn⟩ h0
      have e2 := new_blk m c ⟨n, hn⟩ (panel m c (n - 1) hn1) r a
      rw [e]
      refine Eq.trans ?_ (e2.trans ?_)
      · rw [jOf_coords]
      · refine congrArg₂ (· + ·) ?_ rfl
        rw [ih (n - 1) (by omega) hn1]
        have e3 : 256 * ((n - 1) % 32) + 256 = 256 * (n % 32) := by omega
        have e4 : hd ⟨n - 1, hn1⟩ = hd ⟨n, hn⟩ := by
          simp only [hd, Fin.mk.injEq]; omega
        rw [e3, e4]

/-- A head's number from an augmented lane. -/
def hOf (q : Fin 2048) : Fin 8 := ⟨q.val / 256, by omega⟩
/-- A head's number from a value lane. -/
def hOfV (q : Fin 1024) : Fin 8 := ⟨q.val / 128, by omega⟩

theorem hOf_col (h : Fin 8) (a : Fin 256) : hOf (col h a) = h := by
  ext; simp only [hOf, col]; omega
theorem hOfV_vcol (h : Fin 8) (a : Fin 128) : hOfV (vcol h a) = h := by
  ext; simp only [hOfV, vcol]; omega

/-- The augmented queries with the positions along their rows. -/
abbrev qt : S2048x8192.Idx → EReal := V m c main_v80
/-- The output's gradients with the positions along their rows. -/
abbrev gt : S1024x8192.Idx → EReal := V m c main_v110

/-- The array of the queries' gradients. -/
def G6 : S8192x2048.Idx → EReal := fun i =>
  ∑ x : Fin 8192, wD m c (hOf (i 1)) (i 0) x * V m c main_v136 (ix2 x (i 1))
/-- The array of the keys' gradients. -/
def G7 : S8192x2048.Idx → EReal := fun i =>
  ∑ r : Fin 8192, qt m c (ix2 (i 1) r) * wD m c (hOf (i 1)) r (i 0)
/-- The array of the values' gradients. -/
def G8 : S8192x1024.Idx → EReal := fun i =>
  ∑ r : Fin 8192, gt m c (ix2 (i 1) r) * wP m c (hOfV (i 1)) r (i 0)

theorem arr_6 : (dats m 0 c).arrAt 6 cfg0.N = G6 m c := by
  refine (dats m 0 c).arrAt_eq_of_covers 6 _ (by decide +kernel) fun t hf y => ?_
  blk_simp
  rw [after_6, emb_6]
  obtain ⟨r, a, rfl⟩ : ∃ (r : Fin 8192) (a : Fin 256), y = ix2 r a := ⟨y 0, y 1, eq_ix2 y⟩
  rw [panel_at]
  have h31 : t.val % 32 = 31 := (flush0_6 t).mp hf
  rw [h31, Finset.sum_range]
  show _ = ∑ x : Fin 8192, wD m c (hOf (col (hd t) a)) r x * V m c main_v136 (ix2 x (col (hd t) a))
  rw [hOf_col]
  refine Finset.sum_congr rfl fun x _ => ?_
  exact dif_pos x.isLt

theorem arr_7 : (dats m 0 c).arrAt 7 cfg0.N = G7 m c := by
  refine (dats m 0 c).arrAt_eq_of_covers 7 _ (by decide +kernel) fun t hf y => ?_
  blk_simp
  rw [after_7, emb_7, jOf_coords]
  obtain ⟨x, a, rfl⟩ : ∃ (x : Fin 256) (a : Fin 256), y = ix2 x a := ⟨y 0, y 1, eq_ix2 y⟩
  show _ = ∑ r : Fin 8192, qt m c (ix2 (col (hd t) a) r)
    * wD m c (hOf (col (hd t) a)) r (key t x)
  rw [hOf_col]
  refine Finset.sum_congr rfl fun r _ => ?_
  exact congrArg₂ (· * ·) (blk_2 m c t a r) (dsm_blk m c t r x)

theorem arr_8 : (dats m 0 c).arrAt 8 cfg0.N = G8 m c := by
  refine (dats m 0 c).arrAt_eq_of_covers 8 _ (by decide +kernel) fun t hf y => ?_
  blk_simp
  rw [after_8, emb_8, jOf_coords]
  obtain ⟨x, a, rfl⟩ : ∃ (x : Fin 256) (a : Fin 128), y = ix2 x a := ⟨y 0, y 1, eq_ix2 y⟩
  show _ = ∑ r : Fin 8192, gt m c (ix2 (vcol (hd t) a) r)
    * wP m c (hOfV (vcol (hd t) a)) r (key t x)
  rw [hOfV_vcol]
  refine Finset.sum_congr rfl fun r _ => ?_
  exact congrArg₂ (· * ·) (blk_3 m c t a r) (pm_blk m c t r x)

end Cert.KernelIdeal.Fox
-- ==== Proof.Fox.Math.lean ====
/- One head of the attention's gradient over the real numbers. The weights of a row do not depend on the number its scores are
   lowered by, so the two ways of computing the gradients agree. -/
module

public import Idealize.ShloMosaic.PureOps.Ideal
public import Mathlib.Analysis.SpecialFunctions.Pow.Real

@[expose] public section

noncomputable section

namespace Cert.Fox

open Finset

/-- The positions of a sequence. -/
abbrev Pos := Fin 8192
/-- The lanes of a head. -/
abbrev Lane := Fin 128

/-- A finite sum of real numbers, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum over all of a type of real numbers, as an extended real. -/
theorem sum_coe {ι : Type} [Fintype ι] {f : ι → EReal} {g : ι → ℝ} (h : ∀ i, f i = (g i : EReal)) :
    ∑ i, f i = ((∑ i, g i : ℝ) : EReal) := by
  rw [coe_sum]; exact sum_congr rfl fun i _ => h i

variable (Q K V G : Pos → Lane → ℝ) (C : Pos → ℝ) (S : ℝ)

/-- The score of a pair. -/
def score (r c : Pos) : ℝ := (∑ a, Q r a * K c a) * S + C r - C c

/-- The exponential of a seen pair's score lowered by its row's number. -/
def ex (T : Pos → ℝ) (r c : Pos) : ℝ := if c.val ≤ r.val then Real.exp (score Q K C S r c - T r) else 0

/-- The sum of a row's exponentials. -/
def sm (T : Pos → ℝ) (r : Pos) : ℝ := ∑ c, ex Q K C S T r c

/-- The weight of a pair. -/
def wt (r c : Pos) : ℝ := ex Q K C S (fun _ => 0) r c / sm Q K C S (fun _ => 0) r

/-- The gradient of a pair's weight. -/
def dp (r c : Pos) : ℝ := ∑ a, G r a * V c a

/-- The row's mean of the weights' gradients. -/
def dl (r : Pos) : ℝ := ∑ c, wt Q K C S r c * dp V G r c

/-- The gradient of a pair's score. -/
def ds (r c : Pos) : ℝ := wt Q K C S r c * (dp V G r c - dl Q K V G C S r)

/-- The gradient of the queries. -/
def gq (r : Pos) (a : Lane) : ℝ := ∑ c, ds Q K V G C S r c * S * K c a
/-- The gradient of the keys. -/
def gk (c : Pos) (a : Lane) : ℝ := ∑ r, ds Q K V G C S r c * S * Q r a
/-- The gradient of the values. -/
def gv (c : Pos) (a : Lane) : ℝ := ∑ r, G r a * wt Q K C S r c
/-- The gradient of the cumulative log gates. -/
def gc (r : Pos) : ℝ := (∑ x, -ds Q K V G C S x r) + ∑ x, ds Q K V G C S r x

theorem ex_lower (T : Pos → ℝ) (r c : Pos) : ex Q K C S T r c = ex Q K C S (fun _ => 0) r c * Real.exp (-T r) := by
  unfold ex
  split_ifs
  · rw [← Real.exp_add]; congr 1; ring
  · ring

theorem sm_lower (T : Pos → ℝ) (r : Pos) : sm Q K C S T r = sm Q K C S (fun _ => 0) r * Real.exp (-T r) := by
  unfold sm
  rw [sum_mul]
  exact sum_congr rfl fun c _ => ex_lower Q K C S T r c

theorem sm_pos (T : Pos → ℝ) (r : Pos) : 0 < sm Q K C S T r := by
  unfold sm
  refine lt_of_lt_of_le ?_ (single_le_sum (f := ex Q K C S T r) (fun c _ => ?_) (mem_univ r))
  · unfold ex; rw [if_pos le_rfl]; exact Real.exp_pos _
  · unfold ex; split_ifs
    · exact (Real.exp_pos _).le
    · exact le_rfl

theorem sm_ne (T : Pos → ℝ) (r : Pos) : sm Q K C S T r ≠ 0 := (sm_pos Q K C S T r).ne'

/-- The weights do not depend on the number the scores are lowered by. -/
theorem ex_div_sm (T : Pos → ℝ) (r c : Pos) : ex Q K C S T r c / sm Q K C S T r = wt Q K C S r c := by
  rw [ex_lower, sm_lower, wt, mul_div_mul_right _ _ (Real.exp_pos _).ne']

/-- The weights' mean of their gradients, with the exponentials and the row sum apart. -/
theorem dl_of (T : Pos → ℝ) (r : Pos) :
    (∑ c, dp V G r c * (1 * (1 / (sm Q K C S T r * sm Q K C S T r))) * ex Q K C S T r c) * sm Q K C S T r = dl Q K V G C S r := by
  unfold dl
  rw [sum_mul]
  refine sum_congr rfl fun c _ => ?_
  rw [← ex_div_sm Q K C S T]
  have := sm_ne Q K C S T r
  field_simp

/-- The gradient of a score, with the exponentials and the row sum apart. -/
theorem ds_of (T : Pos → ℝ) (r c : Pos) :
    (dp V G r c * (1 / sm Q K C S T r) + -(∑ c, dp V G r c * (1 * (1 / (sm Q K C S T r * sm Q K C S T r))) * ex Q K C S T r c)) * ex Q K C S T r c
      = ds Q K V G C S r c := by
  unfold ds
  rw [← dl_of Q K V G C S T, ← ex_div_sm Q K C S T]
  have := sm_ne Q K C S T r
  field_simp
  ring

theorem wt_unseen {r c : Pos} (h : ¬ c.val ≤ r.val) : wt Q K C S r c = 0 := by
  unfold wt ex; rw [if_neg h, zero_div]

theorem ds_unseen {r c : Pos} (h : ¬ c.val ≤ r.val) : ds Q K V G C S r c = 0 := by
  unfold ds; rw [wt_unseen Q K C S h, zero_mul]

/-- The logarithm of two. -/
abbrev ln2 : ℝ := Real.log 2

theorem ln2_pos : 0 < ln2 := Real.log_pos (by norm_num)

/-- A seen pair's weight as a power of two of the score less the row's logarithm of the sum of exponentials. -/
theorem two_pow (T : Pos → ℝ) (r c : Pos) (h : c.val ≤ r.val) (x : ℝ)
    (hx : x = (∑ a, (Q r a * (1 * (1 / ln2) * S)) * K c a) + (C r * (1 * (1 / ln2)) - (T r + Real.log (sm Q K C S T r)) * (1 * (1 / ln2))) + -(C c * (1 * (1 / ln2)))) :
    Real.rpow 2 x = wt Q K C S r c := by
  have hl := ln2_pos
  have e : ln2 * x = score Q K C S r c - T r - Real.log (sm Q K C S T r) := by
    have e1 : ∑ a, (Q r a * (1 * (1 / ln2) * S)) * K c a = (∑ a, Q r a * K c a) * S * (1 / ln2) := by
      rw [sum_mul, sum_mul]; exact sum_congr rfl fun a _ => by ring
    rw [hx, e1, score]
    field_simp
    ring
  show (2 : ℝ) ^ x = _
  rw [Real.rpow_def_of_pos (by norm_num), e, Real.exp_sub, Real.exp_log (sm_pos Q K C S T r), ← ex_div_sm Q K C S T, ex, if_pos h]

/-- The output of a row times the output's gradient is the row's mean of the weights' gradients. -/
theorem delta_of (r : Pos) : ∑ a, G r a * ∑ c, wt Q K C S r c * V c a = dl Q K V G C S r := by
  unfold dl dp
  simp only [mul_sum]
  rw [sum_comm]
  exact sum_congr rfl fun c _ => sum_congr rfl fun a _ => by ring

end Cert.Fox
-- ==== Proof.Fox.Consts.lean ====
/- The constants of the two programs as extended reals, and the maximum of a row of numbers. -/
module

public import proofs.«01_k».proof.Proof.Fox.Math
public import Idealize.ShloMosaic.PureOps.Reduce
public import Idealize.ShloMosaic.PureOps.Ideal.Laws
public import Idealize.ShloMosaic.Lib.IdealHost
public import Mathlib.Data.Finset.Fold

@[expose] public section

noncomputable section

namespace Cert.Fox

open Idealize.ShloMosaic

/-- The score of a pair that is not seen. -/
theorem none_eq : Ideal.ofBits .f32 0xFF800000#32 = (⊥ : EReal) := by
  have e1 : (((0xFF800000#32 : BitVec 32).extractLsb' 23 8).toNat) = 255 := by decide
  have e2 : (((0xFF800000#32 : BitVec 32).extractLsb' 0 23).toNat) = 0 := by decide
  have e3 : ((0xFF800000#32 : BitVec 32).extractLsb' 31 1 == 1#1) = true := by decide
  show Ideal.ieee 8 23 (0xFF800000#32 : BitVec 32) = ⊥
  unfold Ideal.ieee
  simp only [e1, e2, e3]
  norm_num

/-- The largest number's successor. -/
theorem inf_eq : Ideal.ofBits .f32 0x7F800000#32 = (⊤ : EReal) := by
  have e1 : (((0x7F800000#32 : BitVec 32).extractLsb' 23 8).toNat) = 255 := by decide
  have e2 : (((0x7F800000#32 : BitVec 32).extractLsb' 0 23).toNat) = 0 := by decide
  have e3 : ((0x7F800000#32 : BitVec 32).extractLsb' 31 1 == 1#1) = false := by decide
  show Ideal.ieee 8 23 (0x7F800000#32 : BitVec 32) = ⊤
  unfold Ideal.ieee
  simp only [e1, e2, e3]
  norm_num

/-- The scale of the scores, as a real number. -/
def scale : ℝ := (1 : ℝ) * (2 ^ 23 + 3474675 : Nat) * (2 : ℝ) ^ ((123 : Int) - (2 ^ (8 - 1) - 1) - (23 : Nat))

theorem scale_eq : Ideal.ofBits .f32 0x3DB504F3#32 = ((scale : ℝ) : EReal) := by
  have e1 : (((0x3DB504F3#32 : BitVec 32).extractLsb' 23 8).toNat) = 123 := by decide
  have e2 : (((0x3DB504F3#32 : BitVec 32).extractLsb' 0 23).toNat) = 3474675 := by decide
  have e3 : ((0x3DB504F3#32 : BitVec 32).extractLsb' 31 1 == 1#1) = false := by decide
  show Ideal.ieee 8 23 (0x3DB504F3#32 : BitVec 32) = _
  unfold Ideal.ieee scale
  simp only [e1, e2, e3]
  norm_num

theorem two_eq : Ideal.ofBits .f32 0x40000000#32 = ((2 : ℝ) : EReal) := by
  have e1 : (((0x40000000#32 : BitVec 32).extractLsb' 23 8).toNat) = 128 := by decide
  have e2 : (((0x40000000#32 : BitVec 32).extractLsb' 0 23).toNat) = 0 := by decide
  have e3 : ((0x40000000#32 : BitVec 32).extractLsb' 31 1 == 1#1) = false := by decide
  show Ideal.ieee 8 23 (0x40000000#32 : BitVec 32) = _
  unfold Ideal.ieee
  simp only [e1, e2, e3]
  norm_num

/-- The maximum, from nothing, of numbers one of which is not the least and none of which is the greatest: a real number. -/
theorem top_real {s t u : Shape} {axes : List (Fin s.rank)} (x : s.Idx → EReal) (init : u.Idx → EReal) (h : s.ReducesTo axes t)
    (hu : 0 < u.numel) (j : t.Idx) (i0 : s.Idx) (h0 : h.drop i0 = j) (hb : x i0 ≠ ⊥) (ht : ∀ i, x i ≠ ⊤)
    (hi : ∀ i, init i = ⊥) :
    ∃ T : ℝ, Host.reduce (FloatOps.maximumf (F := Ideal) (φ := .f32)) x init h hu j = (T : EReal) := by
  rw [Host.reduce_eq_fold]
  set y := (Finset.univ.filter fun i => h.drop i = j).fold (FloatOps.maximumf (F := Ideal) (φ := .f32)) (init (Shape.Idx.first hu)) x with hy
  have hy' : y = (Finset.univ.filter fun i => h.drop i = j).fold max (init (Shape.Idx.first hu)) x := hy
  have h1 : y < ⊤ := by
    rw [hy', Finset.fold_max_lt]
    exact ⟨by rw [hi]; exact bot_lt_top, fun i _ => lt_top_iff_ne_top.mpr (ht i)⟩
  have h2 : ⊥ < y := by
    rw [hy', Finset.lt_fold_max]
    exact Or.inr ⟨i0, Finset.mem_filter.mpr ⟨Finset.mem_univ _, h0⟩, bot_lt_iff_ne_bot.mpr hb⟩
  exact ⟨y.toReal, (EReal.coe_toReal h1.ne h2.ne').symm⟩

end Cert.Fox
-- ==== Proof.Fox.HostValues.lean ====
/- The kernel's operands at an index: each stage of the forward pass, each free lane, and the two layouts. -/
module

public import proofs.«01_k».proof.Proof.Fox.HostStages
public import proofs.«01_k».proof.Proof.Fox.Arrays
public import proofs.«01_k».proof.Proof.Fox.Consts
public import Idealize.ShloMosaic.Lib.WordCmp

@[expose] public section

set_option maxRecDepth 16384

noncomputable section

namespace Cert.KernelIdeal.Fox

open Idealize.ShloMosaic Idealize.ShloMosaic.TcCoe
open Cert.KernelIdeal Cert.KernelIdeal.Gen Cert.Fox

variable (h : Fin 8) (r c : Pos) (a : Lane)

theorem mask_at : kMask (ix3 h r c) = if c.val ≤ r.val then 1#1 else 0#1 := by
  pointwise [kMask]
  have hr := r.isLt
  have hc := c.isLt
  generalize r.val = r' at hr ⊢
  generalize c.val = c' at hc ⊢
  split_ifs with hh
  · word_cmp
  · word_cmp

theorem L_at (q k : Vecs) (cum : Rows) : kL q k cum (ix3 h r c)
    = if c.val ≤ r.val then (∑ x, q (ix3 h r x) * k (ix3 h c x)) * Ideal.ofBits .f32 0x3DB504F3#32 + cum (ix2 h r) - cum (ix2 h c) else ⊥ := by
  pointwise [kL]
  rw [mask_at]
  split_ifs with hh
  · rfl
  · exact none_eq

theorem E_at (L : Pairs) (t : Rows) : kE L t (ix3 h r c) = Ideal.exp (L (ix3 h r c) - t (ix2 h r)) := by
  pointwise [kE]

theorem sum_at (e : Pairs) : kSum e (ix2 h r) = ∑ x, e (ix3 h r x) := by
  pointwise [kSum]

theorem O_at (e : Pairs) (l : Rows) (v : Vecs) : kO e l v (ix3 h r a)
    = ∑ x, Ideal.div (e (ix3 h r x)) (l (ix2 h r)) * v (ix3 h x a) := by
  pointwise [kO]

theorem lse_at (t l : Rows) : kLse t l (ix2 h r) = (t (ix2 h r) + Ideal.log (l (ix2 h r))) * kInv ix0 := by
  pointwise [kLse]

theorem delta_at (g o : Vecs) : kDelta g o (ix2 h r) = ∑ x, g (ix3 h r x) * o (ix3 h r x) := by
  pointwise [kDelta]

theorem c2_at (cum : Rows) : kC2 cum (ix2 h r) = cum (ix2 h r) * kInv ix0 := by
  pointwise [kC2]

theorem hi_at (x : Rows) : hi x (ix2 h r) = x (ix2 h r) := by
  pointwise [hi]

theorem lo_at (x : Rows) : lo x (ix2 h r) = x (ix2 h r) - x (ix2 h r) := by
  pointwise [lo, hi]

theorem drop_at : reducesTo_S8x8192x8192_S8x8192_d2.drop (ix3 h r c) = ix2 h r := by
  funext b
  apply Fin.ext
  match b with
  | ⟨0, _⟩ => exact reducesTo_S8x8192x8192_S8x8192_d2.drop_apply_val_of_eq (ix3 h r c) 0 0
  | ⟨1, _⟩ => exact reducesTo_S8x8192x8192_S8x8192_d2.drop_apply_val_of_eq (ix3 h r c) 1 1

/-- One in lanes three to five. -/
theorem ones36 : ones 3#32 6#32 (ix3 h r a) = if 3 ≤ a.val ∧ a.val < 6 then 1 else 0 := by
  pointwise [ones]
  have ha := a.isLt
  generalize a.val = b at ha ⊢
  by_cases h1 : 3 ≤ b
  · have e1 : IntOp.cmpi CmpIPredicate.sge (BitVec.ofNat 32 b) 3#32 = 1#1 := by word_cmp
    by_cases h2 : b < 6
    · have e2 : IntOp.cmpi CmpIPredicate.slt (BitVec.ofNat 32 b) 6#32 = 1#1 := by word_cmp
      rw [e1, e2, if_pos ⟨h1, h2⟩]; rfl
    · have e2 : IntOp.cmpi CmpIPredicate.slt (BitVec.ofNat 32 b) 6#32 = 0#1 := by word_cmp
      rw [e1, e2, if_neg fun hh => h2 hh.2]; rfl
  · have e1 : IntOp.cmpi CmpIPredicate.sge (BitVec.ofNat 32 b) 3#32 = 0#1 := by word_cmp
    have e2 : IntOp.cmpi CmpIPredicate.slt (BitVec.ofNat 32 b) 6#32 = 1#1 := by word_cmp
    rw [e1, e2, if_neg fun hh => h1 hh.1]; rfl

/-- One in the first three lanes. -/
theorem ones03 : ones 0#32 3#32 (ix3 h r a) = if a.val < 3 then 1 else 0 := by
  pointwise [ones]
  have ha := a.isLt
  generalize a.val = b at ha ⊢
  have e1 : IntOp.cmpi CmpIPredicate.sge (BitVec.ofNat 32 b) 0#32 = 1#1 := by word_cmp
  by_cases h2 : b < 3
  · have e2 : IntOp.cmpi CmpIPredicate.slt (BitVec.ofNat 32 b) 3#32 = 1#1 := by word_cmp
    rw [e1, e2, if_pos h2]; rfl
  · have e2 : IntOp.cmpi CmpIPredicate.slt (BitVec.ofNat 32 b) 3#32 = 0#1 := by word_cmp
    rw [e1, e2, if_neg h2]; rfl

theorem put_at (n : ℕ) (hn : n < 128) (x : Rows) (y : Vecs) : put (BitVec.ofNat 32 n) x y (ix3 h r a)
    = if a.val = n then x (ix2 h r) else y (ix3 h r a) := by
  pointwise [put]
  have ha := a.isLt
  split_ifs with hh
  · have e : IntOp.cmpi CmpIPredicate.eq (BitVec.ofNat 32 a.val) (BitVec.ofNat 32 n) = 1#1 := by
      generalize a.val = b at ha hh ⊢
      word_cmp
    rw [e]; rfl
  · have e : IntOp.cmpi CmpIPredicate.eq (BitVec.ofNat 32 a.val) (BitVec.ofNat 32 n) = 0#1 := by
      generalize a.val = b at ha hh ⊢
      word_cmp
    rw [e]; rfl

/-- The left half of a pair of lanes. -/
abbrev left (a : Lane) : Fin 256 := ⟨a.val, by have := a.isLt; omega⟩
/-- The right half of a pair of lanes. -/
abbrev right (a : Lane) : Fin 256 := ⟨128 + a.val, by have := a.isLt; omega⟩

theorem beside_left (x y : Vecs) : beside x y (ix3 h r (left a)) = x (ix3 h r a) := by
  pointwise []

theorem beside_right (x y : Vecs) : beside x y (ix3 h r (right a)) = y (ix3 h r a) := by
  pointwise []

theorem flat_at (x : FVec Ideal S8x8192x256 .f32) (b : Fin 256) : flat x (ix2 r (col h b)) = x (ix3 h r b) := by
  pointwise [flat]
  refine congrArg x ?_
  congr 1 <;> (apply Fin.ext; simp only [col]; omega)

theorem turned_at (x : FVec Ideal S8x8192x256 .f32) (b : Fin 256) : turned x (ix2 (col h b) r) = x (ix3 h r b) := by
  pointwise [turned]
  refine congrArg x ?_
  congr 1 <;> (apply Fin.ext; simp only [col]; omega)

theorem turned'_at (x : Vecs) : turned' x (ix2 (vcol h a) r) = x (ix3 h r a) := by
  pointwise [turned']
  refine congrArg x ?_
  congr 1 <;> (apply Fin.ext; simp only [vcol]; omega)

/-- A sum over a pair of lanes is the sum over its halves. -/
theorem sum_halves {M : Type} [AddCommMonoid M] (f : Fin 256 → M) : ∑ b, f b = ∑ a, f (left a) + ∑ a, f (right a) :=
  Fin.sum_univ_add (a := 128) (b := 128) f

theorem augQ_left (q : Vecs) (w : Rows) : augQ q w (ix3 h r (left a)) = q (ix3 h r a) * kFac ix0 := by
  rw [augQ, beside_left]
  pointwise []

theorem augG_left (g : Vecs) (w : Rows) : augG g w (ix3 h r (left a)) = g (ix3 h r a) := by
  rw [augG, beside_left]

theorem augK_left (k : Vecs) (w : Rows) : augK k w (ix3 h r (left a)) = k (ix3 h r a) := by
  rw [augK, beside_left]

theorem augV_left (v : Vecs) : augV v (ix3 h r (left a)) = v (ix3 h r a) := by
  rw [augV, beside_left]

theorem augQ_right (q : Vecs) (w : Rows) : augQ q w (ix3 h r (right a))
    = if a.val = 2 then (w (ix2 h r) - w (ix2 h r)) - (w (ix2 h r) - w (ix2 h r))
      else if a.val = 1 then w (ix2 h r) - w (ix2 h r)
      else if a.val = 0 then w (ix2 h r)
      else if 3 ≤ a.val ∧ a.val < 6 then 1 else 0 := by
  rw [augQ, beside_right, put_at h r a 2 (by omega), put_at h r a 1 (by omega), put_at h r a 0 (by omega), ones36,
    hi_at, lo_at, lo_at, hi_at, lo_at, hi_at]

theorem augG_right (g : Vecs) (w : Rows) : augG g w (ix3 h r (right a))
    = if a.val = 2 then (w (ix2 h r) - w (ix2 h r)) - (w (ix2 h r) - w (ix2 h r))
      else if a.val = 1 then w (ix2 h r) - w (ix2 h r)
      else if a.val = 0 then w (ix2 h r) else 0 := by
  rw [augG, beside_right, put_at h r a 2 (by omega), put_at h r a 1 (by omega), put_at h r a 0 (by omega),
    hi_at, lo_at, lo_at, hi_at, lo_at, hi_at]
  pointwise []

theorem neg_at (x : Rows) : Host.negf x (ix2 h r) = -x (ix2 h r) := by
  pointwise []

theorem augK_right (k : Vecs) (w : Rows) : augK k w (ix3 h r (right a))
    = if a.val = 5 then -((w (ix2 h r) - w (ix2 h r)) - (w (ix2 h r) - w (ix2 h r)))
      else if a.val = 4 then -(w (ix2 h r) - w (ix2 h r))
      else if a.val = 3 then -w (ix2 h r)
      else if a.val < 3 then 1 else 0 := by
  rw [augK, beside_right, put_at h r a 5 (by omega), put_at h r a 4 (by omega), put_at h r a 3 (by omega), ones03,
    neg_at, neg_at, neg_at, hi_at, lo_at, lo_at, hi_at, lo_at, hi_at]

theorem augV_right (v : Vecs) : augV v (ix3 h r (right a)) = if a.val < 3 then 1 else 0 := by
  rw [augV, beside_right, ones03]

end Cert.KernelIdeal.Fox
-- ==== Proof.Fox.HostReal.lean ====
/- The kernel's operands and the launch's pairs at finite arguments: the weight of a query and a key, and the gradient of
   their score, are the real ones. -/
module

public import proofs.«01_k».proof.Proof.Fox.HostValues
public import proofs.«01_k».proof.Proof.Fox.Math

@[expose] public section

set_option maxRecDepth 16384

noncomputable section

namespace Cert.KernelIdeal.Fox

open Idealize.ShloMosaic Idealize.ShloMosaic.TcCoe
open Cert.KernelIdeal Cert.KernelIdeal.Gen Cert.Fox

/-- The inverse of the logarithm of two. -/
def inv : ℝ := 1 * (1 / ln2)

theorem ln2_real : kLn2 ix0 = (ln2 : EReal) := by
  have e : kLn2 ix0 = Ideal.log (Ideal.ofBits .f32 0x40000000#32) := by pointwise [kLn2]
  rw [e, two_eq, Ideal.log_coe, if_neg (by norm_num), ln2]

theorem div_real (x y : ℝ) (hy : y ≠ 0) : Ideal.div (x : EReal) (y : EReal) = ((x * (1 / y) : ℝ) : EReal) := by
  rw [Ideal.div_coe hy, ← EReal.coe_mul]

theorem inv_real : kInv ix0 = (inv : EReal) := by
  have e : kInv ix0 = Ideal.div 1 (kLn2 ix0) := by pointwise [kInv]
  rw [e, ln2_real, ← EReal.coe_one, div_real _ _ ln2_pos.ne', inv]

theorem fac_real : kFac ix0 = ((inv * scale : ℝ) : EReal) := by
  have e : kFac ix0 = kInv ix0 * Ideal.ofBits .f32 0x3DB504F3#32 := by pointwise [kFac]
  rw [e, inv_real, scale_eq, EReal.coe_mul]

variable {q k v g : Vecs} {cum : Rows} {Q K V G : Fin 8 → Pos → Lane → ℝ} {C : Fin 8 → Pos → ℝ}

theorem L_real (hq : ∀ h r a, q (ix3 h r a) = (Q h r a : EReal)) (hk : ∀ h r a, k (ix3 h r a) = (K h r a : EReal))
    (hc : ∀ h r, cum (ix2 h r) = (C h r : EReal)) (h : Fin 8) (r c : Pos) :
    kL q k cum (ix3 h r c) = if c.val ≤ r.val then ((score (Q h) (K h) (C h) scale r c : ℝ) : EReal) else ⊥ := by
  rw [L_at]
  split_ifs with hh
  · rw [scale_eq, hc, hc, sum_coe (g := fun a => Q h r a * K h c a) fun a => by rw [hq, hk, EReal.coe_mul],
      ← EReal.coe_mul, ← EReal.coe_add, ← EReal.coe_sub]
    rfl
  · rfl

theorem top_real' (hq : ∀ h r a, q (ix3 h r a) = (Q h r a : EReal)) (hk : ∀ h r a, k (ix3 h r a) = (K h r a : EReal))
    (hc : ∀ h r, cum (ix2 h r) = (C h r : EReal)) :
    ∃ T : Fin 8 → Pos → ℝ, ∀ h r, kTop (kL q k cum) (ix2 h r) = (T h r : EReal) := by
  have key : ∀ (h : Fin 8) (r : Pos), ∃ T : ℝ, kTop (kL q k cum) (ix2 h r) = (T : EReal) := fun h r => by
    rw [kTop]
    exact top_real (kL q k cum) cNone reducesTo_S8x8192x8192_S8x8192_d2 h_S_ (ix2 h r) (ix3 h r r) (drop_at h r r)
      (by rw [L_real hq hk hc, if_pos le_rfl]; exact EReal.coe_ne_bot _)
      (fun i => by
        obtain ⟨x, y, z, rfl⟩ : ∃ (x : Fin 8) (y z : Pos), i = ix3 x y z := ⟨i 0, i 1, i 2, eq_ix3 i⟩
        rw [L_real hq hk hc]
        split_ifs
        · exact EReal.coe_ne_top _
        · exact bot_ne_top)
      (fun i => none_eq)
  choose T hT using key
  exact ⟨T, hT⟩

section WithTop

variable {T : Fin 8 → Pos → ℝ} {L : Pairs} {t : Rows}

theorem E_real (hL : ∀ h r c, L (ix3 h r c) = if c.val ≤ r.val then ((score (Q h) (K h) (C h) scale r c : ℝ) : EReal) else ⊥)
    (ht : ∀ h r, t (ix2 h r) = (T h r : EReal)) (h : Fin 8) (r c : Pos) :
    kE L t (ix3 h r c) = ((ex (Q h) (K h) (C h) scale (T h) r c : ℝ) : EReal) := by
  rw [E_at, hL, ht, ex]
  split_ifs with hh
  · rw [← EReal.coe_sub, Ideal.exp_coe]
  · rw [sub_eq_add_neg, EReal.bot_add, Ideal.exp_bot, EReal.coe_zero]

variable {e : Pairs} {l o : Rows}

theorem sum_real (he : ∀ h r c, e (ix3 h r c) = ((ex (Q h) (K h) (C h) scale (T h) r c : ℝ) : EReal)) (h : Fin 8) (r : Pos) :
    kSum e (ix2 h r) = ((sm (Q h) (K h) (C h) scale (T h) r : ℝ) : EReal) := by
  rw [sum_at, sm]
  exact sum_coe fun c => he h r c

theorem O_real (he : ∀ h r c, e (ix3 h r c) = ((ex (Q h) (K h) (C h) scale (T h) r c : ℝ) : EReal))
    (hl : ∀ h r, l (ix2 h r) = ((sm (Q h) (K h) (C h) scale (T h) r : ℝ) : EReal))
    (hv : ∀ h r a, v (ix3 h r a) = (V h r a : EReal)) (h : Fin 8) (r : Pos) (a : Lane) :
    kO e l v (ix3 h r a) = ((∑ c, wt (Q h) (K h) (C h) scale r c * V h c a : ℝ) : EReal) := by
  rw [O_at]
  exact sum_coe fun x => by
    rw [he, hl, hv, div_real _ _ (sm_ne _ _ _ _ _ _), mul_one_div, ex_div_sm, EReal.coe_mul]

theorem lse_real (ht : ∀ h r, t (ix2 h r) = (T h r : EReal))
    (hl : ∀ h r, l (ix2 h r) = ((sm (Q h) (K h) (C h) scale (T h) r : ℝ) : EReal)) (h : Fin 8) (r : Pos) :
    kLse t l (ix2 h r) = (((T h r + Real.log (sm (Q h) (K h) (C h) scale (T h) r)) * inv : ℝ) : EReal) := by
  rw [lse_at, ht, hl, inv_real, Ideal.log_coe, if_neg (not_le.mpr (sm_pos _ _ _ _ _ _)), ← EReal.coe_add, ← EReal.coe_mul]

theorem c2_real (hc : ∀ h r, cum (ix2 h r) = (C h r : EReal)) (h : Fin 8) (r : Pos) :
    kC2 cum (ix2 h r) = ((C h r * inv : ℝ) : EReal) := by
  rw [c2_at, hc, inv_real, ← EReal.coe_mul]

theorem D_real {w : Vecs} (hg : ∀ h r a, g (ix3 h r a) = (G h r a : EReal))
    (hw : ∀ h r a, w (ix3 h r a) = ((∑ c, wt (Q h) (K h) (C h) scale r c * V h c a : ℝ) : EReal)) (h : Fin 8) (r : Pos) :
    Host.negf (kDelta g w) (ix2 h r) = ((-dl (Q h) (K h) (V h) (G h) (C h) scale r : ℝ) : EReal) := by
  rw [neg_at, delta_at, EReal.coe_neg, ← delta_of]
  congr 1
  exact sum_coe fun x => by rw [hg, hw, EReal.coe_mul]

end WithTop

/-- The free lanes of a query. -/
def laneQ (w : ℝ) (a : Lane) : ℝ := if a.val = 0 then w else if 3 ≤ a.val ∧ a.val < 6 then 1 else 0
/-- The free lanes of a key. -/
def laneK (w : ℝ) (a : Lane) : ℝ := if a.val = 3 then -w else if a.val < 3 then 1 else 0
/-- The free lanes of an output gradient. -/
def laneG (w : ℝ) (a : Lane) : ℝ := if a.val = 0 then w else 0
/-- The free lanes of a value. -/
def laneV (a : Lane) : ℝ := if a.val < 3 then 1 else 0

theorem laneQK (w x : ℝ) : ∑ a, laneQ w a * laneK x a = w + -x := by
  have e : ∀ a : Lane, laneQ w a * laneK x a = (if a = 0 then w else 0) + (if a = 3 then -x else 0) := fun a => by
    have e0 : a = 0 ↔ a.val = 0 := Fin.ext_iff
    have e3 : a = 3 ↔ a.val = 3 := Fin.ext_iff
    simp only [laneQ, laneK, e0, e3]
    split_ifs <;> first | omega | simp
  rw [Finset.sum_congr rfl fun a _ => e a, Finset.sum_add_distrib, Finset.sum_ite_eq', Finset.sum_ite_eq',
    if_pos (Finset.mem_univ _), if_pos (Finset.mem_univ _)]

theorem laneGV (w : ℝ) : ∑ a, laneG w a * laneV a = w := by
  have e : ∀ a : Lane, laneG w a * laneV a = if a = 0 then w else 0 := fun a => by
    have e0 : a = 0 ↔ a.val = 0 := Fin.ext_iff
    simp only [laneG, laneV, e0]
    split_ifs <;> first | omega | simp
  rw [Finset.sum_congr rfl fun a _ => e a, Finset.sum_ite_eq', if_pos (Finset.mem_univ _)]

variable {w : Rows} {X : Fin 8 → Pos → ℝ}

/-- A number less itself. -/
theorem sub_self_coe (x : ℝ) : (x : EReal) - (x : EReal) = 0 := by
  rw [← EReal.coe_sub, sub_self, EReal.coe_zero]

theorem zero_sub_zero' : (0 : EReal) - 0 = 0 := by rw [sub_zero]

theorem Q_right (hw : ∀ h r, w (ix2 h r) = (X h r : EReal)) (h : Fin 8) (r : Pos) (a : Lane) :
    augQ q w (ix3 h r (right a)) = ((laneQ (X h r) a : ℝ) : EReal) := by
  rw [augQ_right, hw, sub_self_coe, zero_sub_zero', laneQ]
  split_ifs <;> first | omega | simp

theorem K_right (hw : ∀ h r, w (ix2 h r) = (X h r : EReal)) (h : Fin 8) (r : Pos) (a : Lane) :
    augK k w (ix3 h r (right a)) = ((laneK (X h r) a : ℝ) : EReal) := by
  rw [augK_right, hw, sub_self_coe, zero_sub_zero', laneK]
  split_ifs <;> first | omega | simp

theorem G_right (hw : ∀ h r, w (ix2 h r) = (X h r : EReal)) (h : Fin 8) (r : Pos) (a : Lane) :
    augG g w (ix3 h r (right a)) = ((laneG (X h r) a : ℝ) : EReal) := by
  rw [augG_right, hw, sub_self_coe, zero_sub_zero', laneG]
  split_ifs <;> first | omega | simp

theorem V_right (h : Fin 8) (r : Pos) (a : Lane) : augV v (ix3 h r (right a)) = ((laneV a : ℝ) : EReal) := by
  rw [augV_right, laneV]
  split_ifs <;> simp

/-- The arguments are the real numbers given. -/
structure Holds (m : (ℓ : Loc nD τ sig) → Buf (Elt Ideal) ℓ) (c : Dev nD) (Q K V G : Fin 8 → Pos → Lane → ℝ) (C : Fin 8 → Pos → ℝ) : Prop where
  hq : ∀ h r a, aq m c (ix3 h r a) = (Q h r a : EReal)
  hk : ∀ h r a, ak m c (ix3 h r a) = (K h r a : EReal)
  hv : ∀ h r a, av m c (ix3 h r a) = (V h r a : EReal)
  hg : ∀ h r a, ado m c (ix3 h r a) = (G h r a : EReal)
  hc : ∀ h r, ac m c (ix2 h r) = (C h r : EReal)

variable {m : (ℓ : Loc nD τ sig) → Buf (Elt Ideal) ℓ} {c : Dev nD} (H : Holds m c Q K V G C)

/-- What rides beside a query. -/
def besideQ (Q K : Fin 8 → Pos → Lane → ℝ) (C T : Fin 8 → Pos → ℝ) (h : Fin 8) (r : Pos) : ℝ :=
  C h r * inv - (T h r + Real.log (sm (Q h) (K h) (C h) scale (T h) r)) * inv

include H in
/-- What rides beside the queries and the output gradients. -/
theorem rows_real : ∃ T : Fin 8 → Pos → ℝ, (∀ h r, W m c (ix2 h r) = ((besideQ Q K C T h r : ℝ) : EReal))
    ∧ ∀ h r, D m c (ix2 h r) = ((-dl (Q h) (K h) (V h) (G h) (C h) scale r : ℝ) : EReal) := by
  obtain ⟨T, hT⟩ := top_real' H.hq H.hk H.hc
  have hE := E_real (L_real H.hq H.hk H.hc) hT
  have hS := sum_real hE
  refine ⟨T, fun h r => ?_, fun h r => D_real H.hg (O_real hE hS H.hv) h r⟩
  have e : W m c (ix2 h r) = kC2 (ac m c) (ix2 h r) - kLse (kTop (kL (aq m c) (ak m c) (ac m c))) (kSum (kE (kL (aq m c) (ak m c) (ac m c)) (kTop (kL (aq m c) (ak m c) (ac m c))))) (ix2 h r) := rfl
  rw [e, c2_real H.hc, lse_real hT hS, ← EReal.coe_sub]
  rfl

end Cert.KernelIdeal.Fox
-- ==== Proof.Fox.ArrayReal.lean ====
/- The launch's three arrays at finite arguments. -/
module

public import proofs.«01_k».proof.Proof.Fox.HostReal

@[expose] public section

set_option maxRecDepth 16384

noncomputable section

namespace Cert.KernelIdeal.Fox

open Idealize.ShloMosaic Idealize.ShloMosaic.TcCoe
open Cert.KernelIdeal Cert.KernelIdeal.Gen Cert.Fox

variable {Q K V G : Fin 8 → Pos → Lane → ℝ} {C : Fin 8 → Pos → ℝ}
variable {m : (ℓ : Loc nD τ sig) → Buf (Elt Ideal) ℓ} {c : Dev nD} (H : Holds m c Q K V G C)

variable (m c) in
/-- The augmented queries. -/
abbrev qf : S8192x2048.Idx → EReal := Gen.V m c main_v77
variable (m c) in
/-- The augmented keys. -/
abbrev kf : S8192x2048.Idx → EReal := Gen.V m c main_v136
variable (m c) in
/-- The augmented output gradients. -/
abbrev gf : S8192x2048.Idx → EReal := Gen.V m c main_v107
variable (m c) in
/-- The augmented values. -/
abbrev vf : S8192x2048.Idx → EReal := Gen.V m c main_v148

theorem q_at (h : Fin 8) (r : Pos) (b : Fin 256) :
    qf m c (ix2 r (col h b)) = augQ (aq m c) (W m c) (ix3 h r b) := by
  rw [qf, V_q, flat_at]

theorem k_at (h : Fin 8) (r : Pos) (b : Fin 256) :
    kf m c (ix2 r (col h b)) = augK (ak m c) (kC2 (ac m c)) (ix3 h r b) := by
  rw [kf, V_k, flat_at]

theorem g_at (h : Fin 8) (r : Pos) (b : Fin 256) :
    gf m c (ix2 r (col h b)) = augG (ado m c) (D m c) (ix3 h r b) := by
  rw [gf, V_g, flat_at]

theorem v_at (h : Fin 8) (r : Pos) (b : Fin 256) :
    vf m c (ix2 r (col h b)) = augV (av m c) (ix3 h r b) := by
  rw [vf, V_v, flat_at]

theorem qt_at (h : Fin 8) (r : Pos) (b : Fin 256) : qt m c (ix2 (col h b) r) = augQ (aq m c) (W m c) (ix3 h r b) := by
  rw [qt, V_qt, turned_at]

theorem gt_at (h : Fin 8) (r : Pos) (a : Lane) : gt m c (ix2 (vcol h a) r) = ado m c (ix3 h r a) := by
  rw [gt, V_gt, turned'_at]

include H in
/-- The pairs of the launch: the weights and the gradients of the scores. -/
theorem pairs_real : (∀ h r x, wP m c h r x = ((wt (Q h) (K h) (C h) scale r x : ℝ) : EReal))
    ∧ ∀ h r x, wD m c h r x = ((ds (Q h) (K h) (V h) (G h) (C h) scale r x : ℝ) : EReal) := by
  obtain ⟨T, hW, hD⟩ := rows_real H
  have hP : ∀ h r x, wP m c h r x = ((wt (Q h) (K h) (C h) scale r x : ℝ) : EReal) := fun h r x => by
    show (if x.val ≤ r.val then ex2 (∑ b : Fin 256, qf m c (ix2 r (col h b)) * kf m c (ix2 x (col h b))) else 0) = _
    split_ifs with hh
    · have e : ∀ b, qf m c (ix2 r (col h b)) * kf m c (ix2 x (col h b))
          = augQ (aq m c) (W m c) (ix3 h r b) * augK (ak m c) (kC2 (ac m c)) (ix3 h x b) := fun b => by rw [q_at, k_at]
      rw [Finset.sum_congr rfl fun b _ => e b, sum_halves,
        sum_coe (g := fun a => Q h r a * (inv * scale) * K h x a) fun a => by
          rw [augQ_left, augK_left, H.hq, H.hk, fac_real, EReal.coe_mul (Q h r a * (inv * scale)), EReal.coe_mul (Q h r a)],
        sum_coe (g := fun a => laneQ (besideQ Q K C T h r) a * laneK (C h x * inv) a) fun a => by
          rw [Q_right hW, K_right (c2_real H.hc), EReal.coe_mul],
        laneQK, ← EReal.coe_add]
      refine congrArg (fun y : ℝ => (y : EReal)) (two_pow (Q h) (K h) (C h) scale (T h) r x hh _ ?_)
      rw [besideQ, inv]
      ring
    · rw [wt_unseen _ _ _ _ hh, EReal.coe_zero]
  refine ⟨hP, fun h r x => ?_⟩
  show wP m c h r x * (∑ b : Fin 256, gf m c (ix2 r (col h b)) * vf m c (ix2 x (col h b))) = _
  have e : ∀ b, gf m c (ix2 r (col h b)) * vf m c (ix2 x (col h b))
      = augG (ado m c) (D m c) (ix3 h r b) * augV (av m c) (ix3 h x b) := fun b => by rw [g_at, v_at]
  rw [hP, Finset.sum_congr rfl fun b _ => e b, sum_halves,
    sum_coe (g := fun a => G h r a * V h x a) fun a => by
      rw [augG_left, augV_left, H.hg, H.hv, EReal.coe_mul],
    sum_coe (g := fun a => laneG (-dl (Q h) (K h) (V h) (G h) (C h) scale r) a * laneV a) fun a => by
      rw [G_right hD, V_right, EReal.coe_mul],
    laneGV, ← EReal.coe_add, ← EReal.coe_mul, ds, dp, sub_eq_add_neg]

include H in
theorem G6_left (h : Fin 8) (r : Pos) (a : Lane) : G6 m c (ix2 r (col h (left a)))
    = ((∑ x, ds (Q h) (K h) (V h) (G h) (C h) scale r x * K h x a : ℝ) : EReal) := by
  show ∑ x : Fin 8192, wD m c (hOf (col h (left a))) r x * kf m c (ix2 x (col h (left a))) = _
  rw [hOf_col]
  exact sum_coe fun x => by rw [(pairs_real H).2, k_at, augK_left, H.hk, EReal.coe_mul]

include H in
theorem G6_gate (h : Fin 8) (r : Pos) : G6 m c (ix2 r (col h (right 0)))
    = ((∑ x, ds (Q h) (K h) (V h) (G h) (C h) scale r x : ℝ) : EReal) := by
  show ∑ x : Fin 8192, wD m c (hOf (col h (right 0))) r x * kf m c (ix2 x (col h (right 0))) = _
  rw [hOf_col]
  exact sum_coe fun x => by
    rw [(pairs_real H).2, k_at, K_right (c2_real H.hc), ← EReal.coe_mul]
    congr 1
    simp [laneK]

include H in
theorem G7_left (h : Fin 8) (x : Pos) (a : Lane) : G7 m c (ix2 x (col h (left a)))
    = ((∑ r, Q h r a * (inv * scale) * ds (Q h) (K h) (V h) (G h) (C h) scale r x : ℝ) : EReal) := by
  show ∑ r : Fin 8192, qt m c (ix2 (col h (left a)) r) * wD m c (hOf (col h (left a))) r x = _
  rw [hOf_col]
  exact sum_coe fun r => by rw [(pairs_real H).2, qt_at, augQ_left, H.hq, fac_real, EReal.coe_mul (Q h r a * (inv * scale)), EReal.coe_mul (Q h r a)]

include H in
theorem G7_gate (h : Fin 8) (x : Pos) : G7 m c (ix2 x (col h (right 3)))
    = ((∑ r, ds (Q h) (K h) (V h) (G h) (C h) scale r x : ℝ) : EReal) := by
  obtain ⟨T, hW, hD⟩ := rows_real H
  show ∑ r : Fin 8192, qt m c (ix2 (col h (right 3)) r) * wD m c (hOf (col h (right 3))) r x = _
  rw [hOf_col]
  exact sum_coe fun r => by
    rw [(pairs_real H).2, qt_at, Q_right hW, ← EReal.coe_mul]
    congr 1
    simp [laneQ]

include H in
theorem G8_real (h : Fin 8) (x : Pos) (a : Lane) : G8 m c (ix2 x (vcol h a))
    = ((gv (Q h) (K h) (G h) (C h) scale x a : ℝ) : EReal) := by
  show ∑ r : Fin 8192, gt m c (ix2 (vcol h a) r) * wP m c (hOfV (vcol h a)) r x = _
  rw [hOfV_vcol, gv]
  exact sum_coe fun r => by rw [(pairs_real H).1, gt_at, H.hg, EReal.coe_mul]

end Cert.KernelIdeal.Fox
-- ==== Proof.Fox.Suffix.lean ====
/- What the lines after the launch make of its three arrays. -/
module

public import proofs.«01_k».proof.Proof.Fox.HostValues

@[expose] public section

set_option maxRecDepth 16384

noncomputable section

namespace Cert.KernelIdeal.Fox

open Idealize.ShloMosaic Idealize.ShloMosaic.TcCoe Idealize.ShloMosaic.Tactic
open Cert.KernelIdeal Cert.KernelIdeal.Gen Cert.Fox

/-- The lanes of a head, apart. -/
def apart (x : FVec Ideal S8192x2048 .f32) : FVec Ideal S8x8192x256 .f32 :=
  transpose S8x8192x256 [1, 0, 2] (shapeCast S8192x8x256 x shapeCasts_S8192x2048_S8192x8x256) transposes_S8192x8x256_S8x8192x256_1_0_2
/-- The value lanes of a head, apart. -/
def apart' (x : FVec Ideal S8192x1024 .bf16) : FVec Ideal S8x8192x128 .bf16 :=
  transpose S8x8192x128 [1, 0, 2] (shapeCast S8192x8x128 x shapeCasts_S8192x1024_S8192x8x128) transposes_S8192x8x128_S8x8192x128_1_0_2
/-- The vectors, times a number. -/
def times (x : FVec Ideal S8x8192x256 .f32) (y : One) : Vecs :=
  mulf (extractStridedSlice S8x8192x128 ![0, 0, 0] x slices_S8x8192x256_S8x8192x128_0_0_0) (broadcastInDim S8x8192x128 ![] bcast_S_S8x8192x128 y)
/-- The gradient of the gates. -/
def gates (x y : FVec Ideal S8x8192x256 .f32) : Rows :=
  subf (shapeCast S8x8192 (extractStridedSlice S8x8192x1 ![0, 0, 128] x slices_S8x8192x256_S8x8192x1_0_0_128) shapeCasts_S8x8192x1_S8x8192)
    (shapeCast S8x8192 (extractStridedSlice S8x8192x1 ![0, 0, 131] y slices_S8x8192x256_S8x8192x1_0_0_131) shapeCasts_S8x8192x1_S8x8192)

variable (X : Valuation τ sig (Elt Ideal))

theorem tail_q : StableHlo.after (List.flatten [hostOps1]) X (Proc.devRef .tc main_v158) = times (apart (X (Proc.devRef .tc main_v149_0))) cScale := by
  after_reads_simp
  rfl

theorem tail_k : StableHlo.after (List.flatten [hostOps1]) X (Proc.devRef .tc main_v161)
    = times (apart (X (Proc.devRef .tc main_v149_1))) (X (Proc.devRef .tc main_v0)) := by
  after_reads_simp
  rfl

theorem tail_v : StableHlo.after (List.flatten [hostOps1]) X (Proc.devRef .tc main_v167)
    = extf .f32 (apart' (X (Proc.devRef .tc main_v149_2))) bitsLt_bf16_f32 := by
  after_reads_simp
  rfl

theorem tail_c : StableHlo.after (List.flatten [hostOps1]) X (Proc.devRef .tc main_v166)
    = gates (apart (X (Proc.devRef .tc main_v149_0))) (apart (X (Proc.devRef .tc main_v149_1))) := by
  after_reads_simp
  rfl

variable (h : Fin 8) (r : Pos) (a : Lane)

theorem apart_at (x : FVec Ideal S8192x2048 .f32) (b : Fin 256) : apart x (ix3 h r b) = x (ix2 r (col h b)) := by
  pointwise [apart]
  refine congrArg x ?_
  congr 1
  apply Fin.ext
  simp only [col]
  omega

theorem apart'_at (x : FVec Ideal S8192x1024 .bf16) : extf .f32 (apart' x) bitsLt_bf16_f32 (ix3 h r a) = x (ix2 r (vcol h a)) := by
  pointwise [apart']
  refine congrArg x ?_
  congr 1
  apply Fin.ext
  simp only [vcol]
  omega

theorem times_at (x : FVec Ideal S8x8192x256 .f32) (y : One) : times x y (ix3 h r a) = x (ix3 h r (left a)) * y ix0 := by
  pointwise [times]

theorem gates_at (x y : FVec Ideal S8x8192x256 .f32) : gates x y (ix2 h r) = x (ix3 h r (right 0)) - y (ix3 h r (right 3)) := by
  pointwise [gates]
  rfl

end Cert.KernelIdeal.Fox
-- ==== Proof.Fox.KernelReal.lean ====
/- The kernel's four results as real gradients. -/
module

public import proofs.«01_k».proof.Proof.Fox.ArrayReal
public import proofs.«01_k».proof.Proof.Fox.Suffix

@[expose] public section

set_option maxRecDepth 16384

noncomputable section

namespace Cert.KernelIdeal.Fox

open Idealize.ShloMosaic Idealize.ShloMosaic.TcCoe Idealize.SL.Sem
open Cert.KernelIdeal Cert.KernelIdeal.Gen Cert.Fox

variable (m : (ℓ : Loc nD τ sig) → Buf (Elt Ideal) ℓ) (c : Dev nD)

/-- The core's buffers after the launch. -/
def left_by : Valuation τ sig (Elt Ideal) :=
  Pipeline.withArrays spec0 c (V0 m c) fun w => (dats m 0 c).arrAt w cfg0.N

theorem arrays_apart : Function.Injective (Pipeline.arrRef spec0) := by decide +kernel

theorem left_6 : left_by m c (Proc.devRef .tc main_v149_0) = G6 m c :=
  (Pipeline.withArrays_arr spec0 arrays_apart c (V0 m c) (fun w => (dats m 0 c).arrAt w cfg0.N) 6).trans (arr_6 m c)
theorem left_7 : left_by m c (Proc.devRef .tc main_v149_1) = G7 m c :=
  (Pipeline.withArrays_arr spec0 arrays_apart c (V0 m c) (fun w => (dats m 0 c).arrAt w cfg0.N) 7).trans (arr_7 m c)
theorem left_8 : left_by m c (Proc.devRef .tc main_v149_2) = G8 m c :=
  (Pipeline.withArrays_arr spec0 arrays_apart c (V0 m c) (fun w => (dats m 0 c).arrAt w cfg0.N) 8).trans (arr_8 m c)
theorem left_ln2 : left_by m c (Proc.devRef .tc main_v0) = kLn2 :=
  (Pipeline.withArrays_of_ne spec0 c (V0 m c) _ main_v0 (by decide +kernel)).trans (V_ln2 m c)

/-- The four results. -/
def out_q : Vecs := times (apart (G6 m c)) cScale
def out_k : Vecs := times (apart (G7 m c)) kLn2
def out_v : Vecs := extf .f32 (apart' (G8 m c)) bitsLt_bf16_f32
def out_c : Rows := gates (apart (G6 m c)) (apart (G7 m c))

theorem tail_out_q : StableHlo.after (List.flatten [hostOps1]) (left_by m c) (Proc.devRef .tc main_v158) = out_q m c := by
  rw [tail_q, left_6]; rfl
theorem tail_out_k : StableHlo.after (List.flatten [hostOps1]) (left_by m c) (Proc.devRef .tc main_v161) = out_k m c := by
  rw [tail_k, left_7, left_ln2]; rfl
theorem tail_out_v : StableHlo.after (List.flatten [hostOps1]) (left_by m c) (Proc.devRef .tc main_v167) = out_v m c := by
  rw [tail_v, left_8]; rfl
theorem tail_out_c : StableHlo.after (List.flatten [hostOps1]) (left_by m c) (Proc.devRef .tc main_v166) = out_c m c := by
  rw [tail_c, left_6, left_7]; rfl

/-- What a run of the kernel leaves: its four results, its arguments, and no semaphore raised. -/
theorem run_outs (ρ : Dev nD → PrngReg) : θ_run defs (onTc (τ := τ) (main (F := Ideal))) ⟨m, fun _ => 0, ρ⟩ (fun r => ∀ c : Dev nD,
      r.2.mem ((c.tc : Thread nD τ).loc main_v158) = out_q m c
      ∧ r.2.mem ((c.tc : Thread nD τ).loc main_v161) = out_k m c
      ∧ r.2.mem ((c.tc : Thread nD τ).loc main_v167) = out_v m c
      ∧ r.2.mem ((c.tc : Thread nD τ).loc main_v166) = out_c m c) := by
  refine (θ_run defs _ _).mono (fun r h c => ?_) (run_both m ρ)
  have f := h.1
  exact ⟨(f.rest_eq c main_v158 (by decide +kernel)).trans (tail_out_q m c),
    (f.rest_eq c main_v161 (by decide +kernel)).trans (tail_out_k m c),
    (f.rest_eq c main_v167 (by decide +kernel)).trans (tail_out_v m c),
    (f.rest_eq c main_v166 (by decide +kernel)).trans (tail_out_c m c)⟩

theorem scale_at : cScale ix0 = ((scale : ℝ) : EReal) := by
  have e : cScale ix0 = Ideal.ofBits .f32 0x3DB504F3#32 := by pointwise [cScale]
  rw [e, scale_eq]

variable {m c} {Q K V' G : Fin 8 → Pos → Lane → ℝ} {C : Fin 8 → Pos → ℝ} (H : Holds m c Q K V' G C)
include H

/-- The gradient of the queries. -/
theorem out_q_real (h : Fin 8) (r : Pos) (a : Lane) : out_q m c (ix3 h r a) = ((gq (Q h) (K h) (V' h) (G h) (C h) scale r a : ℝ) : EReal) := by
  rw [out_q, times_at, apart_at, G6_left H, scale_at, ← EReal.coe_mul, gq, Finset.sum_mul]
  refine congrArg _ (Finset.sum_congr rfl fun x _ => ?_)
  ring

/-- The gradient of the keys. -/
theorem out_k_real (h : Fin 8) (r : Pos) (a : Lane) : out_k m c (ix3 h r a) = ((gk (Q h) (K h) (V' h) (G h) (C h) scale r a : ℝ) : EReal) := by
  rw [out_k, times_at, apart_at, G7_left H, ln2_real, ← EReal.coe_mul, gk, Finset.sum_mul]
  refine congrArg _ (Finset.sum_congr rfl fun x _ => ?_)
  have e : inv * ln2 = 1 := by rw [inv, one_mul, one_div, inv_mul_cancel₀ ln2_pos.ne']
  calc _ = ds (Q h) (K h) (V' h) (G h) (C h) scale x r * scale * Q h x a * (inv * ln2) := by ring
    _ = _ := by rw [e, mul_one]

/-- The gradient of the values. -/
theorem out_v_real (h : Fin 8) (r : Pos) (a : Lane) : out_v m c (ix3 h r a) = ((gv (Q h) (K h) (G h) (C h) scale r a : ℝ) : EReal) := by
  rw [out_v, apart'_at, G8_real H]

/-- The gradient of the cumulative log gates. -/
theorem out_c_real (h : Fin 8) (r : Pos) : out_c m c (ix2 h r) = ((gc (Q h) (K h) (V' h) (G h) (C h) scale r : ℝ) : EReal) := by
  rw [out_c, gates_at, apart_at, apart_at, G6_gate H, G7_gate H, ← EReal.coe_sub, gc, Finset.sum_neg_distrib]
  refine congrArg _ ?_
  ring

end Cert.KernelIdeal.Fox
-- ==== Proof.Fox.RefStages.lean ====
/- The reference's results as a chain of named arrays: the masked scores, their row maxima, the exponentials and their row
   sums, the attention weights, and the gradients. -/
module

public import proofs.«01_k».proof.Proof.Gen.ReferenceIdeal.Run
public import Idealize.ShloMosaic.Lib.Pointwise

@[expose] public section

set_option maxRecDepth 16384

noncomputable section

namespace Cert.ReferenceIdeal.Fox

open Idealize.ShloMosaic Idealize.ShloMosaic.TcCoe
open Cert.ReferenceIdeal Cert.ReferenceIdeal.Gen Cert.ReferenceIdeal.Value

/-- A head's vectors, one per position. -/
abbrev Vecs : Type := FVec Ideal S8x8192x128 .f32
/-- A head's numbers, one per position. -/
abbrev Rows : Type := FVec Ideal S8x8192 .f32
/-- A head's numbers, one per pair of positions. -/
abbrev Pairs : Type := FVec Ideal S8x8192x8192 .f32

/-- The scale of the scores. -/
abbrev cScale : FVec Ideal S_ .f32 := constant S_ .f32 0x3DB504F3#32
/-- The score of a pair that is not seen. -/
abbrev cNone : FVec Ideal S_ .f32 := constant S_ .f32 0xFF800000#32
/-- Zero, where the sums begin. -/
abbrev cZero : FVec Ideal S_ .f32 := constant S_ .f32 0x00000000#32
/-- One. -/
abbrev cOne : FVec Ideal S_ .f32 := constant S_ .f32 0x3F800000#32

/-- Which pairs are seen: the column is not after the row. -/
def rMask : IVec S8x8192x8192 1 :=
  broadcastInDim S8x8192x8192 ![1, 2] bcast_S8192x8192_S8x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- One number per row, over the pairs. -/
abbrev overRows (x : FVec Ideal S8x8192x1 .f32) : Pairs := broadcastInDim S8x8192x8192 ![0, 1, 2] bcast_S8x8192x1_S8x8192x8192_0_1_2 x
/-- One number per row, with a last axis of one. -/
abbrev asCol (x : Rows) : FVec Ideal S8x8192x1 .f32 := broadcastInDim S8x8192x1 ![0, 1] bcast_S8x8192_S8x8192x1_0_1 x

/-- The masked scores. -/
def rL (q k : Vecs) (cum : Rows) : Pairs :=
  select rMask (subf (addf (mulf (Host.dotGeneral dot_S8x8192x128_S8x8192x128_S8x8192x8192_2_2_1_1_0_0 none q k) (broadcastInDim S8x8192x8192 ![] bcast_S_S8x8192x8192 cScale)) (overRows (asCol cum))) (broadcastInDim S8x8192x8192 ![0, 1, 2] bcast_S8x1x8192_S8x8192x8192_0_1_2 (broadcastInDim S8x1x8192 ![0, 2] bcast_S8x8192_S8x1x8192_0_2 cum))) (broadcastInDim S8x8192x8192 ![] bcast_S_S8x8192x8192 (id cNone))

/-- The row maxima. -/
def rTop (L : Pairs) : Rows := maximumf (broadcastInDim S8x8192 ![] bcast_S_S8x8192 cNone) (Host.reduce FloatOps.maximumf L cNone reducesTo_S8x8192x8192_S8x8192_d2 h_S_)

/-- The exponentials of the scores below the row maximum. -/
def rE (L : Pairs) (top : Rows) : Pairs := Host.exp (subf L (overRows (asCol top)))

/-- The sum of each row of pairs. -/
def rSum (e : Pairs) : Rows := Host.reduceAdd e cZero reducesTo_S8x8192x8192_S8x8192_d2 h_S_

/-- The attention weights. -/
def rP (e : Pairs) (l : Rows) : Pairs := Host.divf e (overRows (asCol l))

/-- The gradient of the values. -/
def rDv (dO : Vecs) (p : Pairs) : Vecs := transpose S8x8192x128 [0, 2, 1] (Host.dotGeneral dot_S8x8192x128_S8x8192x8192_S8x128x8192_1_1_2_2_0_0 none dO p) transposes_S8x128x8192_S8x8192x128_0_2_1

/-- The gradient of the weights. -/
def rDp (dO v : Vecs) : Pairs := Host.dotGeneral dot_S8x8192x128_S8x8192x128_S8x8192x8192_2_2_1_1_0_0 none dO v

/-- The gradient of each row sum, before its sign. -/
def rDl (dp e : Pairs) (l : Rows) : Rows := rSum (mulf (mulf dp (overRows (Host.divf (broadcastInDim S8x8192x1 ![] bcast_S_S8x8192x1 cOne) (mulf (asCol l) (asCol l))))) e)

/-- The gradient of each row sum. -/
def rDl' (dl : Rows) : Rows := Host.reduceAdd (Host.negf (shapeCast S8x8192x1 dl shapeCasts_S8x8192_S8x8192x1)) cZero reducesTo_S8x8192x1_S8x8192_d2 h_S_

/-- The gradient of the scores. -/
def rDs (dp e : Pairs) (l dl : Rows) : Pairs :=
  select rMask (mulf (addf (Host.divf dp (overRows (asCol l))) (broadcastInDim S8x8192x8192 ![0, 1] bcast_S8x8192_S8x8192x8192_0_1 dl)) e) (broadcastInDim S8x8192x8192 ![] bcast_S_S8x8192x8192 cZero)

/-- The gradient of the cumulative log gates. -/
def rDcum (ds : Pairs) : Rows :=
  addf (Host.reduceAdd (shapeCast S8x1x8192 (Host.reduceAdd (Host.negf ds) cZero reducesTo_S8x8192x8192_S8x8192_d1 h_S_) shapeCasts_S8x8192_S8x1x8192) cZero reducesTo_S8x1x8192_S8x8192_d1 h_S_)
    (Host.reduceAdd (shapeCast S8x8192x1 (Host.reduceAdd ds cZero reducesTo_S8x8192x8192_S8x8192_d2 h_S_) shapeCasts_S8x8192_S8x8192x1) cZero reducesTo_S8x8192x1_S8x8192_d2 h_S_)

/-- The gradient of the scaled products. -/
def rScaled (ds : Pairs) : Pairs := mulf ds (broadcastInDim S8x8192x8192 ![] bcast_S_S8x8192x8192 cScale)

/-- The gradient of the keys. -/
def rDk (ds : Pairs) (q : Vecs) : Vecs := Host.dotGeneral dot_S8x8192x8192_S8x8192x128_S8x8192x128_1_1_2_2_0_0 none (rScaled ds) q

/-- The gradient of the queries. -/
def rDq (ds : Pairs) (k : Vecs) : Vecs := Host.dotGeneral dot_S8x8192x8192_S8x8192x128_S8x8192x128_2_1_1_2_0_0 none (rScaled ds) k

variable (m : (ℓ : Loc nD τ sig) → Buf (Elt Ideal) ℓ) (c : Dev nD)

/-- The arguments. -/
abbrev aq : Vecs := m ((c.tc : Thread nD τ).loc main_arg0)
/-- The keys. -/
abbrev ak : Vecs := m ((c.tc : Thread nD τ).loc main_arg1)
/-- The values. -/
abbrev av : Vecs := m ((c.tc : Thread nD τ).loc main_arg2)
/-- The cumulative log gates. -/
abbrev ac : Rows := m ((c.tc : Thread nD τ).loc main_arg3)
/-- The gradient of the output. -/
abbrev ado : Vecs := m ((c.tc : Thread nD τ).loc main_arg4)

/-- The scores of the arguments. -/
def L := rL (aq m c) (ak m c) (ac m c)
/-- Their exponentials. -/
def E := rE (L m c) (rTop (L m c))
/-- The gradient of the scores at the arguments. -/
def D := rDs (rDp (ado m c) (av m c)) (E m c) (rSum (E m c)) (rDl' (rDl (rDp (ado m c) (av m c)) (E m c) (rSum (E m c))))

theorem out2_eq : res_out2 m c = rDv (ado m c) (rP (E m c) (rSum (E m c))) := by
  unfold res_out2 res_main_v46 E L; rfl

theorem out1_eq : res_out1 m c = rDk (D m c) (aq m c) := by
  unfold res_out1 res_main_v71 D E L; rfl

theorem out0_eq : res_out0 m c = rDq (D m c) (ak m c) := by
  unfold res_out0 res_main_v72 D E L; rfl

theorem out3_eq : res_out3 m c = rDcum (D m c) := by
  unfold res_out3 res_main_v68 D E L; rfl

end Cert.ReferenceIdeal.Fox
-- ==== Proof.Fox.RefValues.lean ====
/- What the reference computes at finite arguments: each of its arrays, read at an index, as a real number. -/
module

public import proofs.«01_k».proof.Proof.Fox.RefStages
public import proofs.«01_k».proof.Proof.Fox.Consts
public import Idealize.ShloMosaic.Lib.WordCmp

@[expose] public section

set_option maxRecDepth 16384

noncomputable section

namespace Cert.ReferenceIdeal.Fox

open Idealize.ShloMosaic Idealize.ShloMosaic.TcCoe
open Cert.ReferenceIdeal Cert.ReferenceIdeal.Gen Cert.ReferenceIdeal.Value Cert.Fox

variable (h : Fin 8) (r c : Pos) (a : Lane)

theorem mask_at : rMask (ix3 h r c) = if c.val ≤ r.val then 1#1 else 0#1 := by
  pointwise [rMask]
  have hr := r.isLt
  have hc := c.isLt
  generalize r.val = r' at hr ⊢
  generalize c.val = c' at hc ⊢
  split_ifs with hh
  · word_cmp
  · word_cmp

theorem L_at (q k : Vecs) (cum : Rows) : rL q k cum (ix3 h r c)
    = if c.val ≤ r.val then (∑ x, q (ix3 h r x) * k (ix3 h c x)) * Ideal.ofBits .f32 0x3DB504F3#32 + cum (ix2 h r) - cum (ix2 h c) else ⊥ := by
  pointwise [rL]
  rw [mask_at]
  split_ifs with hh
  · rfl
  · exact none_eq

theorem E_at (L : Pairs) (t : Rows) : rE L t (ix3 h r c) = Ideal.exp (L (ix3 h r c) - t (ix2 h r)) := by
  pointwise [rE]

theorem sum_at (e : Pairs) : rSum e (ix2 h r) = ∑ x, e (ix3 h r x) := by
  pointwise [rSum]

theorem p_at (e : Pairs) (l : Rows) : rP e l (ix3 h r c) = Ideal.div (e (ix3 h r c)) (l (ix2 h r)) := by
  pointwise [rP]

theorem dv_at (g : Vecs) (p : Pairs) : rDv g p (ix3 h r a) = ∑ x, g (ix3 h x a) * p (ix3 h x r) := by
  pointwise [rDv]

theorem dp_at (g v : Vecs) : rDp g v (ix3 h r c) = ∑ x, g (ix3 h r x) * v (ix3 h c x) := by
  pointwise [rDp]

theorem dl_at (dp e : Pairs) (l : Rows) : rDl dp e l (ix2 h r)
    = ∑ x, dp (ix3 h r x) * Ideal.div 1 (l (ix2 h r) * l (ix2 h r)) * e (ix3 h r x) := by
  pointwise [rDl, rSum]

theorem dl'_at (d : Rows) : rDl' d (ix2 h r) = ∑ _x : Fin 1, -d (ix2 h r) := by
  pointwise [rDl']

theorem ds_at (dp e : Pairs) (l dl : Rows) : rDs dp e l dl (ix3 h r c)
    = if c.val ≤ r.val then (Ideal.div (dp (ix3 h r c)) (l (ix2 h r)) + dl (ix2 h r)) * e (ix3 h r c) else 0 := by
  pointwise [rDs]
  rw [mask_at]
  split_ifs with hh <;> rfl

theorem dcum_at (d : Pairs) : rDcum d (ix2 h r) = (∑ _y : Fin 1, ∑ x, -d (ix3 h x r)) + ∑ _y : Fin 1, ∑ x, d (ix3 h r x) := by
  pointwise [rDcum]

theorem dk_at (d : Pairs) (q : Vecs) : rDk d q (ix3 h r a) = ∑ x, d (ix3 h x r) * Ideal.ofBits .f32 0x3DB504F3#32 * q (ix3 h x a) := by
  pointwise [rDk, rScaled]

theorem dq_at (d : Pairs) (k : Vecs) : rDq d k (ix3 h r a) = ∑ x, d (ix3 h r x) * Ideal.ofBits .f32 0x3DB504F3#32 * k (ix3 h x a) := by
  pointwise [rDq, rScaled]

theorem drop_at : reducesTo_S8x8192x8192_S8x8192_d2.drop (ix3 h r c) = ix2 h r := by
  funext b
  apply Fin.ext
  match b with
  | ⟨0, _⟩ => exact reducesTo_S8x8192x8192_S8x8192_d2.drop_apply_val_of_eq (ix3 h r c) 0 0
  | ⟨1, _⟩ => exact reducesTo_S8x8192x8192_S8x8192_d2.drop_apply_val_of_eq (ix3 h r c) 1 1

end Cert.ReferenceIdeal.Fox
-- ==== Proof.Fox.RefReal.lean ====
/- The reference at finite arguments: its four results are the real gradients of each head. -/
module

public import proofs.«01_k».proof.Proof.Fox.RefValues

@[expose] public section

set_option maxRecDepth 16384

noncomputable section

namespace Cert.ReferenceIdeal.Fox

open Idealize.ShloMosaic Idealize.ShloMosaic.TcCoe
open Cert.ReferenceIdeal Cert.ReferenceIdeal.Gen Cert.ReferenceIdeal.Value Cert.Fox

variable {q k v g : Vecs} {cum : Rows} {Q K V G : Fin 8 → Pos → Lane → ℝ} {C : Fin 8 → Pos → ℝ}

/-- A number over one is itself times one over it. -/
theorem div_real (x y : ℝ) (hy : y ≠ 0) : Ideal.div (x : EReal) (y : EReal) = ((x * (1 / y) : ℝ) : EReal) := by
  rw [Ideal.div_coe hy, ← EReal.coe_mul]

theorem L_real (hq : ∀ h r a, q (ix3 h r a) = (Q h r a : EReal)) (hk : ∀ h r a, k (ix3 h r a) = (K h r a : EReal))
    (hc : ∀ h r, cum (ix2 h r) = (C h r : EReal)) (h : Fin 8) (r c : Pos) :
    rL q k cum (ix3 h r c) = if c.val ≤ r.val then ((score (Q h) (K h) (C h) scale r c : ℝ) : EReal) else ⊥ := by
  rw [L_at]
  split_ifs with hh
  · rw [scale_eq, hc, hc, sum_coe (g := fun a => Q h r a * K h c a) fun a => by rw [hq, hk, EReal.coe_mul],
      ← EReal.coe_mul, ← EReal.coe_add, ← EReal.coe_sub]
    rfl
  · rfl

/-- The larger of two rows of numbers, at a place. -/
theorem max_rows (x y : Rows) (j : S8x8192.Idx) : maximumf x y j = max (x j) (y j) := rfl

/-- No score, over the rows. -/
theorem none_rows (j : S8x8192.Idx) : (broadcastInDim S8x8192 ![] bcast_S_S8x8192 cNone : Rows) j = (⊥ : EReal) := none_eq

/-- The row maxima are the maxima of the scores. -/
theorem rTop_at (L : Pairs) (j : S8x8192.Idx) (T : EReal)
    (hT : Host.reduce (FloatOps.maximumf (F := Ideal) (φ := .f32)) L cNone reducesTo_S8x8192x8192_S8x8192_d2 h_S_ j = T) : rTop L j = T := by
  rw [rTop, max_rows, none_rows, hT]
  exact max_eq_right bot_le

theorem top_real' (hq : ∀ h r a, q (ix3 h r a) = (Q h r a : EReal)) (hk : ∀ h r a, k (ix3 h r a) = (K h r a : EReal))
    (hc : ∀ h r, cum (ix2 h r) = (C h r : EReal)) :
    ∃ T : Fin 8 → Pos → ℝ, ∀ h r, rTop (rL q k cum) (ix2 h r) = (T h r : EReal) := by
  have key : ∀ (h : Fin 8) (r : Pos), ∃ T : ℝ, rTop (rL q k cum) (ix2 h r) = (T : EReal) := fun h r => by
    obtain ⟨T, hT⟩ := top_real (rL q k cum) cNone reducesTo_S8x8192x8192_S8x8192_d2 h_S_ (ix2 h r) (ix3 h r r) (drop_at h r r)
      (by rw [L_real hq hk hc, if_pos le_rfl]; exact EReal.coe_ne_bot _)
      (fun i => by
        obtain ⟨x, y, z, rfl⟩ : ∃ (x : Fin 8) (y z : Pos), i = ix3 x y z := ⟨i 0, i 1, i 2, eq_ix3 i⟩
        rw [L_real hq hk hc]
        split_ifs
        · exact EReal.coe_ne_top _
        · exact bot_ne_top)
      (fun i => none_eq)
    exact ⟨T, rTop_at _ _ _ hT⟩
  choose T hT using key
  exact ⟨T, hT⟩

section WithTop

variable {T : Fin 8 → Pos → ℝ} {L : Pairs} {t : Rows}

theorem E_real (hL : ∀ h r c, L (ix3 h r c) = if c.val ≤ r.val then ((score (Q h) (K h) (C h) scale r c : ℝ) : EReal) else ⊥)
    (ht : ∀ h r, t (ix2 h r) = (T h r : EReal)) (h : Fin 8) (r c : Pos) :
    rE L t (ix3 h r c) = ((ex (Q h) (K h) (C h) scale (T h) r c : ℝ) : EReal) := by
  rw [E_at, hL, ht, ex]
  split_ifs with hh
  · rw [← EReal.coe_sub, Ideal.exp_coe]
  · rw [sub_eq_add_neg, EReal.bot_add, Ideal.exp_bot, EReal.coe_zero]

variable {e : Pairs} {l : Rows} {p : Pairs}

theorem sum_real (he : ∀ h r c, e (ix3 h r c) = ((ex (Q h) (K h) (C h) scale (T h) r c : ℝ) : EReal)) (h : Fin 8) (r : Pos) :
    rSum e (ix2 h r) = ((sm (Q h) (K h) (C h) scale (T h) r : ℝ) : EReal) := by
  rw [sum_at, sm]
  exact sum_coe fun c => he h r c

theorem p_real (he : ∀ h r c, e (ix3 h r c) = ((ex (Q h) (K h) (C h) scale (T h) r c : ℝ) : EReal))
    (hl : ∀ h r, l (ix2 h r) = ((sm (Q h) (K h) (C h) scale (T h) r : ℝ) : EReal)) (h : Fin 8) (r c : Pos) :
    rP e l (ix3 h r c) = ((wt (Q h) (K h) (C h) scale r c : ℝ) : EReal) := by
  rw [p_at, he, hl, div_real _ _ (sm_ne _ _ _ _ _ _), mul_one_div, ex_div_sm]

theorem dv_real (hg : ∀ h r a, g (ix3 h r a) = (G h r a : EReal))
    (hp : ∀ h r c, p (ix3 h r c) = ((wt (Q h) (K h) (C h) scale r c : ℝ) : EReal)) (h : Fin 8) (r : Pos) (a : Lane) :
    rDv g p (ix3 h r a) = ((gv (Q h) (K h) (G h) (C h) scale r a : ℝ) : EReal) := by
  rw [dv_at, gv]
  exact sum_coe fun x => by rw [hg, hp, EReal.coe_mul]

theorem dp_real (hg : ∀ h r a, g (ix3 h r a) = (G h r a : EReal)) (hv : ∀ h r a, v (ix3 h r a) = (V h r a : EReal))
    (h : Fin 8) (r c : Pos) : rDp g v (ix3 h r c) = ((dp (V h) (G h) r c : ℝ) : EReal) := by
  rw [dp_at, dp]
  exact sum_coe fun x => by rw [hg, hv, EReal.coe_mul]

variable {w : Pairs} {d : Pairs}

theorem dl_real (hw : ∀ h r c, w (ix3 h r c) = ((dp (V h) (G h) r c : ℝ) : EReal))
    (he : ∀ h r c, e (ix3 h r c) = ((ex (Q h) (K h) (C h) scale (T h) r c : ℝ) : EReal))
    (hl : ∀ h r, l (ix2 h r) = ((sm (Q h) (K h) (C h) scale (T h) r : ℝ) : EReal)) (h : Fin 8) (r : Pos) :
    rDl' (rDl w e l) (ix2 h r) = ((-(∑ c, dp (V h) (G h) r c * (1 * (1 / (sm (Q h) (K h) (C h) scale (T h) r * sm (Q h) (K h) (C h) scale (T h) r)))
      * ex (Q h) (K h) (C h) scale (T h) r c) : ℝ) : EReal) := by
  rw [dl'_at, Fin.sum_univ_one, dl_at, EReal.coe_neg]
  congr 1
  refine sum_coe fun x => ?_
  rw [hw, he, hl, ← EReal.coe_mul (sm _ _ _ _ _ _), ← EReal.coe_one,
    div_real 1 _ (mul_ne_zero (sm_ne _ _ _ _ _ _) (sm_ne _ _ _ _ _ _)), ← EReal.coe_mul, ← EReal.coe_mul]

theorem ds_real (hw : ∀ h r c, w (ix3 h r c) = ((dp (V h) (G h) r c : ℝ) : EReal))
    (he : ∀ h r c, e (ix3 h r c) = ((ex (Q h) (K h) (C h) scale (T h) r c : ℝ) : EReal))
    (hl : ∀ h r, l (ix2 h r) = ((sm (Q h) (K h) (C h) scale (T h) r : ℝ) : EReal)) (h : Fin 8) (r c : Pos) :
    rDs w e l (rDl' (rDl w e l)) (ix3 h r c) = ((ds (Q h) (K h) (V h) (G h) (C h) scale r c : ℝ) : EReal) := by
  rw [ds_at]
  split_ifs with hh
  · rw [dl_real hw he hl, hw, hl, he, div_real _ _ (sm_ne _ _ _ _ _ _), ← EReal.coe_add, ← EReal.coe_mul, ds_of]
  · rw [ds_unseen _ _ _ _ _ _ hh, EReal.coe_zero]

theorem dk_real (hd : ∀ h r c, d (ix3 h r c) = ((ds (Q h) (K h) (V h) (G h) (C h) scale r c : ℝ) : EReal))
    (hq : ∀ h r a, q (ix3 h r a) = (Q h r a : EReal)) (h : Fin 8) (r : Pos) (a : Lane) :
    rDk d q (ix3 h r a) = ((gk (Q h) (K h) (V h) (G h) (C h) scale r a : ℝ) : EReal) := by
  rw [dk_at, gk]
  exact sum_coe fun x => by rw [hd, hq, scale_eq, EReal.coe_mul, EReal.coe_mul]

theorem dq_real (hd : ∀ h r c, d (ix3 h r c) = ((ds (Q h) (K h) (V h) (G h) (C h) scale r c : ℝ) : EReal))
    (hk : ∀ h r a, k (ix3 h r a) = (K h r a : EReal)) (h : Fin 8) (r : Pos) (a : Lane) :
    rDq d k (ix3 h r a) = ((gq (Q h) (K h) (V h) (G h) (C h) scale r a : ℝ) : EReal) := by
  rw [dq_at, gq]
  exact sum_coe fun x => by rw [hd, hk, scale_eq, EReal.coe_mul, EReal.coe_mul]

theorem dcum_real (hd : ∀ h r c, d (ix3 h r c) = ((ds (Q h) (K h) (V h) (G h) (C h) scale r c : ℝ) : EReal)) (h : Fin 8) (r : Pos) :
    rDcum d (ix2 h r) = ((gc (Q h) (K h) (V h) (G h) (C h) scale r : ℝ) : EReal) := by
  rw [dcum_at, Fin.sum_univ_one, Fin.sum_univ_one, gc, EReal.coe_add]
  congr 1
  · exact sum_coe fun x => by rw [hd, EReal.coe_neg]
  · exact sum_coe fun x => hd h r x

end WithTop

/-- The arguments are the real numbers given. -/
structure Holds (m : (ℓ : Loc nD τ sig) → Buf (Elt Ideal) ℓ) (c : Dev nD) (Q K V G : Fin 8 → Pos → Lane → ℝ) (C : Fin 8 → Pos → ℝ) : Prop where
  hq : ∀ h r a, aq m c (ix3 h r a) = (Q h r a : EReal)
  hk : ∀ h r a, ak m c (ix3 h r a) = (K h r a : EReal)
  hv : ∀ h r a, av m c (ix3 h r a) = (V h r a : EReal)
  hg : ∀ h r a, ado m c (ix3 h r a) = (G h r a : EReal)
  hc : ∀ h r, ac m c (ix2 h r) = (C h r : EReal)

variable {m : (ℓ : Loc nD τ sig) → Buf (Elt Ideal) ℓ} {c : Dev nD} (H : Holds m c Q K V G C)
include H

theorem E_holds : ∃ T : Fin 8 → Pos → ℝ, ∀ h r x, E m c (ix3 h r x) = ((ex (Q h) (K h) (C h) scale (T h) r x : ℝ) : EReal) := by
  obtain ⟨T, hT⟩ := top_real' H.hq H.hk H.hc
  exact ⟨T, E_real (L_real H.hq H.hk H.hc) hT⟩

theorem D_holds (h : Fin 8) (r x : Pos) : D m c (ix3 h r x) = ((ds (Q h) (K h) (V h) (G h) (C h) scale r x : ℝ) : EReal) := by
  obtain ⟨T, hE⟩ := E_holds H
  exact ds_real (dp_real H.hg H.hv) hE (sum_real hE) h r x

/-- The gradient of the queries. -/
theorem out0_real (h : Fin 8) (r : Pos) (a : Lane) : (res_out0 m c : Vecs) (ix3 h r a) = ((gq (Q h) (K h) (V h) (G h) (C h) scale r a : ℝ) : EReal) := by
  rw [out0_eq]; exact dq_real (D_holds H) H.hk h r a
/-- The gradient of the keys. -/
theorem out1_real (h : Fin 8) (r : Pos) (a : Lane) : (res_out1 m c : Vecs) (ix3 h r a) = ((gk (Q h) (K h) (V h) (G h) (C h) scale r a : ℝ) : EReal) := by
  rw [out1_eq]; exact dk_real (D_holds H) H.hq h r a
/-- The gradient of the values. -/
theorem out2_real (h : Fin 8) (r : Pos) (a : Lane) : (res_out2 m c : Vecs) (ix3 h r a) = ((gv (Q h) (K h) (G h) (C h) scale r a : ℝ) : EReal) := by
  obtain ⟨T, hE⟩ := E_holds H
  rw [out2_eq]; exact dv_real H.hg (p_real hE (sum_real hE)) h r a
/-- The gradient of the cumulative log gates. -/
theorem out3_real (h : Fin 8) (r : Pos) : (res_out3 m c : Rows) (ix2 h r) = ((gc (Q h) (K h) (V h) (G h) (C h) scale r : ℝ) : EReal) := by
  rw [out3_eq]; exact dcum_real (D_holds H) h r

end Cert.ReferenceIdeal.Fox
-- ==== Proof.Fox.Finite.lean ====
/- Finite arguments are real numbers. -/
module

public import proofs.«01_k».proof.Defs
public import proofs.«01_k».proof.Proof.Fox.Consts
public import proofs.«01_k».proof.Proof.Fox.HostReal
public import proofs.«01_k».proof.Proof.Fox.RefReal

@[expose] public section

set_option maxRecDepth 16384

noncomputable section

namespace Cert.Fox

open Idealize.ShloMosaic Idealize.ShloMosaic.TcCoe
open Cert.Pre_finite

/-- The side conditions of the bound. -/
theorem finite_facts : Cert.Pre_finite.Facts := by
  constructor <;> decide

/-- A number below infinity in size is a real one. -/
theorem num_of (x : EReal) (h : BitVec.ofBool (decide (FloatOps.absf (F := Ideal) (φ := .f32) x < Ideal.ofBits .f32 0x7F800000#32)) = 1#1) :
    ∃ r : ℝ, x = (r : EReal) := by
  rw [inf_eq] at h
  induction x with
  | bot => exact absurd h (by
      have e : FloatOps.absf (F := Ideal) (φ := .f32) (⊥ : EReal) = (⊤ : EReal) := by
        show max (⊥ : EReal) (-⊥) = ⊤
        simp
      rw [e]; simp)
  | coe r => exact ⟨r, rfl⟩
  | top => exact absurd h (by
      have e : FloatOps.absf (F := Ideal) (φ := .f32) (⊤ : EReal) = (⊤ : EReal) := by
        show max (⊤ : EReal) (-⊤) = ⊤
        simp
      rw [e]; simp)

theorem nums3 (hb : S_.BroadcastsInDim S8x8192x128 (![] : Fin 0 → Fin S8x8192x128.rank)) (x : FVec Ideal S8x8192x128 .f32)
    (h : cmpf .olt (Host.absf x) (broadcastInDim S8x8192x128 ![] hb (constant S_ .f32 0x7F800000#32)) = fun _ => 1#1) :
    ∃ X : Fin 8 → Pos → Lane → ℝ, ∀ u y z, x (ix3 u y z) = (X u y z : EReal) := by
  have key : ∀ (u : Fin 8) (y : Pos) (z : Lane), ∃ r : ℝ, x (ix3 u y z) = (r : EReal) := fun u y z => by
    refine num_of _ ?_
    have e := congrFun h (ix3 u y z)
    revert e
    pointwise []
    exact id
  choose X hX using key
  exact ⟨X, hX⟩

theorem nums2 (hb : S_.BroadcastsInDim S8x8192 (![] : Fin 0 → Fin S8x8192.rank)) (x : FVec Ideal S8x8192 .f32)
    (h : cmpf .olt (Host.absf x) (broadcastInDim S8x8192 ![] hb (constant S_ .f32 0x7F800000#32)) = fun _ => 1#1) :
    ∃ X : Fin 8 → Pos → ℝ, ∀ u y, x (ix2 u y) = (X u y : EReal) := by
  have key : ∀ (u : Fin 8) (y : Pos), ∃ r : ℝ, x (ix2 u y) = (r : EReal) := fun u y => by
    refine num_of _ ?_
    have e := congrFun h (ix2 u y)
    revert e
    pointwise []
    exact id
  choose X hX using key
  exact ⟨X, hX⟩

/-- Finite arguments of the kernel are real numbers. -/
theorem holds_of (m : (ℓ : Loc Cert.KernelIdeal.nD Cert.KernelIdeal.τ Cert.KernelIdeal.sig) → Buf (Elt Ideal) ℓ)
    (h : Cert.Pre_KernelIdeal_finite (hPre_finite := finite_facts) m) (c : Dev Cert.KernelIdeal.nD) :
    ∃ Q K V G C, Cert.KernelIdeal.Fox.Holds m c Q K V G C := by
  obtain ⟨h0, h1, h2, h3, h4⟩ := h c
  obtain ⟨Q, hQ⟩ := nums3 _ _ h0
  obtain ⟨K, hK⟩ := nums3 _ _ h1
  obtain ⟨V, hV⟩ := nums3 _ _ h2
  obtain ⟨C, hC⟩ := nums2 _ _ h3
  obtain ⟨G, hG⟩ := nums3 _ _ h4
  exact ⟨Q, K, V, G, C, hQ, hK, hV, hG, hC⟩

end Cert.Fox
-- ==== Proof.Fox.Equal.lean ====
/- Kernel and reference leave the same four gradients on finite arguments. -/
module

public import proofs.«01_k».proof.Proof.Fox.KernelReal
public import proofs.«01_k».proof.Proof.Fox.RefReal
public import proofs.«01_k».proof.Proof.Fox.Finite

@[expose] public section

set_option maxRecDepth 16384

noncomputable section

namespace Cert.Fox

open Idealize.ShloMosaic Idealize.ShloMosaic.TcCoe

/-- The two memories hold the same arguments. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  (hA : Agree m m') (hF : Cert.Pre_KernelIdeal_finite (hPre_finite := finite_facts) m) (c : Dev Cert.KernelIdeal.nD)

include hA hF

/-- Both memories hold the same real arguments. -/
theorem both_hold : ∃ Q K V G C, Cert.KernelIdeal.Fox.Holds m c Q K V G C ∧ Cert.ReferenceIdeal.Fox.Holds m' c Q K V G C := by
  obtain ⟨Q, K, V, G, C, H⟩ := holds_of m hF c
  obtain ⟨e0, e1, e2, e3, e4⟩ := hA c
  exact ⟨Q, K, V, G, C, H,
    fun h r a => (congrFun e0 (ix3 h r a)).trans (H.hq h r a),
    fun h r a => (congrFun e1 (ix3 h r a)).trans (H.hk h r a),
    fun h r a => (congrFun e2 (ix3 h r a)).trans (H.hv h r a),
    fun h r a => (congrFun e4 (ix3 h r a)).trans (H.hg h r a),
    fun h r => (congrFun e3 (ix2 h r)).trans (H.hc h r)⟩

theorem same_q : (Cert.ReferenceIdeal.Value.res_out0 m' c : Cert.KernelIdeal.Fox.Vecs) = Cert.KernelIdeal.Fox.out_q m c := by
  obtain ⟨Q, K, V, G, C, H, H'⟩ := both_hold hA hF c
  funext i
  obtain ⟨h, r, a, rfl⟩ : ∃ (h : Fin 8) (r : Pos) (a : Lane), i = ix3 h r a := ⟨i 0, i 1, i 2, eq_ix3 i⟩
  exact (Cert.ReferenceIdeal.Fox.out0_real H' h r a).trans (Cert.KernelIdeal.Fox.out_q_real H h r a).symm

theorem same_k : (Cert.ReferenceIdeal.Value.res_out1 m' c : Cert.KernelIdeal.Fox.Vecs) = Cert.KernelIdeal.Fox.out_k m c := by
  obtain ⟨Q, K, V, G, C, H, H'⟩ := both_hold hA hF c
  funext i
  obtain ⟨h, r, a, rfl⟩ : ∃ (h : Fin 8) (r : Pos) (a : Lane), i = ix3 h r a := ⟨i 0, i 1, i 2, eq_ix3 i⟩
  exact (Cert.ReferenceIdeal.Fox.out1_real H' h r a).trans (Cert.KernelIdeal.Fox.out_k_real H h r a).symm

theorem same_v : (Cert.ReferenceIdeal.Value.res_out2 m' c : Cert.KernelIdeal.Fox.Vecs) = Cert.KernelIdeal.Fox.out_v m c := by
  obtain ⟨Q, K, V, G, C, H, H'⟩ := both_hold hA hF c
  funext i
  obtain ⟨h, r, a, rfl⟩ : ∃ (h : Fin 8) (r : Pos) (a : Lane), i = ix3 h r a := ⟨i 0, i 1, i 2, eq_ix3 i⟩
  exact (Cert.ReferenceIdeal.Fox.out2_real H' h r a).trans (Cert.KernelIdeal.Fox.out_v_real H h r a).symm

theorem same_c : (Cert.ReferenceIdeal.Value.res_out3 m' c : Cert.KernelIdeal.Fox.Rows) = Cert.KernelIdeal.Fox.out_c m c := by
  obtain ⟨Q, K, V, G, C, H, H'⟩ := both_hold hA hF c
  funext i
  obtain ⟨h, r, rfl⟩ : ∃ (h : Fin 8) (r : Pos), i = ix2 h r := ⟨i 0, i 1, eq_ix2 i⟩
  exact (Cert.ReferenceIdeal.Fox.out3_real H' h r).trans (Cert.KernelIdeal.Fox.out_c_real H h r).symm

end Cert.Fox
-- ==== Proof.Fox.RefFrame.lean ====
/- The reference runs through, keeps its arguments and raises no semaphore. -/
module

public import proofs.«01_k».proof.Proof.Gen.ReferenceIdeal
public import Idealize.ShloMosaic.Adequacy
public import Idealize.ShloMosaic.Init
public import Idealize.ShloMosaic.Lib.StableHlo.Run
public import proofs.«01_k».proof.Proof.Gen.ReferenceIdeal.Run
public import Idealize.ShloMosaic.PureOps.Ideal

@[expose] public section

set_option maxRecDepth 16384

noncomputable section

namespace Cert.ReferenceIdeal.Fox

open Idealize.ShloMosaic Idealize.ShloMosaic.TcCoe Idealize.ShloMosaic.Tactic Idealize.SL.Sem
open Cert.ReferenceIdeal Cert.ReferenceIdeal.Gen

/-- The reference has no semaphore. -/
theorem no_sem (s : SemLoc sig) : False := by
  rcases s with s | s
  · exact s.elim0
  · exact s.elim0

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h c).2.2.2.2, funext fun g => (no_sem g.2).elim⟩) (Cert.ReferenceIdeal.Value.run m ρ)

end Cert.ReferenceIdeal.Fox
-- ==== Proof.Fox.WordFrame.lean ====
/- The kernel at words: its body runs at every grid point, whatever the three results then hold, and the whole keeps its
   arguments and raises no semaphore. -/
module

public import proofs.«01_k».proof.Proof.Gen.Kernel.Frame
public import proofs.«01_k».proof.Proof.Gen.Kernel.Points
public import proofs.«01_k».proof.Proof.Gen.Kernel.Loops
public import proofs.«01_k».proof.Proof.Gen.Kernel.Skeleton
public import Idealize.ShloMosaic.Lib.Claim
public import Idealize.ShloMosaic.PureOps.BitExact

@[expose] public section

set_option maxRecDepth 16384

noncomputable section

namespace Cert.Kernel.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Cert.Kernel Cert.Kernel.Gen

local notation "𝕄" => MT nD τ sig Unit (Elt Bits) ℕ (UR sig nD τ) ℕ

/-- The body's condition: the head's first block. -/
abbrev first0 (i : grid0.Coords) : Prop :=
  (Scalar.cmpi .ne (Scalar.extui (Scalar.cmpi .eq (BitVec.ofNat 32 (i 1).val) 0#32)) 0#32) = 1#1

set_option maxHeartbeats 4000000 in
/-- The body at any point: it reads its six inputs and leaves its three results at some contents. -/
theorem word_body (c : Dev nD) (i : grid0.Coords) (arg2 : Memref sig .tc .vmem S8192x256 .bf16) (harg2 : arg2.IsWhole) (arg3 : Memref sig .tc .vmem S8192x256 .bf16) (harg3 : arg3.IsWhole) (arg4 : Memref sig .tc .vmem S256x8192 .bf16) (harg4 : arg4.IsWhole) (arg5 : Memref sig .tc .vmem S128x8192 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S8192x256 .f32) (harg8 : arg8.IsWhole) (arg9 : Memref sig .tc .vmem S256x256 .f32) (harg9 : arg9.IsWhole) (arg10 : Memref sig .tc .vmem S256x128 .bf16) (harg10 : arg10.IsWhole) (arg11 : Memref sig .tc .vmem S256x256 .f32) (harg11 : arg11.IsWhole) (arg12 : Memref sig .tc .vmem S128x256 .f32) (harg12 : arg12.IsWhole)
    (x0 x1 : Vec Bits S8192x256 .bf16) (x2 : Vec Bits S256x8192 .bf16) (x3 : Vec Bits S128x8192 .bf16) (x4 x5 : Vec Bits S256x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := Bits)) Variants.none c none) E (cc0_fox_bwd i arg2 harg2 arg3 harg3 arg4 harg4 arg5 harg5 arg6 harg6 arg7 harg7 arg8 harg8 arg9 harg9 arg10 harg10 arg11 harg11 arg12 harg12) K := by
    intro E K
    simp only [cc0_fox_bwd_eq_skeleton]; unfold cc0_fox_bwd_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    by_cases hc0 : first0 i
    all_goals
      sl_exec (disch := first | sl_exact hc0)
      sl_step
      iapply Hk
      isplitl [H0]
      · iexists _; isplitl []
        · ipureintro; exact hf0
        iexact H0
      isplitl [H1]
      · iexists _; isplitl []
        · ipureintro; exact hf1
        iexact H1
      isplitl [H2]
      · iexists _; isplitl []
        · ipureintro; exact hf2
        iexact H2
      isplitl [H3]
      · iexists _; isplitl []
        · ipureintro; exact hf3
        iexact H3
      isplitl [H4]
      · iexists _; isplitl []
        · ipureintro; exact hf4
        iexact H4
      isplitl [H5]
      · iexists _; isplitl []
        · ipureintro; exact hf5
        iexact H5
      isplitl [H6]
      · iexists _; iexists _
        isplitr
        swap; · iexact H6
        ipureintro; rfl
      isplitl [H7]
      · iexists _; iexists _
        isplitr
        swap; · iexact H7
        ipureintro; rfl
      isplitl [H8]
      · iexists _; iexists _
        isplitr
        swap; · iexact H8
        ipureintro; rfl
      isplitl [HS0]
      · iexists _; iexists _
        isplitr
        swap; · iexact HS0
        ipureintro; rfl
      iexists _; iexists _
      isplitr
      swap; · iexact HS1
      ipureintro; rfl

variable (m : (ℓ : Loc nD τ sig) → Buf (Elt Bits) ℓ) (ρ : Dev nD → PrngReg)

/-- The windows whose contents nothing here names: the three results. -/
def named_not : Fin cfg0.W → Bool := fun w => decide (6 ≤ w.val)

/-- The proof data of the pipeline: the inputs at their blocks. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.arbitrary _
    | ⟨7, _⟩ => fun _ => Classical.arbitrary _
    | ⟨8, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d

abbrev ms_0 (t : Fin cfg0.N) : Memref sig .tc .vmem S8192x256 .bf16 := win0_0.stage (cfg0.slots t 0)
abbrev ms_1 (t : Fin cfg0.N) : Memref sig .tc .vmem S8192x256 .bf16 := win0_1.stage (cfg0.slots t 1)
abbrev ms_2 (t : Fin cfg0.N) : Memref sig .tc .vmem S256x8192 .bf16 := win0_2.stage (cfg0.slots t 2)
abbrev ms_3 (t : Fin cfg0.N) : Memref sig .tc .vmem S128x8192 .bf16 := win0_3.stage (cfg0.slots t 3)
abbrev ms_4 (t : Fin cfg0.N) : Memref sig .tc .vmem S256x256 .bf16 := win0_4.stage (cfg0.slots t 4)
abbrev ms_5 (t : Fin cfg0.N) : Memref sig .tc .vmem S256x256 .bf16 := win0_5.stage (cfg0.slots t 5)
abbrev ms_6 (t : Fin cfg0.N) : Memref sig .tc .vmem S8192x256 .f32 := win0_6.stage (cfg0.slots t 6)
abbrev ms_7 (t : Fin cfg0.N) : Memref sig .tc .vmem S256x256 .f32 := win0_7.stage (cfg0.slots t 7)
abbrev ms_8 (t : Fin cfg0.N) : Memref sig .tc .vmem S256x128 .bf16 := win0_8.stage (cfg0.slots t 8)
abbrev sc_0 : Memref sig .tc .vmem S256x256 .f32 := Memref.whole cc0_scratch0
abbrev sc_1 : Memref sig .tc .vmem S128x256 .f32 := Memref.whole cc0_scratch1

/-- The pipeline's invariant: the two scratch buffers at some contents, and the generator register. -/
theorem Phi_eq (c : Dev nD) :
    (Pipeline.ΦA spec0 c : sProp 𝕄)
      = iprop(iprop((∃ d, owns (c : Thread nD τ) sc_0 fullShare d) ∗ (∃ d, owns (c : Thread nD τ) sc_1 fullShare d)) ∗ (∃ r, prngReg c r)) := by
  unfold Pipeline.ΦA; rw [scopedRest0_eq]; simp only [sc_0, sc_1, owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ X, owns (c : Thread nD τ) (ms_6 t) fullShare X)
    ∗ (∃ X, owns (c : Thread nD τ) (ms_7 t) fullShare X)
    ∗ (∃ X, owns (c : Thread nD τ) (ms_8 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ (∃ X, owns (c : Thread nD τ) (ms_6 t) fullShare X)
    ∗ (∃ X, owns (c : Thread nD τ) (ms_7 t) fullShare X)
    ∗ (∃ X, owns (c : Thread nD τ) (ms_8 t) fullShare X))

set_option maxHeartbeats 1600000 in
/-- The body at any point. -/
theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, Phi_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, H6, H7, H8⟩
  iapply ((word_body c (grid0.coords t) _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point's slots is the body. -/
theorem defs₀_row (t : Fin cfg0.N) :
    defs₀ (F := Bits) .tc cfg0.body (cfg0.bodyArgs t (cfg0.slots t)) = bodyAt0 t := by
  unfold defs₀; rw [Defs.onTc_tc]

/-- The library's body obligation, at every point. -/
theorem body_obligation (c : Dev nD) : BodyObligationLoose (dats m 0 c) (defs₀ (F := Bits)) Variants.none () Set.univ named_not := fun t => by
  rw [bigSep_W0, bigSep_W0, defs₀_row]
  exact triple_restated (sound_body m c t) rfl .rfl fun _ => .rfl

/-- What the lines after the launch may write: everything but the arguments. -/
def tail_writes : Finset (Ref sig .tc) :=
  Finset.univ.filter fun b => b ≠ main_arg0 ∧ b ≠ main_arg1 ∧ b ≠ main_arg2 ∧ b ≠ main_arg3 ∧ b ≠ main_arg4

theorem sfx_writes : ∀ ops ∈ ([hostOps1] : List (List (HloOp τ sig (Elt Bits)))), ∀ op ∈ ops,
    ∀ b : Ref sig .tc, Proc.devRef .tc b ∈ op.writes → b ∈ tail_writes := by
  intro ops hops op hop b hb
  simp only [List.mem_cons, List.mem_nil_iff, _root_.or_false] at hops
  rcases hops with rfl
  refine Finset.mem_filter.mpr ⟨Finset.mem_univ b, ?_⟩
  simp only [hostOps1, List.mem_cons, List.mem_nil_iff, _root_.or_false] at hop
  rcases hop with rfl | rfl | rfl | rfl | rfl | rfl | rfl | rfl | rfl | rfl | rfl | rfl | rfl | rfl | rfl | rfl | rfl | rfl | rfl
  all_goals
    simp only [StableHlo.nullary_writes, StableHlo.unary_writes, StableHlo.binary_writes, StableHlo.ternary_writes, StableHlo.reshape_writes, Finset.mem_singleton] at hb
    obtain rfl := Proc.devRef_injective _ hb
    decide

set_option backward.isDefEq.respectTransparency.types false in
set_option maxHeartbeats 1600000 in
/-- The whole run: every buffer the lines after the launch do not write at its contents before it, and every semaphore at zero. -/
theorem run_both : θ_run defs (onTc (τ := τ) (main (F := Bits))) (s₀ m ρ)
    (fun r => Pipeline.RDat.FramePostR cfg0 (fun c => (dats m 0 c).toRForget named_not) tail_writes (fun c b => V0 m c (Proc.devRef .tc b)) r ∧ r.2.sem = fun _ => 0) :=
  Pipeline.θ_run_frame_around_T_forget (Q' := _) cfgs (dats m) (0 : Fin 1) launch0 defs₀ Variants.none named_not tail_writes m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- An argument is left as it was. -/
theorem kept {r : PUnit × MemSt nD τ sig (Elt Bits)}
    (h : Pipeline.RDat.FramePostR cfg0 (fun c => (dats m 0 c).toRForget named_not) tail_writes (fun c b => V0 m c (Proc.devRef .tc b)) r)
    (c : Dev nD) (b : Ref sig .tc) (hb : b ∈ Pipeline.restRefs sig spec0) (ht : b ∉ tail_writes) :
    r.2.mem ((c.tc : Thread nD τ).loc b) = V m c b :=
  (h c).2 b (Finset.mem_sdiff.mpr ⟨hb, ht⟩)

/-- The frame of the kernel at words. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(kept m h.1 c main_arg0 (Pipeline.mem_restRefs_of main_arg0 (by decide) (by decide)) (by decide)).trans (V_main_arg0 m c),
      (kept m h.1 c main_arg1 (Pipeline.mem_restRefs_of main_arg1 (by decide) (by decide)) (by decide)).trans (V_main_arg1 m c),
      (kept m h.1 c main_arg2 (Pipeline.mem_restRefs_of main_arg2 (by decide) (by decide)) (by decide)).trans (V_main_arg2 m c),
      (kept m h.1 c main_arg3 (Pipeline.mem_restRefs_of main_arg3 (by decide) (by decide)) (by decide)).trans (V_main_arg3 m c),
      (kept m h.1 c main_arg4 (Pipeline.mem_restRefs_of main_arg4 (by decide) (by decide)) (by decide)).trans (V_main_arg4 m c)⟩, h.2⟩)
    (run_both m ρ)

end Cert.Kernel.Fox
-- ==== Proof.Ffn.HiddenBlock.lean ====
/- One grid point of the gradient of the hidden layer (`ffn2_dact`): what the body leaves in its three output blocks, element by
   element. It works the block's columns off in two halves. -/
module

public import proofs.«01_k».proof.Proof.Gen.Kernel2Ideal.Value
public import Idealize.ShloMosaic.Lib.Pointwise
public import Idealize.ShloMosaic.Lib.Tactic
public import Idealize.ShloMosaic.Lib.Pipeline.ValueKit

@[expose] public section

set_option maxRecDepth 16384

noncomputable section

namespace Cert.Ffn

open Idealize.ShloMosaic

/-- The logistic function, in the form both programs write it. -/
def logis (g : EReal) : EReal := Ideal.div 1 (1 + Ideal.exp (-g))

/-- The hidden value of a gate and an up value. -/
def actOf (g u : EReal) : EReal := g * logis g * u

/-- The gradients of the gate and of the up value, of a gradient `d` of the hidden value. -/
def dgateOf (g u d : EReal) : EReal := d * u * logis g * (1 + g * (1 - logis g))
def dupOf (g d : EReal) : EReal := d * (g * logis g)

end Cert.Ffn

namespace Cert.Kernel2Ideal.Ffn

open Idealize.ShloMosaic Idealize.ShloMosaic.TcCoe Idealize.SL.Sem
open Cert.Kernel2Ideal Cert.Kernel2Ideal.Gen Cert.Kernel2Ideal.Value Cert.Ffn
open scoped BigOperators

theorem one_eq : Ideal.ofBits .f32 0x3F800000#32 = (1 : EReal) := by
  have h : Ideal.ofBits .f32 0x3F800000#32 = ((1 : ℝ) : EReal) := by norm_num
  exact h.trans EReal.coe_one

section Payloads

variable (w : Vec Ideal S256x2048 .bf16) (d : Vec Ideal S1024x2048 .bf16) (g u : Vec Ideal S1024x256 .bf16) (p : Fin 1024) (q : Fin 256)

theorem first_sig : k0_pay4 g (ix2 p q) = logis (g (ix2 p q)) := by
  unfold logis
  rw [← zero_sub (g (ix2 p q)), ← one_eq]
  pointwise [k0_pay4, k0_pay2]

theorem second_sig : k0_pay12 g (ix2 p q) = logis (g (ix2 p q)) := by
  unfold logis
  rw [← zero_sub (g (ix2 p q)), ← one_eq]
  pointwise [k0_pay12, k0_pay10]

theorem first_dot : k0_pay1 w d (ix2 p q) = ∑ k : Fin 2048, d (ix2 p k) * w (ix2 q k) := by
  pointwise [k0_pay1]

theorem second_dot : k0_pay9 w d (ix2 p q) = ∑ k : Fin 2048, d (ix2 p k) * w (ix2 q k) := by
  pointwise [k0_pay9]

theorem first_act : k0_pay6 g u (ix2 p q) = actOf (g (ix2 p q)) (u (ix2 p q)) := by
  unfold actOf
  rw [← first_sig g p q]
  pointwise [k0_pay6, k0_pay5, k0_pay3, k0_pay2]

theorem second_act : k0_pay14 g u (ix2 p q) = actOf (g (ix2 p q)) (u (ix2 p q)) := by
  unfold actOf
  rw [← second_sig g p q]
  pointwise [k0_pay14, k0_pay13, k0_pay11, k0_pay10]

theorem first_dgate : k0_pay7 w d g u (ix2 p q)
    = dgateOf (g (ix2 p q)) (u (ix2 p q)) (∑ k : Fin 2048, d (ix2 p k) * w (ix2 q k)) := by
  unfold dgateOf
  rw [← first_sig g p q, ← first_dot w d p q, ← one_eq]
  pointwise [k0_pay7, k0_pay3, k0_pay2]

theorem second_dgate : k0_pay15 w d g u (ix2 p q)
    = dgateOf (g (ix2 p q)) (u (ix2 p q)) (∑ k : Fin 2048, d (ix2 p k) * w (ix2 q k)) := by
  unfold dgateOf
  rw [← second_sig g p q, ← second_dot w d p q, ← one_eq]
  pointwise [k0_pay15, k0_pay11, k0_pay10]

theorem first_dup : k0_pay8 w d g (ix2 p q) = dupOf (g (ix2 p q)) (∑ k : Fin 2048, d (ix2 p k) * w (ix2 q k)) := by
  unfold dupOf
  rw [← first_sig g p q, ← first_dot w d p q]
  pointwise [k0_pay8, k0_pay5, k0_pay2]

theorem second_dup : k0_pay16 w d g (ix2 p q) = dupOf (g (ix2 p q)) (∑ k : Fin 2048, d (ix2 p k) * w (ix2 q k)) := by
  unfold dupOf
  rw [← second_sig g p q, ← second_dot w d p q]
  pointwise [k0_pay16, k0_pay13, k0_pay10]

end Payloads

/-- A column half of a block, read at an index. -/
theorem half_at (x : Vec Ideal S1024x512 .bf16) (o : ℕ) (inb) (y : S1024x256.Idx) (p : Fin 1024) (q : Fin 512)
    (hp : p.val = (y 0).val) (hq : q.val = o + (y 1).val) :
    View.ld x (Rect.unit (s := S1024x512) ![0, o] ![1024, 256] inb) y = x (ix2 p q) := by
  refine congrArg x (funext fun a => Fin.ext ?_)
  match a with
  | ⟨0, _⟩ => show 0 + 1 * (y 0).val = p.val; omega
  | ⟨1, _⟩ => show o + 1 * (y 1).val = q.val; omega

/-- A row half of the weight block, read at an index. -/
theorem rows_at (x : Vec Ideal S512x2048 .bf16) (o : ℕ) (inb) (b : Fin 256) (k : Fin 2048) (q : Fin 512) (hq : q.val = o + b.val) :
    View.ld x (Rect.unit (s := S512x2048) ![o, 0] ![256, 2048] inb) (ix2 b k) = x (ix2 q k) := by
  refine congrArg x (funext fun a => Fin.ext ?_)
  match a with
  | ⟨0, _⟩ => show o + 1 * b.val = q.val; omega
  | ⟨1, _⟩ => show 0 + 1 * k.val = k.val; omega

theorem dot_half (d : Vec Ideal S1024x2048 .bf16) (w : Vec Ideal S512x2048 .bf16) (o : ℕ) (inb) (a : Fin 1024) (b : Fin 256)
    (p : Fin 1024) (q : Fin 512) (hp : p.val = a.val) (hq : q.val = o + b.val) :
    (∑ k : Fin 2048, d (ix2 a k) * View.ld w (Rect.unit (s := S512x2048) ![o, 0] ![256, 2048] inb) (ix2 b k))
      = ∑ k : Fin 2048, d (ix2 p k) * w (ix2 q k) := by
  obtain rfl : p = a := Fin.ext hp
  exact Finset.sum_congr rfl fun k _ => congrArg _ (rows_at w o inb b k q hq)

section Blocks

variable (c : Dev nD) (i : grid0.Coords) (a3 : Memref sig .tc .vmem S1024x2048 .bf16) (h3 : a3.IsWhole)
    (a4 : Memref sig .tc .vmem S512x2048 .bf16) (h4 : a4.IsWhole) (a5 : Memref sig .tc .vmem S1024x512 .bf16) (h5 : a5.IsWhole)
    (a6 : Memref sig .tc .vmem S1024x512 .bf16) (h6 : a6.IsWhole) (a7 : Memref sig .tc .vmem S1024x512 .bf16) (h7 : a7.IsWhole)
    (a8 : Memref sig .tc .vmem S1024x512 .bf16) (h8 : a8.IsWhole) (a9 : Memref sig .tc .vmem S1024x512 .bf16) (h9 : a9.IsWhole)
    (a10 : Memref sig .tc .vmem S1024x512 .f32) (h10 : a10.IsWhole)
    (d : Vec Ideal S1024x2048 .bf16) (w : Vec Ideal S512x2048 .bf16) (g u : Vec Ideal S1024x512 .bf16) (p : Fin 1024) (q : Fin 512)

/-- The block of the hidden layer. -/
theorem act_block : out0_A_4 c i a3 h3 a4 h4 a5 h5 a6 h6 a7 h7 a8 h8 a9 h9 a10 h10 d w g u (ix2 p q)
    = actOf (g (ix2 p q)) (u (ix2 p q)) := by
  frame_out
  canon_tiles x h
  · obtain ⟨a, b, rfl⟩ : ∃ (a : Fin 1024) (b : Fin 256), x = ix2 a b := ⟨x 0, x 1, eq_ix2 x⟩
    refine (second_act _ _ a b).trans ?_
    rw [half_at g 256 _ (ix2 a b) p q h0 (h1),
      half_at u 256 _ (ix2 a b) p q h0 (h1)]
  · obtain ⟨a, b, rfl⟩ : ∃ (a : Fin 1024) (b : Fin 256), x = ix2 a b := ⟨x 0, x 1, eq_ix2 x⟩
    refine (first_act _ _ a b).trans ?_
    rw [half_at g 0 _ (ix2 a b) p q h0 (h1.trans (Nat.zero_add _).symm),
      half_at u 0 _ (ix2 a b) p q h0 (h1.trans (Nat.zero_add _).symm)]

/-- The block of the gate's gradient. -/
theorem dgate_block : out0_A_5 c i a3 h3 a4 h4 a5 h5 a6 h6 a7 h7 a8 h8 a9 h9 a10 h10 d w g u (ix2 p q)
    = dgateOf (g (ix2 p q)) (u (ix2 p q)) (∑ k : Fin 2048, d (ix2 p k) * w (ix2 q k)) := by
  frame_out
  canon_tiles x h
  · obtain ⟨a, b, rfl⟩ : ∃ (a : Fin 1024) (b : Fin 256), x = ix2 a b := ⟨x 0, x 1, eq_ix2 x⟩
    refine (second_dgate _ _ _ _ a b).trans ?_
    rw [half_at g 256 _ (ix2 a b) p q h0 (h1),
      half_at u 256 _ (ix2 a b) p q h0 (h1),
      dot_half d w 256 _ a b p q h0 (h1)]
  · obtain ⟨a, b, rfl⟩ : ∃ (a : Fin 1024) (b : Fin 256), x = ix2 a b := ⟨x 0, x 1, eq_ix2 x⟩
    refine (first_dgate _ _ _ _ a b).trans ?_
    rw [half_at g 0 _ (ix2 a b) p q h0 (h1.trans (Nat.zero_add _).symm),
      half_at u 0 _ (ix2 a b) p q h0 (h1.trans (Nat.zero_add _).symm),
      dot_half d w 0 _ a b p q h0 (h1.trans (Nat.zero_add _).symm)]

/-- The block of the up values' gradient. -/
theorem dup_block : out0_A_6 c i a3 h3 a4 h4 a5 h5 a6 h6 a7 h7 a8 h8 a9 h9 a10 h10 d w g u (ix2 p q)
    = dupOf (g (ix2 p q)) (∑ k : Fin 2048, d (ix2 p k) * w (ix2 q k)) := by
  frame_out
  canon_tiles x h
  · obtain ⟨a, b, rfl⟩ : ∃ (a : Fin 1024) (b : Fin 256), x = ix2 a b := ⟨x 0, x 1, eq_ix2 x⟩
    refine (second_dup _ _ _ a b).trans ?_
    rw [half_at g 256 _ (ix2 a b) p q h0 (h1),
      dot_half d w 256 _ a b p q h0 (h1)]
  · obtain ⟨a, b, rfl⟩ : ∃ (a : Fin 1024) (b : Fin 256), x = ix2 a b := ⟨x 0, x 1, eq_ix2 x⟩
    refine (first_dup _ _ _ a b).trans ?_
    rw [half_at g 0 _ (ix2 a b) p q h0 (h1.trans (Nat.zero_add _).symm),
      dot_half d w 0 _ a b p q h0 (h1.trans (Nat.zero_add _).symm)]

end Blocks

end Cert.Kernel2Ideal.Ffn

end
-- ==== Proof.Ffn.Hidden.lean ====
/- The gradient of the hidden layer (`ffn2_dact`): the three arrays the launch leaves are the hidden layer and the gradients of
   the gate and of the up values, as the reference has them. -/
module

public import proofs.«01_k».proof.Proof.Gen.Reference2Ideal.Run
public import proofs.«01_k».proof.Defs
public import proofs.«01_k».proof.Proof.Gen.Kernel2.Frame
public import proofs.«01_k».proof.Proof.Ffn.HiddenBlock
public import proofs.«01_k».proof.Proof.Fox.Finite

@[expose] public section

set_option maxRecDepth 16384

noncomputable section

namespace Cert.Ffn

open Idealize.ShloMosaic
open scoped BigOperators

/-- The two forms of the gate's gradient, of a real gradient: one factors the logistic function out, the other adds the
    gradients of its two uses. The gate itself may be infinite. -/
theorem gate_forms (g u d : EReal) (r : ℝ) (h : d * u = (r : EReal)) :
    d * u * logis g + g * (d * u) * (logis g * (1 - logis g)) = dgateOf g u d := by
  unfold dgateOf
  rw [h]
  induction g with
  | bot =>
    have e : logis ⊥ = 0 := by
      unfold logis
      rw [EReal.neg_bot, Ideal.exp_top, EReal.add_top_of_ne_bot (by decide)]
      simp [Ideal.div]
    rw [e]; simp
  | top =>
    have e : logis ⊤ = 1 := by
      unfold logis
      rw [EReal.neg_top, Ideal.exp_bot, add_zero]
      simp [Ideal.div]
    rw [e]
    have z : (1 : EReal) - 1 = 0 := by rw [← EReal.coe_one, ← EReal.coe_sub, sub_self, EReal.coe_zero]
    rw [z]; simp
  | coe x =>
    have p : 1 + Real.exp (-x) ≠ 0 := by positivity
    have e : logis (x : EReal) = ((1 / (1 + Real.exp (-x)) : ℝ) : EReal) := by
      unfold logis
      rw [← EReal.coe_neg, Ideal.exp_coe, ← EReal.coe_one, ← EReal.coe_add, Ideal.div_coe p, EReal.coe_one, one_mul]
    rw [e, ← EReal.coe_one]
    simp only [← EReal.coe_mul, ← EReal.coe_add, ← EReal.coe_sub]
    exact congrArg _ (by ring)

end Cert.Ffn

namespace Cert.Kernel2Ideal.Ffn

open Idealize.ShloMosaic Idealize.ShloMosaic.TcCoe Idealize.SL.Sem
open Cert.Kernel2Ideal Cert.Kernel2Ideal.Gen Cert.Kernel2Ideal.Value Cert.Ffn
open scoped BigOperators

variable (m : (ℓ : Loc nD τ sig) → Buf (Elt Ideal) ℓ) (c : Dev nD)

/-- The gate and the up values, the last matrix and the output's gradient, as the launch is given them. -/
abbrev gate : Vec Ideal S8192x5632 .f32 := m ((c : Thread nD τ).loc main_arg0)
abbrev up : Vec Ideal S8192x5632 .f32 := m ((c : Thread nD τ).loc main_arg1)
abbrev wd : Vec Ideal S5632x2048 .f32 := m ((c : Thread nD τ).loc main_arg2)
abbrev dy : Vec Ideal S8192x2048 .f32 := m ((c : Thread nD τ).loc main_arg3)

/-- The hidden layer's gradient. -/
def dact (p : Fin 8192) (q : Fin 5632) : EReal := ∑ k : Fin 2048, dy m c (ix2 p k) * wd m c (ix2 q k)

theorem host_dy (i : S8192x2048.Idx) : V m c main_v0 i = dy m c i := by
  have e : V m c main_v0 = truncf (F := Ideal) (φ := .f32) .bf16 (dy m c) bitsLt_bf16_f32 := by
    dsimp only [V]; after_results
  rw [e]; rfl

theorem host_wd (i : S5632x2048.Idx) : V m c main_v1 i = wd m c i := by
  have e : V m c main_v1 = truncf (F := Ideal) (φ := .f32) .bf16 (wd m c) bitsLt_bf16_f32 := by
    dsimp only [V]; after_results
  rw [e]; rfl

theorem host_gate (i : S8192x5632.Idx) : V m c main_v2 i = gate m c i := by
  have e : V m c main_v2 = truncf (F := Ideal) (φ := .f32) .bf16 (gate m c) bitsLt_bf16_f32 := by
    dsimp only [V]; after_results
  rw [e]; rfl

theorem host_up (i : S8192x5632.Idx) : V m c main_v3 i = up m c i := by
  have e : V m c main_v3 = truncf (F := Ideal) (φ := .f32) .bf16 (up m c) bitsLt_bf16_f32 := by
    dsimp only [V]; after_results
  rw [e]; rfl

theorem index0 : ∀ t : Fin cfg0.N, win0_0.index t (0 : Fin 2) = t.val / 11 ∧ win0_0.index t (1 : Fin 2) = 0 :=
  (by decide +kernel : ∀ t : Fin grid0.N, _)

theorem index1 : ∀ t : Fin cfg0.N, win0_1.index t (0 : Fin 2) = t.val % 11 ∧ win0_1.index t (1 : Fin 2) = 0 :=
  (by decide +kernel : ∀ t : Fin grid0.N, _)

theorem index2 : ∀ t : Fin cfg0.N, win0_2.index t (0 : Fin 2) = t.val / 11 ∧ win0_2.index t (1 : Fin 2) = t.val % 11 :=
  (by decide +kernel : ∀ t : Fin grid0.N, _)

theorem index3 : ∀ t : Fin cfg0.N, win0_3.index t (0 : Fin 2) = t.val / 11 ∧ win0_3.index t (1 : Fin 2) = t.val % 11 :=
  (by decide +kernel : ∀ t : Fin grid0.N, _)

theorem index4 : ∀ t : Fin cfg0.N, win0_4.index t (0 : Fin 2) = t.val / 11 ∧ win0_4.index t (1 : Fin 2) = t.val % 11 :=
  (by decide +kernel : ∀ t : Fin grid0.N, _)

theorem index5 : ∀ t : Fin cfg0.N, win0_5.index t (0 : Fin 2) = t.val / 11 ∧ win0_5.index t (1 : Fin 2) = t.val % 11 :=
  (by decide +kernel : ∀ t : Fin grid0.N, _)

theorem index6 : ∀ t : Fin cfg0.N, win0_6.index t (0 : Fin 2) = t.val / 11 ∧ win0_6.index t (1 : Fin 2) = t.val % 11 :=
  (by decide +kernel : ∀ t : Fin grid0.N, _)

/-- The array's row and column of a block's row and column at a point. -/
def row (t : Fin cfg0.N) (p : Fin 1024) : Fin 8192 := ⟨1024 * (t.val / 11) + p.val, by
  have ht := lt_of_lt_of_eq t.isLt (show cfg0.N = 88 from N_0)
  omega⟩
def col (t : Fin cfg0.N) (q : Fin 512) : Fin 5632 := ⟨512 * (t.val % 11) + q.val, by omega⟩

theorem block_dy (t : Fin cfg0.N) (p : Fin 1024) (q : Fin 2048) :
    iblk m c 0 t (ix2 p q) = dy m c (ix2 (row t p) q) := by
  refine Eq.trans ?_ (host_dy m c (ix2 (row t p) q))
  show V m c main_v0 (((cfg0.win 0).blk t).view.emb (ix2 p q)) = _
  refine congrArg (V m c main_v0) (funext fun a => Fin.ext ?_)
  obtain ⟨e0, e1⟩ := index0 t
  match a with
  | ⟨0, _⟩ => show win0_0.index t (0 : Fin 2) * 1024 + 1 * p.val = 1024 * (t.val / 11) + p.val; omega
  | ⟨1, _⟩ => show win0_0.index t (1 : Fin 2) * 2048 + 1 * q.val = q.val; omega

theorem block_wd (t : Fin cfg0.N) (p : Fin 512) (q : Fin 2048) :
    iblk m c 1 t (ix2 p q) = wd m c (ix2 (col t p) q) := by
  refine Eq.trans ?_ (host_wd m c (ix2 (col t p) q))
  show V m c main_v1 (((cfg0.win 1).blk t).view.emb (ix2 p q)) = _
  refine congrArg (V m c main_v1) (funext fun a => Fin.ext ?_)
  obtain ⟨e0, e1⟩ := index1 t
  match a with
  | ⟨0, _⟩ => show win0_1.index t (0 : Fin 2) * 512 + 1 * p.val = 512 * (t.val % 11) + p.val; omega
  | ⟨1, _⟩ => show win0_1.index t (1 : Fin 2) * 2048 + 1 * q.val = q.val; omega

theorem block_gate (t : Fin cfg0.N) (p : Fin 1024) (q : Fin 512) :
    iblk m c 2 t (ix2 p q) = gate m c (ix2 (row t p) (col t q)) := by
  refine Eq.trans ?_ (host_gate m c (ix2 (row t p) (col t q)))
  show V m c main_v2 (((cfg0.win 2).blk t).view.emb (ix2 p q)) = _
  refine congrArg (V m c main_v2) (funext fun a => Fin.ext ?_)
  obtain ⟨e0, e1⟩ := index2 t
  match a with
  | ⟨0, _⟩ => show win0_2.index t (0 : Fin 2) * 1024 + 1 * p.val = 1024 * (t.val / 11) + p.val; omega
  | ⟨1, _⟩ => show win0_2.index t (1 : Fin 2) * 512 + 1 * q.val = 512 * (t.val % 11) + q.val; omega

theorem block_up (t : Fin cfg0.N) (p : Fin 1024) (q : Fin 512) :
    iblk m c 3 t (ix2 p q) = up m c (ix2 (row t p) (col t q)) := by
  refine Eq.trans ?_ (host_up m c (ix2 (row t p) (col t q)))
  show V m c main_v3 (((cfg0.win 3).blk t).view.emb (ix2 p q)) = _
  refine congrArg (V m c main_v3) (funext fun a => Fin.ext ?_)
  obtain ⟨e0, e1⟩ := index3 t
  match a with
  | ⟨0, _⟩ => show win0_3.index t (0 : Fin 2) * 1024 + 1 * p.val = 1024 * (t.val / 11) + p.val; omega
  | ⟨1, _⟩ => show win0_3.index t (1 : Fin 2) * 512 + 1 * q.val = 512 * (t.val % 11) + q.val; omega

abbrev dyBlk (t : Fin cfg0.N) : Vec Ideal S1024x2048 .bf16 := iblk m c 0 t
abbrev wdBlk (t : Fin cfg0.N) : Vec Ideal S512x2048 .bf16 := iblk m c 1 t

/-- The hidden layer's gradient, from a point's blocks. -/
theorem dact_blocks (t : Fin cfg0.N) (p : Fin 1024) (q : Fin 512) :
    (∑ k : Fin 2048, dyBlk m c t (ix2 p k) * wdBlk m c t (ix2 q k))
      = dact m c (row t p) (col t q) :=
  Finset.sum_congr rfl fun k _ => congrArg₂ (fun a b : EReal => a * b) (block_dy m c t p k) (block_wd m c t q k)

theorem emb4 (t : Fin cfg0.N) (p : Fin 1024) (q : Fin 512) : (win0_4.blk t).view.emb (ix2 p q) = ix2 (row t p) (col t q) := by
  refine funext fun a => Fin.ext ?_
  obtain ⟨e0, e1⟩ := index4 t
  match a with
  | ⟨0, _⟩ => show win0_4.index t (0 : Fin 2) * 1024 + 1 * p.val = 1024 * (t.val / 11) + p.val; omega
  | ⟨1, _⟩ => show win0_4.index t (1 : Fin 2) * 512 + 1 * q.val = 512 * (t.val % 11) + q.val; omega

theorem emb5 (t : Fin cfg0.N) (p : Fin 1024) (q : Fin 512) : (win0_5.blk t).view.emb (ix2 p q) = ix2 (row t p) (col t q) := by
  refine funext fun a => Fin.ext ?_
  obtain ⟨e0, e1⟩ := index5 t
  match a with
  | ⟨0, _⟩ => show win0_5.index t (0 : Fin 2) * 1024 + 1 * p.val = 1024 * (t.val / 11) + p.val; omega
  | ⟨1, _⟩ => show win0_5.index t (1 : Fin 2) * 512 + 1 * q.val = 512 * (t.val % 11) + q.val; omega

theorem emb6 (t : Fin cfg0.N) (p : Fin 1024) (q : Fin 512) : (win0_6.blk t).view.emb (ix2 p q) = ix2 (row t p) (col t q) := by
  refine funext fun a => Fin.ext ?_
  obtain ⟨e0, e1⟩ := index6 t
  match a with
  | ⟨0, _⟩ => show win0_6.index t (0 : Fin 2) * 1024 + 1 * p.val = 1024 * (t.val / 11) + p.val; omega
  | ⟨1, _⟩ => show win0_6.index t (1 : Fin 2) * 512 + 1 * q.val = 512 * (t.val % 11) + q.val; omega

/-- The three arrays. -/
def actArr : S8192x5632.Idx → EReal := fun i => actOf (gate m c i) (up m c i)
def dgateArr : S8192x5632.Idx → EReal := fun i => dgateOf (gate m c i) (up m c i) (dact m c (i 0) (i 1))
def dupArr : S8192x5632.Idx → EReal := fun i => dupOf (gate m c i) (dact m c (i 0) (i 1))

theorem arr_act : (dats m 0 c).arrAt 4 cfg0.N = actArr m c := by
  refine (dats m 0 c).arrAt_eq_of_covers 4 _ (by decide +kernel) fun t hf y => ?_
  blk_simp
  obtain ⟨p, q, rfl⟩ : ∃ (p : Fin 1024) (q : Fin 512), y = ix2 p q := ⟨y 0, y 1, eq_ix2 y⟩
  rw [after0_4, emb4]
  dsimp only [outsAt0]
  rw [act_block]
  exact congrArg₂ actOf (block_gate m c t p q) (block_up m c t p q)

theorem arr_dgate : (dats m 0 c).arrAt 5 cfg0.N = dgateArr m c := by
  refine (dats m 0 c).arrAt_eq_of_covers 5 _ (by decide +kernel) fun t hf y => ?_
  blk_simp
  obtain ⟨p, q, rfl⟩ : ∃ (p : Fin 1024) (q : Fin 512), y = ix2 p q := ⟨y 0, y 1, eq_ix2 y⟩
  rw [after0_5, emb5]
  dsimp only [outsAt0]
  rw [dgate_block]
  exact congr (congrArg₂ dgateOf (block_gate m c t p q) (block_up m c t p q)) (dact_blocks m c t p q)

theorem arr_dup : (dats m 0 c).arrAt 6 cfg0.N = dupArr m c := by
  refine (dats m 0 c).arrAt_eq_of_covers 6 _ (by decide +kernel) fun t hf y => ?_
  blk_simp
  obtain ⟨p, q, rfl⟩ : ∃ (p : Fin 1024) (q : Fin 512), y = ix2 p q := ⟨y 0, y 1, eq_ix2 y⟩
  rw [after0_6, emb6]
  dsimp only [outsAt0]
  rw [dup_block]
  exact congrArg₂ dupOf (block_gate m c t p q) (dact_blocks m c t p q)

end Cert.Kernel2Ideal.Ffn

end
-- ==== Proof.Ffn.HiddenSame.lean ====
/- The gradient of the hidden layer: the reference's arrays at an index, and the launch's equal to them where the up values, the
   last matrix and the output's gradient are finite. -/
module

public import proofs.«01_k».proof.Proof.Ffn.Hidden

@[expose] public section

set_option maxRecDepth 16384

noncomputable section

namespace Cert.Reference2Ideal.Ffn

open Idealize.ShloMosaic Idealize.ShloMosaic.TcCoe Idealize.SL.Sem
open Cert.Reference2Ideal Cert.Reference2Ideal.Gen Cert.Ffn
open scoped BigOperators

variable (gate up : FVec Ideal S8192x5632 .f32) (wd : FVec Ideal S5632x2048 .f32) (dy : FVec Ideal S8192x2048 .f32)

/-- The array of ones. -/
def ones : FVec Ideal S8192x5632 .f32 := broadcastInDim S8192x5632 ![] bcast_S_S8192x5632 (constant S_ .f32 0x3F800000#32)

/-- The logistic function of the gate. -/
def sg : FVec Ideal S8192x5632 .f32 := Host.divf ones (addf ones (Host.exp (Host.negf gate)))

/-- The hidden layer's gradient. -/
def dact : FVec Ideal S8192x5632 .f32 := Host.dotGeneral dot_S8192x2048_S5632x2048_S8192x5632_1_1_0_0_n_n none dy wd

/-- The reference's hidden layer, and its gradients of the gate and of the up values. -/
def act : FVec Ideal S8192x5632 .bf16 := truncf .bf16 (mulf (mulf gate (sg gate)) up) bitsLt_bf16_f32
def dgate : FVec Ideal S8192x5632 .bf16 :=
  truncf .bf16 (addf (mulf (mulf (dact wd dy) up) (sg gate))
    (mulf (mulf gate (mulf (dact wd dy) up)) (mulf (sg gate) (subf ones (sg gate))))) bitsLt_bf16_f32
def dup : FVec Ideal S8192x5632 .bf16 := truncf .bf16 (mulf (mulf gate (sg gate)) (dact wd dy)) bitsLt_bf16_f32

variable (p : Fin 8192) (q : Fin 5632)

theorem ones_at : ones (ix2 p q) = 1 := by
  refine Eq.trans ?_ Cert.Kernel2Ideal.Ffn.one_eq
  pointwise [ones]

theorem sg_at : sg gate (ix2 p q) = logis (gate (ix2 p q)) := by
  unfold logis
  rw [← ones_at p q]
  pointwise [sg]

theorem dact_at : dact wd dy (ix2 p q) = ∑ k : Fin 2048, dy (ix2 p k) * wd (ix2 q k) := by
  pointwise [dact]

theorem act_at : act gate up (ix2 p q) = actOf (gate (ix2 p q)) (up (ix2 p q)) := by
  unfold actOf
  rw [← sg_at gate p q]
  pointwise [act]

theorem dgate_at : dgate gate up wd dy (ix2 p q)
    = dact wd dy (ix2 p q) * up (ix2 p q) * logis (gate (ix2 p q))
      + gate (ix2 p q) * (dact wd dy (ix2 p q) * up (ix2 p q)) * (logis (gate (ix2 p q)) * (1 - logis (gate (ix2 p q)))) := by
  rw [← sg_at gate p q, ← ones_at p q]
  pointwise [dgate]

theorem dup_at : dup gate wd dy (ix2 p q) = gate (ix2 p q) * logis (gate (ix2 p q)) * dact wd dy (ix2 p q) := by
  rw [← sg_at gate p q]
  pointwise [dup]

/-- The reference has no semaphore. -/
theorem no_sem (s : SemLoc Cert.Reference2Ideal.sig) : False := by
  rcases s with s | s
  · exact s.elim0
  · exact s.elim0

end Cert.Reference2Ideal.Ffn

namespace Cert.Ffn

open Idealize.ShloMosaic Idealize.ShloMosaic.TcCoe Idealize.SL.Sem
open scoped BigOperators

/-- The side conditions of the bound. -/
theorem finite2_facts : Cert.Pre_finite2.Facts := by
  constructor <;> decide

/-- A finite array holds real numbers. -/
theorem real_of {a b : ℕ} (hb : Cert.Pre_finite2.S_.BroadcastsInDim (⟨2, ![a, b]⟩ : Shape) (![] : Fin 0 → Fin 2))
    (x : FVec Ideal (⟨2, ![a, b]⟩ : Shape) .f32)
    (h : cmpf .olt (Host.absf x) (broadcastInDim (⟨2, ![a, b]⟩ : Shape) ![] hb (constant Cert.Pre_finite2.S_ .f32 0x7F800000#32)) = fun _ => 1#1)
    (u : Fin a) (y : Fin b) : ∃ r : ℝ, x (ix2 u y) = (r : EReal) := by
  refine Cert.Fox.num_of _ ?_
  have e := congrFun h (ix2 u y)
  revert e
  pointwise []
  exact id

variable (m : (ℓ : Loc Cert.Kernel2Ideal.nD Cert.Kernel2Ideal.τ Cert.Kernel2Ideal.sig) → Buf (Elt Ideal) ℓ) (c : Dev Cert.Kernel2Ideal.nD)

/-- On finite arguments the gradient of the product of the gate and the up value is a real number. -/
theorem grad_real (h : Cert.Pre_Kernel2Ideal_finite2 (hPre_finite2 := finite2_facts) m) (p : Fin 8192) (q : Fin 5632) :
    ∃ r : ℝ, Cert.Kernel2Ideal.Ffn.dact m c p q * Cert.Kernel2Ideal.Ffn.up m c (ix2 p q) = (r : EReal) := by
  obtain ⟨h1, h2, h3⟩ := h c
  obtain ⟨u, hu⟩ := real_of _ _ h1 p q
  have hw := fun k => real_of _ _ h2 q k
  have hd := fun k => real_of _ _ h3 p k
  choose w hw using hw
  choose d hd using hd
  have e : Cert.Kernel2Ideal.Ffn.dact m c p q = ((∑ k : Fin 2048, d k * w k : ℝ) : EReal) :=
    Cert.Fox.sum_coe fun k => by
      rw [EReal.coe_mul]
      exact congrArg₂ (fun a b : EReal => a * b) (hd k) (hw k)
  exact ⟨(∑ k : Fin 2048, d k * w k) * u, by
    rw [EReal.coe_mul]
    exact congrArg₂ (fun a b : EReal => a * b) e hu⟩

theorem act_same : Cert.Reference2Ideal.Ffn.act (Cert.Kernel2Ideal.Ffn.gate m c) (Cert.Kernel2Ideal.Ffn.up m c)
    = Cert.Kernel2Ideal.Ffn.actArr m c := by
  funext i
  obtain ⟨p, q, rfl⟩ : ∃ (p : Fin 8192) (q : Fin 5632), i = ix2 p q := ⟨i 0, i 1, eq_ix2 i⟩
  exact Cert.Reference2Ideal.Ffn.act_at _ _ p q

theorem dgate_same (h : Cert.Pre_Kernel2Ideal_finite2 (hPre_finite2 := finite2_facts) m) :
    Cert.Reference2Ideal.Ffn.dgate (Cert.Kernel2Ideal.Ffn.gate m c) (Cert.Kernel2Ideal.Ffn.up m c) (Cert.Kernel2Ideal.Ffn.wd m c)
      (Cert.Kernel2Ideal.Ffn.dy m c) = Cert.Kernel2Ideal.Ffn.dgateArr m c := by
  funext i
  obtain ⟨p, q, rfl⟩ : ∃ (p : Fin 8192) (q : Fin 5632), i = ix2 p q := ⟨i 0, i 1, eq_ix2 i⟩
  obtain ⟨r, hr⟩ := grad_real m c h p q
  refine (Cert.Reference2Ideal.Ffn.dgate_at _ _ _ _ p q).trans ?_
  rw [Cert.Reference2Ideal.Ffn.dact_at]
  exact gate_forms _ _ _ r hr

theorem dup_same : Cert.Reference2Ideal.Ffn.dup (Cert.Kernel2Ideal.Ffn.gate m c) (Cert.Kernel2Ideal.Ffn.wd m c)
    (Cert.Kernel2Ideal.Ffn.dy m c) = Cert.Kernel2Ideal.Ffn.dupArr m c := by
  funext i
  obtain ⟨p, q, rfl⟩ : ∃ (p : Fin 8192) (q : Fin 5632), i = ix2 p q := ⟨i 0, i 1, eq_ix2 i⟩
  refine (Cert.Reference2Ideal.Ffn.dup_at _ _ _ p q).trans ?_
  rw [Cert.Reference2Ideal.Ffn.dact_at]
  exact mul_comm _ _

theorem dgate_congr {g g' u u' : FVec Ideal Cert.Reference2Ideal.S8192x5632 .f32} {w w' : FVec Ideal Cert.Reference2Ideal.S5632x2048 .f32}
    {d d' : FVec Ideal Cert.Reference2Ideal.S8192x2048 .f32} (h1 : g = g') (h2 : u = u') (h3 : w = w') (h4 : d = d') :
    Cert.Reference2Ideal.Ffn.dgate g u w d = Cert.Reference2Ideal.Ffn.dgate g' u' w' d' := by
  subst h1; subst h2; subst h3; subst h4; rfl

theorem dup_congr {g g' : FVec Ideal Cert.Reference2Ideal.S8192x5632 .f32} {w w' : FVec Ideal Cert.Reference2Ideal.S5632x2048 .f32}
    {d d' : FVec Ideal Cert.Reference2Ideal.S8192x2048 .f32} (h1 : g = g') (h3 : w = w') (h4 : d = d') :
    Cert.Reference2Ideal.Ffn.dup g w d = Cert.Reference2Ideal.Ffn.dup g' w' d' := by
  subst h1; subst h3; subst h4; rfl

theorem hidden : Cert.algebraic_Kernel2Ideal_Reference2Ideal_pre_finite2 (hKernel2Ideal := Cert.Kernel2Ideal.Gen.facts)
    (hReference2Ideal := Cert.Reference2Ideal.Gen.facts) (hPre_finite2 := finite2_facts) := fun m g m' g' hF hA =>
  ⟨Cert.Kernel2Ideal.Ffn.actArr m, Cert.Kernel2Ideal.Ffn.dgateArr m, Cert.Kernel2Ideal.Ffn.dupArr m,
    (θ_run Cert.Kernel2Ideal.defs _ _).mono
      (fun _ h c => ⟨(h c).1.trans (Cert.Kernel2Ideal.Ffn.arr_act m c), (h c).2.1.trans (Cert.Kernel2Ideal.Ffn.arr_dgate m c),
        (h c).2.2.1.trans (Cert.Kernel2Ideal.Ffn.arr_dup m c), (h c).2.2.2⟩)
      (Cert.Kernel2Ideal.Value.run_blocks m g),
    (θ_run Cert.Reference2Ideal.defs _ _).mono
      (fun _ h c => ⟨(h c).1.trans ((congrArg₂ Cert.Reference2Ideal.Ffn.act (hA c).1 (hA c).2.1).trans (act_same m c)),
        (h c).2.1.trans ((dgate_congr (hA c).1 (hA c).2.1 (hA c).2.2.1 (hA c).2.2.2).trans (dgate_same m c hF)),
        (h c).2.2.1.trans ((dup_congr (hA c).1 (hA c).2.2.1 (hA c).2.2.2).trans (dup_same m c)), (h c).2.2.2⟩)
      (Cert.Reference2Ideal.Value.run m' g')⟩

theorem hidden_reference (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal)))
      ⟨m, fun _ => 0, g⟩ (fun r => (∀ c : Dev Cert.Reference2Ideal.nD,
        r.2.mem ((c.tc : Thread Cert.Reference2Ideal.nD Cert.Reference2Ideal.τ).loc Cert.Reference2Ideal.main_arg0)
          = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1)
          = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2)
          = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3)
          = m ((c.tc : Thread Cert.Reference2Ideal.nD Cert.Reference2Ideal.τ).loc Cert.Reference2Ideal.main_arg3))
      ∧ r.2.sem = fun _ => 0) :=
  (θ_run Cert.Reference2Ideal.defs _ _).mono
    (fun _ h => ⟨fun c => (h c).2.2.2, funext fun s => (Cert.Reference2Ideal.Ffn.no_sem s.2).elim⟩) (Cert.Reference2Ideal.Value.run m g)

theorem hidden_ideal : Cert.quiescent_Kernel2Ideal (hKernel2Ideal := Cert.Kernel2Ideal.Gen.facts) := fun m g _ =>
  Cert.Kernel2Ideal.Gen.frame m g

theorem hidden_words : Cert.quiescent_Kernel2 (hKernel2 := Cert.Kernel2.Gen.facts) := fun m g _ => Cert.Kernel2.Gen.frame m g

end Cert.Ffn

end
-- ==== Proof.Ffn.Sums.lean ====
/- A sum over the rows or columns of a matrix is the sum over its first part and the sum over the rest. -/
module

public import Idealize.ShloMosaic.PureOps.Ideal
public import Mathlib.Algebra.BigOperators.Fin

@[expose] public section

namespace Cert.Ffn

open scoped BigOperators

/-- A sum of `a + b` terms, the first `a` apart. -/
theorem sum_split {N : ℕ} (a b : ℕ) (h : N = a + b) (f : Fin N → EReal) :
    ∑ k, f k = ∑ k : Fin a, f ⟨k.val, by omega⟩ + ∑ k : Fin b, f ⟨a + k.val, by omega⟩ := by
  subst h
  exact Fin.sum_univ_add f

end Cert.Ffn

end
-- ==== Proof.Ffn.Down.lean ====
/- The gradient of the feed-forward network's last matrix (`ffn2_dwd`): the array the launch leaves is the product of the
   hidden layer, transposed, and the gradient of the output, its rows added up in two halves. -/
module

public import proofs.«01_k».proof.Proof.Gen.Kernel3Ideal.Value
public import proofs.«01_k».proof.Proof.Gen.Reference3Ideal.Run
public import proofs.«01_k».proof.Defs
public import proofs.«01_k».proof.Proof.Gen.Kernel3.Frame
public import proofs.«01_k».proof.Proof.Ffn.Sums
public import Idealize.ShloMosaic.Lib.Pointwise
public import Idealize.ShloMosaic.Lib.Tactic

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen Cert.Kernel3Ideal.Value
open scoped BigOperators

section Body

variable {F : FTy → Type} [FloatOps F]

theorem zeros : (![0, 0] : Fin 2 → ℕ) = fun _ => 0 := funext fun a => by fin_cases a <;> rfl

/-- At a block's last point the body stores what the accumulator then holds. -/
theorem out_last (c : Dev nD) (i : grid0.Coords) (a3 : Memref sig .tc .vmem S4096x512 .bf16) (h3 : a3.IsWhole)
    (a4 : Memref sig .tc .vmem S4096x1024 .bf16) (h4 : a4.IsWhole) (a5 : Memref sig .tc .vmem S512x1024 .bf16) (h5 : a5.IsWhole)
    (a6 : Memref sig .tc .vmem S512x1024 .f32) (h6 : a6.IsWhole) (hc0 : ¬cond0_0 i) (hc1 : cond0_1 i)
    (x : Vec F S4096x512 .bf16) (y : Vec F S4096x1024 .bf16) (acc : Vec F S512x1024 .f32) :
    out0_B_2 c i a3 h3 a4 h4 a5 h5 a6 h6 hc0 hc1 x y acc = k0_pay3 (k0_pay2 x y acc) := by
  unfold out0_B_2
  rw [View.read_writes_eq_canon _ _ _ (cover0_B_2 c i a3 h3 a4 h4 a5 h5 a6 h6 hc0 hc1 x y acc)]
  unfold kernelRun0_B
  dsimp only
  sl_unfold_words
  rw [View.canon_unit_zero zeros]
  simp only [View.readCov_unit_zero (S := S512x1024) _ zeros, View.readAt_eq_ld, h3.read_unread, h4.read_unread, h6.read_unread,
    View.ld_unit_zero (S := S4096x512) zeros, View.ld_unit_zero (S := S4096x1024) zeros, View.ld_unit_zero (S := S512x1024) zeros]

/-- At a block's first point the body leaves one step over zeros in the accumulator. -/
theorem acc_first (c : Dev nD) (i : grid0.Coords) (a3 : Memref sig .tc .vmem S4096x512 .bf16) (h3 : a3.IsWhole)
    (a4 : Memref sig .tc .vmem S4096x1024 .bf16) (h4 : a4.IsWhole) (a5 : Memref sig .tc .vmem S512x1024 .bf16) (h5 : a5.IsWhole)
    (a6 : Memref sig .tc .vmem S512x1024 .f32) (h6 : a6.IsWhole) (hc0 : cond0_0 i) (hc1 : ¬cond0_1 i)
    (x : Vec F S4096x512 .bf16) (y : Vec F S4096x1024 .bf16) :
    sout0_A_0 c i a3 h3 a4 h4 a5 h5 a6 h6 hc0 hc1 x y = k0_pay2 x y k0_pay1 := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S512x1024) zeros]
  simp only [View.readCov_unit_zero (S := S512x1024) _ zeros, View.readAt_eq_ld, h3.read_unread, h4.read_unread, h6.read_unread,
    View.ld_unit_zero (S := S4096x512) zeros, View.ld_unit_zero (S := S4096x1024) zeros, View.ld_unit_zero (S := S512x1024) zeros]

end Body

/-- One step adds the block's product to the accumulator. -/
theorem step_at (x : Vec Ideal S4096x512 .bf16) (y : Vec Ideal S4096x1024 .bf16) (acc : Vec Ideal S512x1024 .f32) (p : Fin 512) (q : Fin 1024) :
    k0_pay2 x y acc (ix2 p q) = acc (ix2 p q) + ∑ k : Fin 4096, x (ix2 k p) * y (ix2 k q) := by
  pointwise [k0_pay2]

theorem zero_at (p : Fin 512) (q : Fin 1024) : k0_pay1 (F := Ideal) (ix2 p q) = 0 := by
  pointwise [k0_pay1]

theorem store_at (x : Vec Ideal S512x1024 .f32) (p : Fin 512) (q : Fin 1024) : k0_pay3 x (ix2 p q) = x (ix2 p q) := by
  pointwise [k0_pay3]

variable (m : (ℓ : Loc nD τ sig) → Buf (Elt Ideal) ℓ) (c : Dev nD)

/-- The hidden layer, and the gradient of the output, as the launch is given them. -/
abbrev act : Vec Ideal S8192x5632 .f32 := m ((c : Thread nD τ).loc main_arg0)
abbrev dy : Vec Ideal S8192x2048 .f32 := m ((c : Thread nD τ).loc main_arg2)

theorem index0 : ∀ t : Fin cfg0.N, win0_0.index t (0 : Fin 2) = t.val % 2 ∧ win0_0.index t (1 : Fin 2) = t.val / 4 :=
  (by decide +kernel : ∀ t : Fin grid0.N, _)

theorem index1 : ∀ t : Fin cfg0.N, win0_1.index t (0 : Fin 2) = t.val % 2 ∧ win0_1.index t (1 : Fin 2) = t.val / 2 % 2 :=
  (by decide +kernel : ∀ t : Fin grid0.N, _)

theorem host_act (i : S8192x5632.Idx) : V m c main_v0 i = act m c i := by
  have e : V m c main_v0 = truncf (F := Ideal) (φ := .f32) .bf16 (act m c) bitsLt_bf16_f32 := by
    dsimp only [V]; after_results
  rw [e]; rfl

theorem host_dy (i : S8192x2048.Idx) : V m c main_v1 i = dy m c i := by
  have e : V m c main_v1 = truncf (F := Ideal) (φ := .f32) .bf16 (dy m c) bitsLt_bf16_f32 := by
    dsimp only [V]; after_results
  rw [e]; rfl

/-- The block of the hidden layer at a point. -/
theorem block_act (t : Fin cfg0.N) (k : Fin 4096) (p : Fin 512) (k' : Fin 8192) (p' : Fin 5632)
    (hk : k'.val = 4096 * (t.val % 2) + k.val) (hp : p'.val = 512 * (t.val / 4) + p.val) :
    iblk m c 0 t (ix2 k p) = act m c (ix2 k' p') := by
  refine Eq.trans ?_ (host_act m c (ix2 k' p'))
  show V m c main_v0 (((cfg0.win 0).blk t).view.emb (ix2 k p)) = _
  refine congrArg (V m c main_v0) (funext fun a => Fin.ext ?_)
  obtain ⟨e0, e1⟩ := index0 t
  match a with
  | ⟨0, _⟩ => show win0_0.index t (0 : Fin 2) * 4096 + 1 * k.val = k'.val; omega
  | ⟨1, _⟩ => show win0_0.index t (1 : Fin 2) * 512 + 1 * p.val = p'.val; omega

/-- The block of the output's gradient at a point. -/
theorem block_dy (t : Fin cfg0.N) (k : Fin 4096) (q : Fin 1024) (k' : Fin 8192) (q' : Fin 2048)
    (hk : k'.val = 4096 * (t.val % 2) + k.val) (hq : q'.val = 1024 * (t.val / 2 % 2) + q.val) :
    iblk m c 1 t (ix2 k q) = dy m c (ix2 k' q') := by
  refine Eq.trans ?_ (host_dy m c (ix2 k' q'))
  show V m c main_v1 (((cfg0.win 1).blk t).view.emb (ix2 k q)) = _
  refine congrArg (V m c main_v1) (funext fun a => Fin.ext ?_)
  obtain ⟨e0, e1⟩ := index1 t
  match a with
  | ⟨0, _⟩ => show win0_1.index t (0 : Fin 2) * 4096 + 1 * k.val = k'.val; omega
  | ⟨1, _⟩ => show win0_1.index t (1 : Fin 2) * 1024 + 1 * q.val = q'.val; omega

/-- What the accumulator holds after a block's first point. -/
theorem first_at (s : Fin cfg0.N) (he : s.val % 2 = 0) (n : ℕ) (h : n < cfg0.N) (hn : n = s.val) :
    (outsAt0 m c n h).2 = k0_pay2 (iblk m c 0 s) (iblk m c 1 s) (k0_pay1 (F := Ideal)) := by
  subst hn
  have h1 : ¬s.val % 2 = 1 := by omega
  rw [outsAt0_A m c s he h1]
  dsimp only
  rw [acc_first]

/-- What a block's second point leaves for the output. -/
theorem last_at (t s : Fin cfg0.N) (hs : t.val = s.val + 1) (he : s.val % 2 = 0) :
    (outsAt0 m c t.val t.isLt).1
      = k0_pay3 (k0_pay2 (iblk m c 0 t) (iblk m c 1 t) (k0_pay2 (iblk m c 0 s) (iblk m c 1 s) (k0_pay1 (F := Ideal)))) := by
  have h0 : ¬t.val % 2 = 0 := by omega
  have h1 : t.val % 2 = 1 := by omega
  have hp : t.val - 1 = s.val := by omega
  rw [outsAt0_B m c t h0 h1]
  dsimp only
  rw [out_last, first_at m c s he (t.val - 1) _ hp]

/-- The array at an index is what the second point of the index's block leaves there. -/
theorem G_point (p : Fin 5632) (q : Fin 2048) (t : Fin cfg0.N) (ht : t.val = 2 * (2 * (p.val / 512) + q.val / 1024) + 1) :
    G2 m c (ix2 p q) = (outsAt0 m c t.val t.isLt).1
      (ix2 (⟨p.val % 512, Nat.mod_lt _ (by decide)⟩ : Fin 512) (⟨q.val % 1024, Nat.mod_lt _ (by decide)⟩ : Fin 1024)) := by
  have hr : pt2Of (ix2 p q) = t.val := by
    rw [ht]; show 2 * (2 * (p.val / 512 - 0) + 1 * (q.val / 1024 - 0)) + 1 = _
    rw [Nat.sub_zero, Nat.sub_zero, Nat.one_mul]
  have hl : loc2Of (ix2 p q)
      = ix2 (⟨p.val % 512, Nat.mod_lt _ (by decide)⟩ : Fin 512) (⟨q.val % 1024, Nat.mod_lt _ (by decide)⟩ : Fin 1024) := by
    funext a; match a with
    | ⟨0, _⟩ => rfl
    | ⟨1, _⟩ => rfl
  have hb : 0 + t.val < cfg0.N := by rw [Nat.zero_add]; exact t.isLt
  have hb' : pt2Of (ix2 p q) < cfg0.N := by rw [hr]; exact t.isLt
  unfold G2
  rw [dif_pos hb', hl, fold0_congr m c _ _ t.val hb hr, ← outsAt0_sweep m c t.val t.isLt]

/-- The points of an index's block. -/
theorem points (p : Fin 5632) (q : Fin 2048) : ∃ t s : Fin cfg0.N, t.val = 2 * (2 * (p.val / 512) + q.val / 1024) + 1
    ∧ t.val = s.val + 1 ∧ s.val % 2 = 0 ∧ t.val % 2 = 1 ∧ t.val / 4 = p.val / 512 ∧ s.val / 4 = p.val / 512
    ∧ t.val / 2 % 2 = q.val / 1024 ∧ s.val / 2 % 2 = q.val / 1024 := by
  have hN : cfg0.N = 44 := N_0
  have hp := p.isLt
  have hq := q.isLt
  refine ⟨⟨2 * (2 * (p.val / 512) + q.val / 1024) + 1, by rw [hN]; omega⟩, ⟨2 * (2 * (p.val / 512) + q.val / 1024), by rw [hN]; omega⟩, ?_⟩
  dsimp only
  omega

/-- The array the launch leaves: the product of the hidden layer, transposed, and the output's gradient. -/
theorem G_at (p : Fin 5632) (q : Fin 2048) : G2 m c (ix2 p q) = ∑ k : Fin 8192, act m c (ix2 k p) * dy m c (ix2 k q) := by
  obtain ⟨t, s, ht, hs, h0, h1, a1, a0, b1, b0⟩ := points p q
  have hp : p.val = 512 * (p.val / 512) + p.val % 512 := (Nat.div_add_mod _ _).symm
  have hq : q.val = 1024 * (q.val / 1024) + q.val % 1024 := (Nat.div_add_mod _ _).symm
  rw [G_point m c p q t ht, last_at m c t s hs h0, store_at, step_at, step_at, zero_at, zero_add,
    Cert.Ffn.sum_split 4096 4096 rfl]
  refine congrArg₂ (· + ·) (Finset.sum_congr rfl fun k _ => ?_) (Finset.sum_congr rfl fun k _ => ?_)
  · refine congrArg₂ (· * ·) (block_act m c s k _ _ p ?_ ?_) (block_dy m c s k _ _ q ?_ ?_)
    · rw [h0, Nat.mul_zero, Nat.zero_add]
    · rw [a0]; exact hp
    · rw [h0, Nat.mul_zero, Nat.zero_add]
    · rw [b0]; exact hq
  · refine congrArg₂ (· * ·) (block_act m c t k _ _ p ?_ ?_) (block_dy m c t k _ _ q ?_ ?_)
    · rw [h1, Nat.mul_one]
    · rw [a1]; exact hp
    · rw [h1, Nat.mul_one]
    · rw [b1]; exact hq

end Cert.Kernel3Ideal.Ffn

namespace Cert.Reference3Ideal.Ffn

open Idealize.ShloMosaic Idealize.ShloMosaic.TcCoe Idealize.SL.Sem
open Cert.Reference3Ideal Cert.Reference3Ideal.Gen
open scoped BigOperators

/-- The reference's gradient of the last matrix. -/
def grad (act : FVec Ideal S8192x5632 .f32) (dy : FVec Ideal S8192x2048 .f32) : FVec Ideal S5632x2048 .bf16 :=
  truncf .bf16 (transpose S5632x2048 [1, 0] (Host.dotGeneral dot_S8192x2048_S8192x5632_S2048x5632_0_0_1_1_n_n none dy act)
    transposes_S2048x5632_S5632x2048_1_0) bitsLt_bf16_f32

theorem grad_at (act : FVec Ideal S8192x5632 .f32) (dy : FVec Ideal S8192x2048 .f32) (p : Fin 5632) (q : Fin 2048) :
    grad act dy (ix2 p q) = ∑ k : Fin 8192, dy (ix2 k q) * act (ix2 k p) := by
  pointwise [grad]

/-- The reference has no semaphore. -/
theorem no_sem (s : SemLoc sig) : False := by
  rcases s with s | s
  · exact s.elim0
  · exact s.elim0

end Cert.Reference3Ideal.Ffn

namespace Cert.Ffn

open Idealize.ShloMosaic Idealize.ShloMosaic.TcCoe Idealize.SL.Sem

/-- The launch leaves the reference's gradient of the last matrix. -/
theorem down_same (m : (ℓ : Loc Cert.Kernel3Ideal.nD Cert.Kernel3Ideal.τ Cert.Kernel3Ideal.sig) → Buf (Elt Ideal) ℓ) (c : Dev Cert.Kernel3Ideal.nD) :
    Cert.Reference3Ideal.Ffn.grad (Cert.Kernel3Ideal.Ffn.act m c) (Cert.Kernel3Ideal.Ffn.dy m c) = Cert.Kernel3Ideal.Value.G2 m c := by
  funext i
  obtain ⟨p, q, rfl⟩ : ∃ (p : Fin 5632) (q : Fin 2048), i = ix2 p q := ⟨i 0, i 1, eq_ix2 i⟩
  refine (Cert.Reference3Ideal.Ffn.grad_at _ _ p q).trans (Eq.trans ?_ (Cert.Kernel3Ideal.Ffn.G_at m c p q).symm)
  exact Finset.sum_congr rfl fun k _ => mul_comm _ _

theorem down : Cert.algebraic_Kernel3Ideal_Reference3Ideal (hKernel3Ideal := Cert.Kernel3Ideal.Gen.facts)
    (hReference3Ideal := Cert.Reference3Ideal.Gen.facts) := fun m g m' g' _ hA =>
  ⟨Cert.Kernel3Ideal.Value.G2 m, Cert.Kernel3Ideal.Value.run m g,
    (θ_run Cert.Reference3Ideal.defs _ _).mono
      (fun _ h c => ⟨(h c).1.trans ((congrArg₂ Cert.Reference3Ideal.Ffn.grad (hA c).1 (hA c).2.2).trans (down_same m c)), (h c).2⟩)
      (Cert.Reference3Ideal.Value.run m' g')⟩

theorem down_reference : Cert.quiescent_Reference3Ideal (hReference3Ideal := Cert.Reference3Ideal.Gen.facts) := fun m g _ =>
  (θ_run Cert.Reference3Ideal.defs _ _).mono
    (fun _ h => ⟨fun c => (h c).2, funext fun s => (Cert.Reference3Ideal.Ffn.no_sem s.2).elim⟩) (Cert.Reference3Ideal.Value.run m g)

theorem down_ideal : Cert.quiescent_Kernel3Ideal (hKernel3Ideal := Cert.Kernel3Ideal.Gen.facts) := fun m g _ =>
  Cert.Kernel3Ideal.Gen.frame m g

theorem down_words : Cert.quiescent_Kernel3 (hKernel3 := Cert.Kernel3.Gen.facts) := fun m g _ => Cert.Kernel3.Gen.frame m g

end Cert.Ffn

end
-- ==== Proof.Ffn.Input.lean ====
/- The gradient of the feed-forward network's input (`ffn2_dh`): the array the launch leaves is the sum of the two products
   of a hidden gradient and a weight matrix, transposed, the hidden axis added up in two halves. -/
module

public import proofs.«01_k».proof.Proof.Gen.Kernel4Ideal.Value
public import proofs.«01_k».proof.Proof.Gen.Reference4Ideal.Run
public import proofs.«01_k».proof.Defs
public import proofs.«01_k».proof.Proof.Gen.Kernel4.Frame
public import proofs.«01_k».proof.Proof.Ffn.Sums
public import Idealize.ShloMosaic.Lib.Pointwise
public import Idealize.ShloMosaic.Lib.Tactic

@[expose] public section

set_option maxRecDepth 16384

noncomputable section

namespace Cert.Kernel4Ideal.Ffn

open Idealize.ShloMosaic Idealize.ShloMosaic.TcCoe Idealize.SL.Sem
open Cert.Kernel4Ideal Cert.Kernel4Ideal.Gen Cert.Kernel4Ideal.Value
open scoped BigOperators

section Body

variable {F : FTy → Type} [FloatOps F]

theorem zeros : (![0, 0] : Fin 2 → ℕ) = fun _ => 0 := funext fun a => by fin_cases a <;> rfl

/-- At a block's last point the body stores what the accumulator then holds. -/
theorem out_last (c : Dev nD) (i : grid0.Coords) (a3 : Memref sig .tc .vmem S1024x2816 .bf16) (h3 : a3.IsWhole)
    (a4 : Memref sig .tc .vmem S2816x512 .bf16) (h4 : a4.IsWhole) (a5 : Memref sig .tc .vmem S1024x2816 .bf16) (h5 : a5.IsWhole)
    (a6 : Memref sig .tc .vmem S2816x512 .bf16) (h6 : a6.IsWhole) (a7 : Memref sig .tc .vmem S1024x512 .bf16) (h7 : a7.IsWhole)
    (a8 : Memref sig .tc .vmem S1024x512 .f32) (h8 : a8.IsWhole) (hc0 : ¬cond0_0 i) (hc1 : cond0_1 i)
    (x : Vec F S1024x2816 .bf16) (w : Vec F S2816x512 .bf16) (y : Vec F S1024x2816 .bf16) (v : Vec F S2816x512 .bf16) (acc : Vec F S1024x512 .f32) :
    out0_B_4 c i a3 h3 a4 h4 a5 h5 a6 h6 a7 h7 a8 h8 hc0 hc1 x w y v acc = k0_pay3 (k0_pay2 x w y v acc) := by
  unfold out0_B_4
  rw [View.read_writes_eq_canon _ _ _ (cover0_B_4 c i a3 h3 a4 h4 a5 h5 a6 h6 a7 h7 a8 h8 hc0 hc1 x w y v acc)]
  unfold kernelRun0_B
  dsimp only
  sl_unfold_words
  rw [View.canon_unit_zero zeros]
  simp only [View.readCov_unit_zero (S := S1024x512) _ zeros, View.readAt_eq_ld, h3.read_unread, h4.read_unread, h5.read_unread,
    h6.read_unread, h8.read_unread, View.ld_unit_zero (S := S1024x2816) zeros, View.ld_unit_zero (S := S2816x512) zeros,
    View.ld_unit_zero (S := S1024x512) zeros]

/-- At a block's first point the body leaves one step over zeros in the accumulator. -/
theorem acc_first (c : Dev nD) (i : grid0.Coords) (a3 : Memref sig .tc .vmem S1024x2816 .bf16) (h3 : a3.IsWhole)
    (a4 : Memref sig .tc .vmem S2816x512 .bf16) (h4 : a4.IsWhole) (a5 : Memref sig .tc .vmem S1024x2816 .bf16) (h5 : a5.IsWhole)
    (a6 : Memref sig .tc .vmem S2816x512 .bf16) (h6 : a6.IsWhole) (a7 : Memref sig .tc .vmem S1024x512 .bf16) (h7 : a7.IsWhole)
    (a8 : Memref sig .tc .vmem S1024x512 .f32) (h8 : a8.IsWhole) (hc0 : cond0_0 i) (hc1 : ¬cond0_1 i)
    (x : Vec F S1024x2816 .bf16) (w : Vec F S2816x512 .bf16) (y : Vec F S1024x2816 .bf16) (v : Vec F S2816x512 .bf16) :
    sout0_A_0 c i a3 h3 a4 h4 a5 h5 a6 h6 a7 h7 a8 h8 hc0 hc1 x w y v = k0_pay2 x w y v k0_pay1 := by
  unfold sout0_A_0
  rw [View.read_writes_eq_canon _ _ _ (scover0_A_0 c i a3 h3 a4 h4 a5 h5 a6 h6 a7 h7 a8 h8 hc0 hc1 x w y v)]
  unfold kernelRun0_A
  dsimp only
  sl_unfold_words
  rw [View.canon_cons_unit_zero (S := S1024x512) zeros]
  simp only [View.readCov_unit_zero (S := S1024x512) _ zeros, View.readAt_eq_ld, h3.read_unread, h4.read_unread, h5.read_unread,
    h6.read_unread, h8.read_unread, View.ld_unit_zero (S := S1024x2816) zeros, View.ld_unit_zero (S := S2816x512) zeros,
    View.ld_unit_zero (S := S1024x512) zeros]

end Body

/-- One step adds the two blocks' products to the accumulator. -/
theorem step_at (x : Vec Ideal S1024x2816 .bf16) (w : Vec Ideal S2816x512 .bf16) (y : Vec Ideal S1024x2816 .bf16) (v : Vec Ideal S2816x512 .bf16)
    (acc : Vec Ideal S1024x512 .f32) (p : Fin 1024) (q : Fin 512) :
    k0_pay2 x w y v acc (ix2 p q)
      = acc (ix2 p q) + ((∑ k : Fin 2816, x (ix2 p k) * w (ix2 k q)) + ∑ k : Fin 2816, y (ix2 p k) * v (ix2 k q)) := by
  pointwise [k0_pay2]

theorem zero_at (p : Fin 1024) (q : Fin 512) : k0_pay1 (F := Ideal) (ix2 p q) = 0 := by
  pointwise [k0_pay1]

theorem store_at (x : Vec Ideal S1024x512 .f32) (p : Fin 1024) (q : Fin 512) : k0_pay3 x (ix2 p q) = x (ix2 p q) := by
  pointwise [k0_pay3]

variable (m : (ℓ : Loc nD τ sig) → Buf (Elt Ideal) ℓ) (c : Dev nD)

/-- The two weight matrices, and the gradients of the two hidden arrays, as the launch is given them. -/
abbrev wg : Vec Ideal S2048x5632 .f32 := m ((c : Thread nD τ).loc main_arg1)
abbrev wu : Vec Ideal S2048x5632 .f32 := m ((c : Thread nD τ).loc main_arg2)
abbrev dgate : Vec Ideal S8192x5632 .f32 := m ((c : Thread nD τ).loc main_arg3)
abbrev dup : Vec Ideal S8192x5632 .f32 := m ((c : Thread nD τ).loc main_arg4)

theorem index0 : ∀ t : Fin cfg0.N, win0_0.index t (0 : Fin 2) = t.val / 8 ∧ win0_0.index t (1 : Fin 2) = t.val % 2 :=
  (by decide +kernel : ∀ t : Fin grid0.N, _)

theorem index2 : ∀ t : Fin cfg0.N, win0_2.index t (0 : Fin 2) = t.val / 8 ∧ win0_2.index t (1 : Fin 2) = t.val % 2 :=
  (by decide +kernel : ∀ t : Fin grid0.N, _)

theorem index1 : ∀ t : Fin cfg0.N, win0_1.index t (0 : Fin 2) = t.val % 2 ∧ win0_1.index t (1 : Fin 2) = t.val / 2 % 4 :=
  (by decide +kernel : ∀ t : Fin grid0.N, _)

theorem index3 : ∀ t : Fin cfg0.N, win0_3.index t (0 : Fin 2) = t.val % 2 ∧ win0_3.index t (1 : Fin 2) = t.val / 2 % 4 :=
  (by decide +kernel : ∀ t : Fin grid0.N, _)

theorem host_dgate (i : S8192x5632.Idx) : V m c main_v0 i = dgate m c i := by
  have e : V m c main_v0 = truncf (F := Ideal) (φ := .f32) .bf16 (dgate m c) bitsLt_bf16_f32 := by
    dsimp only [V]; after_results
  rw [e]; rfl

theorem host_dup (i : S8192x5632.Idx) : V m c main_v3 i = dup m c i := by
  have e : V m c main_v3 = truncf (F := Ideal) (φ := .f32) .bf16 (dup m c) bitsLt_bf16_f32 := by
    dsimp only [V]; after_results
  rw [e]; rfl

/-- The launch is given the weight matrix transposed. -/
theorem host_wg (k : Fin 5632) (q : Fin 2048) : V m c main_v2 (ix2 k q) = wg m c (ix2 q k) := by
  have e : V m c main_v2 = truncf (F := Ideal) (φ := .f32) .bf16
      (transpose S5632x2048 [1, 0] (wg m c) transposes_S2048x5632_S5632x2048_1_0) bitsLt_bf16_f32 := by
    dsimp only [V]; after_results
  rw [e]; pointwise

/-- The launch is given the weight matrix transposed. -/
theorem host_wu (k : Fin 5632) (q : Fin 2048) : V m c main_v5 (ix2 k q) = wu m c (ix2 q k) := by
  have e : V m c main_v5 = truncf (F := Ideal) (φ := .f32) .bf16
      (transpose S5632x2048 [1, 0] (wu m c) transposes_S2048x5632_S5632x2048_1_0) bitsLt_bf16_f32 := by
    dsimp only [V]; after_results
  rw [e]; pointwise

theorem block_dgate (t : Fin cfg0.N) (p : Fin 1024) (k : Fin 2816) (p' : Fin 8192) (k' : Fin 5632)
    (hp : p'.val = 1024 * (t.val / 8) + p.val) (hk : k'.val = 2816 * (t.val % 2) + k.val) :
    iblk m c 0 t (ix2 p k) = dgate m c (ix2 p' k') := by
  refine Eq.trans ?_ (host_dgate m c (ix2 p' k'))
  show V m c main_v0 (((cfg0.win 0).blk t).view.emb (ix2 p k)) = _
  refine congrArg (V m c main_v0) (funext fun a => Fin.ext ?_)
  obtain ⟨e0, e1⟩ := index0 t
  match a with
  | ⟨0, _⟩ => show win0_0.index t (0 : Fin 2) * 1024 + 1 * p.val = p'.val; omega
  | ⟨1, _⟩ => show win0_0.index t (1 : Fin 2) * 2816 + 1 * k.val = k'.val; omega

theorem block_dup (t : Fin cfg0.N) (p : Fin 1024) (k : Fin 2816) (p' : Fin 8192) (k' : Fin 5632)
    (hp : p'.val = 1024 * (t.val / 8) + p.val) (hk : k'.val = 2816 * (t.val % 2) + k.val) :
    iblk m c 2 t (ix2 p k) = dup m c (ix2 p' k') := by
  refine Eq.trans ?_ (host_dup m c (ix2 p' k'))
  show V m c main_v3 (((cfg0.win 2).blk t).view.emb (ix2 p k)) = _
  refine congrArg (V m c main_v3) (funext fun a => Fin.ext ?_)
  obtain ⟨e0, e1⟩ := index2 t
  match a with
  | ⟨0, _⟩ => show win0_2.index t (0 : Fin 2) * 1024 + 1 * p.val = p'.val; omega
  | ⟨1, _⟩ => show win0_2.index t (1 : Fin 2) * 2816 + 1 * k.val = k'.val; omega

theorem block_wg (t : Fin cfg0.N) (k : Fin 2816) (q : Fin 512) (k' : Fin 5632) (q' : Fin 2048)
    (hk : k'.val = 2816 * (t.val % 2) + k.val) (hq : q'.val = 512 * (t.val / 2 % 4) + q.val) :
    iblk m c 1 t (ix2 k q) = wg m c (ix2 q' k') := by
  refine Eq.trans ?_ (host_wg m c k' q')
  show V m c main_v2 (((cfg0.win 1).blk t).view.emb (ix2 k q)) = _
  refine congrArg (V m c main_v2) (funext fun a => Fin.ext ?_)
  obtain ⟨e0, e1⟩ := index1 t
  match a with
  | ⟨0, _⟩ => show win0_1.index t (0 : Fin 2) * 2816 + 1 * k.val = k'.val; omega
  | ⟨1, _⟩ => show win0_1.index t (1 : Fin 2) * 512 + 1 * q.val = q'.val; omega

theorem block_wu (t : Fin cfg0.N) (k : Fin 2816) (q : Fin 512) (k' : Fin 5632) (q' : Fin 2048)
    (hk : k'.val = 2816 * (t.val % 2) + k.val) (hq : q'.val = 512 * (t.val / 2 % 4) + q.val) :
    iblk m c 3 t (ix2 k q) = wu m c (ix2 q' k') := by
  refine Eq.trans ?_ (host_wu m c k' q')
  show V m c main_v5 (((cfg0.win 3).blk t).view.emb (ix2 k q)) = _
  refine congrArg (V m c main_v5) (funext fun a => Fin.ext ?_)
  obtain ⟨e0, e1⟩ := index3 t
  match a with
  | ⟨0, _⟩ => show win0_3.index t (0 : Fin 2) * 2816 + 1 * k.val = k'.val; omega
  | ⟨1, _⟩ => show win0_3.index t (1 : Fin 2) * 512 + 1 * q.val = q'.val; omega

/-- What the accumulator holds after a block's first point. -/
theorem first_at (s : Fin cfg0.N) (he : s.val % 2 = 0) (n : ℕ) (h : n < cfg0.N) (hn : n = s.val) :
    (outsAt0 m c n h).2 = k0_pay2 (iblk m c 0 s) (iblk m c 1 s) (iblk m c 2 s) (iblk m c 3 s) (k0_pay1 (F := Ideal)) := by
  subst hn
  have h1 : ¬s.val % 2 = 1 := by omega
  rw [outsAt0_A m c s he h1]
  dsimp only
  rw [acc_first]

/-- What a block's second point leaves for the output. -/
theorem last_at (t s : Fin cfg0.N) (hs : t.val = s.val + 1) (he : s.val % 2 = 0) :
    (outsAt0 m c t.val t.isLt).1
      = k0_pay3 (k0_pay2 (iblk m c 0 t) (iblk m c 1 t) (iblk m c 2 t) (iblk m c 3 t)
          (k0_pay2 (iblk m c 0 s) (iblk m c 1 s) (iblk m c 2 s) (iblk m c 3 s) (k0_pay1 (F := Ideal)))) := by
  have h0 : ¬t.val % 2 = 0 := by omega
  have h1 : t.val % 2 = 1 := by omega
  have hp : t.val - 1 = s.val := by omega
  rw [outsAt0_B m c t h0 h1]
  dsimp only
  rw [out_last, first_at m c s he (t.val - 1) _ hp]

/-- The array at an index is what the second point of the index's block leaves there. -/
theorem G_point (p : Fin 8192) (q : Fin 2048) (t : Fin cfg0.N) (ht : t.val = 2 * (4 * (p.val / 1024) + q.val / 512) + 1) :
    G4 m c (ix2 p q) = (outsAt0 m c t.val t.isLt).1
      (ix2 (⟨p.val % 1024, Nat.mod_lt _ (by decide)⟩ : Fin 1024) (⟨q.val % 512, Nat.mod_lt _ (by decide)⟩ : Fin 512)) := by
  have hr : pt4Of (ix2 p q) = t.val := by
    rw [ht]; show 2 * (4 * (p.val / 1024 - 0) + 1 * (q.val / 512 - 0)) + 1 = _
    rw [Nat.sub_zero, Nat.sub_zero, Nat.one_mul]
  have hl : loc4Of (ix2 p q)
      = ix2 (⟨p.val % 1024, Nat.mod_lt _ (by decide)⟩ : Fin 1024) (⟨q.val % 512, Nat.mod_lt _ (by decide)⟩ : Fin 512) := by
    funext a; match a with
    | ⟨0, _⟩ => rfl
    | ⟨1, _⟩ => rfl
  have hb : 0 + t.val < cfg0.N := by rw [Nat.zero_add]; exact t.isLt
  have hb' : pt4Of (ix2 p q) < cfg0.N := by rw [hr]; exact t.isLt
  unfold G4
  rw [dif_pos hb', hl, fold0_congr m c _ _ t.val hb hr, ← outsAt0_sweep m c t.val t.isLt]

/-- The points of an index's block. -/
theorem points (p : Fin 8192) (q : Fin 2048) : ∃ t s : Fin cfg0.N, t.val = 2 * (4 * (p.val / 1024) + q.val / 512) + 1
    ∧ t.val = s.val + 1 ∧ s.val % 2 = 0 ∧ t.val % 2 = 1 ∧ t.val / 8 = p.val / 1024 ∧ s.val / 8 = p.val / 1024
    ∧ t.val / 2 % 4 = q.val / 512 ∧ s.val / 2 % 4 = q.val / 512 := by
  have hN : cfg0.N = 64 := N_0
  have hp := p.isLt
  have hq := q.isLt
  refine ⟨⟨2 * (4 * (p.val / 1024) + q.val / 512) + 1, by rw [hN]; omega⟩, ⟨2 * (4 * (p.val / 1024) + q.val / 512), by rw [hN]; omega⟩, ?_⟩
  dsimp only
  omega

/-- The array the launch leaves: the two products of a hidden gradient and a weight matrix, added. -/
theorem G_at (p : Fin 8192) (q : Fin 2048) : G4 m c (ix2 p q)
    = (∑ k : Fin 5632, dgate m c (ix2 p k) * wg m c (ix2 q k)) + ∑ k : Fin 5632, dup m c (ix2 p k) * wu m c (ix2 q k) := by
  obtain ⟨t, s, ht, hs, h0, h1, a1, a0, b1, b0⟩ := points p q
  have hp : p.val = 1024 * (p.val / 1024) + p.val % 1024 := (Nat.div_add_mod _ _).symm
  have hq : q.val = 512 * (q.val / 512) + q.val % 512 := (Nat.div_add_mod _ _).symm
  rw [G_point m c p q t ht, last_at m c t s hs h0, store_at, step_at, step_at, zero_at, zero_add,
    add_add_add_comm, Cert.Ffn.sum_split 2816 2816 rfl, Cert.Ffn.sum_split 2816 2816 rfl]
  have e0 : ∀ k : Fin 2816, k.val = 2816 * (s.val % 2) + k.val := fun k => by rw [h0, Nat.mul_zero, Nat.zero_add]
  have e1 : ∀ k : Fin 2816, 2816 + k.val = 2816 * (t.val % 2) + k.val := fun k => by rw [h1, Nat.mul_one]
  have r0 : p.val = 1024 * (s.val / 8) + p.val % 1024 := by rw [a0]; exact hp
  have r1 : p.val = 1024 * (t.val / 8) + p.val % 1024 := by rw [a1]; exact hp
  have c0 : q.val = 512 * (s.val / 2 % 4) + q.val % 512 := by rw [b0]; exact hq
  have c1 : q.val = 512 * (t.val / 2 % 4) + q.val % 512 := by rw [b1]; exact hq
  refine congrArg₂ (· + ·) (congrArg₂ (· + ·) (Finset.sum_congr rfl fun k _ => ?_) (Finset.sum_congr rfl fun k _ => ?_))
    (congrArg₂ (· + ·) (Finset.sum_congr rfl fun k _ => ?_) (Finset.sum_congr rfl fun k _ => ?_))
  · exact congrArg₂ (· * ·) (block_dgate m c s _ k p _ r0 (e0 k)) (block_wg m c s k _ _ q (e0 k) c0)
  · exact congrArg₂ (· * ·) (block_dgate m c t _ k p _ r1 (e1 k)) (block_wg m c t k _ _ q (e1 k) c1)
  · exact congrArg₂ (· * ·) (block_dup m c s _ k p _ r0 (e0 k)) (block_wu m c s k _ _ q (e0 k) c0)
  · exact congrArg₂ (· * ·) (block_dup m c t _ k p _ r1 (e1 k)) (block_wu m c t k _ _ q (e1 k) c1)

end Cert.Kernel4Ideal.Ffn

namespace Cert.Reference4Ideal.Ffn

open Idealize.ShloMosaic Idealize.ShloMosaic.TcCoe Idealize.SL.Sem
open Cert.Reference4Ideal Cert.Reference4Ideal.Gen
open scoped BigOperators

/-- The reference's gradient of the network's input. -/
def grad (wg wu : FVec Ideal S2048x5632 .f32) (dgate dup : FVec Ideal S8192x5632 .f32) : FVec Ideal S8192x2048 .bf16 :=
  truncf .bf16 (addf (Host.dotGeneral dot_S8192x5632_S2048x5632_S8192x2048_1_1_0_0_n_n none dup wu)
    (Host.dotGeneral dot_S8192x5632_S2048x5632_S8192x2048_1_1_0_0_n_n none dgate wg)) bitsLt_bf16_f32

theorem grad_at (wg wu : FVec Ideal S2048x5632 .f32) (dgate dup : FVec Ideal S8192x5632 .f32) (p : Fin 8192) (q : Fin 2048) :
    grad wg wu dgate dup (ix2 p q)
      = (∑ k : Fin 5632, dup (ix2 p k) * wu (ix2 q k)) + ∑ k : Fin 5632, dgate (ix2 p k) * wg (ix2 q k) := by
  pointwise [grad]

/-- The reference has no semaphore. -/
theorem no_sem (s : SemLoc sig) : False := by
  rcases s with s | s
  · exact s.elim0
  · exact s.elim0

end Cert.Reference4Ideal.Ffn

namespace Cert.Ffn

open Idealize.ShloMosaic Idealize.ShloMosaic.TcCoe Idealize.SL.Sem

/-- The launch leaves the reference's gradient of the network's input. -/
theorem input_same (m : (ℓ : Loc Cert.Kernel4Ideal.nD Cert.Kernel4Ideal.τ Cert.Kernel4Ideal.sig) → Buf (Elt Ideal) ℓ) (c : Dev Cert.Kernel4Ideal.nD) :
    Cert.Reference4Ideal.Ffn.grad (Cert.Kernel4Ideal.Ffn.wg m c) (Cert.Kernel4Ideal.Ffn.wu m c)
      (Cert.Kernel4Ideal.Ffn.dgate m c) (Cert.Kernel4Ideal.Ffn.dup m c) = Cert.Kernel4Ideal.Value.G4 m c := by
  funext i
  obtain ⟨p, q, rfl⟩ : ∃ (p : Fin 8192) (q : Fin 2048), i = ix2 p q := ⟨i 0, i 1, eq_ix2 i⟩
  exact (Cert.Reference4Ideal.Ffn.grad_at _ _ _ _ p q).trans ((add_comm _ _).trans (Cert.Kernel4Ideal.Ffn.G_at m c p q).symm)

theorem grad_congr {wg wg' wu wu' : FVec Ideal Cert.Reference4Ideal.S2048x5632 .f32}
    {dgate dgate' dup dup' : FVec Ideal Cert.Reference4Ideal.S8192x5632 .f32}
    (h1 : wg = wg') (h2 : wu = wu') (h3 : dgate = dgate') (h4 : dup = dup') :
    Cert.Reference4Ideal.Ffn.grad wg wu dgate dup = Cert.Reference4Ideal.Ffn.grad wg' wu' dgate' dup' := by
  subst h1; subst h2; subst h3; subst h4; rfl

theorem input : Cert.algebraic_Kernel4Ideal_Reference4Ideal (hKernel4Ideal := Cert.Kernel4Ideal.Gen.facts)
    (hReference4Ideal := Cert.Reference4Ideal.Gen.facts) := fun m g m' g' _ hA =>
  ⟨Cert.Kernel4Ideal.Value.G4 m, Cert.Kernel4Ideal.Value.run m g,
    (θ_run Cert.Reference4Ideal.defs _ _).mono
      (fun _ h c => ⟨(h c).1.trans ((grad_congr (hA c).2.1 (hA c).2.2.1 (hA c).2.2.2.1 (hA c).2.2.2.2).trans (input_same m c)), (h c).2⟩)
      (Cert.Reference4Ideal.Value.run m' g')⟩

theorem input_reference : Cert.quiescent_Reference4Ideal (hReference4Ideal := Cert.Reference4Ideal.Gen.facts) := fun m g _ =>
  (θ_run Cert.Reference4Ideal.defs _ _).mono
    (fun _ h => ⟨fun c => (h c).2, funext fun s => (Cert.Reference4Ideal.Ffn.no_sem s.2).elim⟩) (Cert.Reference4Ideal.Value.run m g)

theorem input_ideal : Cert.quiescent_Kernel4Ideal (hKernel4Ideal := Cert.Kernel4Ideal.Gen.facts) := fun m g _ =>
  Cert.Kernel4Ideal.Gen.frame m g

theorem input_words : Cert.quiescent_Kernel4 (hKernel4 := Cert.Kernel4.Gen.facts) := fun m g _ => Cert.Kernel4.Gen.frame m g

end Cert.Ffn

end
-- ==== Proof.Ffn.GateMatrix.lean ====
/- The gradient of the feed-forward network's gate matrix (`ffn2_dwg`), transposed: the array the launch leaves is the product
   of the gradient of the gate values, transposed, and the network's input, its rows added up in two halves. -/
module

public import proofs.«01_k».proof.Proof.Gen.Kernel5Ideal.Value
public import proofs.«01_k».proof.Proof.Gen.Reference5Ideal.Run
public import proofs.«01_k».proof.Defs
public import proofs.«01_k».proof.Proof.Gen.Kernel5.Frame
public import proofs.«01_k».proof.Proof.Ffn.Sums
public import Idealize.ShloMosaic.Lib.Pointwise
public import Idealize.ShloMosaic.Lib.Tactic

@[expose] public section

set_option maxRecDepth 16384

noncomputable section

namespace Cert.Kernel5Ideal.Ffn

open Idealize.ShloMosaic Idealize.ShloMosaic.TcCoe Idealize.SL.Sem
open Cert.Kernel5Ideal Cert.Kernel5Ideal.Gen Cert.Kernel5Ideal.Value
open scoped BigOperators

section Body

variable {F : FTy → Type} [FloatOps F]

theorem zeros : (![0, 0] : Fin 2 → ℕ) = fun _ => 0 := funext fun a => by fin_cases a <;> rfl

/-- At a block's last point the body stores what the accumulator then holds. -/
theorem out_last (c : Dev nD) (i : grid0.Coords) (a3 : Memref sig .tc .vmem S4096x512 .bf16) (h3 : a3.IsWhole)
    (a4 : Memref sig .tc .vmem S4096x1024 .bf16) (h4 : a4.IsWhole) (a5 : Memref sig .tc .vmem S512x1024 .bf16) (h5 : a5.IsWhole)
    (a6 : Memref sig .tc .vmem S512x1024 .f32) (h6 : a6.IsWhole) (hc0 : ¬cond0_0 i) (hc1 : cond0_1 i)
    (x : Vec F S4096x512 .bf16) (y : Vec F S4096x1024 .bf16) (acc : Vec F S512x1024 .f32) :
    out0_B_2 c i a3 h3 a4 h4 a5 h5 a6 h6 hc0 hc1 x y acc = k0_pay3 (k0_pay2 x y acc) := by
  unfold out0_B_2
  rw [View.read_writes_eq_canon _ _ _ (cover0_B_2 c i a3 h3 a4 h4 a5 h5 a6 h6 hc0 hc1 x y acc)]
  unfold kernelRun0_B
  dsimp only
  sl_unfold_words
  rw [View.canon_unit_zero zeros]
  simp only [View.readCov_unit_zero (S := S512x1024) _ zeros, View.readAt_eq_ld, h3.read_unread, h4.read_unread, h6.read_unread,
    View.ld_unit_zero (S := S4096x512) zeros, View.ld_unit_zero (S := S4096x1024) zeros, View.ld_unit_zero (S := S512x1024) zeros]

/-- At a block's first point the body leaves one step over zeros in the accumulator. -/
theorem acc_first (c : Dev nD) (i : grid0.Coords) (a3 : Memref sig .tc .vmem S4096x512 .bf16) (h3 : a3.IsWhole)
    (a4 : Memref sig .tc .vmem S4096x1024 .bf16) (h4 : a4.IsWhole) (a5 : Memref sig .tc .vmem S512x1024 .bf16) (h5 : a5.IsWhole)
    (a6 : Memref sig .tc .vmem S512x1024 .f32) (h6 : a6.IsWhole) (hc0 : cond0_0 i) (hc1 : ¬cond0_1 i)
    (x : Vec F S4096x512 .bf16) (y : Vec F S4096x1024 .bf16) :
    sout0_A_0 c i a3 h3 a4 h4 a5 h5 a6 h6 hc0 hc1 x y = k0_pay2 x y k0_pay1 := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S512x1024) zeros]
  simp only [View.readCov_unit_zero (S := S512x1024) _ zeros, View.readAt_eq_ld, h3.read_unread, h4.read_unread, h6.read_unread,
    View.ld_unit_zero (S := S4096x512) zeros, View.ld_unit_zero (S := S4096x1024) zeros, View.ld_unit_zero (S := S512x1024) zeros]

end Body

/-- One step adds the block's product to the accumulator. -/
theorem step_at (x : Vec Ideal S4096x512 .bf16) (y : Vec Ideal S4096x1024 .bf16) (acc : Vec Ideal S512x1024 .f32) (p : Fin 512) (q : Fin 1024) :
    k0_pay2 x y acc (ix2 p q) = acc (ix2 p q) + ∑ k : Fin 4096, x (ix2 k p) * y (ix2 k q) := by
  pointwise [k0_pay2]

theorem zero_at (p : Fin 512) (q : Fin 1024) : k0_pay1 (F := Ideal) (ix2 p q) = 0 := by
  pointwise [k0_pay1]

theorem store_at (x : Vec Ideal S512x1024 .f32) (p : Fin 512) (q : Fin 1024) : k0_pay3 x (ix2 p q) = x (ix2 p q) := by
  pointwise [k0_pay3]

variable (m : (ℓ : Loc nD τ sig) → Buf (Elt Ideal) ℓ) (c : Dev nD)

/-- The gradient of the gate values, and the network's input, as the launch is given them. -/
abbrev dgate : Vec Ideal S8192x5632 .f32 := m ((c : Thread nD τ).loc main_arg2)
abbrev inp : Vec Ideal S8192x2048 .f32 := m ((c : Thread nD τ).loc main_arg0)

theorem index0 : ∀ t : Fin cfg0.N, win0_0.index t (0 : Fin 2) = t.val % 2 ∧ win0_0.index t (1 : Fin 2) = t.val / 4 :=
  (by decide +kernel : ∀ t : Fin grid0.N, _)

theorem index1 : ∀ t : Fin cfg0.N, win0_1.index t (0 : Fin 2) = t.val % 2 ∧ win0_1.index t (1 : Fin 2) = t.val / 2 % 2 :=
  (by decide +kernel : ∀ t : Fin grid0.N, _)

theorem host_dgate (i : S8192x5632.Idx) : V m c main_v0 i = dgate m c i := by
  have e : V m c main_v0 = truncf (F := Ideal) (φ := .f32) .bf16 (dgate m c) bitsLt_bf16_f32 := by
    dsimp only [V]; after_results
  rw [e]; rfl

theorem host_inp (i : S8192x2048.Idx) : V m c main_v1 i = inp m c i := by
  have e : V m c main_v1 = truncf (F := Ideal) (φ := .f32) .bf16 (inp m c) bitsLt_bf16_f32 := by
    dsimp only [V]; after_results
  rw [e]; rfl

/-- The block of the gate values' gradient at a point. -/
theorem block_dgate (t : Fin cfg0.N) (k : Fin 4096) (p : Fin 512) (k' : Fin 8192) (p' : Fin 5632)
    (hk : k'.val = 4096 * (t.val % 2) + k.val) (hp : p'.val = 512 * (t.val / 4) + p.val) :
    iblk m c 0 t (ix2 k p) = dgate m c (ix2 k' p') := by
  refine Eq.trans ?_ (host_dgate m c (ix2 k' p'))
  show V m c main_v0 (((cfg0.win 0).blk t).view.emb (ix2 k p)) = _
  refine congrArg (V m c main_v0) (funext fun a => Fin.ext ?_)
  obtain ⟨e0, e1⟩ := index0 t
  match a with
  | ⟨0, _⟩ => show win0_0.index t (0 : Fin 2) * 4096 + 1 * k.val = k'.val; omega
  | ⟨1, _⟩ => show win0_0.index t (1 : Fin 2) * 512 + 1 * p.val = p'.val; omega

/-- The block of the network's input at a point. -/
theorem block_inp (t : Fin cfg0.N) (k : Fin 4096) (q : Fin 1024) (k' : Fin 8192) (q' : Fin 2048)
    (hk : k'.val = 4096 * (t.val % 2) + k.val) (hq : q'.val = 1024 * (t.val / 2 % 2) + q.val) :
    iblk m c 1 t (ix2 k q) = inp m c (ix2 k' q') := by
  refine Eq.trans ?_ (host_inp m c (ix2 k' q'))
  show V m c main_v1 (((cfg0.win 1).blk t).view.emb (ix2 k q)) = _
  refine congrArg (V m c main_v1) (funext fun a => Fin.ext ?_)
  obtain ⟨e0, e1⟩ := index1 t
  match a with
  | ⟨0, _⟩ => show win0_1.index t (0 : Fin 2) * 4096 + 1 * k.val = k'.val; omega
  | ⟨1, _⟩ => show win0_1.index t (1 : Fin 2) * 1024 + 1 * q.val = q'.val; omega

/-- What the accumulator holds after a block's first point. -/
theorem first_at (s : Fin cfg0.N) (he : s.val % 2 = 0) (n : ℕ) (h : n < cfg0.N) (hn : n = s.val) :
    (outsAt0 m c n h).2 = k0_pay2 (iblk m c 0 s) (iblk m c 1 s) (k0_pay1 (F := Ideal)) := by
  subst hn
  have h1 : ¬s.val % 2 = 1 := by omega
  rw [outsAt0_A m c s he h1]
  dsimp only
  rw [acc_first]

/-- What a block's second point leaves for the output. -/
theorem last_at (t s : Fin cfg0.N) (hs : t.val = s.val + 1) (he : s.val % 2 = 0) :
    (outsAt0 m c t.val t.isLt).1
      = k0_pay3 (k0_pay2 (iblk m c 0 t) (iblk m c 1 t) (k0_pay2 (iblk m c 0 s) (iblk m c 1 s) (k0_pay1 (F := Ideal)))) := by
  have h0 : ¬t.val % 2 = 0 := by omega
  have h1 : t.val % 2 = 1 := by omega
  have hp : t.val - 1 = s.val := by omega
  rw [outsAt0_B m c t h0 h1]
  dsimp only
  rw [out_last, first_at m c s he (t.val - 1) _ hp]

/-- The array at an index is what the second point of the index's block leaves there. -/
theorem G_point (p : Fin 5632) (q : Fin 2048) (t : Fin cfg0.N) (ht : t.val = 2 * (2 * (p.val / 512) + q.val / 1024) + 1) :
    G2 m c (ix2 p q) = (outsAt0 m c t.val t.isLt).1
      (ix2 (⟨p.val % 512, Nat.mod_lt _ (by decide)⟩ : Fin 512) (⟨q.val % 1024, Nat.mod_lt _ (by decide)⟩ : Fin 1024)) := by
  have hr : pt2Of (ix2 p q) = t.val := by
    rw [ht]; show 2 * (2 * (p.val / 512 - 0) + 1 * (q.val / 1024 - 0)) + 1 = _
    rw [Nat.sub_zero, Nat.sub_zero, Nat.one_mul]
  have hl : loc2Of (ix2 p q)
      = ix2 (⟨p.val % 512, Nat.mod_lt _ (by decide)⟩ : Fin 512) (⟨q.val % 1024, Nat.mod_lt _ (by decide)⟩ : Fin 1024) := by
    funext a; match a with
    | ⟨0, _⟩ => rfl
    | ⟨1, _⟩ => rfl
  have hb : 0 + t.val < cfg0.N := by rw [Nat.zero_add]; exact t.isLt
  have hb' : pt2Of (ix2 p q) < cfg0.N := by rw [hr]; exact t.isLt
  unfold G2
  rw [dif_pos hb', hl, fold0_congr m c _ _ t.val hb hr, ← outsAt0_sweep m c t.val t.isLt]

/-- The points of an index's block. -/
theorem points (p : Fin 5632) (q : Fin 2048) : ∃ t s : Fin cfg0.N, t.val = 2 * (2 * (p.val / 512) + q.val / 1024) + 1
    ∧ t.val = s.val + 1 ∧ s.val % 2 = 0 ∧ t.val % 2 = 1 ∧ t.val / 4 = p.val / 512 ∧ s.val / 4 = p.val / 512
    ∧ t.val / 2 % 2 = q.val / 1024 ∧ s.val / 2 % 2 = q.val / 1024 := by
  have hN : cfg0.N = 44 := N_0
  have hp := p.isLt
  have hq := q.isLt
  refine ⟨⟨2 * (2 * (p.val / 512) + q.val / 1024) + 1, by rw [hN]; omega⟩, ⟨2 * (2 * (p.val / 512) + q.val / 1024), by rw [hN]; omega⟩, ?_⟩
  dsimp only
  omega

/-- The array the launch leaves: the product of the gate values' gradient, transposed, and the input. -/
theorem G_at (p : Fin 5632) (q : Fin 2048) : G2 m c (ix2 p q) = ∑ k : Fin 8192, dgate m c (ix2 k p) * inp m c (ix2 k q) := by
  obtain ⟨t, s, ht, hs, h0, h1, a1, a0, b1, b0⟩ := points p q
  have hp : p.val = 512 * (p.val / 512) + p.val % 512 := (Nat.div_add_mod _ _).symm
  have hq : q.val = 1024 * (q.val / 1024) + q.val % 1024 := (Nat.div_add_mod _ _).symm
  rw [G_point m c p q t ht, last_at m c t s hs h0, store_at, step_at, step_at, zero_at, zero_add,
    Cert.Ffn.sum_split 4096 4096 rfl]
  refine congrArg₂ (· + ·) (Finset.sum_congr rfl fun k _ => ?_) (Finset.sum_congr rfl fun k _ => ?_)
  · refine congrArg₂ (· * ·) (block_dgate m c s k _ _ p ?_ ?_) (block_inp m c s k _ _ q ?_ ?_)
    · rw [h0, Nat.mul_zero, Nat.zero_add]
    · rw [a0]; exact hp
    · rw [h0, Nat.mul_zero, Nat.zero_add]
    · rw [b0]; exact hq
  · refine congrArg₂ (· * ·) (block_dgate m c t k _ _ p ?_ ?_) (block_inp m c t k _ _ q ?_ ?_)
    · rw [h1, Nat.mul_one]
    · rw [a1]; exact hp
    · rw [h1, Nat.mul_one]
    · rw [b1]; exact hq

end Cert.Kernel5Ideal.Ffn

namespace Cert.Reference5Ideal.Ffn

open Idealize.ShloMosaic Idealize.ShloMosaic.TcCoe Idealize.SL.Sem
open Cert.Reference5Ideal Cert.Reference5Ideal.Gen
open scoped BigOperators

/-- The reference's gradient of the gate matrix, transposed. -/
def grad (dgate : FVec Ideal S8192x5632 .f32) (inp : FVec Ideal S8192x2048 .f32) : FVec Ideal S5632x2048 .bf16 :=
  truncf .bf16 (transpose S5632x2048 [1, 0] (transpose S2048x5632 [1, 0]
    (Host.dotGeneral dot_S8192x5632_S8192x2048_S5632x2048_0_0_1_1_n_n none dgate inp) transposes_S5632x2048_S2048x5632_1_0)
    transposes_S2048x5632_S5632x2048_1_0) bitsLt_bf16_f32

theorem grad_at (dgate : FVec Ideal S8192x5632 .f32) (inp : FVec Ideal S8192x2048 .f32) (p : Fin 5632) (q : Fin 2048) :
    grad dgate inp (ix2 p q) = ∑ k : Fin 8192, dgate (ix2 k p) * inp (ix2 k q) := by
  pointwise [grad]

/-- The reference has no semaphore. -/
theorem no_sem (s : SemLoc sig) : False := by
  rcases s with s | s
  · exact s.elim0
  · exact s.elim0

end Cert.Reference5Ideal.Ffn

namespace Cert.Ffn

open Idealize.ShloMosaic Idealize.ShloMosaic.TcCoe Idealize.SL.Sem

/-- The launch leaves the reference's gradient of the gate matrix, transposed. -/
theorem gate_matrix_same (m : (ℓ : Loc Cert.Kernel5Ideal.nD Cert.Kernel5Ideal.τ Cert.Kernel5Ideal.sig) → Buf (Elt Ideal) ℓ) (c : Dev Cert.Kernel5Ideal.nD) :
    Cert.Reference5Ideal.Ffn.grad (Cert.Kernel5Ideal.Ffn.dgate m c) (Cert.Kernel5Ideal.Ffn.inp m c) = Cert.Kernel5Ideal.Value.G2 m c := by
  funext i
  obtain ⟨p, q, rfl⟩ : ∃ (p : Fin 5632) (q : Fin 2048), i = ix2 p q := ⟨i 0, i 1, eq_ix2 i⟩
  exact (Cert.Reference5Ideal.Ffn.grad_at _ _ p q).trans (Cert.Kernel5Ideal.Ffn.G_at m c p q).symm

theorem gate_matrix : Cert.algebraic_Kernel5Ideal_Reference5Ideal (hKernel5Ideal := Cert.Kernel5Ideal.Gen.facts)
    (hReference5Ideal := Cert.Reference5Ideal.Gen.facts) := fun m g m' g' _ hA =>
  ⟨Cert.Kernel5Ideal.Value.G2 m, Cert.Kernel5Ideal.Value.run m g,
    (θ_run Cert.Reference5Ideal.defs _ _).mono
      (fun _ h c => ⟨(h c).1.trans ((congrArg₂ Cert.Reference5Ideal.Ffn.grad (hA c).2.2 (hA c).1).trans (gate_matrix_same m c)), (h c).2⟩)
      (Cert.Reference5Ideal.Value.run m' g')⟩

theorem gate_matrix_reference : Cert.quiescent_Reference5Ideal (hReference5Ideal := Cert.Reference5Ideal.Gen.facts) := fun m g _ =>
  (θ_run Cert.Reference5Ideal.defs _ _).mono
    (fun _ h => ⟨fun c => (h c).2, funext fun s => (Cert.Reference5Ideal.Ffn.no_sem s.2).elim⟩) (Cert.Reference5Ideal.Value.run m g)

theorem gate_matrix_ideal : Cert.quiescent_Kernel5Ideal (hKernel5Ideal := Cert.Kernel5Ideal.Gen.facts) := fun m g _ =>
  Cert.Kernel5Ideal.Gen.frame m g

theorem gate_matrix_words : Cert.quiescent_Kernel5 (hKernel5 := Cert.Kernel5.Gen.facts) := fun m g _ => Cert.Kernel5.Gen.frame m g

end Cert.Ffn

end
-- ==== Proof.Ffn.UpMatrix.lean ====
/- The gradient of the feed-forward network's up matrix (`ffn2_dwu`), transposed: the array the launch leaves is the product
   of the gradient of the up values, transposed, and the network's input, its rows added up in two halves. -/
module

public import proofs.«01_k».proof.Proof.Gen.Kernel6Ideal.Value
public import proofs.«01_k».proof.Proof.Gen.Reference6Ideal.Run
public import proofs.«01_k».proof.Defs
public import proofs.«01_k».proof.Proof.Gen.Kernel6.Frame
public import proofs.«01_k».proof.Proof.Ffn.Sums
public import Idealize.ShloMosaic.Lib.Pointwise
public import Idealize.ShloMosaic.Lib.Tactic

@[expose] public section

set_option maxRecDepth 16384

noncomputable section

namespace Cert.Kernel6Ideal.Ffn

open Idealize.ShloMosaic Idealize.ShloMosaic.TcCoe Idealize.SL.Sem
open Cert.Kernel6Ideal Cert.Kernel6Ideal.Gen Cert.Kernel6Ideal.Value
open scoped BigOperators

section Body

variable {F : FTy → Type} [FloatOps F]

theorem zeros : (![0, 0] : Fin 2 → ℕ) = fun _ => 0 := funext fun a => by fin_cases a <;> rfl

/-- At a block's last point the body stores what the accumulator then holds. -/
theorem out_last (c : Dev nD) (i : grid0.Coords) (a3 : Memref sig .tc .vmem S4096x512 .bf16) (h3 : a3.IsWhole)
    (a4 : Memref sig .tc .vmem S4096x1024 .bf16) (h4 : a4.IsWhole) (a5 : Memref sig .tc .vmem S512x1024 .bf16) (h5 : a5.IsWhole)
    (a6 : Memref sig .tc .vmem S512x1024 .f32) (h6 : a6.IsWhole) (hc0 : ¬cond0_0 i) (hc1 : cond0_1 i)
    (x : Vec F S4096x512 .bf16) (y : Vec F S4096x1024 .bf16) (acc : Vec F S512x1024 .f32) :
    out0_B_2 c i a3 h3 a4 h4 a5 h5 a6 h6 hc0 hc1 x y acc = k0_pay3 (k0_pay2 x y acc) := by
  unfold out0_B_2
  rw [View.read_writes_eq_canon _ _ _ (cover0_B_2 c i a3 h3 a4 h4 a5 h5 a6 h6 hc0 hc1 x y acc)]
  unfold kernelRun0_B
  dsimp only
  sl_unfold_words
  rw [View.canon_unit_zero zeros]
  simp only [View.readCov_unit_zero (S := S512x1024) _ zeros, View.readAt_eq_ld, h3.read_unread, h4.read_unread, h6.read_unread,
    View.ld_unit_zero (S := S4096x512) zeros, View.ld_unit_zero (S := S4096x1024) zeros, View.ld_unit_zero (S := S512x1024) zeros]

/-- At a block's first point the body leaves one step over zeros in the accumulator. -/
theorem acc_first (c : Dev nD) (i : grid0.Coords) (a3 : Memref sig .tc .vmem S4096x512 .bf16) (h3 : a3.IsWhole)
    (a4 : Memref sig .tc .vmem S4096x1024 .bf16) (h4 : a4.IsWhole) (a5 : Memref sig .tc .vmem S512x1024 .bf16) (h5 : a5.IsWhole)
    (a6 : Memref sig .tc .vmem S512x1024 .f32) (h6 : a6.IsWhole) (hc0 : cond0_0 i) (hc1 : ¬cond0_1 i)
    (x : Vec F S4096x512 .bf16) (y : Vec F S4096x1024 .bf16) :
    sout0_A_0 c i a3 h3 a4 h4 a5 h5 a6 h6 hc0 hc1 x y = k0_pay2 x y k0_pay1 := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S512x1024) zeros]
  simp only [View.readCov_unit_zero (S := S512x1024) _ zeros, View.readAt_eq_ld, h3.read_unread, h4.read_unread, h6.read_unread,
    View.ld_unit_zero (S := S4096x512) zeros, View.ld_unit_zero (S := S4096x1024) zeros, View.ld_unit_zero (S := S512x1024) zeros]

end Body

/-- One step adds the block's product to the accumulator. -/
theorem step_at (x : Vec Ideal S4096x512 .bf16) (y : Vec Ideal S4096x1024 .bf16) (acc : Vec Ideal S512x1024 .f32) (p : Fin 512) (q : Fin 1024) :
    k0_pay2 x y acc (ix2 p q) = acc (ix2 p q) + ∑ k : Fin 4096, x (ix2 k p) * y (ix2 k q) := by
  pointwise [k0_pay2]

theorem zero_at (p : Fin 512) (q : Fin 1024) : k0_pay1 (F := Ideal) (ix2 p q) = 0 := by
  pointwise [k0_pay1]

theorem store_at (x : Vec Ideal S512x1024 .f32) (p : Fin 512) (q : Fin 1024) : k0_pay3 x (ix2 p q) = x (ix2 p q) := by
  pointwise [k0_pay3]

variable (m : (ℓ : Loc nD τ sig) → Buf (Elt Ideal) ℓ) (c : Dev nD)

/-- The gradient of the up values, and the network's input, as the launch is given them. -/
abbrev dup : Vec Ideal S8192x5632 .f32 := m ((c : Thread nD τ).loc main_arg2)
abbrev inp : Vec Ideal S8192x2048 .f32 := m ((c : Thread nD τ).loc main_arg0)

theorem index0 : ∀ t : Fin cfg0.N, win0_0.index t (0 : Fin 2) = t.val % 2 ∧ win0_0.index t (1 : Fin 2) = t.val / 4 :=
  (by decide +kernel : ∀ t : Fin grid0.N, _)

theorem index1 : ∀ t : Fin cfg0.N, win0_1.index t (0 : Fin 2) = t.val % 2 ∧ win0_1.index t (1 : Fin 2) = t.val / 2 % 2 :=
  (by decide +kernel : ∀ t : Fin grid0.N, _)

theorem host_dup (i : S8192x5632.Idx) : V m c main_v0 i = dup m c i := by
  have e : V m c main_v0 = truncf (F := Ideal) (φ := .f32) .bf16 (dup m c) bitsLt_bf16_f32 := by
    dsimp only [V]; after_results
  rw [e]; rfl

theorem host_inp (i : S8192x2048.Idx) : V m c main_v1 i = inp m c i := by
  have e : V m c main_v1 = truncf (F := Ideal) (φ := .f32) .bf16 (inp m c) bitsLt_bf16_f32 := by
    dsimp only [V]; after_results
  rw [e]; rfl

/-- The block of the up values' gradient at a point. -/
theorem block_dup (t : Fin cfg0.N) (k : Fin 4096) (p : Fin 512) (k' : Fin 8192) (p' : Fin 5632)
    (hk : k'.val = 4096 * (t.val % 2) + k.val) (hp : p'.val = 512 * (t.val / 4) + p.val) :
    iblk m c 0 t (ix2 k p) = dup m c (ix2 k' p') := by
  refine Eq.trans ?_ (host_dup m c (ix2 k' p'))
  show V m c main_v0 (((cfg0.win 0).blk t).view.emb (ix2 k p)) = _
  refine congrArg (V m c main_v0) (funext fun a => Fin.ext ?_)
  obtain ⟨e0, e1⟩ := index0 t
  match a with
  | ⟨0, _⟩ => show win0_0.index t (0 : Fin 2) * 4096 + 1 * k.val = k'.val; omega
  | ⟨1, _⟩ => show win0_0.index t (1 : Fin 2) * 512 + 1 * p.val = p'.val; omega

/-- The block of the network's input at a point. -/
theorem block_inp (t : Fin cfg0.N) (k : Fin 4096) (q : Fin 1024) (k' : Fin 8192) (q' : Fin 2048)
    (hk : k'.val = 4096 * (t.val % 2) + k.val) (hq : q'.val = 1024 * (t.val / 2 % 2) + q.val) :
    iblk m c 1 t (ix2 k q) = inp m c (ix2 k' q') := by
  refine Eq.trans ?_ (host_inp m c (ix2 k' q'))
  show V m c main_v1 (((cfg0.win 1).blk t).view.emb (ix2 k q)) = _
  refine congrArg (V m c main_v1) (funext fun a => Fin.ext ?_)
  obtain ⟨e0, e1⟩ := index1 t
  match a with
  | ⟨0, _⟩ => show win0_1.index t (0 : Fin 2) * 4096 + 1 * k.val = k'.val; omega
  | ⟨1, _⟩ => show win0_1.index t (1 : Fin 2) * 1024 + 1 * q.val = q'.val; omega

/-- What the accumulator holds after a block's first point. -/
theorem first_at (s : Fin cfg0.N) (he : s.val % 2 = 0) (n : ℕ) (h : n < cfg0.N) (hn : n = s.val) :
    (outsAt0 m c n h).2 = k0_pay2 (iblk m c 0 s) (iblk m c 1 s) (k0_pay1 (F := Ideal)) := by
  subst hn
  have h1 : ¬s.val % 2 = 1 := by omega
  rw [outsAt0_A m c s he h1]
  dsimp only
  rw [acc_first]

/-- What a block's second point leaves for the output. -/
theorem last_at (t s : Fin cfg0.N) (hs : t.val = s.val + 1) (he : s.val % 2 = 0) :
    (outsAt0 m c t.val t.isLt).1
      = k0_pay3 (k0_pay2 (iblk m c 0 t) (iblk m c 1 t) (k0_pay2 (iblk m c 0 s) (iblk m c 1 s) (k0_pay1 (F := Ideal)))) := by
  have h0 : ¬t.val % 2 = 0 := by omega
  have h1 : t.val % 2 = 1 := by omega
  have hp : t.val - 1 = s.val := by omega
  rw [outsAt0_B m c t h0 h1]
  dsimp only
  rw [out_last, first_at m c s he (t.val - 1) _ hp]

/-- The array at an index is what the second point of the index's block leaves there. -/
theorem G_point (p : Fin 5632) (q : Fin 2048) (t : Fin cfg0.N) (ht : t.val = 2 * (2 * (p.val / 512) + q.val / 1024) + 1) :
    G2 m c (ix2 p q) = (outsAt0 m c t.val t.isLt).1
      (ix2 (⟨p.val % 512, Nat.mod_lt _ (by decide)⟩ : Fin 512) (⟨q.val % 1024, Nat.mod_lt _ (by decide)⟩ : Fin 1024)) := by
  have hr : pt2Of (ix2 p q) = t.val := by
    rw [ht]; show 2 * (2 * (p.val / 512 - 0) + 1 * (q.val / 1024 - 0)) + 1 = _
    rw [Nat.sub_zero, Nat.sub_zero, Nat.one_mul]
  have hl : loc2Of (ix2 p q)
      = ix2 (⟨p.val % 512, Nat.mod_lt _ (by decide)⟩ : Fin 512) (⟨q.val % 1024, Nat.mod_lt _ (by decide)⟩ : Fin 1024) := by
    funext a; match a with
    | ⟨0, _⟩ => rfl
    | ⟨1, _⟩ => rfl
  have hb : 0 + t.val < cfg0.N := by rw [Nat.zero_add]; exact t.isLt
  have hb' : pt2Of (ix2 p q) < cfg0.N := by rw [hr]; exact t.isLt
  unfold G2
  rw [dif_pos hb', hl, fold0_congr m c _ _ t.val hb hr, ← outsAt0_sweep m c t.val t.isLt]

/-- The points of an index's block. -/
theorem points (p : Fin 5632) (q : Fin 2048) : ∃ t s : Fin cfg0.N, t.val = 2 * (2 * (p.val / 512) + q.val / 1024) + 1
    ∧ t.val = s.val + 1 ∧ s.val % 2 = 0 ∧ t.val % 2 = 1 ∧ t.val / 4 = p.val / 512 ∧ s.val / 4 = p.val / 512
    ∧ t.val / 2 % 2 = q.val / 1024 ∧ s.val / 2 % 2 = q.val / 1024 := by
  have hN : cfg0.N = 44 := N_0
  have hp := p.isLt
  have hq := q.isLt
  refine ⟨⟨2 * (2 * (p.val / 512) + q.val / 1024) + 1, by rw [hN]; omega⟩, ⟨2 * (2 * (p.val / 512) + q.val / 1024), by rw [hN]; omega⟩, ?_⟩
  dsimp only
  omega

/-- The array the launch leaves: the product of the up values' gradient, transposed, and the input. -/
theorem G_at (p : Fin 5632) (q : Fin 2048) : G2 m c (ix2 p q) = ∑ k : Fin 8192, dup m c (ix2 k p) * inp m c (ix2 k q) := by
  obtain ⟨t, s, ht, hs, h0, h1, a1, a0, b1, b0⟩ := points p q
  have hp : p.val = 512 * (p.val / 512) + p.val % 512 := (Nat.div_add_mod _ _).symm
  have hq : q.val = 1024 * (q.val / 1024) + q.val % 1024 := (Nat.div_add_mod _ _).symm
  rw [G_point m c p q t ht, last_at m c t s hs h0, store_at, step_at, step_at, zero_at, zero_add,
    Cert.Ffn.sum_split 4096 4096 rfl]
  refine congrArg₂ (· + ·) (Finset.sum_congr rfl fun k _ => ?_) (Finset.sum_congr rfl fun k _ => ?_)
  · refine congrArg₂ (· * ·) (block_dup m c s k _ _ p ?_ ?_) (block_inp m c s k _ _ q ?_ ?_)
    · rw [h0, Nat.mul_zero, Nat.zero_add]
    · rw [a0]; exact hp
    · rw [h0, Nat.mul_zero, Nat.zero_add]
    · rw [b0]; exact hq
  · refine congrArg₂ (· * ·) (block_dup m c t k _ _ p ?_ ?_) (block_inp m c t k _ _ q ?_ ?_)
    · rw [h1, Nat.mul_one]
    · rw [a1]; exact hp
    · rw [h1, Nat.mul_one]
    · rw [b1]; exact hq

end Cert.Kernel6Ideal.Ffn

namespace Cert.Reference6Ideal.Ffn

open Idealize.ShloMosaic Idealize.ShloMosaic.TcCoe Idealize.SL.Sem
open Cert.Reference6Ideal Cert.Reference6Ideal.Gen
open scoped BigOperators

/-- The reference's gradient of the up matrix, transposed. -/
def grad (dup : FVec Ideal S8192x5632 .f32) (inp : FVec Ideal S8192x2048 .f32) : FVec Ideal S5632x2048 .bf16 :=
  truncf .bf16 (transpose S5632x2048 [1, 0] (transpose S2048x5632 [1, 0]
    (Host.dotGeneral dot_S8192x5632_S8192x2048_S5632x2048_0_0_1_1_n_n none dup inp) transposes_S5632x2048_S2048x5632_1_0)
    transposes_S2048x5632_S5632x2048_1_0) bitsLt_bf16_f32

theorem grad_at (dup : FVec Ideal S8192x5632 .f32) (inp : FVec Ideal S8192x2048 .f32) (p : Fin 5632) (q : Fin 2048) :
    grad dup inp (ix2 p q) = ∑ k : Fin 8192, dup (ix2 k p) * inp (ix2 k q) := by
  pointwise [grad]

/-- The reference has no semaphore. -/
theorem no_sem (s : SemLoc sig) : False := by
  rcases s with s | s
  · exact s.elim0
  · exact s.elim0

end Cert.Reference6Ideal.Ffn

namespace Cert.Ffn

open Idealize.ShloMosaic Idealize.ShloMosaic.TcCoe Idealize.SL.Sem

/-- The launch leaves the reference's gradient of the up matrix, transposed. -/
theorem up_matrix_same (m : (ℓ : Loc Cert.Kernel6Ideal.nD Cert.Kernel6Ideal.τ Cert.Kernel6Ideal.sig) → Buf (Elt Ideal) ℓ) (c : Dev Cert.Kernel6Ideal.nD) :
    Cert.Reference6Ideal.Ffn.grad (Cert.Kernel6Ideal.Ffn.dup m c) (Cert.Kernel6Ideal.Ffn.inp m c) = Cert.Kernel6Ideal.Value.G2 m c := by
  funext i
  obtain ⟨p, q, rfl⟩ : ∃ (p : Fin 5632) (q : Fin 2048), i = ix2 p q := ⟨i 0, i 1, eq_ix2 i⟩
  exact (Cert.Reference6Ideal.Ffn.grad_at _ _ p q).trans (Cert.Kernel6Ideal.Ffn.G_at m c p q).symm

theorem up_matrix : Cert.algebraic_Kernel6Ideal_Reference6Ideal (hKernel6Ideal := Cert.Kernel6Ideal.Gen.facts)
    (hReference6Ideal := Cert.Reference6Ideal.Gen.facts) := fun m g m' g' _ hA =>
  ⟨Cert.Kernel6Ideal.Value.G2 m, Cert.Kernel6Ideal.Value.run m g,
    (θ_run Cert.Reference6Ideal.defs _ _).mono
      (fun _ h c => ⟨(h c).1.trans ((congrArg₂ Cert.Reference6Ideal.Ffn.grad (hA c).2.2 (hA c).1).trans (up_matrix_same m c)), (h c).2⟩)
      (Cert.Reference6Ideal.Value.run m' g')⟩

theorem up_matrix_reference : Cert.quiescent_Reference6Ideal (hReference6Ideal := Cert.Reference6Ideal.Gen.facts) := fun m g _ =>
  (θ_run Cert.Reference6Ideal.defs _ _).mono
    (fun _ h => ⟨fun c => (h c).2, funext fun s => (Cert.Reference6Ideal.Ffn.no_sem s.2).elim⟩) (Cert.Reference6Ideal.Value.run m g)

theorem up_matrix_ideal : Cert.quiescent_Kernel6Ideal (hKernel6Ideal := Cert.Kernel6Ideal.Gen.facts) := fun m g _ =>
  Cert.Kernel6Ideal.Gen.frame m g

theorem up_matrix_words : Cert.quiescent_Kernel6 (hKernel6 := Cert.Kernel6.Gen.facts) := fun m g _ => Cert.Kernel6.Gen.frame m g

end Cert.Ffn

end
-- ==== Proof.Ffn.Output.lean ====
/- The output of the feed-forward network (`ffn2_down`): the product of the hidden layer and the last matrix, added up in two
   halves of the hidden axis, and the layer's input with the product, scaled column by column, added to it. -/
module

public import proofs.«01_k».proof.Proof.Gen.Kernel7Ideal.Value
public import proofs.«01_k».proof.Proof.Gen.Reference7Ideal.Run
public import proofs.«01_k».proof.Defs
public import proofs.«01_k».proof.Proof.Gen.Kernel7.Frame
public import proofs.«01_k».proof.Proof.Ffn.Sums
public import Idealize.ShloMosaic.Lib.Pointwise
public import Idealize.ShloMosaic.Lib.Tactic

@[expose] public section

set_option maxRecDepth 16384

noncomputable section

namespace Cert.Ffn

open Idealize.ShloMosaic

/-- The network's share of the layer, one half, as both programs write it. -/
abbrev half : EReal := Ideal.ofBits .f32 0x3F000000#32

end Cert.Ffn

namespace Cert.Kernel7Ideal.Ffn

open Idealize.ShloMosaic Idealize.ShloMosaic.TcCoe Idealize.SL.Sem
open Cert.Kernel7Ideal Cert.Kernel7Ideal.Gen Cert.Kernel7Ideal.Value Cert.Ffn
open scoped BigOperators

section Body

variable {F : FTy → Type} [FloatOps F]

theorem zeros : (![0, 0] : Fin 2 → ℕ) = fun _ => 0 := funext fun a => by fin_cases a <;> rfl

/-- At a block's last point the body stores the input with the scaled product added. -/
theorem out_last (c : Dev nD) (i : grid0.Coords) (a3 : Memref sig .tc .vmem S1024x2816 .bf16) (h3 : a3.IsWhole)
    (a4 : Memref sig .tc .vmem S2816x512 .bf16) (h4 : a4.IsWhole) (a5 : Memref sig .tc .vmem S1024x512 .f32) (h5 : a5.IsWhole)
    (a6 : Memref sig .tc .vmem S1x512 .f32) (h6 : a6.IsWhole) (a7 : Memref sig .tc .vmem S1024x512 .f32) (h7 : a7.IsWhole)
    (a8 : Memref sig .tc .vmem S1024x512 .bf16) (h8 : a8.IsWhole) (a9 : Memref sig .tc .vmem S1024x512 .f32) (h9 : a9.IsWhole) (hc0 : ¬cond0_0 i) (hc1 : cond0_1 i)
    (x : Vec F S1024x2816 .bf16) (w : Vec F S2816x512 .bf16) (r : Vec F S1024x512 .f32) (g : Vec F S1x512 .f32) (acc : Vec F S1024x512 .f32) :
    out0_B_4 c i a3 h3 a4 h4 a5 h5 a6 h6 a7 h7 a8 h8 a9 h9 hc0 hc1 x w r g acc = k0_pay3 (k0_pay2 x w acc) r g := by
  unfold out0_B_4
  rw [View.read_writes_eq_canon _ _ _ (cover0_B_4 c i a3 h3 a4 h4 a5 h5 a6 h6 a7 h7 a8 h8 a9 h9 hc0 hc1 x w r g acc)]
  unfold kernelRun0_B
  dsimp only
  sl_unfold_words
  rw [View.canon_unit_zero zeros]
  simp only [View.readCov_unit_zero (S := S1024x512) _ zeros, View.readAt_eq_ld, h3.read_unread, h4.read_unread, h5.read_unread,
    h6.read_unread, h9.read_unread, View.ld_unit_zero (S := S1024x2816) zeros, View.ld_unit_zero (S := S2816x512) zeros,
    View.ld_unit_zero (S := S1024x512) zeros, View.ld_unit_zero (S := S1x512) zeros]

/-- And the product alone. -/
theorem product_last (c : Dev nD) (i : grid0.Coords) (a3 : Memref sig .tc .vmem S1024x2816 .bf16) (h3 : a3.IsWhole)
    (a4 : Memref sig .tc .vmem S2816x512 .bf16) (h4 : a4.IsWhole) (a5 : Memref sig .tc .vmem S1024x512 .f32) (h5 : a5.IsWhole)
    (a6 : Memref sig .tc .vmem S1x512 .f32) (h6 : a6.IsWhole) (a7 : Memref sig .tc .vmem S1024x512 .f32) (h7 : a7.IsWhole)
    (a8 : Memref sig .tc .vmem S1024x512 .bf16) (h8 : a8.IsWhole) (a9 : Memref sig .tc .vmem S1024x512 .f32) (h9 : a9.IsWhole) (hc0 : ¬cond0_0 i) (hc1 : cond0_1 i)
    (x : Vec F S1024x2816 .bf16) (w : Vec F S2816x512 .bf16) (r : Vec F S1024x512 .f32) (g : Vec F S1x512 .f32) (acc : Vec F S1024x512 .f32) :
    out0_B_5 c i a3 h3 a4 h4 a5 h5 a6 h6 a7 h7 a8 h8 a9 h9 hc0 hc1 x w r g acc = k0_pay4 (k0_pay2 x w acc) := by
  unfold out0_B_5
  rw [View.read_writes_eq_canon _ _ _ (cover0_B_5 c i a3 h3 a4 h4 a5 h5 a6 h6 a7 h7 a8 h8 a9 h9 hc0 hc1 x w r g acc)]
  unfold kernelRun0_B
  dsimp only
  sl_unfold_words
  rw [View.canon_unit_zero zeros]
  simp only [View.readCov_unit_zero (S := S1024x512) _ zeros, View.readAt_eq_ld, h3.read_unread, h4.read_unread, h9.read_unread,
    View.ld_unit_zero (S := S1024x2816) zeros, View.ld_unit_zero (S := S2816x512) zeros, View.ld_unit_zero (S := S1024x512) zeros]

/-- At a block's first point the body leaves one step over zeros in the accumulator. -/
theorem acc_first (c : Dev nD) (i : grid0.Coords) (a3 : Memref sig .tc .vmem S1024x2816 .bf16) (h3 : a3.IsWhole)
    (a4 : Memref sig .tc .vmem S2816x512 .bf16) (h4 : a4.IsWhole) (a5 : Memref sig .tc .vmem S1024x512 .f32) (h5 : a5.IsWhole)
    (a6 : Memref sig .tc .vmem S1x512 .f32) (h6 : a6.IsWhole) (a7 : Memref sig .tc .vmem S1024x512 .f32) (h7 : a7.IsWhole)
    (a8 : Memref sig .tc .vmem S1024x512 .bf16) (h8 : a8.IsWhole) (a9 : Memref sig .tc .vmem S1024x512 .f32) (h9 : a9.IsWhole) (hc0 : cond0_0 i) (hc1 : ¬cond0_1 i)
    (x : Vec F S1024x2816 .bf16) (w : Vec F S2816x512 .bf16) (r : Vec F S1024x512 .f32) (g : Vec F S1x512 .f32) :
    sout0_A_0 c i a3 h3 a4 h4 a5 h5 a6 h6 a7 h7 a8 h8 a9 h9 hc0 hc1 x w r g = k0_pay2 x w k0_pay1 := by
  unfold sout0_A_0
  rw [View.read_writes_eq_canon _ _ _ (scover0_A_0 c i a3 h3 a4 h4 a5 h5 a6 h6 a7 h7 a8 h8 a9 h9 hc0 hc1 x w r g)]
  unfold kernelRun0_A
  dsimp only
  sl_unfold_words
  rw [View.canon_cons_unit_zero (S := S1024x512) zeros]
  simp only [View.readCov_unit_zero (S := S1024x512) _ zeros, View.readAt_eq_ld, h3.read_unread, h4.read_unread, h9.read_unread,
    View.ld_unit_zero (S := S1024x2816) zeros, View.ld_unit_zero (S := S2816x512) zeros, View.ld_unit_zero (S := S1024x512) zeros]

end Body

/-- One step adds the blocks' product to the accumulator. -/
theorem step_at (x : Vec Ideal S1024x2816 .bf16) (w : Vec Ideal S2816x512 .bf16) (acc : Vec Ideal S1024x512 .f32) (p : Fin 1024) (q : Fin 512) :
    k0_pay2 x w acc (ix2 p q) = acc (ix2 p q) + ∑ k : Fin 2816, x (ix2 p k) * w (ix2 k q) := by
  pointwise [k0_pay2]

theorem zero_at (p : Fin 1024) (q : Fin 512) : k0_pay1 (F := Ideal) (ix2 p q) = 0 := by
  pointwise [k0_pay1]

theorem added_at (x r : Vec Ideal S1024x512 .f32) (g : Vec Ideal S1x512 .f32) (p : Fin 1024) (q : Fin 512) :
    k0_pay3 x r g (ix2 p q) = r (ix2 p q) + g (ix2 (0 : Fin 1) q) * x (ix2 p q) := by
  pointwise [k0_pay3]

theorem store_at (x : Vec Ideal S1024x512 .f32) (p : Fin 1024) (q : Fin 512) : k0_pay4 x (ix2 p q) = x (ix2 p q) := by
  pointwise [k0_pay4]

variable (m : (ℓ : Loc nD τ sig) → Buf (Elt Ideal) ℓ) (c : Dev nD)

/-- The layer's input, the gate of the network's share, the hidden layer and the last matrix, as the launch is given them. -/
abbrev inp : Vec Ideal S8192x2048 .f32 := m ((c : Thread nD τ).loc main_arg0)
abbrev gt : Vec Ideal S1x2048 .f32 := m ((c : Thread nD τ).loc main_arg1)
abbrev act : Vec Ideal S8192x5632 .f32 := m ((c : Thread nD τ).loc main_arg2)
abbrev wd : Vec Ideal S5632x2048 .f32 := m ((c : Thread nD τ).loc main_arg3)

theorem index0 : ∀ t : Fin cfg0.N, win0_0.index t (0 : Fin 2) = t.val / 8 ∧ win0_0.index t (1 : Fin 2) = t.val % 2 :=
  (by decide +kernel : ∀ t : Fin grid0.N, _)

theorem index1 : ∀ t : Fin cfg0.N, win0_1.index t (0 : Fin 2) = t.val % 2 ∧ win0_1.index t (1 : Fin 2) = t.val / 2 % 4 :=
  (by decide +kernel : ∀ t : Fin grid0.N, _)

theorem index2 : ∀ t : Fin cfg0.N, win0_2.index t (0 : Fin 2) = t.val / 8 ∧ win0_2.index t (1 : Fin 2) = t.val / 2 % 4 :=
  (by decide +kernel : ∀ t : Fin grid0.N, _)

theorem index3 : ∀ t : Fin cfg0.N, win0_3.index t (0 : Fin 2) = 0 ∧ win0_3.index t (1 : Fin 2) = t.val / 2 % 4 :=
  (by decide +kernel : ∀ t : Fin grid0.N, _)

theorem host_act (i : S8192x5632.Idx) : V m c main_v0 i = act m c i := by
  have e : V m c main_v0 = truncf (F := Ideal) (φ := .f32) .bf16 (act m c) bitsLt_bf16_f32 := by
    dsimp only [V]; after_results
  rw [e]; rfl

theorem host_wd (i : S5632x2048.Idx) : V m c main_v1 i = wd m c i := by
  have e : V m c main_v1 = truncf (F := Ideal) (φ := .f32) .bf16 (wd m c) bitsLt_bf16_f32 := by
    dsimp only [V]; after_results
  rw [e]; rfl

theorem host_inp (i : S8192x2048.Idx) : V m c main_arg0 i = inp m c i := by
  have e : V m c main_arg0 = inp m c := by
    dsimp only [V]; after_results
  rw [e]

theorem host_gt (q : Fin 2048) : V m c main_v3 (ix2 (0 : Fin 1) q) = half * gt m c (ix2 (0 : Fin 1) q) := by
  have e : V m c main_v3 = mulf (F := Ideal) (φ := .f32) (broadcastInDim S1x2048 ![] bcast_S_S1x2048 (constant S_ .f32 0x3F000000#32)) (gt m c) := by
    dsimp only [V]; after_results
  rw [e]; pointwise

theorem block_act (t : Fin cfg0.N) (p : Fin 1024) (k : Fin 2816) (p' : Fin 8192) (k' : Fin 5632)
    (hp : p'.val = 1024 * (t.val / 8) + p.val) (hk : k'.val = 2816 * (t.val % 2) + k.val) :
    iblk m c 0 t (ix2 p k) = act m c (ix2 p' k') := by
  refine Eq.trans ?_ (host_act m c (ix2 p' k'))
  show V m c main_v0 (((cfg0.win 0).blk t).view.emb (ix2 p k)) = _
  refine congrArg (V m c main_v0) (funext fun a => Fin.ext ?_)
  obtain ⟨e0, e1⟩ := index0 t
  match a with
  | ⟨0, _⟩ => show win0_0.index t (0 : Fin 2) * 1024 + 1 * p.val = p'.val; omega
  | ⟨1, _⟩ => show win0_0.index t (1 : Fin 2) * 2816 + 1 * k.val = k'.val; omega

theorem block_wd (t : Fin cfg0.N) (k : Fin 2816) (q : Fin 512) (k' : Fin 5632) (q' : Fin 2048)
    (hk : k'.val = 2816 * (t.val % 2) + k.val) (hq : q'.val = 512 * (t.val / 2 % 4) + q.val) :
    iblk m c 1 t (ix2 k q) = wd m c (ix2 k' q') := by
  refine Eq.trans ?_ (host_wd m c (ix2 k' q'))
  show V m c main_v1 (((cfg0.win 1).blk t).view.emb (ix2 k q)) = _
  refine congrArg (V m c main_v1) (funext fun a => Fin.ext ?_)
  obtain ⟨e0, e1⟩ := index1 t
  match a with
  | ⟨0, _⟩ => show win0_1.index t (0 : Fin 2) * 2816 + 1 * k.val = k'.val; omega
  | ⟨1, _⟩ => show win0_1.index t (1 : Fin 2) * 512 + 1 * q.val = q'.val; omega

theorem block_inp (t : Fin cfg0.N) (p : Fin 1024) (q : Fin 512) (p' : Fin 8192) (q' : Fin 2048)
    (hp : p'.val = 1024 * (t.val / 8) + p.val) (hq : q'.val = 512 * (t.val / 2 % 4) + q.val) :
    iblk m c 2 t (ix2 p q) = inp m c (ix2 p' q') := by
  refine Eq.trans ?_ (host_inp m c (ix2 p' q'))
  show V m c main_arg0 (((cfg0.win 2).blk t).view.emb (ix2 p q)) = _
  refine congrArg (V m c main_arg0) (funext fun a => Fin.ext ?_)
  obtain ⟨e0, e1⟩ := index2 t
  match a with
  | ⟨0, _⟩ => show win0_2.index t (0 : Fin 2) * 1024 + 1 * p.val = p'.val; omega
  | ⟨1, _⟩ => show win0_2.index t (1 : Fin 2) * 512 + 1 * q.val = q'.val; omega

theorem block_gt (t : Fin cfg0.N) (q : Fin 512) (q' : Fin 2048) (hq : q'.val = 512 * (t.val / 2 % 4) + q.val) :
    iblk m c 3 t (ix2 (0 : Fin 1) q) = half * gt m c (ix2 (0 : Fin 1) q') := by
  refine Eq.trans ?_ (host_gt m c q')
  show V m c main_v3 (((cfg0.win 3).blk t).view.emb (ix2 (0 : Fin 1) q)) = _
  refine congrArg (V m c main_v3) (funext fun a => Fin.ext ?_)
  obtain ⟨e0, e1⟩ := index3 t
  match a with
  | ⟨0, _⟩ => show win0_3.index t (0 : Fin 2) * 1 + 1 * 0 = 0; omega
  | ⟨1, _⟩ => show win0_3.index t (1 : Fin 2) * 512 + 1 * q.val = q'.val; omega

/-- What the accumulator holds after a block's first point. -/
theorem first_at (s : Fin cfg0.N) (he : s.val % 2 = 0) (n : ℕ) (h : n < cfg0.N) (hn : n = s.val) :
    (outsAt0 m c n h).2.2 = k0_pay2 (iblk m c 0 s) (iblk m c 1 s) (k0_pay1 (F := Ideal)) := by
  subst hn
  have h1 : ¬s.val % 2 = 1 := by omega
  rw [outsAt0_A m c s he h1]
  dsimp only
  rw [acc_first]

/-- The product's block, after both of its points. -/
abbrev total (t s : Fin cfg0.N) : FVec Ideal S1024x512 .f32 :=
  k0_pay2 (iblk m c 0 t) (iblk m c 1 t) (k0_pay2 (iblk m c 0 s) (iblk m c 1 s) (k0_pay1 (F := Ideal)))

/-- What a block's second point leaves for the two outputs. -/
theorem last_at (t s : Fin cfg0.N) (hs : t.val = s.val + 1) (he : s.val % 2 = 0) :
    (outsAt0 m c t.val t.isLt).1 = k0_pay3 (F := Ideal) (total m c t s) (iblk m c 2 t) (iblk m c 3 t)
      ∧ (outsAt0 m c t.val t.isLt).2.1 = k0_pay4 (F := Ideal) (total m c t s) := by
  have h0 : ¬t.val % 2 = 0 := by omega
  have h1 : t.val % 2 = 1 := by omega
  have hp : t.val - 1 = s.val := by omega
  rw [outsAt0_B m c t h0 h1]
  dsimp only
  rw [out_last, product_last, first_at m c s he (t.val - 1) _ hp]
  exact ⟨rfl, rfl⟩

section Points

variable (p : Fin 8192) (q : Fin 2048)

/-- An index's place in its block. -/
abbrev place : S1024x512.Idx :=
  ix2 (⟨p.val % 1024, Nat.mod_lt _ (by decide)⟩ : Fin 1024) (⟨q.val % 512, Nat.mod_lt _ (by decide)⟩ : Fin 512)

/-- The arrays at an index are what the second point of the index's block leaves there. -/
theorem G4_point (t : Fin cfg0.N) (ht : t.val = 2 * (4 * (p.val / 1024) + q.val / 512) + 1) :
    G4 m c (ix2 p q) = (outsAt0 m c t.val t.isLt).1 (place p q) := by
  have hr : pt4Of (ix2 p q) = t.val := by
    rw [ht]; show 2 * (4 * (p.val / 1024 - 0) + 1 * (q.val / 512 - 0)) + 1 = _
    rw [Nat.sub_zero, Nat.sub_zero, Nat.one_mul]
  have hl : loc4Of (ix2 p q) = place p q := by
    funext a; match a with
    | ⟨0, _⟩ => rfl
    | ⟨1, _⟩ => rfl
  have hb : 0 + t.val < cfg0.N := by rw [Nat.zero_add]; exact t.isLt
  have hb' : pt4Of (ix2 p q) < cfg0.N := by rw [hr]; exact t.isLt
  unfold G4
  rw [dif_pos hb', hl, fold0_congr m c _ _ t.val hb hr, ← outsAt0_sweep m c t.val t.isLt]

theorem G5_point (t : Fin cfg0.N) (ht : t.val = 2 * (4 * (p.val / 1024) + q.val / 512) + 1) :
    G5 m c (ix2 p q) = (outsAt0 m c t.val t.isLt).2.1 (place p q) := by
  have hr : pt5Of (ix2 p q) = t.val := by
    rw [ht]; show 2 * (4 * (p.val / 1024 - 0) + 1 * (q.val / 512 - 0)) + 1 = _
    rw [Nat.sub_zero, Nat.sub_zero, Nat.one_mul]
  have hl : loc5Of (ix2 p q) = place p q := by
    funext a; match a with
    | ⟨0, _⟩ => rfl
    | ⟨1, _⟩ => rfl
  have hb : 0 + t.val < cfg0.N := by rw [Nat.zero_add]; exact t.isLt
  have hb' : pt5Of (ix2 p q) < cfg0.N := by rw [hr]; exact t.isLt
  unfold G5
  rw [dif_pos hb', hl, fold0_congr m c _ _ t.val hb hr, ← outsAt0_sweep m c t.val t.isLt]

/-- The points of an index's block. -/
theorem points : ∃ t s : Fin cfg0.N, t.val = 2 * (4 * (p.val / 1024) + q.val / 512) + 1
    ∧ t.val = s.val + 1 ∧ s.val % 2 = 0 ∧ t.val % 2 = 1 ∧ t.val / 8 = p.val / 1024 ∧ s.val / 8 = p.val / 1024
    ∧ t.val / 2 % 4 = q.val / 512 ∧ s.val / 2 % 4 = q.val / 512 := by
  have hN : cfg0.N = 64 := N_0
  have hp := p.isLt
  have hq := q.isLt
  refine ⟨⟨2 * (4 * (p.val / 1024) + q.val / 512) + 1, by rw [hN]; omega⟩, ⟨2 * (4 * (p.val / 1024) + q.val / 512), by rw [hN]; omega⟩, ?_⟩
  dsimp only
  omega

/-- The product of the hidden layer and the last matrix. -/
def out : EReal := ∑ k : Fin 5632, act m c (ix2 p k) * wd m c (ix2 k q)

theorem total_at (t s : Fin cfg0.N) (h0 : s.val % 2 = 0) (h1 : t.val % 2 = 1) (a1 : t.val / 8 = p.val / 1024)
    (a0 : s.val / 8 = p.val / 1024) (b1 : t.val / 2 % 4 = q.val / 512) (b0 : s.val / 2 % 4 = q.val / 512) :
    total m c t s (place p q) = out m c p q := by
  have hp : p.val = 1024 * (p.val / 1024) + p.val % 1024 := (Nat.div_add_mod _ _).symm
  have hq : q.val = 512 * (q.val / 512) + q.val % 512 := (Nat.div_add_mod _ _).symm
  unfold out total
  rw [step_at, step_at, zero_at, zero_add, Cert.Ffn.sum_split 2816 2816 rfl]
  have e0 : ∀ k : Fin 2816, k.val = 2816 * (s.val % 2) + k.val := fun k => by rw [h0, Nat.mul_zero, Nat.zero_add]
  have e1 : ∀ k : Fin 2816, 2816 + k.val = 2816 * (t.val % 2) + k.val := fun k => by rw [h1, Nat.mul_one]
  have r0 : p.val = 1024 * (s.val / 8) + p.val % 1024 := by rw [a0]; exact hp
  have r1 : p.val = 1024 * (t.val / 8) + p.val % 1024 := by rw [a1]; exact hp
  have c0 : q.val = 512 * (s.val / 2 % 4) + q.val % 512 := by rw [b0]; exact hq
  have c1 : q.val = 512 * (t.val / 2 % 4) + q.val % 512 := by rw [b1]; exact hq
  refine congrArg₂ (· + ·) (Finset.sum_congr rfl fun k _ => ?_) (Finset.sum_congr rfl fun k _ => ?_)
  · exact congrArg₂ (· * ·) (block_act m c s _ k p _ r0 (e0 k)) (block_wd m c s k _ _ q (e0 k) c0)
  · exact congrArg₂ (· * ·) (block_act m c t _ k p _ r1 (e1 k)) (block_wd m c t k _ _ q (e1 k) c1)

/-- The array of the layer's output, and that of the product. -/
theorem G4_at : G4 m c (ix2 p q) = inp m c (ix2 p q) + half * gt m c (ix2 (0 : Fin 1) q) * out m c p q := by
  obtain ⟨t, s, ht, hs, h0, h1, a1, a0, b1, b0⟩ := points p q
  have r1 : p.val = 1024 * (t.val / 8) + p.val % 1024 := by rw [a1]; exact (Nat.div_add_mod _ _).symm
  have c1 : q.val = 512 * (t.val / 2 % 4) + q.val % 512 := by rw [b1]; exact (Nat.div_add_mod _ _).symm
  rw [G4_point m c p q t ht, (last_at m c t s hs h0).1, added_at]
  exact congrArg₂ (fun a b : EReal => a + b) (block_inp m c t _ _ p q r1 c1)
    (congrArg₂ (fun a b : EReal => a * b) (block_gt m c t _ q c1) (total_at m c p q t s h0 h1 a1 a0 b1 b0))

theorem G5_at : G5 m c (ix2 p q) = out m c p q := by
  obtain ⟨t, s, ht, hs, h0, h1, a1, a0, b1, b0⟩ := points p q
  rw [G5_point m c p q t ht, (last_at m c t s hs h0).2, store_at]
  exact total_at m c p q t s h0 h1 a1 a0 b1 b0

end Points

end Cert.Kernel7Ideal.Ffn

namespace Cert.Reference7Ideal.Ffn

open Idealize.ShloMosaic Idealize.ShloMosaic.TcCoe Idealize.SL.Sem
open Cert.Reference7Ideal Cert.Reference7Ideal.Gen Cert.Ffn
open scoped BigOperators

/-- The reference's product, and its output. -/
def product (act : FVec Ideal S8192x5632 .f32) (wd : FVec Ideal S5632x2048 .f32) : FVec Ideal S8192x2048 .f32 :=
  Host.dotGeneral dot_S8192x5632_S5632x2048_S8192x2048_1_0_0_1_n_n none act wd

def output (inp : FVec Ideal S8192x2048 .f32) (gt : FVec Ideal S1x2048 .f32) (act : FVec Ideal S8192x5632 .f32) (wd : FVec Ideal S5632x2048 .f32) :
    FVec Ideal S8192x2048 .f32 :=
  addf inp (mulf (broadcastInDim S8192x2048 ![0, 1] bcast_S1x2048_S8192x2048_0_1
    (mulf (broadcastInDim S1x2048 ![] bcast_S_S1x2048 (constant S_ .f32 0x3F000000#32)) gt)) (product act wd))

def product_cast (act : FVec Ideal S8192x5632 .f32) (wd : FVec Ideal S5632x2048 .f32) : FVec Ideal S8192x2048 .bf16 :=
  truncf .bf16 (product act wd) bitsLt_bf16_f32

theorem product_at (act : FVec Ideal S8192x5632 .f32) (wd : FVec Ideal S5632x2048 .f32) (p : Fin 8192) (q : Fin 2048) :
    product act wd (ix2 p q) = ∑ k : Fin 5632, act (ix2 p k) * wd (ix2 k q) := by
  pointwise [product]

theorem output_at (inp : FVec Ideal S8192x2048 .f32) (gt : FVec Ideal S1x2048 .f32) (act : FVec Ideal S8192x5632 .f32)
    (wd : FVec Ideal S5632x2048 .f32) (p : Fin 8192) (q : Fin 2048) :
    output inp gt act wd (ix2 p q) = inp (ix2 p q) + half * gt (ix2 (0 : Fin 1) q) * ∑ k : Fin 5632, act (ix2 p k) * wd (ix2 k q) := by
  rw [← product_at]
  pointwise [output]

/-- The reference has no semaphore. -/
theorem no_sem (s : SemLoc sig) : False := by
  rcases s with s | s
  · exact s.elim0
  · exact s.elim0

end Cert.Reference7Ideal.Ffn

namespace Cert.Ffn

open Idealize.ShloMosaic Idealize.ShloMosaic.TcCoe Idealize.SL.Sem

section Same

variable (m : (ℓ : Loc Cert.Kernel7Ideal.nD Cert.Kernel7Ideal.τ Cert.Kernel7Ideal.sig) → Buf (Elt Ideal) ℓ) (c : Dev Cert.Kernel7Ideal.nD)

/-- The launch leaves the reference's output, and the reference's product. -/
theorem output_same : Cert.Reference7Ideal.Ffn.output (Cert.Kernel7Ideal.Ffn.inp m c) (Cert.Kernel7Ideal.Ffn.gt m c)
    (Cert.Kernel7Ideal.Ffn.act m c) (Cert.Kernel7Ideal.Ffn.wd m c) = Cert.Kernel7Ideal.Value.G4 m c := by
  funext i
  obtain ⟨p, q, rfl⟩ : ∃ (p : Fin 8192) (q : Fin 2048), i = ix2 p q := ⟨i 0, i 1, eq_ix2 i⟩
  exact (Cert.Reference7Ideal.Ffn.output_at _ _ _ _ p q).trans (Cert.Kernel7Ideal.Ffn.G4_at m c p q).symm

theorem product_same : Cert.Reference7Ideal.Ffn.product_cast (Cert.Kernel7Ideal.Ffn.act m c) (Cert.Kernel7Ideal.Ffn.wd m c)
    = Cert.Kernel7Ideal.Value.G5 m c := by
  funext i
  obtain ⟨p, q, rfl⟩ : ∃ (p : Fin 8192) (q : Fin 2048), i = ix2 p q := ⟨i 0, i 1, eq_ix2 i⟩
  exact (Cert.Reference7Ideal.Ffn.product_at _ _ p q).trans (Cert.Kernel7Ideal.Ffn.G5_at m c p q).symm

end Same

theorem output_congr {x x' : FVec Ideal Cert.Reference7Ideal.S8192x2048 .f32} {g g' : FVec Ideal Cert.Reference7Ideal.S1x2048 .f32}
    {a a' : FVec Ideal Cert.Reference7Ideal.S8192x5632 .f32} {w w' : FVec Ideal Cert.Reference7Ideal.S5632x2048 .f32}
    (h1 : x = x') (h2 : g = g') (h3 : a = a') (h4 : w = w') :
    Cert.Reference7Ideal.Ffn.output x g a w = Cert.Reference7Ideal.Ffn.output x' g' a' w' := by
  subst h1; subst h2; subst h3; subst h4; rfl

theorem output : Cert.algebraic_Kernel7Ideal_Reference7Ideal (hKernel7Ideal := Cert.Kernel7Ideal.Gen.facts)
    (hReference7Ideal := Cert.Reference7Ideal.Gen.facts) := fun m g m' g' _ hA =>
  ⟨Cert.Kernel7Ideal.Value.G4 m, Cert.Kernel7Ideal.Value.G5 m, Cert.Kernel7Ideal.Value.run m g,
    (θ_run Cert.Reference7Ideal.defs _ _).mono
      (fun _ h c => ⟨(h c).1.trans ((output_congr (hA c).1 (hA c).2.1 (hA c).2.2.1 (hA c).2.2.2).trans (output_same m c)),
        (h c).2.1.trans ((congrArg₂ Cert.Reference7Ideal.Ffn.product_cast (hA c).2.2.1 (hA c).2.2.2).trans (product_same m c)), (h c).2.2⟩)
      (Cert.Reference7Ideal.Value.run m' g')⟩

theorem output_reference : Cert.quiescent_Reference7Ideal (hReference7Ideal := Cert.Reference7Ideal.Gen.facts) := fun m g _ =>
  (θ_run Cert.Reference7Ideal.defs _ _).mono
    (fun _ h => ⟨fun c => (h c).2.2, funext fun s => (Cert.Reference7Ideal.Ffn.no_sem s.2).elim⟩) (Cert.Reference7Ideal.Value.run m g)

theorem output_ideal : Cert.quiescent_Kernel7Ideal (hKernel7Ideal := Cert.Kernel7Ideal.Gen.facts) := fun m g _ =>
  Cert.Kernel7Ideal.Gen.frame m g

theorem output_words : Cert.quiescent_Kernel7 (hKernel7 := Cert.Kernel7.Gen.facts) := fun m g _ => Cert.Kernel7.Gen.frame m g

end Cert.Ffn

end
-- ==== Proof.Proj.Delta.lean ====
/- The projection that gives the gated delta rule's queries, keys and values (`proj_gdn`): the array the launch leaves is the
   product of the mixer's input and the projection's columns. -/
module

public import proofs.«01_k».proof.Proof.Gen.Kernel8Ideal.Value
public import proofs.«01_k».proof.Proof.Gen.Reference8Ideal.Run
public import proofs.«01_k».proof.Defs
public import proofs.«01_k».proof.Proof.Gen.Kernel8.Frame
public import Idealize.ShloMosaic.Lib.Pointwise
public import Idealize.ShloMosaic.Lib.Tactic
public import Idealize.ShloMosaic.Lib.Pipeline.ValueKit

@[expose] public section

set_option maxRecDepth 16384

noncomputable section

namespace Cert.Kernel8Ideal.Proj

open Idealize.ShloMosaic Idealize.ShloMosaic.TcCoe Idealize.SL.Sem
open Cert.Kernel8Ideal Cert.Kernel8Ideal.Gen Cert.Kernel8Ideal.Value
open scoped BigOperators

/-- The two halves' products. -/
theorem first_dot (w : Vec Ideal S256x2048 .bf16) (d : Vec Ideal S1024x2048 .bf16) (p : Fin 1024) (q : Fin 256) :
    k0_pay1 w d (ix2 p q) = ∑ k : Fin 2048, d (ix2 p k) * w (ix2 q k) := by
  pointwise [k0_pay1]

theorem second_dot (w : Vec Ideal S256x2048 .bf16) (d : Vec Ideal S1024x2048 .bf16) (p : Fin 1024) (q : Fin 256) :
    k0_pay2 w d (ix2 p q) = ∑ k : Fin 2048, d (ix2 p k) * w (ix2 q k) := by
  pointwise [k0_pay2]

/-- A row half of the second array's block, read at an index. -/
theorem rows_at (x : Vec Ideal S512x2048 .bf16) (o : ℕ) (inb) (b : Fin 256) (k : Fin 2048) (q : Fin 512) (hq : q.val = o + b.val) :
    View.ld x (Rect.unit (s := S512x2048) ![o, 0] ![256, 2048] inb) (ix2 b k) = x (ix2 q k) := by
  refine congrArg x (funext fun a => Fin.ext ?_)
  match a with
  | ⟨0, _⟩ => show o + 1 * b.val = q.val; omega
  | ⟨1, _⟩ => show 0 + 1 * k.val = k.val; omega

theorem dot_half (d : Vec Ideal S1024x2048 .bf16) (w : Vec Ideal S512x2048 .bf16) (o : ℕ) (inb) (a : Fin 1024) (b : Fin 256)
    (p : Fin 1024) (q : Fin 512) (hp : p.val = a.val) (hq : q.val = o + b.val) :
    (∑ k : Fin 2048, d (ix2 a k) * View.ld w (Rect.unit (s := S512x2048) ![o, 0] ![256, 2048] inb) (ix2 b k))
      = ∑ k : Fin 2048, d (ix2 p k) * w (ix2 q k) := by
  obtain rfl : p = a := Fin.ext hp
  exact Finset.sum_congr rfl fun k _ => congrArg _ (rows_at w o inb b k q hq)

/-- The block the body leaves, from its two blocks: it works the columns off in two halves. -/
theorem out_block (c : Dev nD) (i : grid0.Coords) (a3 : Memref sig .tc .vmem S1024x2048 .bf16) (h3 : a3.IsWhole)
    (a4 : Memref sig .tc .vmem S512x2048 .bf16) (h4 : a4.IsWhole) (a5 : Memref sig .tc .vmem S1024x512 .f32) (h5 : a5.IsWhole)
    (a6 : Memref sig .tc .vmem S1024x512 .f32) (h6 : a6.IsWhole)
    (d : Vec Ideal S1024x2048 .bf16) (w : Vec Ideal S512x2048 .bf16) (p : Fin 1024) (q : Fin 512) :
    out0_A_2 c i a3 h3 a4 h4 a5 h5 a6 h6 d w (ix2 p q) = ∑ k : Fin 2048, d (ix2 p k) * w (ix2 q k) := by
  frame_out
  canon_tiles x h
  · obtain ⟨a, b, rfl⟩ : ∃ (a : Fin 1024) (b : Fin 256), x = ix2 a b := ⟨x 0, x 1, eq_ix2 x⟩
    refine (second_dot _ _ a b).trans ?_
    rw [dot_half d w 256 _ a b p q h0 h1]
  · obtain ⟨a, b, rfl⟩ : ∃ (a : Fin 1024) (b : Fin 256), x = ix2 a b := ⟨x 0, x 1, eq_ix2 x⟩
    refine (first_dot _ _ a b).trans ?_
    rw [dot_half d w 0 _ a b p q h0 (h1.trans (Nat.zero_add _).symm)]

variable (m : (ℓ : Loc nD τ sig) → Buf (Elt Ideal) ℓ) (c : Dev nD)

/-- The mixer's input and the projection's columns, as the launch is given them. -/
abbrev inp : Vec Ideal S8192x2048 .f32 := m ((c : Thread nD τ).loc main_arg0)
abbrev weight : Vec Ideal S2048x3072 .f32 := m ((c : Thread nD τ).loc main_arg1)

/-- The second array of the product, by its row and the summed index. -/
abbrev second (q : Fin 3072) (k : Fin 2048) : EReal := weight m c (ix2 k q)

theorem host_inp (i : S8192x2048.Idx) : V m c main_v0 i = inp m c i := by
  have e : V m c main_v0 = truncf (F := Ideal) (φ := .f32) .bf16 (inp m c) bitsLt_bf16_f32 := by
    dsimp only [V]; after_results
  rw [e]; rfl

/-- The launch is given the weight matrix transposed. -/
theorem host_weight (q : Fin 3072) (k : Fin 2048) : V m c main_v2 (ix2 q k) = second m c q k := by
  have e : V m c main_v2 = truncf (F := Ideal) (φ := .f32) .bf16
      (transpose S3072x2048 [1, 0] (weight m c) transposes_S2048x3072_S3072x2048_1_0) bitsLt_bf16_f32 := by
    dsimp only [V]; after_results
  rw [e]; pointwise

theorem index0 : ∀ t : Fin cfg0.N, win0_0.index t (0 : Fin 2) = t.val / 6 ∧ win0_0.index t (1 : Fin 2) = 0 :=
  (by decide +kernel : ∀ t : Fin grid0.N, _)

theorem index1 : ∀ t : Fin cfg0.N, win0_1.index t (0 : Fin 2) = t.val % 6 ∧ win0_1.index t (1 : Fin 2) = 0 :=
  (by decide +kernel : ∀ t : Fin grid0.N, _)

theorem index2 : ∀ t : Fin cfg0.N, win0_2.index t (0 : Fin 2) = t.val / 6 ∧ win0_2.index t (1 : Fin 2) = t.val % 6 :=
  (by decide +kernel : ∀ t : Fin grid0.N, _)

/-- The array's row and column of a block's row and column at a point. -/
def row (t : Fin cfg0.N) (p : Fin 1024) : Fin 8192 := ⟨1024 * (t.val / 6) + p.val, by
  have ht := lt_of_lt_of_eq t.isLt (show cfg0.N = 48 from N_0)
  omega⟩
def col (t : Fin cfg0.N) (q : Fin 512) : Fin 3072 := ⟨512 * (t.val % 6) + q.val, by omega⟩

theorem block_inp (t : Fin cfg0.N) (p : Fin 1024) (q : Fin 2048) :
    iblk m c 0 t (ix2 p q) = inp m c (ix2 (row t p) q) := by
  refine Eq.trans ?_ (host_inp m c (ix2 (row t p) q))
  show V m c main_v0 (((cfg0.win 0).blk t).view.emb (ix2 p q)) = _
  refine congrArg (V m c main_v0) (funext fun a => Fin.ext ?_)
  obtain ⟨e0, e1⟩ := index0 t
  match a with
  | ⟨0, _⟩ => show win0_0.index t (0 : Fin 2) * 1024 + 1 * p.val = 1024 * (t.val / 6) + p.val; omega
  | ⟨1, _⟩ => show win0_0.index t (1 : Fin 2) * 2048 + 1 * q.val = q.val; omega

theorem block_weight (t : Fin cfg0.N) (p : Fin 512) (q : Fin 2048) :
    iblk m c 1 t (ix2 p q) = second m c (col t p) q := by
  refine Eq.trans ?_ (host_weight m c (col t p) q)
  show V m c main_v2 (((cfg0.win 1).blk t).view.emb (ix2 p q)) = _
  refine congrArg (V m c main_v2) (funext fun a => Fin.ext ?_)
  obtain ⟨e0, e1⟩ := index1 t
  match a with
  | ⟨0, _⟩ => show win0_1.index t (0 : Fin 2) * 512 + 1 * p.val = 512 * (t.val % 6) + p.val; omega
  | ⟨1, _⟩ => show win0_1.index t (1 : Fin 2) * 2048 + 1 * q.val = q.val; omega

theorem emb2 (t : Fin cfg0.N) (p : Fin 1024) (q : Fin 512) : (win0_2.blk t).view.emb (ix2 p q) = ix2 (row t p) (col t q) := by
  refine funext fun a => Fin.ext ?_
  obtain ⟨e0, e1⟩ := index2 t
  match a with
  | ⟨0, _⟩ => show win0_2.index t (0 : Fin 2) * 1024 + 1 * p.val = 1024 * (t.val / 6) + p.val; omega
  | ⟨1, _⟩ => show win0_2.index t (1 : Fin 2) * 512 + 1 * q.val = 512 * (t.val % 6) + q.val; omega

/-- The product, element by element and as the array the launch leaves. -/
def product (p : Fin 8192) (q : Fin 3072) : EReal := ∑ k : Fin 2048, inp m c (ix2 p k) * second m c q k
def productArr : S8192x3072.Idx → EReal := fun i => product m c (i 0) (i 1)

theorem arr_product : (dats m 0 c).arrAt 2 cfg0.N = productArr m c := by
  refine (dats m 0 c).arrAt_eq_of_covers 2 _ (by decide +kernel) fun t hf y => ?_
  blk_simp
  obtain ⟨p, q, rfl⟩ : ∃ (p : Fin 1024) (q : Fin 512), y = ix2 p q := ⟨y 0, y 1, eq_ix2 y⟩
  rw [after0_2, emb2]
  dsimp only [outsAt0]
  rw [out_block]
  exact Finset.sum_congr rfl fun k _ => congrArg₂ (fun a b : EReal => a * b) (block_inp m c t p k) (block_weight m c t q k)

end Cert.Kernel8Ideal.Proj

namespace Cert.Reference8Ideal.Proj

open Idealize.ShloMosaic Idealize.ShloMosaic.TcCoe Idealize.SL.Sem
open Cert.Reference8Ideal Cert.Reference8Ideal.Gen
open scoped BigOperators

/-- The reference's product. -/
def values (inp : FVec Ideal S8192x2048 .f32) (weight : FVec Ideal S2048x3072 .f32) : FVec Ideal S8192x3072 .f32 :=
  Host.dotGeneral dot_S8192x2048_S2048x3072_S8192x3072_1_0_0_1_n_n none inp weight

theorem values_at (inp : FVec Ideal S8192x2048 .f32) (weight : FVec Ideal S2048x3072 .f32) (p : Fin 8192) (q : Fin 3072) :
    values inp weight (ix2 p q) = ∑ k : Fin 2048, inp (ix2 p k) * weight (ix2 k q) := by
  pointwise [values]

/-- The reference has no semaphore. -/
theorem no_sem (s : SemLoc sig) : False := by
  rcases s with s | s
  · exact s.elim0
  · exact s.elim0

end Cert.Reference8Ideal.Proj

namespace Cert.Proj

open Idealize.ShloMosaic Idealize.ShloMosaic.TcCoe Idealize.SL.Sem

/-- The launch leaves the reference's array. -/
theorem delta_same (m : (ℓ : Loc Cert.Kernel8Ideal.nD Cert.Kernel8Ideal.τ Cert.Kernel8Ideal.sig) → Buf (Elt Ideal) ℓ) (c : Dev Cert.Kernel8Ideal.nD) :
    Cert.Reference8Ideal.Proj.values (Cert.Kernel8Ideal.Proj.inp m c) (Cert.Kernel8Ideal.Proj.weight m c) = (Cert.Kernel8Ideal.Gen.dats m 0 c).arrAt 2 Cert.Kernel8Ideal.cfg0.N := by
  rw [Cert.Kernel8Ideal.Proj.arr_product]
  funext i
  obtain ⟨p, q, rfl⟩ : ∃ (p : Fin 8192) (q : Fin 3072), i = ix2 p q := ⟨i 0, i 1, eq_ix2 i⟩
  exact Cert.Reference8Ideal.Proj.values_at _ _ p q

theorem delta : Cert.algebraic_Kernel8Ideal_Reference8Ideal (hKernel8Ideal := Cert.Kernel8Ideal.Gen.facts)
    (hReference8Ideal := Cert.Reference8Ideal.Gen.facts) := fun m g m' g' _ hA =>
  ⟨_, Cert.Kernel8Ideal.Value.run_blocks m g,
    (θ_run Cert.Reference8Ideal.defs _ _).mono
      (fun _ h c => ⟨(h c).1.trans ((congrArg₂ Cert.Reference8Ideal.Proj.values (hA c).1 (hA c).2).trans (delta_same m c)), (h c).2⟩)
      (Cert.Reference8Ideal.Value.run m' g')⟩

theorem delta_reference : Cert.quiescent_Reference8Ideal (hReference8Ideal := Cert.Reference8Ideal.Gen.facts) := fun m g _ =>
  (θ_run Cert.Reference8Ideal.defs _ _).mono
    (fun _ h => ⟨fun c => (h c).2, funext fun s => (Cert.Reference8Ideal.Proj.no_sem s.2).elim⟩) (Cert.Reference8Ideal.Value.run m g)

theorem delta_ideal : Cert.quiescent_Kernel8Ideal (hKernel8Ideal := Cert.Kernel8Ideal.Gen.facts) := fun m g _ =>
  Cert.Kernel8Ideal.Gen.frame m g

theorem delta_words : Cert.quiescent_Kernel8 (hKernel8 := Cert.Kernel8.Gen.facts) := fun m g _ => Cert.Kernel8.Gen.frame m g

end Cert.Proj

end
-- ==== Proof.Proj.Mixer.lean ====
/- The mixer's output (`mix_out`): the two arrays the launch leaves are the layer's input plus the gated output, and the output
   itself, the two heads' outputs side by side times the output matrix. -/
module

public import proofs.«01_k».proof.Proof.Gen.Kernel9Ideal.Value
public import proofs.«01_k».proof.Proof.Gen.Reference9Ideal.Run
public import proofs.«01_k».proof.Defs
public import proofs.«01_k».proof.Proof.Gen.Kernel9.Frame
public import Idealize.ShloMosaic.Lib.Pointwise
public import Idealize.ShloMosaic.Lib.Tactic
public import Idealize.ShloMosaic.Lib.Pipeline.ValueKit

@[expose] public section

set_option maxRecDepth 16384

noncomputable section

namespace Cert.Kernel9Ideal.Proj

open Idealize.ShloMosaic Idealize.ShloMosaic.TcCoe Idealize.SL.Sem
open Cert.Kernel9Ideal Cert.Kernel9Ideal.Gen Cert.Kernel9Ideal.Value
open scoped BigOperators

/-- The sum of the two products of a block of rows and a block of columns. -/
abbrev both {n : ℕ} (f g : Vec Ideal S1024x1024 .bf16) (u v : Vec Ideal (⟨2, ![1024, n]⟩ : Shape) .bf16) (p : Fin 1024) (q : Fin n) : EReal :=
  (∑ k : Fin 1024, f (ix2 p k) * u (ix2 k q)) + ∑ k : Fin 1024, g (ix2 p k) * v (ix2 k q)

section Halves

variable (u v : Vec Ideal S1024x256 .bf16) (f g : Vec Ideal S1024x1024 .bf16) (r : Vec Ideal S1024x256 .f32) (t : Vec Ideal S1x256 .f32)
  (p : Fin 1024) (q : Fin 256)

/-- The first half of the columns: the output, and the layer's input plus the gated output. -/
theorem first_mix : k0_pay4 (F := Ideal) u f v g (ix2 p q) = both f g u v p q := by
  pointwise [k0_pay4]

theorem first_cast : k0_pay6 (F := Ideal) u f v g (ix2 p q) = both f g u v p q := first_mix u v f g p q

theorem first_sum : k0_pay5 (F := Ideal) u f v g r t (ix2 p q) = r (ix2 p q) + t (ix2 (0 : Fin 1) q) * both f g u v p q := by
  rw [← first_mix]
  pointwise [k0_pay5]

/-- The second half of the columns, the same. -/
theorem second_mix : k0_pay1 (F := Ideal) (k0_pay7 (F := Ideal) u f) (k0_pay8 (F := Ideal) v) (k0_pay9 (F := Ideal) g) (ix2 p q)
    = both f g u v p q := by
  pointwise [k0_pay1, k0_pay7, k0_pay8, k0_pay9]

theorem second_cast : k0_pay3 (F := Ideal) (k0_pay7 (F := Ideal) u f) (k0_pay8 (F := Ideal) v) (k0_pay9 (F := Ideal) g) (ix2 p q)
    = both f g u v p q := second_mix u v f g p q

theorem second_sum : k0_pay2 (F := Ideal) (k0_pay7 (F := Ideal) u f) (k0_pay8 (F := Ideal) v) (k0_pay9 (F := Ideal) g) r t (ix2 p q)
    = r (ix2 p q) + t (ix2 (0 : Fin 1) q) * both f g u v p q := by
  rw [← second_mix]
  pointwise [k0_pay2]

end Halves

/-- A half of the columns of a block, read at an index. -/
theorem cols_at {φ : EltTy} (x : Vec Ideal S1024x512 φ) (o : ℕ) (inb) (k : Fin 1024) (b : Fin 256) (q : Fin 512) (hq : q.val = o + b.val) :
    View.ld x (Rect.unit (s := S1024x512) ![0, o] ![1024, 256] inb) (ix2 k b) = x (ix2 k q) := by
  refine congrArg x (funext fun a => Fin.ext ?_)
  match a with
  | ⟨0, _⟩ => show 0 + 1 * k.val = k.val; omega
  | ⟨1, _⟩ => show o + 1 * b.val = q.val; omega

theorem gate_at (x : Vec Ideal S1x512 .f32) (o : ℕ) (inb) (b : Fin 256) (q : Fin 512) (hq : q.val = o + b.val) :
    View.ld x (Rect.unit (s := S1x512) ![0, o] ![1, 256] inb) (ix2 (0 : Fin 1) b) = x (ix2 (0 : Fin 1) q) := by
  refine congrArg x (funext fun a => Fin.ext ?_)
  match a with
  | ⟨0, _⟩ => show 0 + 1 * 0 = 0; omega
  | ⟨1, _⟩ => show o + 1 * b.val = q.val; omega

theorem both_half (f g : Vec Ideal S1024x1024 .bf16) (u v : Vec Ideal S1024x512 .bf16) (o : ℕ) (inb inb') (a : Fin 1024) (b : Fin 256)
    (p : Fin 1024) (q : Fin 512) (hp : p.val = a.val) (hq : q.val = o + b.val) :
    both (n := 256) f g (View.ld u (Rect.unit (s := S1024x512) ![0, o] ![1024, 256] inb))
        (View.ld v (Rect.unit (s := S1024x512) ![0, o] ![1024, 256] inb')) a b
      = both (n := 512) f g u v p q := by
  obtain rfl : p = a := Fin.ext hp
  exact congrArg₂ (fun x y : EReal => x + y) (Finset.sum_congr rfl fun k _ => congrArg _ (cols_at u o inb k b q hq))
    (Finset.sum_congr rfl fun k _ => congrArg _ (cols_at v o inb' k b q hq))

/-- The block of the output the body leaves, from its blocks: it works the columns off in two halves. -/
theorem out_mix (c : Dev nD) (i : grid0.Coords) (a3 : Memref sig .tc .vmem S1024x1024 .bf16) (h3 : a3.IsWhole)
    (a4 : Memref sig .tc .vmem S1024x512 .bf16) (h4 : a4.IsWhole)
    (a5 : Memref sig .tc .vmem S1024x1024 .bf16) (h5 : a5.IsWhole)
    (a6 : Memref sig .tc .vmem S1024x512 .bf16) (h6 : a6.IsWhole)
    (a7 : Memref sig .tc .vmem S1024x512 .f32) (h7 : a7.IsWhole)
    (a8 : Memref sig .tc .vmem S1x512 .f32) (h8 : a8.IsWhole)
    (a9 : Memref sig .tc .vmem S1024x512 .f32) (h9 : a9.IsWhole)
    (a10 : Memref sig .tc .vmem S1024x512 .bf16) (h10 : a10.IsWhole)
    (a11 : Memref sig .tc .vmem S1024x512 .f32) (h11 : a11.IsWhole)
    (f : Vec Ideal S1024x1024 .bf16) (u : Vec Ideal S1024x512 .bf16) (g : Vec Ideal S1024x1024 .bf16) (v : Vec Ideal S1024x512 .bf16)
    (r : Vec Ideal S1024x512 .f32) (t : Vec Ideal S1x512 .f32) (p : Fin 1024) (q : Fin 512) :
    out0_A_7 (F := Ideal) c i a3 h3 a4 h4 a5 h5 a6 h6 a7 h7 a8 h8 a9 h9 a10 h10 a11 h11 f u g v r t (ix2 p q)
      = both (n := 512) f g u v p q := by
  frame_out
  canon_tiles x h
  · obtain ⟨a, b, rfl⟩ : ∃ (a : Fin 1024) (b : Fin 256), x = ix2 a b := ⟨x 0, x 1, eq_ix2 x⟩
    refine (second_cast _ _ _ _ a b).trans ?_
    exact both_half f g u v 256 _ _ a b p q h0 h1
  · obtain ⟨a, b, rfl⟩ : ∃ (a : Fin 1024) (b : Fin 256), x = ix2 a b := ⟨x 0, x 1, eq_ix2 x⟩
    refine (first_cast _ _ _ _ a b).trans ?_
    exact both_half f g u v 0 _ _ a b p q h0 (h1.trans (Nat.zero_add _).symm)

/-- The block of the layer's input plus the gated output, the same. -/
theorem out_sum (c : Dev nD) (i : grid0.Coords) (a3 : Memref sig .tc .vmem S1024x1024 .bf16) (h3 : a3.IsWhole)
    (a4 : Memref sig .tc .vmem S1024x512 .bf16) (h4 : a4.IsWhole)
    (a5 : Memref sig .tc .vmem S1024x1024 .bf16) (h5 : a5.IsWhole)
    (a6 : Memref sig .tc .vmem S1024x512 .bf16) (h6 : a6.IsWhole)
    (a7 : Memref sig .tc .vmem S1024x512 .f32) (h7 : a7.IsWhole)
    (a8 : Memref sig .tc .vmem S1x512 .f32) (h8 : a8.IsWhole)
    (a9 : Memref sig .tc .vmem S1024x512 .f32) (h9 : a9.IsWhole)
    (a10 : Memref sig .tc .vmem S1024x512 .bf16) (h10 : a10.IsWhole)
    (a11 : Memref sig .tc .vmem S1024x512 .f32) (h11 : a11.IsWhole)
    (f : Vec Ideal S1024x1024 .bf16) (u : Vec Ideal S1024x512 .bf16) (g : Vec Ideal S1024x1024 .bf16) (v : Vec Ideal S1024x512 .bf16)
    (r : Vec Ideal S1024x512 .f32) (t : Vec Ideal S1x512 .f32) (p : Fin 1024) (q : Fin 512) :
    out0_A_6 (F := Ideal) c i a3 h3 a4 h4 a5 h5 a6 h6 a7 h7 a8 h8 a9 h9 a10 h10 a11 h11 f u g v r t (ix2 p q)
      = r (ix2 p q) + t (ix2 (0 : Fin 1) q) * both (n := 512) f g u v p q := by
  frame_out
  canon_tiles x h
  · obtain ⟨a, b, rfl⟩ : ∃ (a : Fin 1024) (b : Fin 256), x = ix2 a b := ⟨x 0, x 1, eq_ix2 x⟩
    refine (second_sum _ _ _ _ _ _ a b).trans ?_
    rw [both_half f g u v 256 _ _ a b p q h0 h1, cols_at r 256 _ a b q h1, gate_at t 256 _ b q h1]
    obtain rfl : p = a := Fin.ext h0
    rfl
  · obtain ⟨a, b, rfl⟩ : ∃ (a : Fin 1024) (b : Fin 256), x = ix2 a b := ⟨x 0, x 1, eq_ix2 x⟩
    refine (first_sum _ _ _ _ _ _ a b).trans ?_
    rw [both_half f g u v 0 _ _ a b p q h0 (h1.trans (Nat.zero_add _).symm), cols_at r 0 _ a b q (h1.trans (Nat.zero_add _).symm), gate_at t 0 _ b q (h1.trans (Nat.zero_add _).symm)]
    obtain rfl : p = a := Fin.ext h0
    rfl

variable (m : (ℓ : Loc nD τ sig) → Buf (Elt Ideal) ℓ) (c : Dev nD)

/-- The layer's input, the gate, the two heads' outputs and the output matrix, as the launch is given them. -/
abbrev inp : Vec Ideal S8192x2048 .f32 := m ((c : Thread nD τ).loc main_arg0)
abbrev gt : Vec Ideal S1x2048 .f32 := m ((c : Thread nD τ).loc main_arg1)
abbrev on_f : Vec Ideal S8192x1024 .f32 := m ((c : Thread nD τ).loc main_arg2)
abbrev on_g : Vec Ideal S8192x1024 .f32 := m ((c : Thread nD τ).loc main_arg3)
abbrev weight : Vec Ideal S2048x2048 .f32 := m ((c : Thread nD τ).loc main_arg4)

/-- The two halves of the matrix, by row and column. -/
abbrev upper (k : Fin 1024) (q : Fin 2048) : EReal := weight m c (ix2 (⟨k.val, by omega⟩ : Fin 2048) q)
abbrev lower (k : Fin 1024) (q : Fin 2048) : EReal := weight m c (ix2 (⟨1024 + k.val, by omega⟩ : Fin 2048) q)

theorem host_f (i : S8192x1024.Idx) : V m c main_v0 i = on_f m c i := by
  have e : V m c main_v0 = truncf (F := Ideal) (φ := .f32) .bf16 (on_f m c) bitsLt_bf16_f32 := by
    dsimp only [V]; after_results
  rw [e]; rfl

theorem host_g (i : S8192x1024.Idx) : V m c main_v3 i = on_g m c i := by
  have e : V m c main_v3 = truncf (F := Ideal) (φ := .f32) .bf16 (on_g m c) bitsLt_bf16_f32 := by
    dsimp only [V]; after_results
  rw [e]; rfl

theorem host_upper (k : Fin 1024) (q : Fin 2048) : V m c main_v2 (ix2 k q) = upper m c k q := by
  have e : V m c main_v2 = truncf (F := Ideal) (φ := .f32) .bf16
      (extractStridedSlice S1024x2048 ![0, 0] (weight m c) slices_S2048x2048_S1024x2048_0_0) bitsLt_bf16_f32 := by
    dsimp only [V]; after_results
  rw [e]; pointwise

theorem host_lower (k : Fin 1024) (q : Fin 2048) : V m c main_v5 (ix2 k q) = lower m c k q := by
  have e : V m c main_v5 = truncf (F := Ideal) (φ := .f32) .bf16
      (extractStridedSlice S1024x2048 ![1024, 0] (weight m c) slices_S2048x2048_S1024x2048_1024_0) bitsLt_bf16_f32 := by
    dsimp only [V]; after_results
  rw [e]; pointwise

theorem index0 : ∀ t : Fin cfg0.N, win0_0.index t (0 : Fin 2) = t.val / 4 ∧ win0_0.index t (1 : Fin 2) = 0 :=
  (by decide +kernel : ∀ t : Fin grid0.N, _)

theorem index1 : ∀ t : Fin cfg0.N, win0_1.index t (0 : Fin 2) = 0 ∧ win0_1.index t (1 : Fin 2) = t.val % 4 :=
  (by decide +kernel : ∀ t : Fin grid0.N, _)

theorem index2 : ∀ t : Fin cfg0.N, win0_2.index t (0 : Fin 2) = t.val / 4 ∧ win0_2.index t (1 : Fin 2) = 0 :=
  (by decide +kernel : ∀ t : Fin grid0.N, _)

theorem index3 : ∀ t : Fin cfg0.N, win0_3.index t (0 : Fin 2) = 0 ∧ win0_3.index t (1 : Fin 2) = t.val % 4 :=
  (by decide +kernel : ∀ t : Fin grid0.N, _)

theorem index4 : ∀ t : Fin cfg0.N, win0_4.index t (0 : Fin 2) = t.val / 4 ∧ win0_4.index t (1 : Fin 2) = t.val % 4 :=
  (by decide +kernel : ∀ t : Fin grid0.N, _)

theorem index5 : ∀ t : Fin cfg0.N, win0_5.index t (0 : Fin 2) = 0 ∧ win0_5.index t (1 : Fin 2) = t.val % 4 :=
  (by decide +kernel : ∀ t : Fin grid0.N, _)

theorem index6 : ∀ t : Fin cfg0.N, win0_6.index t (0 : Fin 2) = t.val / 4 ∧ win0_6.index t (1 : Fin 2) = t.val % 4 :=
  (by decide +kernel : ∀ t : Fin grid0.N, _)

theorem index7 : ∀ t : Fin cfg0.N, win0_7.index t (0 : Fin 2) = t.val / 4 ∧ win0_7.index t (1 : Fin 2) = t.val % 4 :=
  (by decide +kernel : ∀ t : Fin grid0.N, _)

/-- The array's row and column of a block's row and column at a point. -/
def row (t : Fin cfg0.N) (p : Fin 1024) : Fin 8192 := ⟨1024 * (t.val / 4) + p.val, by
  have ht := lt_of_lt_of_eq t.isLt (show cfg0.N = 32 from N_0)
  omega⟩
def col (t : Fin cfg0.N) (q : Fin 512) : Fin 2048 := ⟨512 * (t.val % 4) + q.val, by omega⟩

theorem block_f (t : Fin cfg0.N) (p : Fin 1024) (q : Fin 1024) :
    iblk m c 0 t (ix2 p q) = on_f m c (ix2 (row t p) q) := by
  refine Eq.trans ?_ (host_f m c (ix2 (row t p) q))
  show V m c main_v0 (((cfg0.win 0).blk t).view.emb (ix2 p q)) = _
  refine congrArg (V m c main_v0) (funext fun a => Fin.ext ?_)
  obtain ⟨e0, e1⟩ := index0 t
  match a with
  | ⟨0, _⟩ => show win0_0.index t (0 : Fin 2) * 1024 + 1 * p.val = 1024 * (t.val / 4) + p.val; omega
  | ⟨1, _⟩ => show win0_0.index t (1 : Fin 2) * 1024 + 1 * q.val = q.val; omega

theorem block_upper (t : Fin cfg0.N) (p : Fin 1024) (q : Fin 512) :
    iblk m c 1 t (ix2 p q) = upper m c p (col t q) := by
  refine Eq.trans ?_ (host_upper m c p (col t q))
  show V m c main_v2 (((cfg0.win 1).blk t).view.emb (ix2 p q)) = _
  refine congrArg (V m c main_v2) (funext fun a => Fin.ext ?_)
  obtain ⟨e0, e1⟩ := index1 t
  match a with
  | ⟨0, _⟩ => show win0_1.index t (0 : Fin 2) * 1024 + 1 * p.val = p.val; omega
  | ⟨1, _⟩ => show win0_1.index t (1 : Fin 2) * 512 + 1 * q.val = 512 * (t.val % 4) + q.val; omega

theorem block_g (t : Fin cfg0.N) (p : Fin 1024) (q : Fin 1024) :
    iblk m c 2 t (ix2 p q) = on_g m c (ix2 (row t p) q) := by
  refine Eq.trans ?_ (host_g m c (ix2 (row t p) q))
  show V m c main_v3 (((cfg0.win 2).blk t).view.emb (ix2 p q)) = _
  refine congrArg (V m c main_v3) (funext fun a => Fin.ext ?_)
  obtain ⟨e0, e1⟩ := index2 t
  match a with
  | ⟨0, _⟩ => show win0_2.index t (0 : Fin 2) * 1024 + 1 * p.val = 1024 * (t.val / 4) + p.val; omega
  | ⟨1, _⟩ => show win0_2.index t (1 : Fin 2) * 1024 + 1 * q.val = q.val; omega

theorem block_lower (t : Fin cfg0.N) (p : Fin 1024) (q : Fin 512) :
    iblk m c 3 t (ix2 p q) = lower m c p (col t q) := by
  refine Eq.trans ?_ (host_lower m c p (col t q))
  show V m c main_v5 (((cfg0.win 3).blk t).view.emb (ix2 p q)) = _
  refine congrArg (V m c main_v5) (funext fun a => Fin.ext ?_)
  obtain ⟨e0, e1⟩ := index3 t
  match a with
  | ⟨0, _⟩ => show win0_3.index t (0 : Fin 2) * 1024 + 1 * p.val = p.val; omega
  | ⟨1, _⟩ => show win0_3.index t (1 : Fin 2) * 512 + 1 * q.val = 512 * (t.val % 4) + q.val; omega

theorem block_inp (t : Fin cfg0.N) (p : Fin 1024) (q : Fin 512) :
    iblk m c 4 t (ix2 p q) = inp m c (ix2 (row t p) (col t q)) := by
  refine Eq.trans ?_ (congrFun (V_main_arg0 m c) (ix2 (row t p) (col t q)))
  show V m c main_arg0 (((cfg0.win 4).blk t).view.emb (ix2 p q)) = _
  refine congrArg (V m c main_arg0) (funext fun a => Fin.ext ?_)
  obtain ⟨e0, e1⟩ := index4 t
  match a with
  | ⟨0, _⟩ => show win0_4.index t (0 : Fin 2) * 1024 + 1 * p.val = 1024 * (t.val / 4) + p.val; omega
  | ⟨1, _⟩ => show win0_4.index t (1 : Fin 2) * 512 + 1 * q.val = 512 * (t.val % 4) + q.val; omega

theorem block_gt (t : Fin cfg0.N) (q : Fin 512) :
    iblk m c 5 t (ix2 (0 : Fin 1) q) = gt m c (ix2 (0 : Fin 1) (col t q)) := by
  refine Eq.trans ?_ (congrFun (V_main_arg1 m c) (ix2 (0 : Fin 1) (col t q)))
  show V m c main_arg1 (((cfg0.win 5).blk t).view.emb (ix2 (0 : Fin 1) q)) = _
  refine congrArg (V m c main_arg1) (funext fun a => Fin.ext ?_)
  obtain ⟨e0, e1⟩ := index5 t
  match a with
  | ⟨0, _⟩ => show win0_5.index t (0 : Fin 2) * 1 + 1 * 0 = 0; omega
  | ⟨1, _⟩ => show win0_5.index t (1 : Fin 2) * 512 + 1 * q.val = 512 * (t.val % 4) + q.val; omega

theorem emb6 (t : Fin cfg0.N) (p : Fin 1024) (q : Fin 512) : (win0_6.blk t).view.emb (ix2 p q) = ix2 (row t p) (col t q) := by
  refine funext fun a => Fin.ext ?_
  obtain ⟨e0, e1⟩ := index6 t
  match a with
  | ⟨0, _⟩ => show win0_6.index t (0 : Fin 2) * 1024 + 1 * p.val = 1024 * (t.val / 4) + p.val; omega
  | ⟨1, _⟩ => show win0_6.index t (1 : Fin 2) * 512 + 1 * q.val = 512 * (t.val % 4) + q.val; omega

theorem emb7 (t : Fin cfg0.N) (p : Fin 1024) (q : Fin 512) : (win0_7.blk t).view.emb (ix2 p q) = ix2 (row t p) (col t q) := by
  refine funext fun a => Fin.ext ?_
  obtain ⟨e0, e1⟩ := index7 t
  match a with
  | ⟨0, _⟩ => show win0_7.index t (0 : Fin 2) * 1024 + 1 * p.val = 1024 * (t.val / 4) + p.val; omega
  | ⟨1, _⟩ => show win0_7.index t (1 : Fin 2) * 512 + 1 * q.val = 512 * (t.val % 4) + q.val; omega

/-- The output and the layer's new value, element by element and as the arrays the launch leaves. -/
def mix (p : Fin 8192) (q : Fin 2048) : EReal :=
  (∑ k : Fin 1024, on_f m c (ix2 p k) * upper m c k q) + ∑ k : Fin 1024, on_g m c (ix2 p k) * lower m c k q
def mixArr : S8192x2048.Idx → EReal := fun i => mix m c (i 0) (i 1)
def sumAt (p : Fin 8192) (q : Fin 2048) : EReal := inp m c (ix2 p q) + gt m c (ix2 (0 : Fin 1) q) * mix m c p q
def sumArr : S8192x2048.Idx → EReal := fun i => sumAt m c (i 0) (i 1)

theorem block_mix (t : Fin cfg0.N) (p : Fin 1024) (q : Fin 512) :
    both (n := 512) (iblk m c 0 t) (iblk m c 2 t) (iblk m c 1 t) (iblk m c 3 t) p q = mix m c (row t p) (col t q) :=
  congrArg₂ (fun x y : EReal => x + y)
    (Finset.sum_congr rfl fun k _ => congrArg₂ (fun a b : EReal => a * b) (block_f m c t p k) (block_upper m c t k q))
    (Finset.sum_congr rfl fun k _ => congrArg₂ (fun a b : EReal => a * b) (block_g m c t p k) (block_lower m c t k q))

theorem arr_mix : (dats m 0 c).arrAt 7 cfg0.N = mixArr m c := by
  refine (dats m 0 c).arrAt_eq_of_covers 7 _ (by decide +kernel) fun t hf y => ?_
  blk_simp
  obtain ⟨p, q, rfl⟩ : ∃ (p : Fin 1024) (q : Fin 512), y = ix2 p q := ⟨y 0, y 1, eq_ix2 y⟩
  rw [after0_7, emb7]
  dsimp only [outsAt0]
  rw [out_mix]
  exact block_mix m c t p q

theorem arr_sum : (dats m 0 c).arrAt 6 cfg0.N = sumArr m c := by
  refine (dats m 0 c).arrAt_eq_of_covers 6 _ (by decide +kernel) fun t hf y => ?_
  blk_simp
  obtain ⟨p, q, rfl⟩ : ∃ (p : Fin 1024) (q : Fin 512), y = ix2 p q := ⟨y 0, y 1, eq_ix2 y⟩
  rw [after0_6, emb6]
  dsimp only [outsAt0]
  rw [out_sum]
  exact congrArg₂ (fun a b : EReal => a + b) (block_inp m c t p q)
    (congrArg₂ (fun a b : EReal => a * b) (block_gt m c t q) (block_mix m c t p q))

end Cert.Kernel9Ideal.Proj

namespace Cert.Reference9Ideal.Proj

open Idealize.ShloMosaic Idealize.ShloMosaic.TcCoe Idealize.SL.Sem
open Cert.Reference9Ideal Cert.Reference9Ideal.Gen
open scoped BigOperators

section Values

variable (inp : FVec Ideal S8192x2048 .f32) (gt : FVec Ideal S1x2048 .f32) (on_f on_g : FVec Ideal S8192x1024 .f32)
  (weight : FVec Ideal S2048x2048 .f32) (p : Fin 8192) (q : Fin 2048)

/-- The reference's output, and the layer's new value. -/
def mix : FVec Ideal S8192x2048 .f32 :=
  Host.dotGeneral dot_S8192x2048_S2048x2048_S8192x2048_1_0_0_1_n_n none
    (concatenate S8192x2048 1 [⟨S8192x1024, on_f⟩, ⟨S8192x1024, on_g⟩] concatenates_S8192x1024_S8192x1024_S8192x2048_d1) weight

def mix_cast : FVec Ideal S8192x2048 .bf16 := truncf .bf16 (mix on_f on_g weight) bitsLt_bf16_f32

def total : FVec Ideal S8192x2048 .f32 :=
  addf inp (mulf (broadcastInDim S8192x2048 ![0, 1] bcast_S1x2048_S8192x2048_0_1 gt) (mix on_f on_g weight))

theorem mix_at : mix on_f on_g weight (ix2 p q)
    = (∑ k : Fin 1024, on_f (ix2 p k) * weight (ix2 (⟨k.val, by omega⟩ : Fin 2048) q))
      + ∑ k : Fin 1024, on_g (ix2 p k) * weight (ix2 (⟨1024 + k.val, by omega⟩ : Fin 2048) q) := by
  pointwise [mix]

theorem total_at : total inp gt on_f on_g weight (ix2 p q)
    = inp (ix2 p q) + gt (ix2 (0 : Fin 1) q) * mix on_f on_g weight (ix2 p q) := by
  pointwise [total]

end Values

/-- The reference has no semaphore. -/
theorem no_sem (s : SemLoc sig) : False := by
  rcases s with s | s
  · exact s.elim0
  · exact s.elim0

end Cert.Reference9Ideal.Proj

namespace Cert.Proj

open Idealize.ShloMosaic Idealize.ShloMosaic.TcCoe Idealize.SL.Sem

section Same

variable (m : (ℓ : Loc Cert.Kernel9Ideal.nD Cert.Kernel9Ideal.τ Cert.Kernel9Ideal.sig) → Buf (Elt Ideal) ℓ) (c : Dev Cert.Kernel9Ideal.nD)

/-- The launch leaves the reference's output, and the reference's new value. -/
theorem mixer_same : Cert.Reference9Ideal.Proj.mix_cast (Cert.Kernel9Ideal.Proj.on_f m c) (Cert.Kernel9Ideal.Proj.on_g m c)
    (Cert.Kernel9Ideal.Proj.weight m c) = (Cert.Kernel9Ideal.Gen.dats m 0 c).arrAt 7 Cert.Kernel9Ideal.cfg0.N := by
  rw [Cert.Kernel9Ideal.Proj.arr_mix]
  funext i
  obtain ⟨p, q, rfl⟩ : ∃ (p : Fin 8192) (q : Fin 2048), i = ix2 p q := ⟨i 0, i 1, eq_ix2 i⟩
  exact Cert.Reference9Ideal.Proj.mix_at _ _ _ p q

theorem total_same : Cert.Reference9Ideal.Proj.total (Cert.Kernel9Ideal.Proj.inp m c) (Cert.Kernel9Ideal.Proj.gt m c)
    (Cert.Kernel9Ideal.Proj.on_f m c) (Cert.Kernel9Ideal.Proj.on_g m c) (Cert.Kernel9Ideal.Proj.weight m c)
      = (Cert.Kernel9Ideal.Gen.dats m 0 c).arrAt 6 Cert.Kernel9Ideal.cfg0.N := by
  rw [Cert.Kernel9Ideal.Proj.arr_sum]
  funext i
  obtain ⟨p, q, rfl⟩ : ∃ (p : Fin 8192) (q : Fin 2048), i = ix2 p q := ⟨i 0, i 1, eq_ix2 i⟩
  refine (Cert.Reference9Ideal.Proj.total_at _ _ _ _ _ p q).trans ?_
  rw [Cert.Reference9Ideal.Proj.mix_at]
  rfl

end Same

section Congr

variable {x x' : FVec Ideal Cert.Reference9Ideal.S8192x2048 .f32} {t t' : FVec Ideal Cert.Reference9Ideal.S1x2048 .f32}
  {f f' g g' : FVec Ideal Cert.Reference9Ideal.S8192x1024 .f32} {w w' : FVec Ideal Cert.Reference9Ideal.S2048x2048 .f32}

theorem mix_congr (h1 : f = f') (h2 : g = g') (h3 : w = w') :
    Cert.Reference9Ideal.Proj.mix_cast f g w = Cert.Reference9Ideal.Proj.mix_cast f' g' w' := by
  subst h1; subst h2; subst h3; rfl

theorem total_congr (h1 : x = x') (h2 : t = t') (h3 : f = f') (h4 : g = g') (h5 : w = w') :
    Cert.Reference9Ideal.Proj.total x t f g w = Cert.Reference9Ideal.Proj.total x' t' f' g' w' := by
  subst h1; subst h2; subst h3; subst h4; subst h5; rfl

end Congr

theorem mixer : Cert.algebraic_Kernel9Ideal_Reference9Ideal (hKernel9Ideal := Cert.Kernel9Ideal.Gen.facts)
    (hReference9Ideal := Cert.Reference9Ideal.Gen.facts) := fun m g m' g' _ hA =>
  ⟨_, _, Cert.Kernel9Ideal.Value.run_blocks m g,
    (θ_run Cert.Reference9Ideal.defs _ _).mono
      (fun _ h c =>
        ⟨(h c).1.trans ((total_congr (hA c).1 (hA c).2.1 (hA c).2.2.1 (hA c).2.2.2.1 (hA c).2.2.2.2).trans (total_same m c)),
        (h c).2.1.trans ((mix_congr (hA c).2.2.1 (hA c).2.2.2.1 (hA c).2.2.2.2).trans (mixer_same m c)), (h c).2.2⟩)
      (Cert.Reference9Ideal.Value.run m' g')⟩

theorem mixer_reference : Cert.quiescent_Reference9Ideal (hReference9Ideal := Cert.Reference9Ideal.Gen.facts) := fun m g _ =>
  (θ_run Cert.Reference9Ideal.defs _ _).mono
    (fun _ h => ⟨fun c => (h c).2.2, funext fun s => (Cert.Reference9Ideal.Proj.no_sem s.2).elim⟩) (Cert.Reference9Ideal.Value.run m g)

theorem mixer_ideal : Cert.quiescent_Kernel9Ideal (hKernel9Ideal := Cert.Kernel9Ideal.Gen.facts) := fun m g _ =>
  Cert.Kernel9Ideal.Gen.frame m g

theorem mixer_words : Cert.quiescent_Kernel9 (hKernel9 := Cert.Kernel9.Gen.facts) := fun m g _ => Cert.Kernel9.Gen.frame m g

end Cert.Proj

end
-- ==== Proof.Proj.OutputGate.lean ====
/- The projection that gives the gated delta rule's output gates (`proj_z`): the array the launch leaves is the product of the
   mixer's input and the projection's columns. -/
module

public import proofs.«01_k».proof.Proof.Gen.Kernel10Ideal.Value
public import proofs.«01_k».proof.Proof.Gen.Reference10Ideal.Run
public import proofs.«01_k».proof.Defs
public import proofs.«01_k».proof.Proof.Gen.Kernel10.Frame
public import Idealize.ShloMosaic.Lib.Pointwise
public import Idealize.ShloMosaic.Lib.Tactic
public import Idealize.ShloMosaic.Lib.Pipeline.ValueKit

@[expose] public section

set_option maxRecDepth 16384

noncomputable section

namespace Cert.Kernel10Ideal.Proj

open Idealize.ShloMosaic Idealize.ShloMosaic.TcCoe Idealize.SL.Sem
open Cert.Kernel10Ideal Cert.Kernel10Ideal.Gen Cert.Kernel10Ideal.Value
open scoped BigOperators

/-- The two halves' products. -/
theorem first_dot (w : Vec Ideal S256x2048 .bf16) (d : Vec Ideal S1024x2048 .bf16) (p : Fin 1024) (q : Fin 256) :
    k0_pay1 w d (ix2 p q) = ∑ k : Fin 2048, d (ix2 p k) * w (ix2 q k) := by
  pointwise [k0_pay1]

theorem second_dot (w : Vec Ideal S256x2048 .bf16) (d : Vec Ideal S1024x2048 .bf16) (p : Fin 1024) (q : Fin 256) :
    k0_pay2 w d (ix2 p q) = ∑ k : Fin 2048, d (ix2 p k) * w (ix2 q k) := by
  pointwise [k0_pay2]

/-- A row half of the second array's block, read at an index. -/
theorem rows_at (x : Vec Ideal S512x2048 .bf16) (o : ℕ) (inb) (b : Fin 256) (k : Fin 2048) (q : Fin 512) (hq : q.val = o + b.val) :
    View.ld x (Rect.unit (s := S512x2048) ![o, 0] ![256, 2048] inb) (ix2 b k) = x (ix2 q k) := by
  refine congrArg x (funext fun a => Fin.ext ?_)
  match a with
  | ⟨0, _⟩ => show o + 1 * b.val = q.val; omega
  | ⟨1, _⟩ => show 0 + 1 * k.val = k.val; omega

theorem dot_half (d : Vec Ideal S1024x2048 .bf16) (w : Vec Ideal S512x2048 .bf16) (o : ℕ) (inb) (a : Fin 1024) (b : Fin 256)
    (p : Fin 1024) (q : Fin 512) (hp : p.val = a.val) (hq : q.val = o + b.val) :
    (∑ k : Fin 2048, d (ix2 a k) * View.ld w (Rect.unit (s := S512x2048) ![o, 0] ![256, 2048] inb) (ix2 b k))
      = ∑ k : Fin 2048, d (ix2 p k) * w (ix2 q k) := by
  obtain rfl : p = a := Fin.ext hp
  exact Finset.sum_congr rfl fun k _ => congrArg _ (rows_at w o inb b k q hq)

/-- The block the body leaves, from its two blocks: it works the columns off in two halves. -/
theorem out_block (c : Dev nD) (i : grid0.Coords) (a3 : Memref sig .tc .vmem S1024x2048 .bf16) (h3 : a3.IsWhole)
    (a4 : Memref sig .tc .vmem S512x2048 .bf16) (h4 : a4.IsWhole) (a5 : Memref sig .tc .vmem S1024x512 .f32) (h5 : a5.IsWhole)
    (a6 : Memref sig .tc .vmem S1024x512 .f32) (h6 : a6.IsWhole)
    (d : Vec Ideal S1024x2048 .bf16) (w : Vec Ideal S512x2048 .bf16) (p : Fin 1024) (q : Fin 512) :
    out0_A_2 c i a3 h3 a4 h4 a5 h5 a6 h6 d w (ix2 p q) = ∑ k : Fin 2048, d (ix2 p k) * w (ix2 q k) := by
  frame_out
  canon_tiles x h
  · obtain ⟨a, b, rfl⟩ : ∃ (a : Fin 1024) (b : Fin 256), x = ix2 a b := ⟨x 0, x 1, eq_ix2 x⟩
    refine (second_dot _ _ a b).trans ?_
    rw [dot_half d w 256 _ a b p q h0 h1]
  · obtain ⟨a, b, rfl⟩ : ∃ (a : Fin 1024) (b : Fin 256), x = ix2 a b := ⟨x 0, x 1, eq_ix2 x⟩
    refine (first_dot _ _ a b).trans ?_
    rw [dot_half d w 0 _ a b p q h0 (h1.trans (Nat.zero_add _).symm)]

variable (m : (ℓ : Loc nD τ sig) → Buf (Elt Ideal) ℓ) (c : Dev nD)

/-- The mixer's input and the projection's columns, as the launch is given them. -/
abbrev inp : Vec Ideal S8192x2048 .f32 := m ((c : Thread nD τ).loc main_arg0)
abbrev weight : Vec Ideal S2048x1024 .f32 := m ((c : Thread nD τ).loc main_arg1)

/-- The second array of the product, by its row and the summed index. -/
abbrev second (q : Fin 1024) (k : Fin 2048) : EReal := weight m c (ix2 k q)

theorem host_inp (i : S8192x2048.Idx) : V m c main_v0 i = inp m c i := by
  have e : V m c main_v0 = truncf (F := Ideal) (φ := .f32) .bf16 (inp m c) bitsLt_bf16_f32 := by
    dsimp only [V]; after_results
  rw [e]; rfl

/-- The launch is given the weight matrix transposed. -/
theorem host_weight (q : Fin 1024) (k : Fin 2048) : V m c main_v2 (ix2 q k) = second m c q k := by
  have e : V m c main_v2 = truncf (F := Ideal) (φ := .f32) .bf16
      (transpose S1024x2048 [1, 0] (weight m c) transposes_S2048x1024_S1024x2048_1_0) bitsLt_bf16_f32 := by
    dsimp only [V]; after_results
  rw [e]; pointwise

theorem index0 : ∀ t : Fin cfg0.N, win0_0.index t (0 : Fin 2) = t.val / 2 ∧ win0_0.index t (1 : Fin 2) = 0 :=
  (by decide +kernel : ∀ t : Fin grid0.N, _)

theorem index1 : ∀ t : Fin cfg0.N, win0_1.index t (0 : Fin 2) = t.val % 2 ∧ win0_1.index t (1 : Fin 2) = 0 :=
  (by decide +kernel : ∀ t : Fin grid0.N, _)

theorem index2 : ∀ t : Fin cfg0.N, win0_2.index t (0 : Fin 2) = t.val / 2 ∧ win0_2.index t (1 : Fin 2) = t.val % 2 :=
  (by decide +kernel : ∀ t : Fin grid0.N, _)

/-- The array's row and column of a block's row and column at a point. -/
def row (t : Fin cfg0.N) (p : Fin 1024) : Fin 8192 := ⟨1024 * (t.val / 2) + p.val, by
  have ht := lt_of_lt_of_eq t.isLt (show cfg0.N = 16 from N_0)
  omega⟩
def col (t : Fin cfg0.N) (q : Fin 512) : Fin 1024 := ⟨512 * (t.val % 2) + q.val, by omega⟩

theorem block_inp (t : Fin cfg0.N) (p : Fin 1024) (q : Fin 2048) :
    iblk m c 0 t (ix2 p q) = inp m c (ix2 (row t p) q) := by
  refine Eq.trans ?_ (host_inp m c (ix2 (row t p) q))
  show V m c main_v0 (((cfg0.win 0).blk t).view.emb (ix2 p q)) = _
  refine congrArg (V m c main_v0) (funext fun a => Fin.ext ?_)
  obtain ⟨e0, e1⟩ := index0 t
  match a with
  | ⟨0, _⟩ => show win0_0.index t (0 : Fin 2) * 1024 + 1 * p.val = 1024 * (t.val / 2) + p.val; omega
  | ⟨1, _⟩ => show win0_0.index t (1 : Fin 2) * 2048 + 1 * q.val = q.val; omega

theorem block_weight (t : Fin cfg0.N) (p : Fin 512) (q : Fin 2048) :
    iblk m c 1 t (ix2 p q) = second m c (col t p) q := by
  refine Eq.trans ?_ (host_weight m c (col t p) q)
  show V m c main_v2 (((cfg0.win 1).blk t).view.emb (ix2 p q)) = _
  refine congrArg (V m c main_v2) (funext fun a => Fin.ext ?_)
  obtain ⟨e0, e1⟩ := index1 t
  match a with
  | ⟨0, _⟩ => show win0_1.index t (0 : Fin 2) * 512 + 1 * p.val = 512 * (t.val % 2) + p.val; omega
  | ⟨1, _⟩ => show win0_1.index t (1 : Fin 2) * 2048 + 1 * q.val = q.val; omega

theorem emb2 (t : Fin cfg0.N) (p : Fin 1024) (q : Fin 512) : (win0_2.blk t).view.emb (ix2 p q) = ix2 (row t p) (col t q) := by
  refine funext fun a => Fin.ext ?_
  obtain ⟨e0, e1⟩ := index2 t
  match a with
  | ⟨0, _⟩ => show win0_2.index t (0 : Fin 2) * 1024 + 1 * p.val = 1024 * (t.val / 2) + p.val; omega
  | ⟨1, _⟩ => show win0_2.index t (1 : Fin 2) * 512 + 1 * q.val = 512 * (t.val % 2) + q.val; omega

/-- The product, element by element and as the array the launch leaves. -/
def product (p : Fin 8192) (q : Fin 1024) : EReal := ∑ k : Fin 2048, inp m c (ix2 p k) * second m c q k
def productArr : S8192x1024.Idx → EReal := fun i => product m c (i 0) (i 1)

theorem arr_product : (dats m 0 c).arrAt 2 cfg0.N = productArr m c := by
  refine (dats m 0 c).arrAt_eq_of_covers 2 _ (by decide +kernel) fun t hf y => ?_
  blk_simp
  obtain ⟨p, q, rfl⟩ : ∃ (p : Fin 1024) (q : Fin 512), y = ix2 p q := ⟨y 0, y 1, eq_ix2 y⟩
  rw [after0_2, emb2]
  dsimp only [outsAt0]
  rw [out_block]
  exact Finset.sum_congr rfl fun k _ => congrArg₂ (fun a b : EReal => a * b) (block_inp m c t p k) (block_weight m c t q k)

end Cert.Kernel10Ideal.Proj

namespace Cert.Reference10Ideal.Proj

open Idealize.ShloMosaic Idealize.ShloMosaic.TcCoe Idealize.SL.Sem
open Cert.Reference10Ideal Cert.Reference10Ideal.Gen
open scoped BigOperators

/-- The reference's product. -/
def values (inp : FVec Ideal S8192x2048 .f32) (weight : FVec Ideal S2048x1024 .f32) : FVec Ideal S8192x1024 .f32 :=
  Host.dotGeneral dot_S8192x2048_S2048x1024_S8192x1024_1_0_0_1_n_n none inp weight

theorem values_at (inp : FVec Ideal S8192x2048 .f32) (weight : FVec Ideal S2048x1024 .f32) (p : Fin 8192) (q : Fin 1024) :
    values inp weight (ix2 p q) = ∑ k : Fin 2048, inp (ix2 p k) * weight (ix2 k q) := by
  pointwise [values]

/-- The reference has no semaphore. -/
theorem no_sem (s : SemLoc sig) : False := by
  rcases s with s | s
  · exact s.elim0
  · exact s.elim0

end Cert.Reference10Ideal.Proj

namespace Cert.Proj

open Idealize.ShloMosaic Idealize.ShloMosaic.TcCoe Idealize.SL.Sem

/-- The launch leaves the reference's array. -/
theorem output_gate_same (m : (ℓ : Loc Cert.Kernel10Ideal.nD Cert.Kernel10Ideal.τ Cert.Kernel10Ideal.sig) → Buf (Elt Ideal) ℓ) (c : Dev Cert.Kernel10Ideal.nD) :
    Cert.Reference10Ideal.Proj.values (Cert.Kernel10Ideal.Proj.inp m c) (Cert.Kernel10Ideal.Proj.weight m c) = (Cert.Kernel10Ideal.Gen.dats m 0 c).arrAt 2 Cert.Kernel10Ideal.cfg0.N := by
  rw [Cert.Kernel10Ideal.Proj.arr_product]
  funext i
  obtain ⟨p, q, rfl⟩ : ∃ (p : Fin 8192) (q : Fin 1024), i = ix2 p q := ⟨i 0, i 1, eq_ix2 i⟩
  exact Cert.Reference10Ideal.Proj.values_at _ _ p q

theorem output_gate : Cert.algebraic_Kernel10Ideal_Reference10Ideal (hKernel10Ideal := Cert.Kernel10Ideal.Gen.facts)
    (hReference10Ideal := Cert.Reference10Ideal.Gen.facts) := fun m g m' g' _ hA =>
  ⟨_, Cert.Kernel10Ideal.Value.run_blocks m g,
    (θ_run Cert.Reference10Ideal.defs _ _).mono
      (fun _ h c => ⟨(h c).1.trans ((congrArg₂ Cert.Reference10Ideal.Proj.values (hA c).1 (hA c).2).trans (output_gate_same m c)), (h c).2⟩)
      (Cert.Reference10Ideal.Value.run m' g')⟩

theorem output_gate_reference : Cert.quiescent_Reference10Ideal (hReference10Ideal := Cert.Reference10Ideal.Gen.facts) := fun m g _ =>
  (θ_run Cert.Reference10Ideal.defs _ _).mono
    (fun _ h => ⟨fun c => (h c).2, funext fun s => (Cert.Reference10Ideal.Proj.no_sem s.2).elim⟩) (Cert.Reference10Ideal.Value.run m g)

theorem output_gate_ideal : Cert.quiescent_Kernel10Ideal (hKernel10Ideal := Cert.Kernel10Ideal.Gen.facts) := fun m g _ =>
  Cert.Kernel10Ideal.Gen.frame m g

theorem output_gate_words : Cert.quiescent_Kernel10 (hKernel10 := Cert.Kernel10.Gen.facts) := fun m g _ => Cert.Kernel10.Gen.frame m g

end Cert.Proj

end
-- ==== Proof.Proj.DeltaGrad.lean ====
/- The gradient of the gated delta rule's half of the mixer's output (`mix_dog`): the array the launch leaves is the product of
   the mixed output's gradient and the lower half of the output matrix, transposed. -/
module

public import proofs.«01_k».proof.Proof.Gen.Kernel11Ideal.Value
public import proofs.«01_k».proof.Proof.Gen.Reference11Ideal.Run
public import proofs.«01_k».proof.Defs
public import proofs.«01_k».proof.Proof.Gen.Kernel11.Frame
public import Idealize.ShloMosaic.Lib.Pointwise
public import Idealize.ShloMosaic.Lib.Tactic
public import Idealize.ShloMosaic.Lib.Pipeline.ValueKit

@[expose] public section

set_option maxRecDepth 16384

noncomputable section

namespace Cert.Kernel11Ideal.Proj

open Idealize.ShloMosaic Idealize.ShloMosaic.TcCoe Idealize.SL.Sem
open Cert.Kernel11Ideal Cert.Kernel11Ideal.Gen Cert.Kernel11Ideal.Value
open scoped BigOperators

/-- The two halves' products. -/
theorem first_dot (w : Vec Ideal S256x2048 .bf16) (d : Vec Ideal S1024x2048 .bf16) (p : Fin 1024) (q : Fin 256) :
    k0_pay1 w d (ix2 p q) = ∑ k : Fin 2048, d (ix2 p k) * w (ix2 q k) := by
  pointwise [k0_pay1]

theorem second_dot (w : Vec Ideal S256x2048 .bf16) (d : Vec Ideal S1024x2048 .bf16) (p : Fin 1024) (q : Fin 256) :
    k0_pay2 w d (ix2 p q) = ∑ k : Fin 2048, d (ix2 p k) * w (ix2 q k) := by
  pointwise [k0_pay2]

/-- A row half of the second array's block, read at an index. -/
theorem rows_at (x : Vec Ideal S512x2048 .bf16) (o : ℕ) (inb) (b : Fin 256) (k : Fin 2048) (q : Fin 512) (hq : q.val = o + b.val) :
    View.ld x (Rect.unit (s := S512x2048) ![o, 0] ![256, 2048] inb) (ix2 b k) = x (ix2 q k) := by
  refine congrArg x (funext fun a => Fin.ext ?_)
  match a with
  | ⟨0, _⟩ => show o + 1 * b.val = q.val; omega
  | ⟨1, _⟩ => show 0 + 1 * k.val = k.val; omega

theorem dot_half (d : Vec Ideal S1024x2048 .bf16) (w : Vec Ideal S512x2048 .bf16) (o : ℕ) (inb) (a : Fin 1024) (b : Fin 256)
    (p : Fin 1024) (q : Fin 512) (hp : p.val = a.val) (hq : q.val = o + b.val) :
    (∑ k : Fin 2048, d (ix2 a k) * View.ld w (Rect.unit (s := S512x2048) ![o, 0] ![256, 2048] inb) (ix2 b k))
      = ∑ k : Fin 2048, d (ix2 p k) * w (ix2 q k) := by
  obtain rfl : p = a := Fin.ext hp
  exact Finset.sum_congr rfl fun k _ => congrArg _ (rows_at w o inb b k q hq)

/-- The block the body leaves, from its two blocks: it works the columns off in two halves. -/
theorem out_block (c : Dev nD) (i : grid0.Coords) (a3 : Memref sig .tc .vmem S1024x2048 .bf16) (h3 : a3.IsWhole)
    (a4 : Memref sig .tc .vmem S512x2048 .bf16) (h4 : a4.IsWhole) (a5 : Memref sig .tc .vmem S1024x512 .f32) (h5 : a5.IsWhole)
    (a6 : Memref sig .tc .vmem S1024x512 .f32) (h6 : a6.IsWhole)
    (d : Vec Ideal S1024x2048 .bf16) (w : Vec Ideal S512x2048 .bf16) (p : Fin 1024) (q : Fin 512) :
    out0_A_2 c i a3 h3 a4 h4 a5 h5 a6 h6 d w (ix2 p q) = ∑ k : Fin 2048, d (ix2 p k) * w (ix2 q k) := by
  frame_out
  canon_tiles x h
  · obtain ⟨a, b, rfl⟩ : ∃ (a : Fin 1024) (b : Fin 256), x = ix2 a b := ⟨x 0, x 1, eq_ix2 x⟩
    refine (second_dot _ _ a b).trans ?_
    rw [dot_half d w 256 _ a b p q h0 h1]
  · obtain ⟨a, b, rfl⟩ : ∃ (a : Fin 1024) (b : Fin 256), x = ix2 a b := ⟨x 0, x 1, eq_ix2 x⟩
    refine (first_dot _ _ a b).trans ?_
    rw [dot_half d w 0 _ a b p q h0 (h1.trans (Nat.zero_add _).symm)]

variable (m : (ℓ : Loc nD τ sig) → Buf (Elt Ideal) ℓ) (c : Dev nD)

/-- The gradient of the mixed output and the output matrix, as the launch is given them. -/
abbrev dmix : Vec Ideal S8192x2048 .f32 := m ((c : Thread nD τ).loc main_arg3)
abbrev weight : Vec Ideal S2048x2048 .f32 := m ((c : Thread nD τ).loc main_arg2)

/-- The second array of the product, by its row and the summed index: the lower half of the matrix. -/
abbrev second (q : Fin 1024) (k : Fin 2048) : EReal := weight m c (ix2 (⟨1024 + q.val, by omega⟩ : Fin 2048) k)

theorem host_dmix (i : S8192x2048.Idx) : V m c main_v0 i = dmix m c i := by
  have e : V m c main_v0 = truncf (F := Ideal) (φ := .f32) .bf16 (dmix m c) bitsLt_bf16_f32 := by
    dsimp only [V]; after_results
  rw [e]; rfl

/-- The launch is given the lower half of the output matrix. -/
theorem host_weight (q : Fin 1024) (k : Fin 2048) : V m c main_v2 (ix2 q k) = second m c q k := by
  have e : V m c main_v2 = truncf (F := Ideal) (φ := .f32) .bf16
      (extractStridedSlice S1024x2048 ![1024, 0] (weight m c) slices_S2048x2048_S1024x2048_1024_0) bitsLt_bf16_f32 := by
    dsimp only [V]; after_results
  rw [e]; pointwise

theorem index0 : ∀ t : Fin cfg0.N, win0_0.index t (0 : Fin 2) = t.val / 2 ∧ win0_0.index t (1 : Fin 2) = 0 :=
  (by decide +kernel : ∀ t : Fin grid0.N, _)

theorem index1 : ∀ t : Fin cfg0.N, win0_1.index t (0 : Fin 2) = t.val % 2 ∧ win0_1.index t (1 : Fin 2) = 0 :=
  (by decide +kernel : ∀ t : Fin grid0.N, _)

theorem index2 : ∀ t : Fin cfg0.N, win0_2.index t (0 : Fin 2) = t.val / 2 ∧ win0_2.index t (1 : Fin 2) = t.val % 2 :=
  (by decide +kernel : ∀ t : Fin grid0.N, _)

/-- The array's row and column of a block's row and column at a point. -/
def row (t : Fin cfg0.N) (p : Fin 1024) : Fin 8192 := ⟨1024 * (t.val / 2) + p.val, by
  have ht := lt_of_lt_of_eq t.isLt (show cfg0.N = 16 from N_0)
  omega⟩
def col (t : Fin cfg0.N) (q : Fin 512) : Fin 1024 := ⟨512 * (t.val % 2) + q.val, by omega⟩

theorem block_dmix (t : Fin cfg0.N) (p : Fin 1024) (q : Fin 2048) :
    iblk m c 0 t (ix2 p q) = dmix m c (ix2 (row t p) q) := by
  refine Eq.trans ?_ (host_dmix m c (ix2 (row t p) q))
  show V m c main_v0 (((cfg0.win 0).blk t).view.emb (ix2 p q)) = _
  refine congrArg (V m c main_v0) (funext fun a => Fin.ext ?_)
  obtain ⟨e0, e1⟩ := index0 t
  match a with
  | ⟨0, _⟩ => show win0_0.index t (0 : Fin 2) * 1024 + 1 * p.val = 1024 * (t.val / 2) + p.val; omega
  | ⟨1, _⟩ => show win0_0.index t (1 : Fin 2) * 2048 + 1 * q.val = q.val; omega

theorem block_weight (t : Fin cfg0.N) (p : Fin 512) (q : Fin 2048) :
    iblk m c 1 t (ix2 p q) = second m c (col t p) q := by
  refine Eq.trans ?_ (host_weight m c (col t p) q)
  show V m c main_v2 (((cfg0.win 1).blk t).view.emb (ix2 p q)) = _
  refine congrArg (V m c main_v2) (funext fun a => Fin.ext ?_)
  obtain ⟨e0, e1⟩ := index1 t
  match a with
  | ⟨0, _⟩ => show win0_1.index t (0 : Fin 2) * 512 + 1 * p.val = 512 * (t.val % 2) + p.val; omega
  | ⟨1, _⟩ => show win0_1.index t (1 : Fin 2) * 2048 + 1 * q.val = q.val; omega

theorem emb2 (t : Fin cfg0.N) (p : Fin 1024) (q : Fin 512) : (win0_2.blk t).view.emb (ix2 p q) = ix2 (row t p) (col t q) := by
  refine funext fun a => Fin.ext ?_
  obtain ⟨e0, e1⟩ := index2 t
  match a with
  | ⟨0, _⟩ => show win0_2.index t (0 : Fin 2) * 1024 + 1 * p.val = 1024 * (t.val / 2) + p.val; omega
  | ⟨1, _⟩ => show win0_2.index t (1 : Fin 2) * 512 + 1 * q.val = 512 * (t.val % 2) + q.val; omega

/-- The product, element by element and as the array the launch leaves. -/
def product (p : Fin 8192) (q : Fin 1024) : EReal := ∑ k : Fin 2048, dmix m c (ix2 p k) * second m c q k
def productArr : S8192x1024.Idx → EReal := fun i => product m c (i 0) (i 1)

theorem arr_product : (dats m 0 c).arrAt 2 cfg0.N = productArr m c := by
  refine (dats m 0 c).arrAt_eq_of_covers 2 _ (by decide +kernel) fun t hf y => ?_
  blk_simp
  obtain ⟨p, q, rfl⟩ : ∃ (p : Fin 1024) (q : Fin 512), y = ix2 p q := ⟨y 0, y 1, eq_ix2 y⟩
  rw [after0_2, emb2]
  dsimp only [outsAt0]
  rw [out_block]
  exact Finset.sum_congr rfl fun k _ => congrArg₂ (fun a b : EReal => a * b) (block_dmix m c t p k) (block_weight m c t q k)

end Cert.Kernel11Ideal.Proj

namespace Cert.Reference11Ideal.Proj

open Idealize.ShloMosaic Idealize.ShloMosaic.TcCoe Idealize.SL.Sem
open Cert.Reference11Ideal Cert.Reference11Ideal.Gen
open scoped BigOperators

/-- The reference's gradient. -/
def grad (dmix : FVec Ideal S8192x2048 .f32) (weight : FVec Ideal S2048x2048 .f32) : FVec Ideal S8192x1024 .f32 :=
  extractStridedSlice S8192x1024 ![0, 1024] (Host.dotGeneral dot_S8192x2048_S2048x2048_S8192x2048_1_1_0_0_n_n none dmix weight)
    slices_S8192x2048_S8192x1024_0_1024

theorem grad_at (dmix : FVec Ideal S8192x2048 .f32) (weight : FVec Ideal S2048x2048 .f32) (p : Fin 8192) (q : Fin 1024) :
    grad dmix weight (ix2 p q) = ∑ k : Fin 2048, dmix (ix2 p k) * weight (ix2 (⟨1024 + q.val, by omega⟩ : Fin 2048) k) := by
  pointwise [grad]

/-- The reference has no semaphore. -/
theorem no_sem (s : SemLoc sig) : False := by
  rcases s with s | s
  · exact s.elim0
  · exact s.elim0

end Cert.Reference11Ideal.Proj

namespace Cert.Proj

open Idealize.ShloMosaic Idealize.ShloMosaic.TcCoe Idealize.SL.Sem

/-- The launch leaves the reference's array. -/
theorem delta_grad_same (m : (ℓ : Loc Cert.Kernel11Ideal.nD Cert.Kernel11Ideal.τ Cert.Kernel11Ideal.sig) → Buf (Elt Ideal) ℓ) (c : Dev Cert.Kernel11Ideal.nD) :
    Cert.Reference11Ideal.Proj.grad (Cert.Kernel11Ideal.Proj.dmix m c) (Cert.Kernel11Ideal.Proj.weight m c) = (Cert.Kernel11Ideal.Gen.dats m 0 c).arrAt 2 Cert.Kernel11Ideal.cfg0.N := by
  rw [Cert.Kernel11Ideal.Proj.arr_product]
  funext i
  obtain ⟨p, q, rfl⟩ : ∃ (p : Fin 8192) (q : Fin 1024), i = ix2 p q := ⟨i 0, i 1, eq_ix2 i⟩
  exact Cert.Reference11Ideal.Proj.grad_at _ _ p q

theorem delta_grad : Cert.algebraic_Kernel11Ideal_Reference11Ideal (hKernel11Ideal := Cert.Kernel11Ideal.Gen.facts)
    (hReference11Ideal := Cert.Reference11Ideal.Gen.facts) := fun m g m' g' _ hA =>
  ⟨_, Cert.Kernel11Ideal.Value.run_blocks m g,
    (θ_run Cert.Reference11Ideal.defs _ _).mono
      (fun _ h c => ⟨(h c).1.trans ((congrArg₂ Cert.Reference11Ideal.Proj.grad (hA c).2.2.2 (hA c).2.2.1).trans (delta_grad_same m c)), (h c).2⟩)
      (Cert.Reference11Ideal.Value.run m' g')⟩

theorem delta_grad_reference : Cert.quiescent_Reference11Ideal (hReference11Ideal := Cert.Reference11Ideal.Gen.facts) := fun m g _ =>
  (θ_run Cert.Reference11Ideal.defs _ _).mono
    (fun _ h => ⟨fun c => (h c).2, funext fun s => (Cert.Reference11Ideal.Proj.no_sem s.2).elim⟩) (Cert.Reference11Ideal.Value.run m g)

theorem delta_grad_ideal : Cert.quiescent_Kernel11Ideal (hKernel11Ideal := Cert.Kernel11Ideal.Gen.facts) := fun m g _ =>
  Cert.Kernel11Ideal.Gen.frame m g

theorem delta_grad_words : Cert.quiescent_Kernel11 (hKernel11 := Cert.Kernel11.Gen.facts) := fun m g _ => Cert.Kernel11.Gen.frame m g

end Cert.Proj

end
-- ==== Proof.Proj.TopMatrix.lean ====
/- The gradient of the upper half of the output matrix (`mix_dwtop`): the array the launch leaves is the product of the attention's half of the mixer's output,
   transposed, and the mixed output's gradient, its rows added up in two halves. -/
module

public import proofs.«01_k».proof.Proof.Gen.Kernel12Ideal.Value
public import proofs.«01_k».proof.Proof.Gen.Reference12Ideal.Run
public import proofs.«01_k».proof.Defs
public import proofs.«01_k».proof.Proof.Gen.Kernel12.Frame
public import proofs.«01_k».proof.Proof.Ffn.Sums
public import Idealize.ShloMosaic.Lib.Pointwise
public import Idealize.ShloMosaic.Lib.Tactic

@[expose] public section

set_option maxRecDepth 16384

noncomputable section

namespace Cert.Kernel12Ideal.Proj

open Idealize.ShloMosaic Idealize.ShloMosaic.TcCoe Idealize.SL.Sem
open Cert.Kernel12Ideal Cert.Kernel12Ideal.Gen Cert.Kernel12Ideal.Value
open scoped BigOperators

section Body

variable {F : FTy → Type} [FloatOps F]

theorem zeros : (![0, 0] : Fin 2 → ℕ) = fun _ => 0 := funext fun a => by fin_cases a <;> rfl

/-- At a block's last point the body stores what the accumulator then holds. -/
theorem out_last (c : Dev nD) (i : grid0.Coords) (a3 : Memref sig .tc .vmem S4096x512 .bf16) (h3 : a3.IsWhole)
    (a4 : Memref sig .tc .vmem S4096x1024 .bf16) (h4 : a4.IsWhole) (a5 : Memref sig .tc .vmem S512x1024 .bf16) (h5 : a5.IsWhole)
    (a6 : Memref sig .tc .vmem S512x1024 .f32) (h6 : a6.IsWhole) (hc0 : ¬cond0_0 i) (hc1 : cond0_1 i)
    (x : Vec F S4096x512 .bf16) (y : Vec F S4096x1024 .bf16) (acc : Vec F S512x1024 .f32) :
    out0_B_2 c i a3 h3 a4 h4 a5 h5 a6 h6 hc0 hc1 x y acc = k0_pay3 (k0_pay2 x y acc) := by
  unfold out0_B_2
  rw [View.read_writes_eq_canon _ _ _ (cover0_B_2 c i a3 h3 a4 h4 a5 h5 a6 h6 hc0 hc1 x y acc)]
  unfold kernelRun0_B
  dsimp only
  sl_unfold_words
  rw [View.canon_unit_zero zeros]
  simp only [View.readCov_unit_zero (S := S512x1024) _ zeros, View.readAt_eq_ld, h3.read_unread, h4.read_unread, h6.read_unread,
    View.ld_unit_zero (S := S4096x512) zeros, View.ld_unit_zero (S := S4096x1024) zeros, View.ld_unit_zero (S := S512x1024) zeros]

/-- At a block's first point the body leaves one step over zeros in the accumulator. -/
theorem acc_first (c : Dev nD) (i : grid0.Coords) (a3 : Memref sig .tc .vmem S4096x512 .bf16) (h3 : a3.IsWhole)
    (a4 : Memref sig .tc .vmem S4096x1024 .bf16) (h4 : a4.IsWhole) (a5 : Memref sig .tc .vmem S512x1024 .bf16) (h5 : a5.IsWhole)
    (a6 : Memref sig .tc .vmem S512x1024 .f32) (h6 : a6.IsWhole) (hc0 : cond0_0 i) (hc1 : ¬cond0_1 i)
    (x : Vec F S4096x512 .bf16) (y : Vec F S4096x1024 .bf16) :
    sout0_A_0 c i a3 h3 a4 h4 a5 h5 a6 h6 hc0 hc1 x y = k0_pay2 x y k0_pay1 := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S512x1024) zeros]
  simp only [View.readCov_unit_zero (S := S512x1024) _ zeros, View.readAt_eq_ld, h3.read_unread, h4.read_unread, h6.read_unread,
    View.ld_unit_zero (S := S4096x512) zeros, View.ld_unit_zero (S := S4096x1024) zeros, View.ld_unit_zero (S := S512x1024) zeros]

end Body

/-- One step adds the block's product to the accumulator. -/
theorem step_at (x : Vec Ideal S4096x512 .bf16) (y : Vec Ideal S4096x1024 .bf16) (acc : Vec Ideal S512x1024 .f32) (p : Fin 512) (q : Fin 1024) :
    k0_pay2 x y acc (ix2 p q) = acc (ix2 p q) + ∑ k : Fin 4096, x (ix2 k p) * y (ix2 k q) := by
  pointwise [k0_pay2]

theorem zero_at (p : Fin 512) (q : Fin 1024) : k0_pay1 (F := Ideal) (ix2 p q) = 0 := by
  pointwise [k0_pay1]

theorem store_at (x : Vec Ideal S512x1024 .f32) (p : Fin 512) (q : Fin 1024) : k0_pay3 x (ix2 p q) = x (ix2 p q) := by
  pointwise [k0_pay3]

variable (m : (ℓ : Loc nD τ sig) → Buf (Elt Ideal) ℓ) (c : Dev nD)

/-- The attention's half of the mixer's output, and the mixed output's gradient, as the launch is given them. -/
abbrev on_f : Vec Ideal S8192x1024 .f32 := m ((c : Thread nD τ).loc main_arg0)
abbrev dmix : Vec Ideal S8192x2048 .f32 := m ((c : Thread nD τ).loc main_arg3)

theorem index0 : ∀ t : Fin cfg0.N, win0_0.index t (0 : Fin 2) = t.val % 2 ∧ win0_0.index t (1 : Fin 2) = t.val / 4 :=
  (by decide +kernel : ∀ t : Fin grid0.N, _)

theorem index1 : ∀ t : Fin cfg0.N, win0_1.index t (0 : Fin 2) = t.val % 2 ∧ win0_1.index t (1 : Fin 2) = t.val / 2 % 2 :=
  (by decide +kernel : ∀ t : Fin grid0.N, _)

theorem host_on_f (i : S8192x1024.Idx) : V m c main_v0 i = on_f m c i := by
  have e : V m c main_v0 = truncf (F := Ideal) (φ := .f32) .bf16 (on_f m c) bitsLt_bf16_f32 := by
    dsimp only [V]; after_results
  rw [e]; rfl

theorem host_dmix (i : S8192x2048.Idx) : V m c main_v1 i = dmix m c i := by
  have e : V m c main_v1 = truncf (F := Ideal) (φ := .f32) .bf16 (dmix m c) bitsLt_bf16_f32 := by
    dsimp only [V]; after_results
  rw [e]; rfl

/-- The block of the attention's half of the mixer's output at a point. -/
theorem block_on_f (t : Fin cfg0.N) (k : Fin 4096) (p : Fin 512) (k' : Fin 8192) (p' : Fin 1024)
    (hk : k'.val = 4096 * (t.val % 2) + k.val) (hp : p'.val = 512 * (t.val / 4) + p.val) :
    iblk m c 0 t (ix2 k p) = on_f m c (ix2 k' p') := by
  refine Eq.trans ?_ (host_on_f m c (ix2 k' p'))
  show V m c main_v0 (((cfg0.win 0).blk t).view.emb (ix2 k p)) = _
  refine congrArg (V m c main_v0) (funext fun a => Fin.ext ?_)
  obtain ⟨e0, e1⟩ := index0 t
  match a with
  | ⟨0, _⟩ => show win0_0.index t (0 : Fin 2) * 4096 + 1 * k.val = k'.val; omega
  | ⟨1, _⟩ => show win0_0.index t (1 : Fin 2) * 512 + 1 * p.val = p'.val; omega

/-- The block of the mixed output's gradient at a point. -/
theorem block_dmix (t : Fin cfg0.N) (k : Fin 4096) (q : Fin 1024) (k' : Fin 8192) (q' : Fin 2048)
    (hk : k'.val = 4096 * (t.val % 2) + k.val) (hq : q'.val = 1024 * (t.val / 2 % 2) + q.val) :
    iblk m c 1 t (ix2 k q) = dmix m c (ix2 k' q') := by
  refine Eq.trans ?_ (host_dmix m c (ix2 k' q'))
  show V m c main_v1 (((cfg0.win 1).blk t).view.emb (ix2 k q)) = _
  refine congrArg (V m c main_v1) (funext fun a => Fin.ext ?_)
  obtain ⟨e0, e1⟩ := index1 t
  match a with
  | ⟨0, _⟩ => show win0_1.index t (0 : Fin 2) * 4096 + 1 * k.val = k'.val; omega
  | ⟨1, _⟩ => show win0_1.index t (1 : Fin 2) * 1024 + 1 * q.val = q'.val; omega

/-- What the accumulator holds after a block's first point. -/
theorem first_at (s : Fin cfg0.N) (he : s.val % 2 = 0) (n : ℕ) (h : n < cfg0.N) (hn : n = s.val) :
    (outsAt0 m c n h).2 = k0_pay2 (iblk m c 0 s) (iblk m c 1 s) (k0_pay1 (F := Ideal)) := by
  subst hn
  have h1 : ¬s.val % 2 = 1 := by omega
  rw [outsAt0_A m c s he h1]
  dsimp only
  rw [acc_first]

/-- What a block's second point leaves for the output. -/
theorem last_at (t s : Fin cfg0.N) (hs : t.val = s.val + 1) (he : s.val % 2 = 0) :
    (outsAt0 m c t.val t.isLt).1
      = k0_pay3 (k0_pay2 (iblk m c 0 t) (iblk m c 1 t) (k0_pay2 (iblk m c 0 s) (iblk m c 1 s) (k0_pay1 (F := Ideal)))) := by
  have h0 : ¬t.val % 2 = 0 := by omega
  have h1 : t.val % 2 = 1 := by omega
  have hp : t.val - 1 = s.val := by omega
  rw [outsAt0_B m c t h0 h1]
  dsimp only
  rw [out_last, first_at m c s he (t.val - 1) _ hp]

/-- The array at an index is what the second point of the index's block leaves there. -/
theorem G_point (p : Fin 1024) (q : Fin 2048) (t : Fin cfg0.N) (ht : t.val = 2 * (2 * (p.val / 512) + q.val / 1024) + 1) :
    G2 m c (ix2 p q) = (outsAt0 m c t.val t.isLt).1
      (ix2 (⟨p.val % 512, Nat.mod_lt _ (by decide)⟩ : Fin 512) (⟨q.val % 1024, Nat.mod_lt _ (by decide)⟩ : Fin 1024)) := by
  have hr : pt2Of (ix2 p q) = t.val := by
    rw [ht]; show 2 * (2 * (p.val / 512 - 0) + 1 * (q.val / 1024 - 0)) + 1 = _
    rw [Nat.sub_zero, Nat.sub_zero, Nat.one_mul]
  have hl : loc2Of (ix2 p q)
      = ix2 (⟨p.val % 512, Nat.mod_lt _ (by decide)⟩ : Fin 512) (⟨q.val % 1024, Nat.mod_lt _ (by decide)⟩ : Fin 1024) := by
    funext a; match a with
    | ⟨0, _⟩ => rfl
    | ⟨1, _⟩ => rfl
  have hb : 0 + t.val < cfg0.N := by rw [Nat.zero_add]; exact t.isLt
  have hb' : pt2Of (ix2 p q) < cfg0.N := by rw [hr]; exact t.isLt
  unfold G2
  rw [dif_pos hb', hl, fold0_congr m c _ _ t.val hb hr, ← outsAt0_sweep m c t.val t.isLt]

/-- The points of an index's block. -/
theorem points (p : Fin 1024) (q : Fin 2048) : ∃ t s : Fin cfg0.N, t.val = 2 * (2 * (p.val / 512) + q.val / 1024) + 1
    ∧ t.val = s.val + 1 ∧ s.val % 2 = 0 ∧ t.val % 2 = 1 ∧ t.val / 4 = p.val / 512 ∧ s.val / 4 = p.val / 512
    ∧ t.val / 2 % 2 = q.val / 1024 ∧ s.val / 2 % 2 = q.val / 1024 := by
  have hN : cfg0.N = 8 := N_0
  have hp := p.isLt
  have hq := q.isLt
  refine ⟨⟨2 * (2 * (p.val / 512) + q.val / 1024) + 1, by rw [hN]; omega⟩, ⟨2 * (2 * (p.val / 512) + q.val / 1024), by rw [hN]; omega⟩, ?_⟩
  dsimp only
  omega

/-- The array the launch leaves: the product of the attention's half of the mixer's output, transposed, and the gradient. -/
theorem G_at (p : Fin 1024) (q : Fin 2048) : G2 m c (ix2 p q) = ∑ k : Fin 8192, on_f m c (ix2 k p) * dmix m c (ix2 k q) := by
  obtain ⟨t, s, ht, hs, h0, h1, a1, a0, b1, b0⟩ := points p q
  have hp : p.val = 512 * (p.val / 512) + p.val % 512 := (Nat.div_add_mod _ _).symm
  have hq : q.val = 1024 * (q.val / 1024) + q.val % 1024 := (Nat.div_add_mod _ _).symm
  rw [G_point m c p q t ht, last_at m c t s hs h0, store_at, step_at, step_at, zero_at, zero_add,
    Cert.Ffn.sum_split 4096 4096 rfl]
  refine congrArg₂ (· + ·) (Finset.sum_congr rfl fun k _ => ?_) (Finset.sum_congr rfl fun k _ => ?_)
  · refine congrArg₂ (· * ·) (block_on_f m c s k _ _ p ?_ ?_) (block_dmix m c s k _ _ q ?_ ?_)
    · rw [h0, Nat.mul_zero, Nat.zero_add]
    · rw [a0]; exact hp
    · rw [h0, Nat.mul_zero, Nat.zero_add]
    · rw [b0]; exact hq
  · refine congrArg₂ (· * ·) (block_on_f m c t k _ _ p ?_ ?_) (block_dmix m c t k _ _ q ?_ ?_)
    · rw [h1, Nat.mul_one]
    · rw [a1]; exact hp
    · rw [h1, Nat.mul_one]
    · rw [b1]; exact hq

end Cert.Kernel12Ideal.Proj

namespace Cert.Reference12Ideal.Proj

open Idealize.ShloMosaic Idealize.ShloMosaic.TcCoe Idealize.SL.Sem
open Cert.Reference12Ideal Cert.Reference12Ideal.Gen
open scoped BigOperators

/-- The reference's gradient of the upper half of the output matrix. -/
def grad (on_f on_g : FVec Ideal S8192x1024 .f32) (dmix : FVec Ideal S8192x2048 .f32) : FVec Ideal S1024x2048 .bf16 :=
  truncf .bf16 (extractStridedSlice S1024x2048 ![0, 0] (transpose S2048x2048 [1, 0]
    (Host.dotGeneral dot_S8192x2048_S8192x2048_S2048x2048_0_0_1_1_n_n none dmix
      (concatenate S8192x2048 1 [⟨S8192x1024, on_f⟩, ⟨S8192x1024, on_g⟩] concatenates_S8192x1024_S8192x1024_S8192x2048_d1))
    transposes_S2048x2048_S2048x2048_1_0) slices_S2048x2048_S1024x2048_0_0) bitsLt_bf16_f32

theorem grad_at (on_f on_g : FVec Ideal S8192x1024 .f32) (dmix : FVec Ideal S8192x2048 .f32) (p : Fin 1024) (q : Fin 2048) :
    grad on_f on_g dmix (ix2 p q) = ∑ k : Fin 8192, dmix (ix2 k q) * on_f (ix2 k p) := by
  pointwise [grad]

theorem grad_congr {f f' g g' : FVec Ideal S8192x1024 .f32} {d d' : FVec Ideal S8192x2048 .f32} (h1 : f = f') (h2 : g = g') (h3 : d = d') :
    grad f g d = grad f' g' d' := by
  subst h1; subst h2; subst h3; rfl

/-- The reference has no semaphore. -/
theorem no_sem (s : SemLoc sig) : False := by
  rcases s with s | s
  · exact s.elim0
  · exact s.elim0

end Cert.Reference12Ideal.Proj

namespace Cert.Proj

open Idealize.ShloMosaic Idealize.ShloMosaic.TcCoe Idealize.SL.Sem

/-- The launch leaves the reference's gradient of the upper half of the output matrix. -/
theorem top_matrix_same (m : (ℓ : Loc Cert.Kernel12Ideal.nD Cert.Kernel12Ideal.τ Cert.Kernel12Ideal.sig) → Buf (Elt Ideal) ℓ) (c : Dev Cert.Kernel12Ideal.nD) :
    Cert.Reference12Ideal.Proj.grad (m ((c : Thread Cert.Kernel12Ideal.nD Cert.Kernel12Ideal.τ).loc Cert.Kernel12Ideal.main_arg0))
      (m ((c : Thread Cert.Kernel12Ideal.nD Cert.Kernel12Ideal.τ).loc Cert.Kernel12Ideal.main_arg1)) (Cert.Kernel12Ideal.Proj.dmix m c) = Cert.Kernel12Ideal.Value.G2 m c := by
  funext i
  obtain ⟨p, q, rfl⟩ : ∃ (p : Fin 1024) (q : Fin 2048), i = ix2 p q := ⟨i 0, i 1, eq_ix2 i⟩
  refine (Cert.Reference12Ideal.Proj.grad_at _ _ _ p q).trans (Eq.trans ?_ (Cert.Kernel12Ideal.Proj.G_at m c p q).symm)
  exact Finset.sum_congr rfl fun k _ => mul_comm _ _

theorem top_matrix : Cert.algebraic_Kernel12Ideal_Reference12Ideal (hKernel12Ideal := Cert.Kernel12Ideal.Gen.facts)
    (hReference12Ideal := Cert.Reference12Ideal.Gen.facts) := fun m g m' g' _ hA =>
  ⟨Cert.Kernel12Ideal.Value.G2 m, Cert.Kernel12Ideal.Value.run m g,
    (θ_run Cert.Reference12Ideal.defs _ _).mono
      (fun _ h c => ⟨(h c).1.trans ((Cert.Reference12Ideal.Proj.grad_congr (hA c).1 (hA c).2.1 (hA c).2.2.2).trans (top_matrix_same m c)), (h c).2⟩)
      (Cert.Reference12Ideal.Value.run m' g')⟩

theorem top_matrix_reference : Cert.quiescent_Reference12Ideal (hReference12Ideal := Cert.Reference12Ideal.Gen.facts) := fun m g _ =>
  (θ_run Cert.Reference12Ideal.defs _ _).mono
    (fun _ h => ⟨fun c => (h c).2, funext fun s => (Cert.Reference12Ideal.Proj.no_sem s.2).elim⟩) (Cert.Reference12Ideal.Value.run m g)

theorem top_matrix_ideal : Cert.quiescent_Kernel12Ideal (hKernel12Ideal := Cert.Kernel12Ideal.Gen.facts) := fun m g _ =>
  Cert.Kernel12Ideal.Gen.frame m g

theorem top_matrix_words : Cert.quiescent_Kernel12 (hKernel12 := Cert.Kernel12.Gen.facts) := fun m g _ => Cert.Kernel12.Gen.frame m g

end Cert.Proj

end
-- ==== Proof.Proj.BottomMatrix.lean ====
/- The gradient of the lower half of the output matrix (`mix_dwbot`): the array the launch leaves is the product of the gated delta rule's half of the mixer's output,
   transposed, and the mixed output's gradient, its rows added up in two halves. -/
module

public import proofs.«01_k».proof.Proof.Gen.Kernel13Ideal.Value
public import proofs.«01_k».proof.Proof.Gen.Reference13Ideal.Run
public import proofs.«01_k».proof.Defs
public import proofs.«01_k».proof.Proof.Gen.Kernel13.Frame
public import proofs.«01_k».proof.Proof.Ffn.Sums
public import Idealize.ShloMosaic.Lib.Pointwise
public import Idealize.ShloMosaic.Lib.Tactic

@[expose] public section

set_option maxRecDepth 16384

noncomputable section

namespace Cert.Kernel13Ideal.Proj

open Idealize.ShloMosaic Idealize.ShloMosaic.TcCoe Idealize.SL.Sem
open Cert.Kernel13Ideal Cert.Kernel13Ideal.Gen Cert.Kernel13Ideal.Value
open scoped BigOperators

section Body

variable {F : FTy → Type} [FloatOps F]

theorem zeros : (![0, 0] : Fin 2 → ℕ) = fun _ => 0 := funext fun a => by fin_cases a <;> rfl

/-- At a block's last point the body stores what the accumulator then holds. -/
theorem out_last (c : Dev nD) (i : grid0.Coords) (a3 : Memref sig .tc .vmem S4096x512 .bf16) (h3 : a3.IsWhole)
    (a4 : Memref sig .tc .vmem S4096x1024 .bf16) (h4 : a4.IsWhole) (a5 : Memref sig .tc .vmem S512x1024 .bf16) (h5 : a5.IsWhole)
    (a6 : Memref sig .tc .vmem S512x1024 .f32) (h6 : a6.IsWhole) (hc0 : ¬cond0_0 i) (hc1 : cond0_1 i)
    (x : Vec F S4096x512 .bf16) (y : Vec F S4096x1024 .bf16) (acc : Vec F S512x1024 .f32) :
    out0_B_2 c i a3 h3 a4 h4 a5 h5 a6 h6 hc0 hc1 x y acc = k0_pay3 (k0_pay2 x y acc) := by
  unfold out0_B_2
  rw [View.read_writes_eq_canon _ _ _ (cover0_B_2 c i a3 h3 a4 h4 a5 h5 a6 h6 hc0 hc1 x y acc)]
  unfold kernelRun0_B
  dsimp only
  sl_unfold_words
  rw [View.canon_unit_zero zeros]
  simp only [View.readCov_unit_zero (S := S512x1024) _ zeros, View.readAt_eq_ld, h3.read_unread, h4.read_unread, h6.read_unread,
    View.ld_unit_zero (S := S4096x512) zeros, View.ld_unit_zero (S := S4096x1024) zeros, View.ld_unit_zero (S := S512x1024) zeros]

/-- At a block's first point the body leaves one step over zeros in the accumulator. -/
theorem acc_first (c : Dev nD) (i : grid0.Coords) (a3 : Memref sig .tc .vmem S4096x512 .bf16) (h3 : a3.IsWhole)
    (a4 : Memref sig .tc .vmem S4096x1024 .bf16) (h4 : a4.IsWhole) (a5 : Memref sig .tc .vmem S512x1024 .bf16) (h5 : a5.IsWhole)
    (a6 : Memref sig .tc .vmem S512x1024 .f32) (h6 : a6.IsWhole) (hc0 : cond0_0 i) (hc1 : ¬cond0_1 i)
    (x : Vec F S4096x512 .bf16) (y : Vec F S4096x1024 .bf16) :
    sout0_A_0 c i a3 h3 a4 h4 a5 h5 a6 h6 hc0 hc1 x y = k0_pay2 x y k0_pay1 := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S512x1024) zeros]
  simp only [View.readCov_unit_zero (S := S512x1024) _ zeros, View.readAt_eq_ld, h3.read_unread, h4.read_unread, h6.read_unread,
    View.ld_unit_zero (S := S4096x512) zeros, View.ld_unit_zero (S := S4096x1024) zeros, View.ld_unit_zero (S := S512x1024) zeros]

end Body

/-- One step adds the block's product to the accumulator. -/
theorem step_at (x : Vec Ideal S4096x512 .bf16) (y : Vec Ideal S4096x1024 .bf16) (acc : Vec Ideal S512x1024 .f32) (p : Fin 512) (q : Fin 1024) :
    k0_pay2 x y acc (ix2 p q) = acc (ix2 p q) + ∑ k : Fin 4096, x (ix2 k p) * y (ix2 k q) := by
  pointwise [k0_pay2]

theorem zero_at (p : Fin 512) (q : Fin 1024) : k0_pay1 (F := Ideal) (ix2 p q) = 0 := by
  pointwise [k0_pay1]

theorem store_at (x : Vec Ideal S512x1024 .f32) (p : Fin 512) (q : Fin 1024) : k0_pay3 x (ix2 p q) = x (ix2 p q) := by
  pointwise [k0_pay3]

variable (m : (ℓ : Loc nD τ sig) → Buf (Elt Ideal) ℓ) (c : Dev nD)

/-- The gated delta rule's half of the mixer's output, and the mixed output's gradient, as the launch is given them. -/
abbrev on_g : Vec Ideal S8192x1024 .f32 := m ((c : Thread nD τ).loc main_arg1)
abbrev dmix : Vec Ideal S8192x2048 .f32 := m ((c : Thread nD τ).loc main_arg3)

theorem index0 : ∀ t : Fin cfg0.N, win0_0.index t (0 : Fin 2) = t.val % 2 ∧ win0_0.index t (1 : Fin 2) = t.val / 4 :=
  (by decide +kernel : ∀ t : Fin grid0.N, _)

theorem index1 : ∀ t : Fin cfg0.N, win0_1.index t (0 : Fin 2) = t.val % 2 ∧ win0_1.index t (1 : Fin 2) = t.val / 2 % 2 :=
  (by decide +kernel : ∀ t : Fin grid0.N, _)

theorem host_on_g (i : S8192x1024.Idx) : V m c main_v0 i = on_g m c i := by
  have e : V m c main_v0 = truncf (F := Ideal) (φ := .f32) .bf16 (on_g m c) bitsLt_bf16_f32 := by
    dsimp only [V]; after_results
  rw [e]; rfl

theorem host_dmix (i : S8192x2048.Idx) : V m c main_v1 i = dmix m c i := by
  have e : V m c main_v1 = truncf (F := Ideal) (φ := .f32) .bf16 (dmix m c) bitsLt_bf16_f32 := by
    dsimp only [V]; after_results
  rw [e]; rfl

/-- The block of the gated delta rule's half of the mixer's output at a point. -/
theorem block_on_g (t : Fin cfg0.N) (k : Fin 4096) (p : Fin 512) (k' : Fin 8192) (p' : Fin 1024)
    (hk : k'.val = 4096 * (t.val % 2) + k.val) (hp : p'.val = 512 * (t.val / 4) + p.val) :
    iblk m c 0 t (ix2 k p) = on_g m c (ix2 k' p') := by
  refine Eq.trans ?_ (host_on_g m c (ix2 k' p'))
  show V m c main_v0 (((cfg0.win 0).blk t).view.emb (ix2 k p)) = _
  refine congrArg (V m c main_v0) (funext fun a => Fin.ext ?_)
  obtain ⟨e0, e1⟩ := index0 t
  match a with
  | ⟨0, _⟩ => show win0_0.index t (0 : Fin 2) * 4096 + 1 * k.val = k'.val; omega
  | ⟨1, _⟩ => show win0_0.index t (1 : Fin 2) * 512 + 1 * p.val = p'.val; omega

/-- The block of the mixed output's gradient at a point. -/
theorem block_dmix (t : Fin cfg0.N) (k : Fin 4096) (q : Fin 1024) (k' : Fin 8192) (q' : Fin 2048)
    (hk : k'.val = 4096 * (t.val % 2) + k.val) (hq : q'.val = 1024 * (t.val / 2 % 2) + q.val) :
    iblk m c 1 t (ix2 k q) = dmix m c (ix2 k' q') := by
  refine Eq.trans ?_ (host_dmix m c (ix2 k' q'))
  show V m c main_v1 (((cfg0.win 1).blk t).view.emb (ix2 k q)) = _
  refine congrArg (V m c main_v1) (funext fun a => Fin.ext ?_)
  obtain ⟨e0, e1⟩ := index1 t
  match a with
  | ⟨0, _⟩ => show win0_1.index t (0 : Fin 2) * 4096 + 1 * k.val = k'.val; omega
  | ⟨1, _⟩ => show win0_1.index t (1 : Fin 2) * 1024 + 1 * q.val = q'.val; omega

/-- What the accumulator holds after a block's first point. -/
theorem first_at (s : Fin cfg0.N) (he : s.val % 2 = 0) (n : ℕ) (h : n < cfg0.N) (hn : n = s.val) :
    (outsAt0 m c n h).2 = k0_pay2 (iblk m c 0 s) (iblk m c 1 s) (k0_pay1 (F := Ideal)) := by
  subst hn
  have h1 : ¬s.val % 2 = 1 := by omega
  rw [outsAt0_A m c s he h1]
  dsimp only
  rw [acc_first]

/-- What a block's second point leaves for the output. -/
theorem last_at (t s : Fin cfg0.N) (hs : t.val = s.val + 1) (he : s.val % 2 = 0) :
    (outsAt0 m c t.val t.isLt).1
      = k0_pay3 (k0_pay2 (iblk m c 0 t) (iblk m c 1 t) (k0_pay2 (iblk m c 0 s) (iblk m c 1 s) (k0_pay1 (F := Ideal)))) := by
  have h0 : ¬t.val % 2 = 0 := by omega
  have h1 : t.val % 2 = 1 := by omega
  have hp : t.val - 1 = s.val := by omega
  rw [outsAt0_B m c t h0 h1]
  dsimp only
  rw [out_last, first_at m c s he (t.val - 1) _ hp]

/-- The array at an index is what the second point of the index's block leaves there. -/
theorem G_point (p : Fin 1024) (q : Fin 2048) (t : Fin cfg0.N) (ht : t.val = 2 * (2 * (p.val / 512) + q.val / 1024) + 1) :
    G2 m c (ix2 p q) = (outsAt0 m c t.val t.isLt).1
      (ix2 (⟨p.val % 512, Nat.mod_lt _ (by decide)⟩ : Fin 512) (⟨q.val % 1024, Nat.mod_lt _ (by decide)⟩ : Fin 1024)) := by
  have hr : pt2Of (ix2 p q) = t.val := by
    rw [ht]; show 2 * (2 * (p.val / 512 - 0) + 1 * (q.val / 1024 - 0)) + 1 = _
    rw [Nat.sub_zero, Nat.sub_zero, Nat.one_mul]
  have hl : loc2Of (ix2 p q)
      = ix2 (⟨p.val % 512, Nat.mod_lt _ (by decide)⟩ : Fin 512) (⟨q.val % 1024, Nat.mod_lt _ (by decide)⟩ : Fin 1024) := by
    funext a; match a with
    | ⟨0, _⟩ => rfl
    | ⟨1, _⟩ => rfl
  have hb : 0 + t.val < cfg0.N := by rw [Nat.zero_add]; exact t.isLt
  have hb' : pt2Of (ix2 p q) < cfg0.N := by rw [hr]; exact t.isLt
  unfold G2
  rw [dif_pos hb', hl, fold0_congr m c _ _ t.val hb hr, ← outsAt0_sweep m c t.val t.isLt]

/-- The points of an index's block. -/
theorem points (p : Fin 1024) (q : Fin 2048) : ∃ t s : Fin cfg0.N, t.val = 2 * (2 * (p.val / 512) + q.val / 1024) + 1
    ∧ t.val = s.val + 1 ∧ s.val % 2 = 0 ∧ t.val % 2 = 1 ∧ t.val / 4 = p.val / 512 ∧ s.val / 4 = p.val / 512
    ∧ t.val / 2 % 2 = q.val / 1024 ∧ s.val / 2 % 2 = q.val / 1024 := by
  have hN : cfg0.N = 8 := N_0
  have hp := p.isLt
  have hq := q.isLt
  refine ⟨⟨2 * (2 * (p.val / 512) + q.val / 1024) + 1, by rw [hN]; omega⟩, ⟨2 * (2 * (p.val / 512) + q.val / 1024), by rw [hN]; omega⟩, ?_⟩
  dsimp only
  omega

/-- The array the launch leaves: the product of the gated delta rule's half of the mixer's output, transposed, and the gradient. -/
theorem G_at (p : Fin 1024) (q : Fin 2048) : G2 m c (ix2 p q) = ∑ k : Fin 8192, on_g m c (ix2 k p) * dmix m c (ix2 k q) := by
  obtain ⟨t, s, ht, hs, h0, h1, a1, a0, b1, b0⟩ := points p q
  have hp : p.val = 512 * (p.val / 512) + p.val % 512 := (Nat.div_add_mod _ _).symm
  have hq : q.val = 1024 * (q.val / 1024) + q.val % 1024 := (Nat.div_add_mod _ _).symm
  rw [G_point m c p q t ht, last_at m c t s hs h0, store_at, step_at, step_at, zero_at, zero_add,
    Cert.Ffn.sum_split 4096 4096 rfl]
  refine congrArg₂ (· + ·) (Finset.sum_congr rfl fun k _ => ?_) (Finset.sum_congr rfl fun k _ => ?_)
  · refine congrArg₂ (· * ·) (block_on_g m c s k _ _ p ?_ ?_) (block_dmix m c s k _ _ q ?_ ?_)
    · rw [h0, Nat.mul_zero, Nat.zero_add]
    · rw [a0]; exact hp
    · rw [h0, Nat.mul_zero, Nat.zero_add]
    · rw [b0]; exact hq
  · refine congrArg₂ (· * ·) (block_on_g m c t k _ _ p ?_ ?_) (block_dmix m c t k _ _ q ?_ ?_)
    · rw [h1, Nat.mul_one]
    · rw [a1]; exact hp
    · rw [h1, Nat.mul_one]
    · rw [b1]; exact hq

end Cert.Kernel13Ideal.Proj

namespace Cert.Reference13Ideal.Proj

open Idealize.ShloMosaic Idealize.ShloMosaic.TcCoe Idealize.SL.Sem
open Cert.Reference13Ideal Cert.Reference13Ideal.Gen
open scoped BigOperators

/-- The reference's gradient of the lower half of the output matrix. -/
def grad (on_f on_g : FVec Ideal S8192x1024 .f32) (dmix : FVec Ideal S8192x2048 .f32) : FVec Ideal S1024x2048 .bf16 :=
  truncf .bf16 (extractStridedSlice S1024x2048 ![1024, 0] (transpose S2048x2048 [1, 0]
    (Host.dotGeneral dot_S8192x2048_S8192x2048_S2048x2048_0_0_1_1_n_n none dmix
      (concatenate S8192x2048 1 [⟨S8192x1024, on_f⟩, ⟨S8192x1024, on_g⟩] concatenates_S8192x1024_S8192x1024_S8192x2048_d1))
    transposes_S2048x2048_S2048x2048_1_0) slices_S2048x2048_S1024x2048_1024_0) bitsLt_bf16_f32

theorem grad_at (on_f on_g : FVec Ideal S8192x1024 .f32) (dmix : FVec Ideal S8192x2048 .f32) (p : Fin 1024) (q : Fin 2048) :
    grad on_f on_g dmix (ix2 p q) = ∑ k : Fin 8192, dmix (ix2 k q) * on_g (ix2 k p) := by
  pointwise [grad]

theorem grad_congr {f f' g g' : FVec Ideal S8192x1024 .f32} {d d' : FVec Ideal S8192x2048 .f32} (h1 : f = f') (h2 : g = g') (h3 : d = d') :
    grad f g d = grad f' g' d' := by
  subst h1; subst h2; subst h3; rfl

/-- The reference has no semaphore. -/
theorem no_sem (s : SemLoc sig) : False := by
  rcases s with s | s
  · exact s.elim0
  · exact s.elim0

end Cert.Reference13Ideal.Proj

namespace Cert.Proj

open Idealize.ShloMosaic Idealize.ShloMosaic.TcCoe Idealize.SL.Sem

/-- The launch leaves the reference's gradient of the lower half of the output matrix. -/
theorem bottom_matrix_same (m : (ℓ : Loc Cert.Kernel13Ideal.nD Cert.Kernel13Ideal.τ Cert.Kernel13Ideal.sig) → Buf (Elt Ideal) ℓ) (c : Dev Cert.Kernel13Ideal.nD) :
    Cert.Reference13Ideal.Proj.grad (m ((c : Thread Cert.Kernel13Ideal.nD Cert.Kernel13Ideal.τ).loc Cert.Kernel13Ideal.main_arg0))
      (m ((c : Thread Cert.Kernel13Ideal.nD Cert.Kernel13Ideal.τ).loc Cert.Kernel13Ideal.main_arg1)) (Cert.Kernel13Ideal.Proj.dmix m c) = Cert.Kernel13Ideal.Value.G2 m c := by
  funext i
  obtain ⟨p, q, rfl⟩ : ∃ (p : Fin 1024) (q : Fin 2048), i = ix2 p q := ⟨i 0, i 1, eq_ix2 i⟩
  refine (Cert.Reference13Ideal.Proj.grad_at _ _ _ p q).trans (Eq.trans ?_ (Cert.Kernel13Ideal.Proj.G_at m c p q).symm)
  exact Finset.sum_congr rfl fun k _ => mul_comm _ _

theorem bottom_matrix : Cert.algebraic_Kernel13Ideal_Reference13Ideal (hKernel13Ideal := Cert.Kernel13Ideal.Gen.facts)
    (hReference13Ideal := Cert.Reference13Ideal.Gen.facts) := fun m g m' g' _ hA =>
  ⟨Cert.Kernel13Ideal.Value.G2 m, Cert.Kernel13Ideal.Value.run m g,
    (θ_run Cert.Reference13Ideal.defs _ _).mono
      (fun _ h c => ⟨(h c).1.trans ((Cert.Reference13Ideal.Proj.grad_congr (hA c).1 (hA c).2.1 (hA c).2.2.2).trans (bottom_matrix_same m c)), (h c).2⟩)
      (Cert.Reference13Ideal.Value.run m' g')⟩

theorem bottom_matrix_reference : Cert.quiescent_Reference13Ideal (hReference13Ideal := Cert.Reference13Ideal.Gen.facts) := fun m g _ =>
  (θ_run Cert.Reference13Ideal.defs _ _).mono
    (fun _ h => ⟨fun c => (h c).2, funext fun s => (Cert.Reference13Ideal.Proj.no_sem s.2).elim⟩) (Cert.Reference13Ideal.Value.run m g)

theorem bottom_matrix_ideal : Cert.quiescent_Kernel13Ideal (hKernel13Ideal := Cert.Kernel13Ideal.Gen.facts) := fun m g _ =>
  Cert.Kernel13Ideal.Gen.frame m g

theorem bottom_matrix_words : Cert.quiescent_Kernel13 (hKernel13 := Cert.Kernel13.Gen.facts) := fun m g _ => Cert.Kernel13.Gen.frame m g

end Cert.Proj

end
-- ==== Proof.Proj.Attention.lean ====
/- The projection that gives the forgetting attention's queries, keys and values (`proj_fox`): the array the launch leaves is the
   product of the mixer's input and the projection's columns, each column times its own factor. -/
module

public import proofs.«01_k».proof.Proof.Gen.Kernel14Ideal.Value
public import proofs.«01_k».proof.Proof.Gen.Reference14Ideal.Run
public import proofs.«01_k».proof.Defs
public import proofs.«01_k».proof.Proof.Gen.Kernel14.Frame
public import Idealize.ShloMosaic.Lib.Pointwise
public import Idealize.ShloMosaic.Lib.Tactic
public import Idealize.ShloMosaic.Lib.Pipeline.ValueKit

@[expose] public section

set_option maxRecDepth 16384

noncomputable section

namespace Cert.Kernel14Ideal.Proj

open Idealize.ShloMosaic Idealize.ShloMosaic.TcCoe Idealize.SL.Sem
open Cert.Kernel14Ideal Cert.Kernel14Ideal.Gen Cert.Kernel14Ideal.Value
open scoped BigOperators

/-- The two halves' products, with their columns' factors. -/
theorem first_dot (w : Vec Ideal S256x2048 .bf16) (d : Vec Ideal S1024x2048 .bf16) (s : Vec Ideal S1x256 .f32)
    (p : Fin 1024) (q : Fin 256) :
    k0_pay1 (F := Ideal) w d s (ix2 p q) = (∑ k : Fin 2048, d (ix2 p k) * w (ix2 q k)) * s (ix2 (0 : Fin 1) q) := by
  pointwise [k0_pay1]

theorem second_dot (w : Vec Ideal S256x2048 .bf16) (d : Vec Ideal S1024x2048 .bf16) (s : Vec Ideal S1x256 .f32)
    (p : Fin 1024) (q : Fin 256) :
    k0_pay2 (F := Ideal) w d s (ix2 p q) = (∑ k : Fin 2048, d (ix2 p k) * w (ix2 q k)) * s (ix2 (0 : Fin 1) q) := by
  pointwise [k0_pay2]

/-- A row half of the second array's block, read at an index. -/
theorem rows_at (x : Vec Ideal S512x2048 .bf16) (o : ℕ) (inb) (b : Fin 256) (k : Fin 2048) (q : Fin 512) (hq : q.val = o + b.val) :
    View.ld x (Rect.unit (s := S512x2048) ![o, 0] ![256, 2048] inb) (ix2 b k) = x (ix2 q k) := by
  refine congrArg x (funext fun a => Fin.ext ?_)
  match a with
  | ⟨0, _⟩ => show o + 1 * b.val = q.val; omega
  | ⟨1, _⟩ => show 0 + 1 * k.val = k.val; omega

theorem dot_half (d : Vec Ideal S1024x2048 .bf16) (w : Vec Ideal S512x2048 .bf16) (o : ℕ) (inb) (a : Fin 1024) (b : Fin 256)
    (p : Fin 1024) (q : Fin 512) (hp : p.val = a.val) (hq : q.val = o + b.val) :
    (∑ k : Fin 2048, d (ix2 a k) * View.ld w (Rect.unit (s := S512x2048) ![o, 0] ![256, 2048] inb) (ix2 b k))
      = ∑ k : Fin 2048, d (ix2 p k) * w (ix2 q k) := by
  obtain rfl : p = a := Fin.ext hp
  exact Finset.sum_congr rfl fun k _ => congrArg _ (rows_at w o inb b k q hq)

/-- A half of the factors' block, read at an index. -/
theorem factor_half (x : Vec Ideal S1x512 .f32) (o : ℕ) (inb) (b : Fin 256) (q : Fin 512) (hq : q.val = o + b.val) :
    View.ld x (Rect.unit (s := S1x512) ![0, o] ![1, 256] inb) (ix2 (0 : Fin 1) b) = x (ix2 (0 : Fin 1) q) := by
  refine congrArg x (funext fun a => Fin.ext ?_)
  match a with
  | ⟨0, _⟩ => show 0 + 1 * 0 = 0; omega
  | ⟨1, _⟩ => show o + 1 * b.val = q.val; omega

/-- The block the body leaves, from its three blocks: it works the columns off in two halves. -/
theorem out_block (c : Dev nD) (i : grid0.Coords) (a3 : Memref sig .tc .vmem S1024x2048 .bf16) (h3 : a3.IsWhole)
    (a4 : Memref sig .tc .vmem S512x2048 .bf16) (h4 : a4.IsWhole) (a5 : Memref sig .tc .vmem S1x512 .f32) (h5 : a5.IsWhole)
    (a6 : Memref sig .tc .vmem S1024x512 .bf16) (h6 : a6.IsWhole) (a7 : Memref sig .tc .vmem S1024x512 .f32) (h7 : a7.IsWhole)
    (d : Vec Ideal S1024x2048 .bf16) (w : Vec Ideal S512x2048 .bf16) (s : Vec Ideal S1x512 .f32) (p : Fin 1024) (q : Fin 512) :
    out0_A_3 (F := Ideal) c i a3 h3 a4 h4 a5 h5 a6 h6 a7 h7 d w s (ix2 p q)
      = (∑ k : Fin 2048, d (ix2 p k) * w (ix2 q k)) * s (ix2 (0 : Fin 1) q) := by
  frame_out
  canon_tiles x h
  · obtain ⟨a, b, rfl⟩ : ∃ (a : Fin 1024) (b : Fin 256), x = ix2 a b := ⟨x 0, x 1, eq_ix2 x⟩
    refine (second_dot _ _ _ a b).trans ?_
    rw [dot_half d w 256 _ a b p q h0 h1, factor_half s 256 _ b q h1]
  · obtain ⟨a, b, rfl⟩ : ∃ (a : Fin 1024) (b : Fin 256), x = ix2 a b := ⟨x 0, x 1, eq_ix2 x⟩
    refine (first_dot _ _ _ a b).trans ?_
    rw [dot_half d w 0 _ a b p q h0 (h1.trans (Nat.zero_add _).symm), factor_half s 0 _ b q (h1.trans (Nat.zero_add _).symm)]

variable (m : (ℓ : Loc nD τ sig) → Buf (Elt Ideal) ℓ) (c : Dev nD)

/-- The mixer's input, the projection's columns and the columns' factors, as the launch is given them. -/
abbrev inp : Vec Ideal S8192x2048 .f32 := m ((c : Thread nD τ).loc main_arg0)
abbrev weight : Vec Ideal S2048x3072 .f32 := m ((c : Thread nD τ).loc main_arg1)
abbrev factor : Vec Ideal S1x3072 .f32 := m ((c : Thread nD τ).loc main_arg2)

/-- The second array of the product, by its row and the summed index. -/
abbrev second (q : Fin 3072) (k : Fin 2048) : EReal := weight m c (ix2 k q)

theorem host_inp (i : S8192x2048.Idx) : V m c main_v0 i = inp m c i := by
  have e : V m c main_v0 = truncf (F := Ideal) (φ := .f32) .bf16 (inp m c) bitsLt_bf16_f32 := by
    dsimp only [V]; after_results
  rw [e]; rfl

/-- The launch is given the weight matrix transposed. -/
theorem host_weight (q : Fin 3072) (k : Fin 2048) : V m c main_v2 (ix2 q k) = second m c q k := by
  have e : V m c main_v2 = truncf (F := Ideal) (φ := .f32) .bf16
      (transpose S3072x2048 [1, 0] (weight m c) transposes_S2048x3072_S3072x2048_1_0) bitsLt_bf16_f32 := by
    dsimp only [V]; after_results
  rw [e]; pointwise

theorem index0 : ∀ t : Fin cfg0.N, win0_0.index t (0 : Fin 2) = t.val / 6 ∧ win0_0.index t (1 : Fin 2) = 0 :=
  (by decide +kernel : ∀ t : Fin grid0.N, _)

theorem index1 : ∀ t : Fin cfg0.N, win0_1.index t (0 : Fin 2) = t.val % 6 ∧ win0_1.index t (1 : Fin 2) = 0 :=
  (by decide +kernel : ∀ t : Fin grid0.N, _)

theorem index2 : ∀ t : Fin cfg0.N, win0_2.index t (0 : Fin 2) = 0 ∧ win0_2.index t (1 : Fin 2) = t.val % 6 :=
  (by decide +kernel : ∀ t : Fin grid0.N, _)

theorem index3 : ∀ t : Fin cfg0.N, win0_3.index t (0 : Fin 2) = t.val / 6 ∧ win0_3.index t (1 : Fin 2) = t.val % 6 :=
  (by decide +kernel : ∀ t : Fin grid0.N, _)

/-- The array's row and column of a block's row and column at a point. -/
def row (t : Fin cfg0.N) (p : Fin 1024) : Fin 8192 := ⟨1024 * (t.val / 6) + p.val, by
  have ht := lt_of_lt_of_eq t.isLt (show cfg0.N = 48 from N_0)
  omega⟩
def col (t : Fin cfg0.N) (q : Fin 512) : Fin 3072 := ⟨512 * (t.val % 6) + q.val, by omega⟩

theorem block_inp (t : Fin cfg0.N) (p : Fin 1024) (q : Fin 2048) :
    iblk m c 0 t (ix2 p q) = inp m c (ix2 (row t p) q) := by
  refine Eq.trans ?_ (host_inp m c (ix2 (row t p) q))
  show V m c main_v0 (((cfg0.win 0).blk t).view.emb (ix2 p q)) = _
  refine congrArg (V m c main_v0) (funext fun a => Fin.ext ?_)
  obtain ⟨e0, e1⟩ := index0 t
  match a with
  | ⟨0, _⟩ => show win0_0.index t (0 : Fin 2) * 1024 + 1 * p.val = 1024 * (t.val / 6) + p.val; omega
  | ⟨1, _⟩ => show win0_0.index t (1 : Fin 2) * 2048 + 1 * q.val = q.val; omega

theorem block_weight (t : Fin cfg0.N) (p : Fin 512) (q : Fin 2048) :
    iblk m c 1 t (ix2 p q) = second m c (col t p) q := by
  refine Eq.trans ?_ (host_weight m c (col t p) q)
  show V m c main_v2 (((cfg0.win 1).blk t).view.emb (ix2 p q)) = _
  refine congrArg (V m c main_v2) (funext fun a => Fin.ext ?_)
  obtain ⟨e0, e1⟩ := index1 t
  match a with
  | ⟨0, _⟩ => show win0_1.index t (0 : Fin 2) * 512 + 1 * p.val = 512 * (t.val % 6) + p.val; omega
  | ⟨1, _⟩ => show win0_1.index t (1 : Fin 2) * 2048 + 1 * q.val = q.val; omega

theorem block_factor (t : Fin cfg0.N) (q : Fin 512) :
    iblk m c 2 t (ix2 (0 : Fin 1) q) = factor m c (ix2 (0 : Fin 1) (col t q)) := by
  refine Eq.trans ?_ (congrFun (V_main_arg2 m c) (ix2 (0 : Fin 1) (col t q)))
  show V m c main_arg2 (((cfg0.win 2).blk t).view.emb (ix2 (0 : Fin 1) q)) = _
  refine congrArg (V m c main_arg2) (funext fun a => Fin.ext ?_)
  obtain ⟨e0, e1⟩ := index2 t
  match a with
  | ⟨0, _⟩ => show win0_2.index t (0 : Fin 2) * 1 + 1 * 0 = 0; omega
  | ⟨1, _⟩ => show win0_2.index t (1 : Fin 2) * 512 + 1 * q.val = 512 * (t.val % 6) + q.val; omega

theorem emb3 (t : Fin cfg0.N) (p : Fin 1024) (q : Fin 512) : (win0_3.blk t).view.emb (ix2 p q) = ix2 (row t p) (col t q) := by
  refine funext fun a => Fin.ext ?_
  obtain ⟨e0, e1⟩ := index3 t
  match a with
  | ⟨0, _⟩ => show win0_3.index t (0 : Fin 2) * 1024 + 1 * p.val = 1024 * (t.val / 6) + p.val; omega
  | ⟨1, _⟩ => show win0_3.index t (1 : Fin 2) * 512 + 1 * q.val = 512 * (t.val % 6) + q.val; omega

/-- The scaled product, element by element and as the array the launch leaves. -/
def product (p : Fin 8192) (q : Fin 3072) : EReal :=
  (∑ k : Fin 2048, inp m c (ix2 p k) * second m c q k) * factor m c (ix2 (0 : Fin 1) q)
def productArr : S8192x3072.Idx → EReal := fun i => product m c (i 0) (i 1)

theorem arr_product : (dats m 0 c).arrAt 3 cfg0.N = productArr m c := by
  refine (dats m 0 c).arrAt_eq_of_covers 3 _ (by decide +kernel) fun t hf y => ?_
  blk_simp
  obtain ⟨p, q, rfl⟩ : ∃ (p : Fin 1024) (q : Fin 512), y = ix2 p q := ⟨y 0, y 1, eq_ix2 y⟩
  rw [after0_3, emb3]
  dsimp only [outsAt0]
  rw [out_block]
  exact congrArg₂ (fun a b : EReal => a * b)
    (Finset.sum_congr rfl fun k _ => congrArg₂ (fun a b : EReal => a * b) (block_inp m c t p k) (block_weight m c t q k))
    (block_factor m c t q)

end Cert.Kernel14Ideal.Proj

namespace Cert.Reference14Ideal.Proj

open Idealize.ShloMosaic Idealize.ShloMosaic.TcCoe Idealize.SL.Sem
open Cert.Reference14Ideal Cert.Reference14Ideal.Gen
open scoped BigOperators

/-- The reference's scaled product. -/
def values (inp : FVec Ideal S8192x2048 .f32) (weight : FVec Ideal S2048x3072 .f32) (factor : FVec Ideal S1x3072 .f32) :
    FVec Ideal S8192x3072 .bf16 :=
  truncf .bf16 (mulf (Host.dotGeneral dot_S8192x2048_S2048x3072_S8192x3072_1_0_0_1_n_n none inp weight)
    (broadcastInDim S8192x3072 ![0, 1] bcast_S1x3072_S8192x3072_0_1 factor)) bitsLt_bf16_f32

theorem values_at (inp : FVec Ideal S8192x2048 .f32) (weight : FVec Ideal S2048x3072 .f32) (factor : FVec Ideal S1x3072 .f32)
    (p : Fin 8192) (q : Fin 3072) :
    values inp weight factor (ix2 p q) = (∑ k : Fin 2048, inp (ix2 p k) * weight (ix2 k q)) * factor (ix2 (0 : Fin 1) q) := by
  pointwise [values]

theorem values_congr {h h' : FVec Ideal S8192x2048 .f32} {w w' : FVec Ideal S2048x3072 .f32} {s s' : FVec Ideal S1x3072 .f32}
    (e1 : h = h') (e2 : w = w') (e3 : s = s') : values h w s = values h' w' s' := by
  subst e1; subst e2; subst e3; rfl

/-- The reference has no semaphore. -/
theorem no_sem (s : SemLoc sig) : False := by
  rcases s with s | s
  · exact s.elim0
  · exact s.elim0

end Cert.Reference14Ideal.Proj

namespace Cert.Proj

open Idealize.ShloMosaic Idealize.ShloMosaic.TcCoe Idealize.SL.Sem

/-- The launch leaves the reference's array. -/
theorem attention_same (m : (ℓ : Loc Cert.Kernel14Ideal.nD Cert.Kernel14Ideal.τ Cert.Kernel14Ideal.sig) → Buf (Elt Ideal) ℓ) (c : Dev Cert.Kernel14Ideal.nD) :
    Cert.Reference14Ideal.Proj.values (Cert.Kernel14Ideal.Proj.inp m c) (Cert.Kernel14Ideal.Proj.weight m c)
      (Cert.Kernel14Ideal.Proj.factor m c) = (Cert.Kernel14Ideal.Gen.dats m 0 c).arrAt 3 Cert.Kernel14Ideal.cfg0.N := by
  rw [Cert.Kernel14Ideal.Proj.arr_product]
  funext i
  obtain ⟨p, q, rfl⟩ : ∃ (p : Fin 8192) (q : Fin 3072), i = ix2 p q := ⟨i 0, i 1, eq_ix2 i⟩
  exact Cert.Reference14Ideal.Proj.values_at _ _ _ p q

theorem attention : Cert.algebraic_Kernel14Ideal_Reference14Ideal (hKernel14Ideal := Cert.Kernel14Ideal.Gen.facts)
    (hReference14Ideal := Cert.Reference14Ideal.Gen.facts) := fun m g m' g' _ hA =>
  ⟨_, Cert.Kernel14Ideal.Value.run_blocks m g,
    (θ_run Cert.Reference14Ideal.defs _ _).mono
      (fun _ h c => ⟨(h c).1.trans ((Cert.Reference14Ideal.Proj.values_congr (hA c).1 (hA c).2.1 (hA c).2.2).trans (attention_same m c)), (h c).2⟩)
      (Cert.Reference14Ideal.Value.run m' g')⟩

theorem attention_reference : Cert.quiescent_Reference14Ideal (hReference14Ideal := Cert.Reference14Ideal.Gen.facts) := fun m g _ =>
  (θ_run Cert.Reference14Ideal.defs _ _).mono
    (fun _ h => ⟨fun c => (h c).2, funext fun s => (Cert.Reference14Ideal.Proj.no_sem s.2).elim⟩) (Cert.Reference14Ideal.Value.run m g)

theorem attention_ideal : Cert.quiescent_Kernel14Ideal (hKernel14Ideal := Cert.Kernel14Ideal.Gen.facts) := fun m g _ =>
  Cert.Kernel14Ideal.Gen.frame m g

theorem attention_words : Cert.quiescent_Kernel14 (hKernel14 := Cert.Kernel14.Gen.facts) := fun m g _ => Cert.Kernel14.Gen.frame m g

end Cert.Proj

end
-- ==== Proof.Ffn.Up.lean ====
/- The two products of the feed-forward network's input (`ffn2_up`), without the exchange the launch can carry: what the body
   leaves in its three output blocks, and the three arrays the launch leaves, equal to the reference's. The body works a block's
   columns off in two halves. -/
module

public import proofs.«01_k».proof.Proof.Gen.Kernel15Ideal.Value
public import proofs.«01_k».proof.Proof.Gen.Reference15Ideal.Run
public import proofs.«01_k».proof.Defs
public import proofs.«01_k».proof.Proof.Gen.Kernel15.Frame
public import proofs.«01_k».proof.Proof.Ffn.HiddenBlock

@[expose] public section

set_option maxRecDepth 16384

noncomputable section

namespace Cert.Kernel15Ideal.Ffn

open Idealize.ShloMosaic Idealize.ShloMosaic.TcCoe Idealize.SL.Sem
open Cert.Kernel15Ideal Cert.Kernel15Ideal.Gen Cert.Kernel15Ideal.Value Cert.Ffn
open scoped BigOperators

section Payloads

variable (w w' : Vec Ideal S256x2048 .bf16) (d d' : Vec Ideal S1024x2048 .bf16) (p : Fin 1024) (q : Fin 256)

/-- A product of two blocks, as the body's values need it. -/
abbrev dotOf : EReal := ∑ k : Fin 2048, d (ix2 p k) * w (ix2 q k)

theorem first_dot : k0_pay5 w d (ix2 p q) = dotOf w d p q := by
  pointwise [k0_pay5]

theorem first_dot' : k0_pay6 w d (ix2 p q) = dotOf w d p q := by
  pointwise [k0_pay6]

theorem second_dot : k0_pay10 w d (ix2 p q) = dotOf w d p q := by
  pointwise [k0_pay10]

theorem second_dot' : k0_pay1 w d (ix2 p q) = dotOf w d p q := by
  pointwise [k0_pay1]

theorem first_gate : k0_pay7 w d (ix2 p q) = dotOf w d p q := first_dot w d p q

theorem first_up : k0_pay8 w d (ix2 p q) = dotOf w d p q := first_dot' w d p q

theorem second_gate : k0_pay2 (k0_pay10 w d) (ix2 p q) = dotOf w d p q := second_dot w d p q

theorem second_up : k0_pay3 w d (ix2 p q) = dotOf w d p q := second_dot' w d p q

theorem first_act : k0_pay9 w d w' d' (ix2 p q) = actOf (dotOf w d p q) (dotOf w' d' p q) := by
  unfold actOf logis
  rw [← first_dot w d p q, ← first_dot' w' d' p q, ← zero_sub (k0_pay5 w d (ix2 p q)), ← Cert.Kernel2Ideal.Ffn.one_eq]
  pointwise [k0_pay9]

theorem second_act : k0_pay4 (k0_pay10 w d) w' d' (ix2 p q) = actOf (dotOf w d p q) (dotOf w' d' p q) := by
  unfold actOf logis
  rw [← second_dot w d p q, ← second_dot' w' d' p q, ← zero_sub (k0_pay10 w d (ix2 p q)), ← Cert.Kernel2Ideal.Ffn.one_eq]
  pointwise [k0_pay4]

end Payloads

/-- A row half of the weight block, read at an index. -/
theorem rows_at (x : Vec Ideal S512x2048 .bf16) (o : ℕ) (inb) (b : Fin 256) (k : Fin 2048) (q : Fin 512) (hq : q.val = o + b.val) :
    View.ld x (Rect.unit (s := S512x2048) ![o, 0] ![256, 2048] inb) (ix2 b k) = x (ix2 q k) := by
  refine congrArg x (funext fun a => Fin.ext ?_)
  match a with
  | ⟨0, _⟩ => show o + 1 * b.val = q.val; omega
  | ⟨1, _⟩ => show 0 + 1 * k.val = k.val; omega

theorem dot_half (d : Vec Ideal S1024x2048 .bf16) (w : Vec Ideal S512x2048 .bf16) (o : ℕ) (inb) (a : Fin 1024) (b : Fin 256)
    (p : Fin 1024) (q : Fin 512) (hp : p.val = a.val) (hq : q.val = o + b.val) :
    dotOf (View.ld w (Rect.unit (s := S512x2048) ![o, 0] ![256, 2048] inb)) d a b
      = ∑ k : Fin 2048, d (ix2 p k) * w (ix2 q k) := by
  obtain rfl : p = a := Fin.ext hp
  exact Finset.sum_congr rfl fun k _ => congrArg _ (rows_at w o inb b k q hq)

section Blocks

variable (c : Dev nD) (i : grid0.Coords) (a3 : Memref sig .tc .vmem S1024x2048 .bf16) (h3 : a3.IsWhole)
    (a4 : Memref sig .tc .vmem S512x2048 .bf16) (h4 : a4.IsWhole) (a5 : Memref sig .tc .vmem S1024x2048 .bf16) (h5 : a5.IsWhole)
    (a6 : Memref sig .tc .vmem S512x2048 .bf16) (h6 : a6.IsWhole) (a7 : Memref sig .tc .vmem S1024x512 .bf16) (h7 : a7.IsWhole)
    (a8 : Memref sig .tc .vmem S1024x512 .bf16) (h8 : a8.IsWhole) (a9 : Memref sig .tc .vmem S1024x512 .bf16) (h9 : a9.IsWhole)
    (a10 : Memref sig .tc .vmem S1024x512 .f32) (h10 : a10.IsWhole) (a11 : Memref sig .tc .vmem S1024x512 .f32) (h11 : a11.IsWhole)
    (h : Vec Ideal S1024x2048 .bf16) (wg : Vec Ideal S512x2048 .bf16) (h2 : Vec Ideal S1024x2048 .bf16) (wu : Vec Ideal S512x2048 .bf16)
    (p : Fin 1024) (q : Fin 512)

/-- The block of the gate. -/
theorem gate_block : out0_A_4 c i a3 h3 a4 h4 a5 h5 a6 h6 a7 h7 a8 h8 a9 h9 a10 h10 a11 h11 h wg h2 wu (ix2 p q)
    = ∑ k : Fin 2048, h (ix2 p k) * wg (ix2 q k) := by
  frame_out
  canon_tiles x e
  · obtain ⟨a, b, rfl⟩ : ∃ (a : Fin 1024) (b : Fin 256), x = ix2 a b := ⟨x 0, x 1, eq_ix2 x⟩
    refine (second_gate _ _ a b).trans ?_
    rw [dot_half h wg 256 _ a b p q e0 e1]
  · obtain ⟨a, b, rfl⟩ : ∃ (a : Fin 1024) (b : Fin 256), x = ix2 a b := ⟨x 0, x 1, eq_ix2 x⟩
    refine (first_gate _ _ a b).trans ?_
    rw [dot_half h wg 0 _ a b p q e0 (e1.trans (Nat.zero_add _).symm)]

/-- The block of the up values. -/
theorem up_block : out0_A_5 c i a3 h3 a4 h4 a5 h5 a6 h6 a7 h7 a8 h8 a9 h9 a10 h10 a11 h11 h wg h2 wu (ix2 p q)
    = ∑ k : Fin 2048, h2 (ix2 p k) * wu (ix2 q k) := by
  frame_out
  canon_tiles x e
  · obtain ⟨a, b, rfl⟩ : ∃ (a : Fin 1024) (b : Fin 256), x = ix2 a b := ⟨x 0, x 1, eq_ix2 x⟩
    refine (second_up _ _ a b).trans ?_
    rw [dot_half h2 wu 256 _ a b p q e0 e1]
  · obtain ⟨a, b, rfl⟩ : ∃ (a : Fin 1024) (b : Fin 256), x = ix2 a b := ⟨x 0, x 1, eq_ix2 x⟩
    refine (first_up _ _ a b).trans ?_
    rw [dot_half h2 wu 0 _ a b p q e0 (e1.trans (Nat.zero_add _).symm)]

/-- The block of the hidden layer. -/
theorem act_block : out0_A_6 c i a3 h3 a4 h4 a5 h5 a6 h6 a7 h7 a8 h8 a9 h9 a10 h10 a11 h11 h wg h2 wu (ix2 p q)
    = actOf (∑ k : Fin 2048, h (ix2 p k) * wg (ix2 q k)) (∑ k : Fin 2048, h2 (ix2 p k) * wu (ix2 q k)) := by
  frame_out
  canon_tiles x e
  · obtain ⟨a, b, rfl⟩ : ∃ (a : Fin 1024) (b : Fin 256), x = ix2 a b := ⟨x 0, x 1, eq_ix2 x⟩
    refine (second_act _ _ _ _ a b).trans ?_
    rw [dot_half h wg 256 _ a b p q e0 e1, dot_half h2 wu 256 _ a b p q e0 e1]
  · obtain ⟨a, b, rfl⟩ : ∃ (a : Fin 1024) (b : Fin 256), x = ix2 a b := ⟨x 0, x 1, eq_ix2 x⟩
    refine (first_act _ _ _ _ a b).trans ?_
    rw [dot_half h wg 0 _ a b p q e0 (e1.trans (Nat.zero_add _).symm), dot_half h2 wu 0 _ a b p q e0 (e1.trans (Nat.zero_add _).symm)]

end Blocks

variable (m : (ℓ : Loc nD τ sig) → Buf (Elt Ideal) ℓ) (c : Dev nD)

/-- The network's input and its two matrices, as the launch is given them. -/
abbrev inp : Vec Ideal S8192x2048 .f32 := m ((c : Thread nD τ).loc main_arg0)
abbrev wg : Vec Ideal S2048x5632 .f32 := m ((c : Thread nD τ).loc main_arg1)
abbrev wu : Vec Ideal S2048x5632 .f32 := m ((c : Thread nD τ).loc main_arg2)

/-- The gate and the up value at an index. -/
def gate (p : Fin 8192) (q : Fin 5632) : EReal := ∑ k : Fin 2048, inp m c (ix2 p k) * wg m c (ix2 k q)
def up (p : Fin 8192) (q : Fin 5632) : EReal := ∑ k : Fin 2048, inp m c (ix2 p k) * wu m c (ix2 k q)

/-- The launch is given the input twice, and the two matrices transposed. -/
theorem host_inp0 (i : S8192x2048.Idx) : V m c main_v0 i = inp m c i := by
  have e : V m c main_v0 = truncf (F := Ideal) (φ := .f32) .bf16 (inp m c) bitsLt_bf16_f32 := by
    dsimp only [V]; after_results
  rw [e]; rfl

theorem host_inp3 (i : S8192x2048.Idx) : V m c main_v3 i = inp m c i := by
  have e : V m c main_v3 = truncf (F := Ideal) (φ := .f32) .bf16 (inp m c) bitsLt_bf16_f32 := by
    dsimp only [V]; after_results
  rw [e]; rfl

theorem host_wg (q : Fin 5632) (k : Fin 2048) : V m c main_v2 (ix2 q k) = wg m c (ix2 k q) := by
  have e : V m c main_v2 = truncf (F := Ideal) (φ := .f32) .bf16
      (transpose S5632x2048 [1, 0] (wg m c) transposes_S2048x5632_S5632x2048_1_0) bitsLt_bf16_f32 := by
    dsimp only [V]; after_results
  rw [e]; pointwise

theorem host_wu (q : Fin 5632) (k : Fin 2048) : V m c main_v5 (ix2 q k) = wu m c (ix2 k q) := by
  have e : V m c main_v5 = truncf (F := Ideal) (φ := .f32) .bf16
      (transpose S5632x2048 [1, 0] (wu m c) transposes_S2048x5632_S5632x2048_1_0) bitsLt_bf16_f32 := by
    dsimp only [V]; after_results
  rw [e]; pointwise

theorem index0 : ∀ t : Fin cfg0.N, win0_0.index t (0 : Fin 2) = t.val / 11 ∧ win0_0.index t (1 : Fin 2) = 0 :=
  (by decide +kernel : ∀ t : Fin grid0.N, _)

theorem index1 : ∀ t : Fin cfg0.N, win0_1.index t (0 : Fin 2) = t.val % 11 ∧ win0_1.index t (1 : Fin 2) = 0 :=
  (by decide +kernel : ∀ t : Fin grid0.N, _)

theorem index2 : ∀ t : Fin cfg0.N, win0_2.index t (0 : Fin 2) = t.val / 11 ∧ win0_2.index t (1 : Fin 2) = 0 :=
  (by decide +kernel : ∀ t : Fin grid0.N, _)

theorem index3 : ∀ t : Fin cfg0.N, win0_3.index t (0 : Fin 2) = t.val % 11 ∧ win0_3.index t (1 : Fin 2) = 0 :=
  (by decide +kernel : ∀ t : Fin grid0.N, _)

theorem index4 : ∀ t : Fin cfg0.N, win0_4.index t (0 : Fin 2) = t.val / 11 ∧ win0_4.index t (1 : Fin 2) = t.val % 11 :=
  (by decide +kernel : ∀ t : Fin grid0.N, _)

theorem index5 : ∀ t : Fin cfg0.N, win0_5.index t (0 : Fin 2) = t.val / 11 ∧ win0_5.index t (1 : Fin 2) = t.val % 11 :=
  (by decide +kernel : ∀ t : Fin grid0.N, _)

theorem index6 : ∀ t : Fin cfg0.N, win0_6.index t (0 : Fin 2) = t.val / 11 ∧ win0_6.index t (1 : Fin 2) = t.val % 11 :=
  (by decide +kernel : ∀ t : Fin grid0.N, _)

/-- The array's row and column of a block's row and column at a point. -/
def row (t : Fin cfg0.N) (p : Fin 1024) : Fin 8192 := ⟨1024 * (t.val / 11) + p.val, by
  have ht := lt_of_lt_of_eq t.isLt (show cfg0.N = 88 from N_0)
  omega⟩
def col (t : Fin cfg0.N) (q : Fin 512) : Fin 5632 := ⟨512 * (t.val % 11) + q.val, by omega⟩

theorem block_inp0 (t : Fin cfg0.N) (p : Fin 1024) (q : Fin 2048) : iblk m c 0 t (ix2 p q) = inp m c (ix2 (row t p) q) := by
  refine Eq.trans ?_ (host_inp0 m c (ix2 (row t p) q))
  show V m c main_v0 (((cfg0.win 0).blk t).view.emb (ix2 p q)) = _
  refine congrArg (V m c main_v0) (funext fun a => Fin.ext ?_)
  obtain ⟨e0, e1⟩ := index0 t
  match a with
  | ⟨0, _⟩ => show win0_0.index t (0 : Fin 2) * 1024 + 1 * p.val = 1024 * (t.val / 11) + p.val; omega
  | ⟨1, _⟩ => show win0_0.index t (1 : Fin 2) * 2048 + 1 * q.val = q.val; omega

theorem block_inp2 (t : Fin cfg0.N) (p : Fin 1024) (q : Fin 2048) : iblk m c 2 t (ix2 p q) = inp m c (ix2 (row t p) q) := by
  refine Eq.trans ?_ (host_inp3 m c (ix2 (row t p) q))
  show V m c main_v3 (((cfg0.win 2).blk t).view.emb (ix2 p q)) = _
  refine congrArg (V m c main_v3) (funext fun a => Fin.ext ?_)
  obtain ⟨e0, e1⟩ := index2 t
  match a with
  | ⟨0, _⟩ => show win0_2.index t (0 : Fin 2) * 1024 + 1 * p.val = 1024 * (t.val / 11) + p.val; omega
  | ⟨1, _⟩ => show win0_2.index t (1 : Fin 2) * 2048 + 1 * q.val = q.val; omega

theorem block_wg (t : Fin cfg0.N) (p : Fin 512) (q : Fin 2048) : iblk m c 1 t (ix2 p q) = wg m c (ix2 q (col t p)) := by
  refine Eq.trans ?_ (host_wg m c (col t p) q)
  show V m c main_v2 (((cfg0.win 1).blk t).view.emb (ix2 p q)) = _
  refine congrArg (V m c main_v2) (funext fun a => Fin.ext ?_)
  obtain ⟨e0, e1⟩ := index1 t
  match a with
  | ⟨0, _⟩ => show win0_1.index t (0 : Fin 2) * 512 + 1 * p.val = 512 * (t.val % 11) + p.val; omega
  | ⟨1, _⟩ => show win0_1.index t (1 : Fin 2) * 2048 + 1 * q.val = q.val; omega

theorem block_wu (t : Fin cfg0.N) (p : Fin 512) (q : Fin 2048) : iblk m c 3 t (ix2 p q) = wu m c (ix2 q (col t p)) := by
  refine Eq.trans ?_ (host_wu m c (col t p) q)
  show V m c main_v5 (((cfg0.win 3).blk t).view.emb (ix2 p q)) = _
  refine congrArg (V m c main_v5) (funext fun a => Fin.ext ?_)
  obtain ⟨e0, e1⟩ := index3 t
  match a with
  | ⟨0, _⟩ => show win0_3.index t (0 : Fin 2) * 512 + 1 * p.val = 512 * (t.val % 11) + p.val; omega
  | ⟨1, _⟩ => show win0_3.index t (1 : Fin 2) * 2048 + 1 * q.val = q.val; omega

abbrev inpBlk0 (t : Fin cfg0.N) : Vec Ideal S1024x2048 .bf16 := iblk m c 0 t
abbrev inpBlk2 (t : Fin cfg0.N) : Vec Ideal S1024x2048 .bf16 := iblk m c 2 t
abbrev wgBlk (t : Fin cfg0.N) : Vec Ideal S512x2048 .bf16 := iblk m c 1 t
abbrev wuBlk (t : Fin cfg0.N) : Vec Ideal S512x2048 .bf16 := iblk m c 3 t

/-- The gate and the up value, from a point's blocks. -/
theorem gate_blocks (t : Fin cfg0.N) (p : Fin 1024) (q : Fin 512) :
    (∑ k : Fin 2048, inpBlk0 m c t (ix2 p k) * wgBlk m c t (ix2 q k)) = gate m c (row t p) (col t q) :=
  Finset.sum_congr rfl fun k _ => congrArg₂ (fun a b : EReal => a * b) (block_inp0 m c t p k) (block_wg m c t q k)

theorem up_blocks (t : Fin cfg0.N) (p : Fin 1024) (q : Fin 512) :
    (∑ k : Fin 2048, inpBlk2 m c t (ix2 p k) * wuBlk m c t (ix2 q k)) = up m c (row t p) (col t q) :=
  Finset.sum_congr rfl fun k _ => congrArg₂ (fun a b : EReal => a * b) (block_inp2 m c t p k) (block_wu m c t q k)

theorem emb4 (t : Fin cfg0.N) (p : Fin 1024) (q : Fin 512) : (win0_4.blk t).view.emb (ix2 p q) = ix2 (row t p) (col t q) := by
  refine funext fun a => Fin.ext ?_
  obtain ⟨e0, e1⟩ := index4 t
  match a with
  | ⟨0, _⟩ => show win0_4.index t (0 : Fin 2) * 1024 + 1 * p.val = 1024 * (t.val / 11) + p.val; omega
  | ⟨1, _⟩ => show win0_4.index t (1 : Fin 2) * 512 + 1 * q.val = 512 * (t.val % 11) + q.val; omega

theorem emb5 (t : Fin cfg0.N) (p : Fin 1024) (q : Fin 512) : (win0_5.blk t).view.emb (ix2 p q) = ix2 (row t p) (col t q) := by
  refine funext fun a => Fin.ext ?_
  obtain ⟨e0, e1⟩ := index5 t
  match a with
  | ⟨0, _⟩ => show win0_5.index t (0 : Fin 2) * 1024 + 1 * p.val = 1024 * (t.val / 11) + p.val; omega
  | ⟨1, _⟩ => show win0_5.index t (1 : Fin 2) * 512 + 1 * q.val = 512 * (t.val % 11) + q.val; omega

theorem emb6 (t : Fin cfg0.N) (p : Fin 1024) (q : Fin 512) : (win0_6.blk t).view.emb (ix2 p q) = ix2 (row t p) (col t q) := by
  refine funext fun a => Fin.ext ?_
  obtain ⟨e0, e1⟩ := index6 t
  match a with
  | ⟨0, _⟩ => show win0_6.index t (0 : Fin 2) * 1024 + 1 * p.val = 1024 * (t.val / 11) + p.val; omega
  | ⟨1, _⟩ => show win0_6.index t (1 : Fin 2) * 512 + 1 * q.val = 512 * (t.val % 11) + q.val; omega

/-- The three arrays. -/
def gateArr : S8192x5632.Idx → EReal := fun i => gate m c (i 0) (i 1)
def upArr : S8192x5632.Idx → EReal := fun i => up m c (i 0) (i 1)
def actArr : S8192x5632.Idx → EReal := fun i => actOf (gate m c (i 0) (i 1)) (up m c (i 0) (i 1))

theorem arr_gate : (dats m 0 c).arrAt 4 cfg0.N = gateArr m c := by
  refine (dats m 0 c).arrAt_eq_of_covers 4 _ (by decide +kernel) fun t hf y => ?_
  blk_simp
  obtain ⟨p, q, rfl⟩ : ∃ (p : Fin 1024) (q : Fin 512), y = ix2 p q := ⟨y 0, y 1, eq_ix2 y⟩
  rw [after0_4, emb4]
  dsimp only [outsAt0]
  rw [gate_block]
  exact gate_blocks m c t p q

theorem arr_up : (dats m 0 c).arrAt 5 cfg0.N = upArr m c := by
  refine (dats m 0 c).arrAt_eq_of_covers 5 _ (by decide +kernel) fun t hf y => ?_
  blk_simp
  obtain ⟨p, q, rfl⟩ : ∃ (p : Fin 1024) (q : Fin 512), y = ix2 p q := ⟨y 0, y 1, eq_ix2 y⟩
  rw [after0_5, emb5]
  dsimp only [outsAt0]
  rw [up_block]
  exact up_blocks m c t p q

theorem arr_act : (dats m 0 c).arrAt 6 cfg0.N = actArr m c := by
  refine (dats m 0 c).arrAt_eq_of_covers 6 _ (by decide +kernel) fun t hf y => ?_
  blk_simp
  obtain ⟨p, q, rfl⟩ : ∃ (p : Fin 1024) (q : Fin 512), y = ix2 p q := ⟨y 0, y 1, eq_ix2 y⟩
  rw [after0_6, emb6]
  dsimp only [outsAt0]
  rw [act_block]
  exact congrArg₂ actOf (gate_blocks m c t p q) (up_blocks m c t p q)

end Cert.Kernel15Ideal.Ffn

namespace Cert.Reference15Ideal.Ffn

open Idealize.ShloMosaic Idealize.ShloMosaic.TcCoe Idealize.SL.Sem
open Cert.Reference15Ideal Cert.Reference15Ideal.Gen Cert.Ffn
open scoped BigOperators

variable (inp : FVec Ideal S8192x2048 .f32) (wg wu : FVec Ideal S2048x5632 .f32)

/-- The array of ones, and a product of the input. -/
def ones : FVec Ideal S8192x5632 .f32 := broadcastInDim S8192x5632 ![] bcast_S_S8192x5632 (constant S_ .f32 0x3F800000#32)
def prod : FVec Ideal S8192x5632 .f32 := Host.dotGeneral dot_S8192x2048_S2048x5632_S8192x5632_1_0_0_1_n_n none inp wg

/-- The reference's gate or up values, and its hidden layer. -/
def half : FVec Ideal S8192x5632 .bf16 := truncf .bf16 (prod inp wg) bitsLt_bf16_f32
def act : FVec Ideal S8192x5632 .bf16 :=
  truncf .bf16 (mulf (mulf (prod inp wg) (Host.divf ones (addf ones (Host.exp (Host.negf (prod inp wg)))))) (prod inp wu)) bitsLt_bf16_f32

variable (p : Fin 8192) (q : Fin 5632)

theorem ones_at : ones (ix2 p q) = 1 := by
  refine Eq.trans ?_ Cert.Kernel2Ideal.Ffn.one_eq
  pointwise [ones]

theorem prod_at : prod inp wg (ix2 p q) = ∑ k : Fin 2048, inp (ix2 p k) * wg (ix2 k q) := by
  pointwise [prod]

theorem half_at : half inp wg (ix2 p q) = ∑ k : Fin 2048, inp (ix2 p k) * wg (ix2 k q) := prod_at inp wg p q

theorem act_at : act inp wg wu (ix2 p q) = actOf (∑ k : Fin 2048, inp (ix2 p k) * wg (ix2 k q)) (∑ k : Fin 2048, inp (ix2 p k) * wu (ix2 k q)) := by
  unfold actOf logis
  rw [← prod_at inp wg p q, ← prod_at inp wu p q, ← ones_at p q]
  pointwise [act]

/-- The reference has no semaphore. -/
theorem no_sem (s : SemLoc sig) : False := by
  rcases s with s | s
  · exact s.elim0
  · exact s.elim0

theorem act_congr {a a' : FVec Ideal S8192x2048 .f32} {g g' u u' : FVec Ideal S2048x5632 .f32} (h1 : a = a') (h2 : g = g') (h3 : u = u') :
    act a g u = act a' g' u' := by
  subst h1; subst h2; subst h3; rfl

end Cert.Reference15Ideal.Ffn

namespace Cert.Ffn

open Idealize.ShloMosaic Idealize.ShloMosaic.TcCoe Idealize.SL.Sem

section Same

variable (m : (ℓ : Loc Cert.Kernel15Ideal.nD Cert.Kernel15Ideal.τ Cert.Kernel15Ideal.sig) → Buf (Elt Ideal) ℓ) (c : Dev Cert.Kernel15Ideal.nD)

/-- The launch leaves the reference's gate, up values and hidden layer. -/
theorem ffn_gate_same : Cert.Reference15Ideal.Ffn.half (Cert.Kernel15Ideal.Ffn.inp m c) (Cert.Kernel15Ideal.Ffn.wg m c)
    = Cert.Kernel15Ideal.Ffn.gateArr m c := by
  funext i
  obtain ⟨p, q, rfl⟩ : ∃ (p : Fin 8192) (q : Fin 5632), i = ix2 p q := ⟨i 0, i 1, eq_ix2 i⟩
  exact Cert.Reference15Ideal.Ffn.half_at _ _ p q

theorem ffn_up_same : Cert.Reference15Ideal.Ffn.half (Cert.Kernel15Ideal.Ffn.inp m c) (Cert.Kernel15Ideal.Ffn.wu m c)
    = Cert.Kernel15Ideal.Ffn.upArr m c := by
  funext i
  obtain ⟨p, q, rfl⟩ : ∃ (p : Fin 8192) (q : Fin 5632), i = ix2 p q := ⟨i 0, i 1, eq_ix2 i⟩
  exact Cert.Reference15Ideal.Ffn.half_at _ _ p q

theorem ffn_act_same : Cert.Reference15Ideal.Ffn.act (Cert.Kernel15Ideal.Ffn.inp m c) (Cert.Kernel15Ideal.Ffn.wg m c) (Cert.Kernel15Ideal.Ffn.wu m c)
    = Cert.Kernel15Ideal.Ffn.actArr m c := by
  funext i
  obtain ⟨p, q, rfl⟩ : ∃ (p : Fin 8192) (q : Fin 5632), i = ix2 p q := ⟨i 0, i 1, eq_ix2 i⟩
  exact Cert.Reference15Ideal.Ffn.act_at _ _ _ p q

end Same

theorem ffn_up : Cert.algebraic_Kernel15Ideal_Reference15Ideal (hKernel15Ideal := Cert.Kernel15Ideal.Gen.facts)
    (hReference15Ideal := Cert.Reference15Ideal.Gen.facts) := fun m g m' g' _ hA =>
  ⟨Cert.Kernel15Ideal.Ffn.gateArr m, Cert.Kernel15Ideal.Ffn.upArr m, Cert.Kernel15Ideal.Ffn.actArr m,
    (θ_run Cert.Kernel15Ideal.defs _ _).mono
      (fun _ h c => ⟨(h c).1.trans (Cert.Kernel15Ideal.Ffn.arr_gate m c), (h c).2.1.trans (Cert.Kernel15Ideal.Ffn.arr_up m c),
        (h c).2.2.1.trans (Cert.Kernel15Ideal.Ffn.arr_act m c), (h c).2.2.2⟩)
      (Cert.Kernel15Ideal.Value.run_blocks m g),
    (θ_run Cert.Reference15Ideal.defs _ _).mono
      (fun _ h c => ⟨(h c).1.trans ((congrArg₂ Cert.Reference15Ideal.Ffn.half (hA c).1 (hA c).2.1).trans (ffn_gate_same m c)),
        (h c).2.1.trans ((congrArg₂ Cert.Reference15Ideal.Ffn.half (hA c).1 (hA c).2.2).trans (ffn_up_same m c)),
        (h c).2.2.1.trans ((Cert.Reference15Ideal.Ffn.act_congr (hA c).1 (hA c).2.1 (hA c).2.2).trans (ffn_act_same m c)), (h c).2.2.2⟩)
      (Cert.Reference15Ideal.Value.run m' g')⟩

theorem ffn_up_reference : Cert.quiescent_Reference15Ideal (hReference15Ideal := Cert.Reference15Ideal.Gen.facts) := fun m g _ =>
  (θ_run Cert.Reference15Ideal.defs _ _).mono
    (fun _ h => ⟨fun c => (h c).2.2.2, funext fun s => (Cert.Reference15Ideal.Ffn.no_sem s.2).elim⟩) (Cert.Reference15Ideal.Value.run m g)

theorem ffn_up_ideal : Cert.quiescent_Kernel15Ideal (hKernel15Ideal := Cert.Kernel15Ideal.Gen.facts) := fun m g _ =>
  Cert.Kernel15Ideal.Gen.frame m g

theorem ffn_up_words : Cert.quiescent_Kernel15 (hKernel15 := Cert.Kernel15.Gen.facts) := fun m g _ => Cert.Kernel15.Gen.frame m g

end Cert.Ffn

end
-- ==== Proof.Proj.AttentionGrad.lean ====
/- The gradient of the attention's half of the mixer's output (`mix_dof`), without the exchange the launch can carry: the array
   the launch leaves is the product of the mixed output's gradient and the upper half of the output matrix, transposed. -/
module

public import proofs.«01_k».proof.Proof.Gen.Kernel16Ideal.Value
public import proofs.«01_k».proof.Proof.Gen.Reference16Ideal.Run
public import proofs.«01_k».proof.Defs
public import proofs.«01_k».proof.Proof.Gen.Kernel16.Frame
public import Idealize.ShloMosaic.Lib.Pointwise
public import Idealize.ShloMosaic.Lib.Tactic
public import Idealize.ShloMosaic.Lib.Pipeline.ValueKit

@[expose] public section

set_option maxRecDepth 16384

noncomputable section

namespace Cert.Kernel16Ideal.Proj

open Idealize.ShloMosaic Idealize.ShloMosaic.TcCoe Idealize.SL.Sem
open Cert.Kernel16Ideal Cert.Kernel16Ideal.Gen Cert.Kernel16Ideal.Value
open scoped BigOperators

/-- The two halves' products. -/
theorem first_dot (w : Vec Ideal S256x2048 .bf16) (d : Vec Ideal S1024x2048 .bf16) (p : Fin 1024) (q : Fin 256) :
    k0_pay1 w d (ix2 p q) = ∑ k : Fin 2048, d (ix2 p k) * w (ix2 q k) := by
  pointwise [k0_pay1]

theorem second_dot (w : Vec Ideal S256x2048 .bf16) (d : Vec Ideal S1024x2048 .bf16) (p : Fin 1024) (q : Fin 256) :
    k0_pay2 w d (ix2 p q) = ∑ k : Fin 2048, d (ix2 p k) * w (ix2 q k) := by
  pointwise [k0_pay2]

/-- A row half of the second array's block, read at an index. -/
theorem rows_at (x : Vec Ideal S512x2048 .bf16) (o : ℕ) (inb) (b : Fin 256) (k : Fin 2048) (q : Fin 512) (hq : q.val = o + b.val) :
    View.ld x (Rect.unit (s := S512x2048) ![o, 0] ![256, 2048] inb) (ix2 b k) = x (ix2 q k) := by
  refine congrArg x (funext fun a => Fin.ext ?_)
  match a with
  | ⟨0, _⟩ => show o + 1 * b.val = q.val; omega
  | ⟨1, _⟩ => show 0 + 1 * k.val = k.val; omega

theorem dot_half (d : Vec Ideal S1024x2048 .bf16) (w : Vec Ideal S512x2048 .bf16) (o : ℕ) (inb) (a : Fin 1024) (b : Fin 256)
    (p : Fin 1024) (q : Fin 512) (hp : p.val = a.val) (hq : q.val = o + b.val) :
    (∑ k : Fin 2048, d (ix2 a k) * View.ld w (Rect.unit (s := S512x2048) ![o, 0] ![256, 2048] inb) (ix2 b k))
      = ∑ k : Fin 2048, d (ix2 p k) * w (ix2 q k) := by
  obtain rfl : p = a := Fin.ext hp
  exact Finset.sum_congr rfl fun k _ => congrArg _ (rows_at w o inb b k q hq)

/-- The block the body leaves, from its two blocks: it works the columns off in two halves. -/
theorem out_block (c : Dev nD) (i : grid0.Coords) (a3 : Memref sig .tc .vmem S1024x2048 .bf16) (h3 : a3.IsWhole)
    (a4 : Memref sig .tc .vmem S512x2048 .bf16) (h4 : a4.IsWhole) (a5 : Memref sig .tc .vmem S1024x512 .f32) (h5 : a5.IsWhole)
    (a6 : Memref sig .tc .vmem S1024x512 .f32) (h6 : a6.IsWhole)
    (d : Vec Ideal S1024x2048 .bf16) (w : Vec Ideal S512x2048 .bf16) (p : Fin 1024) (q : Fin 512) :
    out0_A_2 c i a3 h3 a4 h4 a5 h5 a6 h6 d w (ix2 p q) = ∑ k : Fin 2048, d (ix2 p k) * w (ix2 q k) := by
  frame_out
  canon_tiles x h
  · obtain ⟨a, b, rfl⟩ : ∃ (a : Fin 1024) (b : Fin 256), x = ix2 a b := ⟨x 0, x 1, eq_ix2 x⟩
    refine (second_dot _ _ a b).trans ?_
    rw [dot_half d w 256 _ a b p q h0 h1]
  · obtain ⟨a, b, rfl⟩ : ∃ (a : Fin 1024) (b : Fin 256), x = ix2 a b := ⟨x 0, x 1, eq_ix2 x⟩
    refine (first_dot _ _ a b).trans ?_
    rw [dot_half d w 0 _ a b p q h0 (h1.trans (Nat.zero_add _).symm)]

variable (m : (ℓ : Loc nD τ sig) → Buf (Elt Ideal) ℓ) (c : Dev nD)

/-- The gradient of the mixed output and the output matrix, as the launch is given them. -/
abbrev dmix : Vec Ideal S8192x2048 .f32 := m ((c : Thread nD τ).loc main_arg3)
abbrev weight : Vec Ideal S2048x2048 .f32 := m ((c : Thread nD τ).loc main_arg2)

/-- The second array of the product, by its row and the summed index: the upper half of the matrix. -/
abbrev second (q : Fin 1024) (k : Fin 2048) : EReal := weight m c (ix2 (⟨q.val, by omega⟩ : Fin 2048) k)

theorem host_dmix (i : S8192x2048.Idx) : V m c main_v0 i = dmix m c i := by
  have e : V m c main_v0 = truncf (F := Ideal) (φ := .f32) .bf16 (dmix m c) bitsLt_bf16_f32 := by
    dsimp only [V]; after_results
  rw [e]; rfl

/-- The launch is given the upper half of the output matrix. -/
theorem host_weight (q : Fin 1024) (k : Fin 2048) : V m c main_v2 (ix2 q k) = second m c q k := by
  have e : V m c main_v2 = truncf (F := Ideal) (φ := .f32) .bf16
      (extractStridedSlice S1024x2048 ![0, 0] (weight m c) slices_S2048x2048_S1024x2048_0_0) bitsLt_bf16_f32 := by
    dsimp only [V]; after_results
  rw [e]; pointwise

theorem index0 : ∀ t : Fin cfg0.N, win0_0.index t (0 : Fin 2) = t.val / 2 ∧ win0_0.index t (1 : Fin 2) = 0 :=
  (by decide +kernel : ∀ t : Fin grid0.N, _)

theorem index1 : ∀ t : Fin cfg0.N, win0_1.index t (0 : Fin 2) = t.val % 2 ∧ win0_1.index t (1 : Fin 2) = 0 :=
  (by decide +kernel : ∀ t : Fin grid0.N, _)

theorem index2 : ∀ t : Fin cfg0.N, win0_2.index t (0 : Fin 2) = t.val / 2 ∧ win0_2.index t (1 : Fin 2) = t.val % 2 :=
  (by decide +kernel : ∀ t : Fin grid0.N, _)

/-- The array's row and column of a block's row and column at a point. -/
def row (t : Fin cfg0.N) (p : Fin 1024) : Fin 8192 := ⟨1024 * (t.val / 2) + p.val, by
  have ht := lt_of_lt_of_eq t.isLt (show cfg0.N = 16 from N_0)
  omega⟩
def col (t : Fin cfg0.N) (q : Fin 512) : Fin 1024 := ⟨512 * (t.val % 2) + q.val, by omega⟩

theorem block_dmix (t : Fin cfg0.N) (p : Fin 1024) (q : Fin 2048) :
    iblk m c 0 t (ix2 p q) = dmix m c (ix2 (row t p) q) := by
  refine Eq.trans ?_ (host_dmix m c (ix2 (row t p) q))
  show V m c main_v0 (((cfg0.win 0).blk t).view.emb (ix2 p q)) = _
  refine congrArg (V m c main_v0) (funext fun a => Fin.ext ?_)
  obtain ⟨e0, e1⟩ := index0 t
  match a with
  | ⟨0, _⟩ => show win0_0.index t (0 : Fin 2) * 1024 + 1 * p.val = 1024 * (t.val / 2) + p.val; omega
  | ⟨1, _⟩ => show win0_0.index t (1 : Fin 2) * 2048 + 1 * q.val = q.val; omega

theorem block_weight (t : Fin cfg0.N) (p : Fin 512) (q : Fin 2048) :
    iblk m c 1 t (ix2 p q) = second m c (col t p) q := by
  refine Eq.trans ?_ (host_weight m c (col t p) q)
  show V m c main_v2 (((cfg0.win 1).blk t).view.emb (ix2 p q)) = _
  refine congrArg (V m c main_v2) (funext fun a => Fin.ext ?_)
  obtain ⟨e0, e1⟩ := index1 t
  match a with
  | ⟨0, _⟩ => show win0_1.index t (0 : Fin 2) * 512 + 1 * p.val = 512 * (t.val % 2) + p.val; omega
  | ⟨1, _⟩ => show win0_1.index t (1 : Fin 2) * 2048 + 1 * q.val = q.val; omega

theorem emb2 (t : Fin cfg0.N) (p : Fin 1024) (q : Fin 512) : (win0_2.blk t).view.emb (ix2 p q) = ix2 (row t p) (col t q) := by
  refine funext fun a => Fin.ext ?_
  obtain ⟨e0, e1⟩ := index2 t
  match a with
  | ⟨0, _⟩ => show win0_2.index t (0 : Fin 2) * 1024 + 1 * p.val = 1024 * (t.val / 2) + p.val; omega
  | ⟨1, _⟩ => show win0_2.index t (1 : Fin 2) * 512 + 1 * q.val = 512 * (t.val % 2) + q.val; omega

/-- The product, element by element and as the array the launch leaves. -/
def product (p : Fin 8192) (q : Fin 1024) : EReal := ∑ k : Fin 2048, dmix m c (ix2 p k) * second m c q k
def productArr : S8192x1024.Idx → EReal := fun i => product m c (i 0) (i 1)

theorem arr_product : (dats m 0 c).arrAt 2 cfg0.N = productArr m c := by
  refine (dats m 0 c).arrAt_eq_of_covers 2 _ (by decide +kernel) fun t hf y => ?_
  blk_simp
  obtain ⟨p, q, rfl⟩ : ∃ (p : Fin 1024) (q : Fin 512), y = ix2 p q := ⟨y 0, y 1, eq_ix2 y⟩
  rw [after0_2, emb2]
  dsimp only [outsAt0]
  rw [out_block]
  exact Finset.sum_congr rfl fun k _ => congrArg₂ (fun a b : EReal => a * b) (block_dmix m c t p k) (block_weight m c t q k)

end Cert.Kernel16Ideal.Proj

namespace Cert.Reference16Ideal.Proj

open Idealize.ShloMosaic Idealize.ShloMosaic.TcCoe Idealize.SL.Sem
open Cert.Reference16Ideal Cert.Reference16Ideal.Gen
open scoped BigOperators

/-- The reference's gradient. -/
def grad (dmix : FVec Ideal S8192x2048 .f32) (weight : FVec Ideal S2048x2048 .f32) : FVec Ideal S8192x1024 .f32 :=
  extractStridedSlice S8192x1024 ![0, 0] (Host.dotGeneral dot_S8192x2048_S2048x2048_S8192x2048_1_1_0_0_n_n none dmix weight)
    slices_S8192x2048_S8192x1024_0_0

theorem grad_at (dmix : FVec Ideal S8192x2048 .f32) (weight : FVec Ideal S2048x2048 .f32) (p : Fin 8192) (q : Fin 1024) :
    grad dmix weight (ix2 p q) = ∑ k : Fin 2048, dmix (ix2 p k) * weight (ix2 (⟨q.val, by omega⟩ : Fin 2048) k) := by
  pointwise [grad]

/-- The reference has no semaphore. -/
theorem no_sem (s : SemLoc sig) : False := by
  rcases s with s | s
  · exact s.elim0
  · exact s.elim0

end Cert.Reference16Ideal.Proj

namespace Cert.Proj

open Idealize.ShloMosaic Idealize.ShloMosaic.TcCoe Idealize.SL.Sem

/-- The launch leaves the reference's array. -/
theorem attention_grad_same (m : (ℓ : Loc Cert.Kernel16Ideal.nD Cert.Kernel16Ideal.τ Cert.Kernel16Ideal.sig) → Buf (Elt Ideal) ℓ) (c : Dev Cert.Kernel16Ideal.nD) :
    Cert.Reference16Ideal.Proj.grad (Cert.Kernel16Ideal.Proj.dmix m c) (Cert.Kernel16Ideal.Proj.weight m c) = (Cert.Kernel16Ideal.Gen.dats m 0 c).arrAt 2 Cert.Kernel16Ideal.cfg0.N := by
  rw [Cert.Kernel16Ideal.Proj.arr_product]
  funext i
  obtain ⟨p, q, rfl⟩ : ∃ (p : Fin 8192) (q : Fin 1024), i = ix2 p q := ⟨i 0, i 1, eq_ix2 i⟩
  exact Cert.Reference16Ideal.Proj.grad_at _ _ p q

theorem attention_grad : Cert.algebraic_Kernel16Ideal_Reference16Ideal (hKernel16Ideal := Cert.Kernel16Ideal.Gen.facts)
    (hReference16Ideal := Cert.Reference16Ideal.Gen.facts) := fun m g m' g' _ hA =>
  ⟨_, Cert.Kernel16Ideal.Value.run_blocks m g,
    (θ_run Cert.Reference16Ideal.defs _ _).mono
      (fun _ h c => ⟨(h c).1.trans ((congrArg₂ Cert.Reference16Ideal.Proj.grad (hA c).2.2.2 (hA c).2.2.1).trans (attention_grad_same m c)), (h c).2⟩)
      (Cert.Reference16Ideal.Value.run m' g')⟩

theorem attention_grad_reference : Cert.quiescent_Reference16Ideal (hReference16Ideal := Cert.Reference16Ideal.Gen.facts) := fun m g _ =>
  (θ_run Cert.Reference16Ideal.defs _ _).mono
    (fun _ h => ⟨fun c => (h c).2, funext fun s => (Cert.Reference16Ideal.Proj.no_sem s.2).elim⟩) (Cert.Reference16Ideal.Value.run m g)

theorem attention_grad_ideal : Cert.quiescent_Kernel16Ideal (hKernel16Ideal := Cert.Kernel16Ideal.Gen.facts) := fun m g _ =>
  Cert.Kernel16Ideal.Gen.frame m g

theorem attention_grad_words : Cert.quiescent_Kernel16 (hKernel16 := Cert.Kernel16.Gen.facts) := fun m g _ => Cert.Kernel16.Gen.frame m g

end Cert.Proj

end
-- ==== Proof.Proj.InputMatrix.lean ====
/- The gradient of the mixer's input projection (`proj_dw`), transposed, without the exchange the launch can carry: the array the
   launch leaves is the product of the projection's gradient, transposed, and the mixer's input, its rows added up in two
   halves. -/
module

public import proofs.«01_k».proof.Proof.Gen.Kernel17Ideal.Value
public import proofs.«01_k».proof.Proof.Gen.Reference17Ideal.Run
public import proofs.«01_k».proof.Defs
public import proofs.«01_k».proof.Proof.Gen.Kernel17.Frame
public import proofs.«01_k».proof.Proof.Ffn.Sums
public import Idealize.ShloMosaic.Lib.Pointwise
public import Idealize.ShloMosaic.Lib.Tactic

@[expose] public section

set_option maxRecDepth 16384

noncomputable section

namespace Cert.Kernel17Ideal.Proj

open Idealize.ShloMosaic Idealize.ShloMosaic.TcCoe Idealize.SL.Sem
open Cert.Kernel17Ideal Cert.Kernel17Ideal.Gen Cert.Kernel17Ideal.Value
open scoped BigOperators

section Body

variable {F : FTy → Type} [FloatOps F]

theorem zeros : (![0, 0] : Fin 2 → ℕ) = fun _ => 0 := funext fun a => by fin_cases a <;> rfl

/-- At a block's last point the body stores what the accumulator then holds. -/
theorem out_last (c : Dev nD) (i : grid0.Coords) (a3 : Memref sig .tc .vmem S4096x384 .bf16) (h3 : a3.IsWhole)
    (a4 : Memref sig .tc .vmem S4096x1024 .bf16) (h4 : a4.IsWhole) (a5 : Memref sig .tc .vmem S384x1024 .bf16) (h5 : a5.IsWhole)
    (a6 : Memref sig .tc .vmem S384x1024 .f32) (h6 : a6.IsWhole) (hc0 : ¬cond0_0 i) (hc1 : cond0_1 i)
    (x : Vec F S4096x384 .bf16) (y : Vec F S4096x1024 .bf16) (acc : Vec F S384x1024 .f32) :
    out0_B_2 c i a3 h3 a4 h4 a5 h5 a6 h6 hc0 hc1 x y acc = k0_pay3 (k0_pay2 x y acc) := by
  unfold out0_B_2
  rw [View.read_writes_eq_canon _ _ _ (cover0_B_2 c i a3 h3 a4 h4 a5 h5 a6 h6 hc0 hc1 x y acc)]
  unfold kernelRun0_B
  dsimp only
  sl_unfold_words
  rw [View.canon_unit_zero zeros]
  simp only [View.readCov_unit_zero (S := S384x1024) _ zeros, View.readAt_eq_ld, h3.read_unread, h4.read_unread, h6.read_unread,
    View.ld_unit_zero (S := S4096x384) zeros, View.ld_unit_zero (S := S4096x1024) zeros, View.ld_unit_zero (S := S384x1024) zeros]

/-- At a block's first point the body leaves one step over zeros in the accumulator. -/
theorem acc_first (c : Dev nD) (i : grid0.Coords) (a3 : Memref sig .tc .vmem S4096x384 .bf16) (h3 : a3.IsWhole)
    (a4 : Memref sig .tc .vmem S4096x1024 .bf16) (h4 : a4.IsWhole) (a5 : Memref sig .tc .vmem S384x1024 .bf16) (h5 : a5.IsWhole)
    (a6 : Memref sig .tc .vmem S384x1024 .f32) (h6 : a6.IsWhole) (hc0 : cond0_0 i) (hc1 : ¬cond0_1 i)
    (x : Vec F S4096x384 .bf16) (y : Vec F S4096x1024 .bf16) :
    sout0_A_0 c i a3 h3 a4 h4 a5 h5 a6 h6 hc0 hc1 x y = k0_pay2 x y k0_pay1 := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S384x1024) zeros]
  simp only [View.readCov_unit_zero (S := S384x1024) _ zeros, View.readAt_eq_ld, h3.read_unread, h4.read_unread, h6.read_unread,
    View.ld_unit_zero (S := S4096x384) zeros, View.ld_unit_zero (S := S4096x1024) zeros, View.ld_unit_zero (S := S384x1024) zeros]

end Body

/-- One step adds the block's product to the accumulator. -/
theorem step_at (x : Vec Ideal S4096x384 .bf16) (y : Vec Ideal S4096x1024 .bf16) (acc : Vec Ideal S384x1024 .f32) (p : Fin 384) (q : Fin 1024) :
    k0_pay2 x y acc (ix2 p q) = acc (ix2 p q) + ∑ k : Fin 4096, x (ix2 k p) * y (ix2 k q) := by
  pointwise [k0_pay2]

theorem zero_at (p : Fin 384) (q : Fin 1024) : k0_pay1 (F := Ideal) (ix2 p q) = 0 := by
  pointwise [k0_pay1]

theorem store_at (x : Vec Ideal S384x1024 .f32) (p : Fin 384) (q : Fin 1024) : k0_pay3 x (ix2 p q) = x (ix2 p q) := by
  pointwise [k0_pay3]

variable (m : (ℓ : Loc nD τ sig) → Buf (Elt Ideal) ℓ) (c : Dev nD)

/-- The projection's gradient, and the mixer's input, as the launch is given them. -/
abbrev dproj : Vec Ideal S8192x7296 .f32 := m ((c : Thread nD τ).loc main_arg2)
abbrev inp : Vec Ideal S8192x2048 .f32 := m ((c : Thread nD τ).loc main_arg0)

theorem index0 : ∀ t : Fin cfg0.N, win0_0.index t (0 : Fin 2) = t.val % 2 ∧ win0_0.index t (1 : Fin 2) = t.val / 4 :=
  (by decide +kernel : ∀ t : Fin grid0.N, _)

theorem index1 : ∀ t : Fin cfg0.N, win0_1.index t (0 : Fin 2) = t.val % 2 ∧ win0_1.index t (1 : Fin 2) = t.val / 2 % 2 :=
  (by decide +kernel : ∀ t : Fin grid0.N, _)

theorem host_dproj (i : S8192x7296.Idx) : V m c main_v0 i = dproj m c i := by
  have e : V m c main_v0 = truncf (F := Ideal) (φ := .f32) .bf16 (dproj m c) bitsLt_bf16_f32 := by
    dsimp only [V]; after_results
  rw [e]; rfl

theorem host_inp (i : S8192x2048.Idx) : V m c main_v1 i = inp m c i := by
  have e : V m c main_v1 = truncf (F := Ideal) (φ := .f32) .bf16 (inp m c) bitsLt_bf16_f32 := by
    dsimp only [V]; after_results
  rw [e]; rfl

/-- The block of the projection's gradient at a point. -/
theorem block_dproj (t : Fin cfg0.N) (k : Fin 4096) (p : Fin 384) (k' : Fin 8192) (p' : Fin 7296)
    (hk : k'.val = 4096 * (t.val % 2) + k.val) (hp : p'.val = 384 * (t.val / 4) + p.val) :
    iblk m c 0 t (ix2 k p) = dproj m c (ix2 k' p') := by
  refine Eq.trans ?_ (host_dproj m c (ix2 k' p'))
  show V m c main_v0 (((cfg0.win 0).blk t).view.emb (ix2 k p)) = _
  refine congrArg (V m c main_v0) (funext fun a => Fin.ext ?_)
  obtain ⟨e0, e1⟩ := index0 t
  match a with
  | ⟨0, _⟩ => show win0_0.index t (0 : Fin 2) * 4096 + 1 * k.val = k'.val; omega
  | ⟨1, _⟩ => show win0_0.index t (1 : Fin 2) * 384 + 1 * p.val = p'.val; omega

/-- The block of the mixer's input at a point. -/
theorem block_inp (t : Fin cfg0.N) (k : Fin 4096) (q : Fin 1024) (k' : Fin 8192) (q' : Fin 2048)
    (hk : k'.val = 4096 * (t.val % 2) + k.val) (hq : q'.val = 1024 * (t.val / 2 % 2) + q.val) :
    iblk m c 1 t (ix2 k q) = inp m c (ix2 k' q') := by
  refine Eq.trans ?_ (host_inp m c (ix2 k' q'))
  show V m c main_v1 (((cfg0.win 1).blk t).view.emb (ix2 k q)) = _
  refine congrArg (V m c main_v1) (funext fun a => Fin.ext ?_)
  obtain ⟨e0, e1⟩ := index1 t
  match a with
  | ⟨0, _⟩ => show win0_1.index t (0 : Fin 2) * 4096 + 1 * k.val = k'.val; omega
  | ⟨1, _⟩ => show win0_1.index t (1 : Fin 2) * 1024 + 1 * q.val = q'.val; omega

/-- What the accumulator holds after a block's first point. -/
theorem first_at (s : Fin cfg0.N) (he : s.val % 2 = 0) (n : ℕ) (h : n < cfg0.N) (hn : n = s.val) :
    (outsAt0 m c n h).2 = k0_pay2 (iblk m c 0 s) (iblk m c 1 s) (k0_pay1 (F := Ideal)) := by
  subst hn
  have h1 : ¬s.val % 2 = 1 := by omega
  rw [outsAt0_A m c s he h1]
  dsimp only
  rw [acc_first]

/-- What a block's second point leaves for the output. -/
theorem last_at (t s : Fin cfg0.N) (hs : t.val = s.val + 1) (he : s.val % 2 = 0) :
    (outsAt0 m c t.val t.isLt).1
      = k0_pay3 (k0_pay2 (iblk m c 0 t) (iblk m c 1 t) (k0_pay2 (iblk m c 0 s) (iblk m c 1 s) (k0_pay1 (F := Ideal)))) := by
  have h0 : ¬t.val % 2 = 0 := by omega
  have h1 : t.val % 2 = 1 := by omega
  have hp : t.val - 1 = s.val := by omega
  rw [outsAt0_B m c t h0 h1]
  dsimp only
  rw [out_last, first_at m c s he (t.val - 1) _ hp]

/-- The array at an index is what the second point of the index's block leaves there. -/
theorem G_point (p : Fin 7296) (q : Fin 2048) (t : Fin cfg0.N) (ht : t.val = 2 * (2 * (p.val / 384) + q.val / 1024) + 1) :
    G2 m c (ix2 p q) = (outsAt0 m c t.val t.isLt).1
      (ix2 (⟨p.val % 384, Nat.mod_lt _ (by decide)⟩ : Fin 384) (⟨q.val % 1024, Nat.mod_lt _ (by decide)⟩ : Fin 1024)) := by
  have hr : pt2Of (ix2 p q) = t.val := by
    rw [ht]; show 2 * (2 * (p.val / 384 - 0) + 1 * (q.val / 1024 - 0)) + 1 = _
    rw [Nat.sub_zero, Nat.sub_zero, Nat.one_mul]
  have hl : loc2Of (ix2 p q)
      = ix2 (⟨p.val % 384, Nat.mod_lt _ (by decide)⟩ : Fin 384) (⟨q.val % 1024, Nat.mod_lt _ (by decide)⟩ : Fin 1024) := by
    funext a; match a with
    | ⟨0, _⟩ => rfl
    | ⟨1, _⟩ => rfl
  have hb : 0 + t.val < cfg0.N := by rw [Nat.zero_add]; exact t.isLt
  have hb' : pt2Of (ix2 p q) < cfg0.N := by rw [hr]; exact t.isLt
  unfold G2
  rw [dif_pos hb', hl, fold0_congr m c _ _ t.val hb hr, ← outsAt0_sweep m c t.val t.isLt]

/-- The points of an index's block. -/
theorem points (p : Fin 7296) (q : Fin 2048) : ∃ t s : Fin cfg0.N, t.val = 2 * (2 * (p.val / 384) + q.val / 1024) + 1
    ∧ t.val = s.val + 1 ∧ s.val % 2 = 0 ∧ t.val % 2 = 1 ∧ t.val / 4 = p.val / 384 ∧ s.val / 4 = p.val / 384
    ∧ t.val / 2 % 2 = q.val / 1024 ∧ s.val / 2 % 2 = q.val / 1024 := by
  have hN : cfg0.N = 76 := N_0
  have hp := p.isLt
  have hq := q.isLt
  refine ⟨⟨2 * (2 * (p.val / 384) + q.val / 1024) + 1, by rw [hN]; omega⟩, ⟨2 * (2 * (p.val / 384) + q.val / 1024), by rw [hN]; omega⟩, ?_⟩
  dsimp only
  omega

/-- The array the launch leaves: the product of the projection's gradient, transposed, and the input. -/
theorem G_at (p : Fin 7296) (q : Fin 2048) : G2 m c (ix2 p q) = ∑ k : Fin 8192, dproj m c (ix2 k p) * inp m c (ix2 k q) := by
  obtain ⟨t, s, ht, hs, h0, h1, a1, a0, b1, b0⟩ := points p q
  have hp : p.val = 384 * (p.val / 384) + p.val % 384 := (Nat.div_add_mod _ _).symm
  have hq : q.val = 1024 * (q.val / 1024) + q.val % 1024 := (Nat.div_add_mod _ _).symm
  rw [G_point m c p q t ht, last_at m c t s hs h0, store_at, step_at, step_at, zero_at, zero_add,
    Cert.Ffn.sum_split 4096 4096 rfl]
  refine congrArg₂ (· + ·) (Finset.sum_congr rfl fun k _ => ?_) (Finset.sum_congr rfl fun k _ => ?_)
  · refine congrArg₂ (· * ·) (block_dproj m c s k _ _ p ?_ ?_) (block_inp m c s k _ _ q ?_ ?_)
    · rw [h0, Nat.mul_zero, Nat.zero_add]
    · rw [a0]; exact hp
    · rw [h0, Nat.mul_zero, Nat.zero_add]
    · rw [b0]; exact hq
  · refine congrArg₂ (· * ·) (block_dproj m c t k _ _ p ?_ ?_) (block_inp m c t k _ _ q ?_ ?_)
    · rw [h1, Nat.mul_one]
    · rw [a1]; exact hp
    · rw [h1, Nat.mul_one]
    · rw [b1]; exact hq

end Cert.Kernel17Ideal.Proj

namespace Cert.Reference17Ideal.Proj

open Idealize.ShloMosaic Idealize.ShloMosaic.TcCoe Idealize.SL.Sem
open Cert.Reference17Ideal Cert.Reference17Ideal.Gen
open scoped BigOperators

/-- The reference's gradient of the projection's matrix, transposed. -/
def grad (dproj : FVec Ideal S8192x7296 .f32) (inp : FVec Ideal S8192x2048 .f32) : FVec Ideal S7296x2048 .bf16 :=
  truncf .bf16 (transpose S7296x2048 [1, 0] (transpose S2048x7296 [1, 0]
    (Host.dotGeneral dot_S8192x7296_S8192x2048_S7296x2048_0_0_1_1_n_n none dproj inp) transposes_S7296x2048_S2048x7296_1_0)
    transposes_S2048x7296_S7296x2048_1_0) bitsLt_bf16_f32

theorem grad_at (dproj : FVec Ideal S8192x7296 .f32) (inp : FVec Ideal S8192x2048 .f32) (p : Fin 7296) (q : Fin 2048) :
    grad dproj inp (ix2 p q) = ∑ k : Fin 8192, dproj (ix2 k p) * inp (ix2 k q) := by
  pointwise [grad]

/-- The reference has no semaphore. -/
theorem no_sem (s : SemLoc sig) : False := by
  rcases s with s | s
  · exact s.elim0
  · exact s.elim0

end Cert.Reference17Ideal.Proj

namespace Cert.Proj

open Idealize.ShloMosaic Idealize.ShloMosaic.TcCoe Idealize.SL.Sem

/-- The launch leaves the reference's gradient of the projection's matrix, transposed. -/
theorem input_matrix_same (m : (ℓ : Loc Cert.Kernel17Ideal.nD Cert.Kernel17Ideal.τ Cert.Kernel17Ideal.sig) → Buf (Elt Ideal) ℓ) (c : Dev Cert.Kernel17Ideal.nD) :
    Cert.Reference17Ideal.Proj.grad (Cert.Kernel17Ideal.Proj.dproj m c) (Cert.Kernel17Ideal.Proj.inp m c) = Cert.Kernel17Ideal.Value.G2 m c := by
  funext i
  obtain ⟨p, q, rfl⟩ : ∃ (p : Fin 7296) (q : Fin 2048), i = ix2 p q := ⟨i 0, i 1, eq_ix2 i⟩
  exact (Cert.Reference17Ideal.Proj.grad_at _ _ p q).trans (Cert.Kernel17Ideal.Proj.G_at m c p q).symm

theorem input_matrix : Cert.algebraic_Kernel17Ideal_Reference17Ideal (hKernel17Ideal := Cert.Kernel17Ideal.Gen.facts)
    (hReference17Ideal := Cert.Reference17Ideal.Gen.facts) := fun m g m' g' _ hA =>
  ⟨Cert.Kernel17Ideal.Value.G2 m, Cert.Kernel17Ideal.Value.run m g,
    (θ_run Cert.Reference17Ideal.defs _ _).mono
      (fun _ h c => ⟨(h c).1.trans ((congrArg₂ Cert.Reference17Ideal.Proj.grad (hA c).2.2 (hA c).1).trans (input_matrix_same m c)), (h c).2⟩)
      (Cert.Reference17Ideal.Value.run m' g')⟩

theorem input_matrix_reference : Cert.quiescent_Reference17Ideal (hReference17Ideal := Cert.Reference17Ideal.Gen.facts) := fun m g _ =>
  (θ_run Cert.Reference17Ideal.defs _ _).mono
    (fun _ h => ⟨fun c => (h c).2, funext fun s => (Cert.Reference17Ideal.Proj.no_sem s.2).elim⟩) (Cert.Reference17Ideal.Value.run m g)

theorem input_matrix_ideal : Cert.quiescent_Kernel17Ideal (hKernel17Ideal := Cert.Kernel17Ideal.Gen.facts) := fun m g _ =>
  Cert.Kernel17Ideal.Gen.frame m g

theorem input_matrix_words : Cert.quiescent_Kernel17 (hKernel17 := Cert.Kernel17.Gen.facts) := fun m g _ => Cert.Kernel17.Gen.frame m g

end Cert.Proj

end
-- ==== Proof.Proj.MixerInput.lean ====
/- The gradient of the mixer's input (`proj_dh`), without the exchange the launch can carry: the array the launch leaves is the
   product of the projection's gradient and the projection's matrix, transposed, the columns summed over added up in three parts. -/
module

public import proofs.«01_k».proof.Proof.Gen.Kernel18Ideal.Value
public import proofs.«01_k».proof.Proof.Gen.Reference18Ideal.Run
public import proofs.«01_k».proof.Defs
public import proofs.«01_k».proof.Proof.Gen.Kernel18.Frame
public import proofs.«01_k».proof.Proof.Ffn.Sums
public import Idealize.ShloMosaic.Lib.Pointwise
public import Idealize.ShloMosaic.Lib.Tactic

@[expose] public section

set_option maxRecDepth 16384

noncomputable section

namespace Cert.Kernel18Ideal.Proj

open Idealize.ShloMosaic Idealize.ShloMosaic.TcCoe Idealize.SL.Sem
open Cert.Kernel18Ideal Cert.Kernel18Ideal.Gen Cert.Kernel18Ideal.Value
open scoped BigOperators

section Body

variable {F : FTy → Type} [FloatOps F]

theorem zeros : (![0, 0] : Fin 2 → ℕ) = fun _ => 0 := funext fun a => by fin_cases a <;> rfl

/-- At a block's last point the body stores what the accumulator then holds. -/
theorem out_last (c : Dev nD) (i : grid0.Coords) (a3 : Memref sig .tc .vmem S1024x2432 .bf16) (h3 : a3.IsWhole)
    (a4 : Memref sig .tc .vmem S2432x512 .bf16) (h4 : a4.IsWhole) (a5 : Memref sig .tc .vmem S1024x512 .bf16) (h5 : a5.IsWhole)
    (a6 : Memref sig .tc .vmem S1024x512 .f32) (h6 : a6.IsWhole) (hc0 : ¬cond0_0 i) (hc1 : cond0_1 i)
    (x : Vec F S1024x2432 .bf16) (y : Vec F S2432x512 .bf16) (acc : Vec F S1024x512 .f32) :
    out0_C_2 c i a3 h3 a4 h4 a5 h5 a6 h6 hc0 hc1 x y acc = k0_pay3 (k0_pay2 x y acc) := by
  unfold out0_C_2
  rw [View.read_writes_eq_canon _ _ _ (cover0_C_2 c i a3 h3 a4 h4 a5 h5 a6 h6 hc0 hc1 x y acc)]
  unfold kernelRun0_C
  dsimp only
  sl_unfold_words
  rw [View.canon_unit_zero zeros]
  simp only [View.readCov_unit_zero (S := S1024x512) _ zeros, View.readAt_eq_ld, h3.read_unread, h4.read_unread, h6.read_unread,
    View.ld_unit_zero (S := S1024x2432) zeros, View.ld_unit_zero (S := S2432x512) zeros, View.ld_unit_zero (S := S1024x512) zeros]

/-- At a block's first point the body leaves one step over zeros in the accumulator. -/
theorem acc_first (c : Dev nD) (i : grid0.Coords) (a3 : Memref sig .tc .vmem S1024x2432 .bf16) (h3 : a3.IsWhole)
    (a4 : Memref sig .tc .vmem S2432x512 .bf16) (h4 : a4.IsWhole) (a5 : Memref sig .tc .vmem S1024x512 .bf16) (h5 : a5.IsWhole)
    (a6 : Memref sig .tc .vmem S1024x512 .f32) (h6 : a6.IsWhole) (hc0 : cond0_0 i) (hc1 : ¬cond0_1 i)
    (x : Vec F S1024x2432 .bf16) (y : Vec F S2432x512 .bf16) :
    sout0_A_0 c i a3 h3 a4 h4 a5 h5 a6 h6 hc0 hc1 x y = k0_pay2 x y k0_pay1 := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x512) zeros]
  simp only [View.readCov_unit_zero (S := S1024x512) _ zeros, View.readAt_eq_ld, h3.read_unread, h4.read_unread, h6.read_unread,
    View.ld_unit_zero (S := S1024x2432) zeros, View.ld_unit_zero (S := S2432x512) zeros, View.ld_unit_zero (S := S1024x512) zeros]

/-- At a block's middle point the body leaves one step more in the accumulator. -/
theorem acc_middle (c : Dev nD) (i : grid0.Coords) (a3 : Memref sig .tc .vmem S1024x2432 .bf16) (h3 : a3.IsWhole)
    (a4 : Memref sig .tc .vmem S2432x512 .bf16) (h4 : a4.IsWhole) (a5 : Memref sig .tc .vmem S1024x512 .bf16) (h5 : a5.IsWhole)
    (a6 : Memref sig .tc .vmem S1024x512 .f32) (h6 : a6.IsWhole) (hc0 : ¬cond0_0 i) (hc1 : ¬cond0_1 i)
    (x : Vec F S1024x2432 .bf16) (y : Vec F S2432x512 .bf16) (acc : Vec F S1024x512 .f32) :
    sout0_B_0 c i a3 h3 a4 h4 a5 h5 a6 h6 hc0 hc1 x y acc = k0_pay2 x y acc := by
  unfold sout0_B_0
  rw [View.read_writes_eq_canon _ _ _ (scover0_B_0 c i a3 h3 a4 h4 a5 h5 a6 h6 hc0 hc1 x y acc)]
  unfold kernelRun0_B
  dsimp only
  sl_unfold_words
  rw [View.canon_unit_zero zeros]
  simp only [View.readCov_unit_zero (S := S1024x512) _ zeros, View.readAt_eq_ld, h3.read_unread, h4.read_unread, h6.read_unread,
    View.ld_unit_zero (S := S1024x2432) zeros, View.ld_unit_zero (S := S2432x512) zeros, View.ld_unit_zero (S := S1024x512) zeros]

end Body

/-- One step adds the block's product to the accumulator. -/
theorem step_at (x : Vec Ideal S1024x2432 .bf16) (y : Vec Ideal S2432x512 .bf16) (acc : Vec Ideal S1024x512 .f32) (p : Fin 1024) (q : Fin 512) :
    k0_pay2 x y acc (ix2 p q) = acc (ix2 p q) + ∑ k : Fin 2432, x (ix2 p k) * y (ix2 k q) := by
  pointwise [k0_pay2]

theorem zero_at (p : Fin 1024) (q : Fin 512) : k0_pay1 (F := Ideal) (ix2 p q) = 0 := by
  pointwise [k0_pay1]

theorem store_at (x : Vec Ideal S1024x512 .f32) (p : Fin 1024) (q : Fin 512) : k0_pay3 x (ix2 p q) = x (ix2 p q) := by
  pointwise [k0_pay3]

variable (m : (ℓ : Loc nD τ sig) → Buf (Elt Ideal) ℓ) (c : Dev nD)

/-- The projection's gradient, and the projection's matrix, as the launch is given them. -/
abbrev dproj : Vec Ideal S8192x7296 .f32 := m ((c : Thread nD τ).loc main_arg2)
abbrev weight : Vec Ideal S2048x7296 .f32 := m ((c : Thread nD τ).loc main_arg1)

theorem index0 : ∀ t : Fin cfg0.N, win0_0.index t (0 : Fin 2) = t.val / 12 ∧ win0_0.index t (1 : Fin 2) = t.val % 3 :=
  (by decide +kernel : ∀ t : Fin grid0.N, _)

theorem index1 : ∀ t : Fin cfg0.N, win0_1.index t (0 : Fin 2) = t.val % 3 ∧ win0_1.index t (1 : Fin 2) = t.val / 3 % 4 :=
  (by decide +kernel : ∀ t : Fin grid0.N, _)

theorem host_dproj (i : S8192x7296.Idx) : V m c main_v0 i = dproj m c i := by
  have e : V m c main_v0 = truncf (F := Ideal) (φ := .f32) .bf16 (dproj m c) bitsLt_bf16_f32 := by
    dsimp only [V]; after_results
  rw [e]; rfl

/-- The launch is given the matrix transposed. -/
theorem host_weight (k : Fin 7296) (q : Fin 2048) : V m c main_v2 (ix2 k q) = weight m c (ix2 q k) := by
  have e : V m c main_v2 = truncf (F := Ideal) (φ := .f32) .bf16
      (transpose S7296x2048 [1, 0] (weight m c) transposes_S2048x7296_S7296x2048_1_0) bitsLt_bf16_f32 := by
    dsimp only [V]; after_results
  rw [e]; pointwise

/-- The block of the projection's gradient at a point. -/
theorem block_dproj (t : Fin cfg0.N) (p : Fin 1024) (k : Fin 2432) (p' : Fin 8192) (k' : Fin 7296)
    (hp : p'.val = 1024 * (t.val / 12) + p.val) (hk : k'.val = 2432 * (t.val % 3) + k.val) :
    iblk m c 0 t (ix2 p k) = dproj m c (ix2 p' k') := by
  refine Eq.trans ?_ (host_dproj m c (ix2 p' k'))
  show V m c main_v0 (((cfg0.win 0).blk t).view.emb (ix2 p k)) = _
  refine congrArg (V m c main_v0) (funext fun a => Fin.ext ?_)
  obtain ⟨e0, e1⟩ := index0 t
  match a with
  | ⟨0, _⟩ => show win0_0.index t (0 : Fin 2) * 1024 + 1 * p.val = p'.val; omega
  | ⟨1, _⟩ => show win0_0.index t (1 : Fin 2) * 2432 + 1 * k.val = k'.val; omega

/-- The block of the transposed matrix at a point. -/
theorem block_weight (t : Fin cfg0.N) (k : Fin 2432) (q : Fin 512) (k' : Fin 7296) (q' : Fin 2048)
    (hk : k'.val = 2432 * (t.val % 3) + k.val) (hq : q'.val = 512 * (t.val / 3 % 4) + q.val) :
    iblk m c 1 t (ix2 k q) = weight m c (ix2 q' k') := by
  refine Eq.trans ?_ (host_weight m c k' q')
  show V m c main_v2 (((cfg0.win 1).blk t).view.emb (ix2 k q)) = _
  refine congrArg (V m c main_v2) (funext fun a => Fin.ext ?_)
  obtain ⟨e0, e1⟩ := index1 t
  match a with
  | ⟨0, _⟩ => show win0_1.index t (0 : Fin 2) * 2432 + 1 * k.val = k'.val; omega
  | ⟨1, _⟩ => show win0_1.index t (1 : Fin 2) * 512 + 1 * q.val = q'.val; omega

/-- What the accumulator holds after a block's first point, and after its second. -/
theorem first_at (r : Fin cfg0.N) (he : r.val % 3 = 0) (n : ℕ) (h : n < cfg0.N) (hn : n = r.val) :
    (outsAt0 m c n h).2 = k0_pay2 (iblk m c 0 r) (iblk m c 1 r) (k0_pay1 (F := Ideal)) := by
  subst hn
  have h1 : ¬r.val % 3 = 2 := by omega
  rw [outsAt0_A m c r he h1]
  dsimp only
  rw [acc_first]

theorem second_at (s r : Fin cfg0.N) (hs : s.val = r.val + 1) (he : r.val % 3 = 0) (n : ℕ) (h : n < cfg0.N) (hn : n = s.val) :
    (outsAt0 m c n h).2
      = k0_pay2 (iblk m c 0 s) (iblk m c 1 s) (k0_pay2 (iblk m c 0 r) (iblk m c 1 r) (k0_pay1 (F := Ideal))) := by
  subst hn
  have h0 : ¬s.val % 3 = 0 := by omega
  have h1 : ¬s.val % 3 = 2 := by omega
  have hp : s.val - 1 = r.val := by omega
  rw [outsAt0_B m c s h0 h1]
  dsimp only
  rw [acc_middle, first_at m c r he (s.val - 1) _ hp]

/-- What a block's third point leaves for the output. -/
theorem last_at (t s r : Fin cfg0.N) (ht : t.val = s.val + 1) (hs : s.val = r.val + 1) (he : r.val % 3 = 0) :
    (outsAt0 m c t.val t.isLt).1 = k0_pay3 (k0_pay2 (iblk m c 0 t) (iblk m c 1 t)
      (k0_pay2 (iblk m c 0 s) (iblk m c 1 s) (k0_pay2 (iblk m c 0 r) (iblk m c 1 r) (k0_pay1 (F := Ideal))))) := by
  have h0 : ¬t.val % 3 = 0 := by omega
  have h1 : t.val % 3 = 2 := by omega
  have hp : t.val - 1 = s.val := by omega
  rw [outsAt0_C m c t h0 h1]
  dsimp only
  rw [out_last, second_at m c s r hs he (t.val - 1) _ hp]

/-- The array at an index is what the third point of the index's block leaves there. -/
theorem G_point (p : Fin 8192) (q : Fin 2048) (t : Fin cfg0.N) (ht : t.val = 3 * (4 * (p.val / 1024) + q.val / 512) + 2) :
    G2 m c (ix2 p q) = (outsAt0 m c t.val t.isLt).1
      (ix2 (⟨p.val % 1024, Nat.mod_lt _ (by decide)⟩ : Fin 1024) (⟨q.val % 512, Nat.mod_lt _ (by decide)⟩ : Fin 512)) := by
  have hr : pt2Of (ix2 p q) = t.val := by
    rw [ht]; show 3 * (4 * (p.val / 1024 - 0) + 1 * (q.val / 512 - 0)) + 2 = _
    rw [Nat.sub_zero, Nat.sub_zero, Nat.one_mul]
  have hl : loc2Of (ix2 p q)
      = ix2 (⟨p.val % 1024, Nat.mod_lt _ (by decide)⟩ : Fin 1024) (⟨q.val % 512, Nat.mod_lt _ (by decide)⟩ : Fin 512) := by
    funext a; match a with
    | ⟨0, _⟩ => rfl
    | ⟨1, _⟩ => rfl
  have hb : 0 + t.val < cfg0.N := by rw [Nat.zero_add]; exact t.isLt
  have hb' : pt2Of (ix2 p q) < cfg0.N := by rw [hr]; exact t.isLt
  unfold G2
  rw [dif_pos hb', hl, fold0_congr m c _ _ t.val hb hr, ← outsAt0_sweep m c t.val t.isLt]

/-- The points of an index's block. -/
theorem points (p : Fin 8192) (q : Fin 2048) : ∃ t s r : Fin cfg0.N, t.val = 3 * (4 * (p.val / 1024) + q.val / 512) + 2
    ∧ t.val = s.val + 1 ∧ s.val = r.val + 1 ∧ r.val % 3 = 0 ∧ s.val % 3 = 1 ∧ t.val % 3 = 2
    ∧ r.val / 12 = p.val / 1024 ∧ s.val / 12 = p.val / 1024 ∧ t.val / 12 = p.val / 1024
    ∧ r.val / 3 % 4 = q.val / 512 ∧ s.val / 3 % 4 = q.val / 512 ∧ t.val / 3 % 4 = q.val / 512 := by
  have hN : cfg0.N = 96 := N_0
  have hp := p.isLt
  have hq := q.isLt
  refine ⟨⟨3 * (4 * (p.val / 1024) + q.val / 512) + 2, by rw [hN]; omega⟩, ⟨3 * (4 * (p.val / 1024) + q.val / 512) + 1, by rw [hN]; omega⟩,
    ⟨3 * (4 * (p.val / 1024) + q.val / 512), by rw [hN]; omega⟩, ?_⟩
  dsimp only
  omega

/-- The array the launch leaves: the product of the projection's gradient and the matrix, transposed. -/
theorem G_at (p : Fin 8192) (q : Fin 2048) : G2 m c (ix2 p q) = ∑ k : Fin 7296, dproj m c (ix2 p k) * weight m c (ix2 q k) := by
  obtain ⟨t, s, r, ht, hts, hsr, k0, k1, k2, a0, a1, a2, b0, b1, b2⟩ := points p q
  have hp : p.val = 1024 * (p.val / 1024) + p.val % 1024 := (Nat.div_add_mod _ _).symm
  have hq : q.val = 512 * (q.val / 512) + q.val % 512 := (Nat.div_add_mod _ _).symm
  rw [G_point m c p q t ht, last_at m c t s r hts hsr k0, store_at, step_at, step_at, step_at, zero_at, zero_add,
    Cert.Ffn.sum_split 4864 2432 rfl, Cert.Ffn.sum_split 2432 2432 rfl]
  refine congrArg₂ (· + ·) (congrArg₂ (· + ·) (Finset.sum_congr rfl fun k _ => ?_) (Finset.sum_congr rfl fun k _ => ?_))
    (Finset.sum_congr rfl fun k _ => ?_)
  · refine congrArg₂ (· * ·) (block_dproj m c r _ k p _ ?_ ?_) (block_weight m c r k _ _ q ?_ ?_)
    · rw [a0]; exact hp
    · rw [k0, Nat.mul_zero, Nat.zero_add]
    · rw [k0, Nat.mul_zero, Nat.zero_add]
    · rw [b0]; exact hq
  · refine congrArg₂ (· * ·) (block_dproj m c s _ k p _ ?_ ?_) (block_weight m c s k _ _ q ?_ ?_)
    · rw [a1]; exact hp
    · rw [k1, Nat.mul_one]
    · rw [k1, Nat.mul_one]
    · rw [b1]; exact hq
  · refine congrArg₂ (· * ·) (block_dproj m c t _ k p _ ?_ ?_) (block_weight m c t k _ _ q ?_ ?_)
    · rw [a2]; exact hp
    · rw [k2]
    · rw [k2]
    · rw [b2]; exact hq

end Cert.Kernel18Ideal.Proj

namespace Cert.Reference18Ideal.Proj

open Idealize.ShloMosaic Idealize.ShloMosaic.TcCoe Idealize.SL.Sem
open Cert.Reference18Ideal Cert.Reference18Ideal.Gen
open scoped BigOperators

/-- The reference's gradient of the mixer's input. -/
def grad (dproj : FVec Ideal S8192x7296 .f32) (weight : FVec Ideal S2048x7296 .f32) : FVec Ideal S8192x2048 .bf16 :=
  truncf .bf16 (Host.dotGeneral dot_S8192x7296_S2048x7296_S8192x2048_1_1_0_0_n_n none dproj weight) bitsLt_bf16_f32

theorem grad_at (dproj : FVec Ideal S8192x7296 .f32) (weight : FVec Ideal S2048x7296 .f32) (p : Fin 8192) (q : Fin 2048) :
    grad dproj weight (ix2 p q) = ∑ k : Fin 7296, dproj (ix2 p k) * weight (ix2 q k) := by
  pointwise [grad]

/-- The reference has no semaphore. -/
theorem no_sem (s : SemLoc sig) : False := by
  rcases s with s | s
  · exact s.elim0
  · exact s.elim0

end Cert.Reference18Ideal.Proj

namespace Cert.Proj

open Idealize.ShloMosaic Idealize.ShloMosaic.TcCoe Idealize.SL.Sem

/-- The launch leaves the reference's gradient of the mixer's input. -/
theorem mixer_input_same (m : (ℓ : Loc Cert.Kernel18Ideal.nD Cert.Kernel18Ideal.τ Cert.Kernel18Ideal.sig) → Buf (Elt Ideal) ℓ) (c : Dev Cert.Kernel18Ideal.nD) :
    Cert.Reference18Ideal.Proj.grad (Cert.Kernel18Ideal.Proj.dproj m c) (Cert.Kernel18Ideal.Proj.weight m c) = Cert.Kernel18Ideal.Value.G2 m c := by
  funext i
  obtain ⟨p, q, rfl⟩ : ∃ (p : Fin 8192) (q : Fin 2048), i = ix2 p q := ⟨i 0, i 1, eq_ix2 i⟩
  exact (Cert.Reference18Ideal.Proj.grad_at _ _ p q).trans (Cert.Kernel18Ideal.Proj.G_at m c p q).symm

theorem mixer_input : Cert.algebraic_Kernel18Ideal_Reference18Ideal (hKernel18Ideal := Cert.Kernel18Ideal.Gen.facts)
    (hReference18Ideal := Cert.Reference18Ideal.Gen.facts) := fun m g m' g' _ hA =>
  ⟨Cert.Kernel18Ideal.Value.G2 m, Cert.Kernel18Ideal.Value.run m g,
    (θ_run Cert.Reference18Ideal.defs _ _).mono
      (fun _ h c => ⟨(h c).1.trans ((congrArg₂ Cert.Reference18Ideal.Proj.grad (hA c).2.2 (hA c).2.1).trans (mixer_input_same m c)), (h c).2⟩)
      (Cert.Reference18Ideal.Value.run m' g')⟩

theorem mixer_input_reference : Cert.quiescent_Reference18Ideal (hReference18Ideal := Cert.Reference18Ideal.Gen.facts) := fun m g _ =>
  (θ_run Cert.Reference18Ideal.defs _ _).mono
    (fun _ h => ⟨fun c => (h c).2, funext fun s => (Cert.Reference18Ideal.Proj.no_sem s.2).elim⟩) (Cert.Reference18Ideal.Value.run m g)

theorem mixer_input_ideal : Cert.quiescent_Kernel18Ideal (hKernel18Ideal := Cert.Kernel18Ideal.Gen.facts) := fun m g _ =>
  Cert.Kernel18Ideal.Gen.frame m g

theorem mixer_input_words : Cert.quiescent_Kernel18 (hKernel18 := Cert.Kernel18.Gen.facts) := fun m g _ => Cert.Kernel18.Gen.frame m g

end Cert.Proj

end
-- ==== Proof.Proj.SmallGates.lean ====
/- The projection that gives the mixer's gates (`proj_s`): the array the launch leaves is the product of the mixer's input and the
   projection's columns. -/
module

public import proofs.«01_k».proof.Proof.Gen.Kernel19Ideal.Value
public import proofs.«01_k».proof.Proof.Gen.Reference19Ideal.Run
public import proofs.«01_k».proof.Defs
public import proofs.«01_k».proof.Proof.Gen.Kernel19.Frame
public import Idealize.ShloMosaic.Lib.Pointwise
public import Idealize.ShloMosaic.Lib.Tactic
public import Idealize.ShloMosaic.Lib.Pipeline.ValueKit

@[expose] public section

set_option maxRecDepth 16384

noncomputable section

namespace Cert.Kernel19Ideal.Proj

open Idealize.ShloMosaic Idealize.ShloMosaic.TcCoe Idealize.SL.Sem
open Cert.Kernel19Ideal Cert.Kernel19Ideal.Gen Cert.Kernel19Ideal.Value
open scoped BigOperators

/-- The body's product. -/
theorem first_dot (w : Vec Ideal S128x2048 .bf16) (d : Vec Ideal S1024x2048 .bf16) (p : Fin 1024) (q : Fin 128) :
    k0_pay1 w d (ix2 p q) = ∑ k : Fin 2048, d (ix2 p k) * w (ix2 q k) := by
  pointwise [k0_pay1]

theorem zeros : (![0, 0] : Fin 2 → ℕ) = fun _ => 0 := funext fun a => by fin_cases a <;> rfl

/-- The block the body leaves, from its two blocks. -/
theorem out_block (c : Dev nD) (i : grid0.Coords) (a3 : Memref sig .tc .vmem S1024x2048 .bf16) (h3 : a3.IsWhole)
    (a4 : Memref sig .tc .vmem S128x2048 .bf16) (h4 : a4.IsWhole) (a5 : Memref sig .tc .vmem S1024x128 .f32) (h5 : a5.IsWhole)
    (a6 : Memref sig .tc .vmem S1024x128 .f32) (h6 : a6.IsWhole)
    (d : Vec Ideal S1024x2048 .bf16) (w : Vec Ideal S128x2048 .bf16) (p : Fin 1024) (q : Fin 128) :
    out0_A_2 c i a3 h3 a4 h4 a5 h5 a6 h6 d w (ix2 p q) = ∑ k : Fin 2048, d (ix2 p k) * w (ix2 q k) := by
  refine Eq.trans (congrFun ?_ (ix2 p q)) (first_dot w d p q)
  unfold out0_A_2
  rw [View.read_writes_eq_canon _ _ _ (cover0_A_2 c i a3 h3 a4 h4 a5 h5 a6 h6 d w)]
  unfold kernelRun0_A
  dsimp only
  sl_unfold_words
  rw [View.canon_unit_zero zeros]
  simp only [View.readAt_eq_ld, h3.read_unread, h4.read_unread, View.ld_unit_zero (S := S128x2048) zeros,
    View.ld_unit_zero (S := S1024x2048) zeros]

variable (m : (ℓ : Loc nD τ sig) → Buf (Elt Ideal) ℓ) (c : Dev nD)

/-- The mixer's input and the projection's columns, as the launch is given them. -/
abbrev inp : Vec Ideal S8192x2048 .f32 := m ((c : Thread nD τ).loc main_arg0)
abbrev weight : Vec Ideal S2048x128 .f32 := m ((c : Thread nD τ).loc main_arg1)

/-- The second array of the product, by its row and the summed index. -/
abbrev second (q : Fin 128) (k : Fin 2048) : EReal := weight m c (ix2 k q)

theorem host_inp (i : S8192x2048.Idx) : V m c main_v0 i = inp m c i := by
  have e : V m c main_v0 = truncf (F := Ideal) (φ := .f32) .bf16 (inp m c) bitsLt_bf16_f32 := by
    dsimp only [V]; after_results
  rw [e]; rfl

/-- The launch is given the weight matrix transposed. -/
theorem host_weight (q : Fin 128) (k : Fin 2048) : V m c main_v2 (ix2 q k) = second m c q k := by
  have e : V m c main_v2 = truncf (F := Ideal) (φ := .f32) .bf16
      (transpose S128x2048 [1, 0] (weight m c) transposes_S2048x128_S128x2048_1_0) bitsLt_bf16_f32 := by
    dsimp only [V]; after_results
  rw [e]; pointwise

theorem index0 : ∀ t : Fin cfg0.N, win0_0.index t (0 : Fin 2) = t.val ∧ win0_0.index t (1 : Fin 2) = 0 :=
  (by decide +kernel : ∀ t : Fin grid0.N, _)

theorem index1 : ∀ t : Fin cfg0.N, win0_1.index t (0 : Fin 2) = 0 ∧ win0_1.index t (1 : Fin 2) = 0 :=
  (by decide +kernel : ∀ t : Fin grid0.N, _)

theorem index2 : ∀ t : Fin cfg0.N, win0_2.index t (0 : Fin 2) = t.val ∧ win0_2.index t (1 : Fin 2) = 0 :=
  (by decide +kernel : ∀ t : Fin grid0.N, _)

/-- The array's row of a block's row at a point. -/
def row (t : Fin cfg0.N) (p : Fin 1024) : Fin 8192 := ⟨1024 * t.val + p.val, by
  have ht := lt_of_lt_of_eq t.isLt (show cfg0.N = 8 from N_0)
  omega⟩

theorem block_inp (t : Fin cfg0.N) (p : Fin 1024) (q : Fin 2048) :
    iblk m c 0 t (ix2 p q) = inp m c (ix2 (row t p) q) := by
  refine Eq.trans ?_ (host_inp m c (ix2 (row t p) q))
  show V m c main_v0 (((cfg0.win 0).blk t).view.emb (ix2 p q)) = _
  refine congrArg (V m c main_v0) (funext fun a => Fin.ext ?_)
  obtain ⟨e0, e1⟩ := index0 t
  match a with
  | ⟨0, _⟩ => show win0_0.index t (0 : Fin 2) * 1024 + 1 * p.val = 1024 * t.val + p.val; omega
  | ⟨1, _⟩ => show win0_0.index t (1 : Fin 2) * 2048 + 1 * q.val = q.val; omega

theorem block_weight (t : Fin cfg0.N) (p : Fin 128) (q : Fin 2048) :
    iblk m c 1 t (ix2 p q) = second m c p q := by
  refine Eq.trans ?_ (host_weight m c p q)
  show V m c main_v2 (((cfg0.win 1).blk t).view.emb (ix2 p q)) = _
  refine congrArg (V m c main_v2) (funext fun a => Fin.ext ?_)
  obtain ⟨e0, e1⟩ := index1 t
  match a with
  | ⟨0, _⟩ => show win0_1.index t (0 : Fin 2) * 128 + 1 * p.val = p.val; omega
  | ⟨1, _⟩ => show win0_1.index t (1 : Fin 2) * 2048 + 1 * q.val = q.val; omega

theorem emb2 (t : Fin cfg0.N) (p : Fin 1024) (q : Fin 128) : (win0_2.blk t).view.emb (ix2 p q) = ix2 (row t p) q := by
  refine funext fun a => Fin.ext ?_
  obtain ⟨e0, e1⟩ := index2 t
  match a with
  | ⟨0, _⟩ => show win0_2.index t (0 : Fin 2) * 1024 + 1 * p.val = 1024 * t.val + p.val; omega
  | ⟨1, _⟩ => show win0_2.index t (1 : Fin 2) * 128 + 1 * q.val = q.val; omega

/-- The product, element by element and as the array the launch leaves. -/
def product (p : Fin 8192) (q : Fin 128) : EReal := ∑ k : Fin 2048, inp m c (ix2 p k) * second m c q k
def productArr : S8192x128.Idx → EReal := fun i => product m c (i 0) (i 1)

theorem arr_product : (dats m 0 c).arrAt 2 cfg0.N = productArr m c := by
  refine (dats m 0 c).arrAt_eq_of_covers 2 _ (by decide +kernel) fun t hf y => ?_
  blk_simp
  obtain ⟨p, q, rfl⟩ : ∃ (p : Fin 1024) (q : Fin 128), y = ix2 p q := ⟨y 0, y 1, eq_ix2 y⟩
  rw [after0_2, emb2]
  dsimp only [outsAt0]
  rw [out_block]
  exact Finset.sum_congr rfl fun k _ => congrArg₂ (fun a b : EReal => a * b) (block_inp m c t p k) (block_weight m c t q k)

end Cert.Kernel19Ideal.Proj

namespace Cert.Reference19Ideal.Proj

open Idealize.ShloMosaic Idealize.ShloMosaic.TcCoe Idealize.SL.Sem
open Cert.Reference19Ideal Cert.Reference19Ideal.Gen
open scoped BigOperators

/-- The reference's product. -/
def values (inp : FVec Ideal S8192x2048 .f32) (weight : FVec Ideal S2048x128 .f32) : FVec Ideal S8192x128 .f32 :=
  Host.dotGeneral dot_S8192x2048_S2048x128_S8192x128_1_0_0_1_n_n none inp weight

theorem values_at (inp : FVec Ideal S8192x2048 .f32) (weight : FVec Ideal S2048x128 .f32) (p : Fin 8192) (q : Fin 128) :
    values inp weight (ix2 p q) = ∑ k : Fin 2048, inp (ix2 p k) * weight (ix2 k q) := by
  pointwise [values]

/-- The reference has no semaphore. -/
theorem no_sem (s : SemLoc sig) : False := by
  rcases s with s | s
  · exact s.elim0
  · exact s.elim0

end Cert.Reference19Ideal.Proj

namespace Cert.Proj

open Idealize.ShloMosaic Idealize.ShloMosaic.TcCoe Idealize.SL.Sem

/-- The launch leaves the reference's array. -/
theorem small_gates_same (m : (ℓ : Loc Cert.Kernel19Ideal.nD Cert.Kernel19Ideal.τ Cert.Kernel19Ideal.sig) → Buf (Elt Ideal) ℓ) (c : Dev Cert.Kernel19Ideal.nD) :
    Cert.Reference19Ideal.Proj.values (Cert.Kernel19Ideal.Proj.inp m c) (Cert.Kernel19Ideal.Proj.weight m c) = (Cert.Kernel19Ideal.Gen.dats m 0 c).arrAt 2 Cert.Kernel19Ideal.cfg0.N := by
  rw [Cert.Kernel19Ideal.Proj.arr_product]
  funext i
  obtain ⟨p, q, rfl⟩ : ∃ (p : Fin 8192) (q : Fin 128), i = ix2 p q := ⟨i 0, i 1, eq_ix2 i⟩
  exact Cert.Reference19Ideal.Proj.values_at _ _ p q

theorem small_gates : Cert.algebraic_Kernel19Ideal_Reference19Ideal (hKernel19Ideal := Cert.Kernel19Ideal.Gen.facts)
    (hReference19Ideal := Cert.Reference19Ideal.Gen.facts) := fun m g m' g' _ hA =>
  ⟨_, Cert.Kernel19Ideal.Value.run_blocks m g,
    (θ_run Cert.Reference19Ideal.defs _ _).mono
      (fun _ h c => ⟨(h c).1.trans ((congrArg₂ Cert.Reference19Ideal.Proj.values (hA c).1 (hA c).2).trans (small_gates_same m c)), (h c).2⟩)
      (Cert.Reference19Ideal.Value.run m' g')⟩

theorem small_gates_reference : Cert.quiescent_Reference19Ideal (hReference19Ideal := Cert.Reference19Ideal.Gen.facts) := fun m g _ =>
  (θ_run Cert.Reference19Ideal.defs _ _).mono
    (fun _ h => ⟨fun c => (h c).2, funext fun s => (Cert.Reference19Ideal.Proj.no_sem s.2).elim⟩) (Cert.Reference19Ideal.Value.run m g)

theorem small_gates_ideal : Cert.quiescent_Kernel19Ideal (hKernel19Ideal := Cert.Kernel19Ideal.Gen.facts) := fun m g _ =>
  Cert.Kernel19Ideal.Gen.frame m g

theorem small_gates_words : Cert.quiescent_Kernel19 (hKernel19 := Cert.Kernel19.Gen.facts) := fun m g _ => Cert.Kernel19.Gen.frame m g

end Cert.Proj

end
-- ==== Proof.lean ====
/- The proof of the claim: the frames of the kernels, of their idealizations and of the references, and that the arrays the
   kernels leave are the references': the gradients of the forgetting attention, of the feed-forward network and through the
   mixer's output matrix, and the outputs of the feed-forward network, of the mixer and of its projections. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Kernel2
public import proofs.«01_k».proof.Proof.Gen.Kernel2.Frame
public import proofs.«01_k».proof.Proof.Gen.Reference2Ideal
public import proofs.«01_k».proof.Proof.Gen.Reference2Ideal.Run
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Kernel3
public import proofs.«01_k».proof.Proof.Gen.Kernel3.Frame
public import proofs.«01_k».proof.Proof.Gen.Reference3Ideal
public import proofs.«01_k».proof.Proof.Gen.Reference3Ideal.Run
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Kernel4
public import proofs.«01_k».proof.Proof.Gen.Kernel4.Frame
public import proofs.«01_k».proof.Proof.Gen.Reference4Ideal
public import proofs.«01_k».proof.Proof.Gen.Reference4Ideal.Run
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Kernel5
public import proofs.«01_k».proof.Proof.Gen.Kernel5.Frame
public import proofs.«01_k».proof.Proof.Gen.Reference5Ideal
public import proofs.«01_k».proof.Proof.Gen.Reference5Ideal.Run
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Kernel6
public import proofs.«01_k».proof.Proof.Gen.Kernel6.Frame
public import proofs.«01_k».proof.Proof.Gen.Reference6Ideal
public import proofs.«01_k».proof.Proof.Gen.Reference6Ideal.Run
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Kernel7
public import proofs.«01_k».proof.Proof.Gen.Kernel7.Frame
public import proofs.«01_k».proof.Proof.Gen.Reference7Ideal
public import proofs.«01_k».proof.Proof.Gen.Reference7Ideal.Run
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Kernel8
public import proofs.«01_k».proof.Proof.Gen.Kernel8.Frame
public import proofs.«01_k».proof.Proof.Gen.Reference8Ideal
public import proofs.«01_k».proof.Proof.Gen.Reference8Ideal.Run
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Kernel9
public import proofs.«01_k».proof.Proof.Gen.Kernel9.Frame
public import proofs.«01_k».proof.Proof.Gen.Reference9Ideal
public import proofs.«01_k».proof.Proof.Gen.Reference9Ideal.Run
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Kernel10
public import proofs.«01_k».proof.Proof.Gen.Kernel10.Frame
public import proofs.«01_k».proof.Proof.Gen.Reference10Ideal
public import proofs.«01_k».proof.Proof.Gen.Reference10Ideal.Run
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Kernel11
public import proofs.«01_k».proof.Proof.Gen.Kernel11.Frame
public import proofs.«01_k».proof.Proof.Gen.Reference11Ideal
public import proofs.«01_k».proof.Proof.Gen.Reference11Ideal.Run
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Kernel12
public import proofs.«01_k».proof.Proof.Gen.Kernel12.Frame
public import proofs.«01_k».proof.Proof.Gen.Reference12Ideal
public import proofs.«01_k».proof.Proof.Gen.Reference12Ideal.Run
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Kernel13
public import proofs.«01_k».proof.Proof.Gen.Kernel13.Frame
public import proofs.«01_k».proof.Proof.Gen.Reference13Ideal
public import proofs.«01_k».proof.Proof.Gen.Reference13Ideal.Run
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Kernel14
public import proofs.«01_k».proof.Proof.Gen.Kernel14.Frame
public import proofs.«01_k».proof.Proof.Gen.Reference14Ideal
public import proofs.«01_k».proof.Proof.Gen.Reference14Ideal.Run
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Kernel15
public import proofs.«01_k».proof.Proof.Gen.Kernel15.Frame
public import proofs.«01_k».proof.Proof.Gen.Reference15Ideal
public import proofs.«01_k».proof.Proof.Gen.Reference15Ideal.Run
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Kernel16
public import proofs.«01_k».proof.Proof.Gen.Kernel16.Frame
public import proofs.«01_k».proof.Proof.Gen.Reference16Ideal
public import proofs.«01_k».proof.Proof.Gen.Reference16Ideal.Run
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Kernel17
public import proofs.«01_k».proof.Proof.Gen.Kernel17.Frame
public import proofs.«01_k».proof.Proof.Gen.Reference17Ideal
public import proofs.«01_k».proof.Proof.Gen.Reference17Ideal.Run
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Kernel18
public import proofs.«01_k».proof.Proof.Gen.Kernel18.Frame
public import proofs.«01_k».proof.Proof.Gen.Reference18Ideal
public import proofs.«01_k».proof.Proof.Gen.Reference18Ideal.Run
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Kernel19
public import proofs.«01_k».proof.Proof.Gen.Kernel19.Frame
public import proofs.«01_k».proof.Proof.Gen.Reference19Ideal
public import proofs.«01_k».proof.Proof.Gen.Reference19Ideal.Run
public import proofs.«01_k».proof.Proof.Fox.Equal
public import proofs.«01_k».proof.Proof.Fox.RefFrame
public import proofs.«01_k».proof.Proof.Fox.WordFrame
public import proofs.«01_k».proof.Proof.Ffn.HiddenSame
public import proofs.«01_k».proof.Proof.Ffn.Down
public import proofs.«01_k».proof.Proof.Ffn.Input
public import proofs.«01_k».proof.Proof.Ffn.GateMatrix
public import proofs.«01_k».proof.Proof.Ffn.UpMatrix
public import proofs.«01_k».proof.Proof.Ffn.Output
public import proofs.«01_k».proof.Proof.Proj.Delta
public import proofs.«01_k».proof.Proof.Proj.Mixer
public import proofs.«01_k».proof.Proof.Proj.OutputGate
public import proofs.«01_k».proof.Proof.Proj.DeltaGrad
public import proofs.«01_k».proof.Proof.Proj.TopMatrix
public import proofs.«01_k».proof.Proof.Proj.BottomMatrix
public import proofs.«01_k».proof.Proof.Proj.Attention
public import proofs.«01_k».proof.Proof.Ffn.Up
public import proofs.«01_k».proof.Proof.Proj.AttentionGrad
public import proofs.«01_k».proof.Proof.Proj.InputMatrix
public import proofs.«01_k».proof.Proof.Proj.MixerInput
public import proofs.«01_k».proof.Proof.Proj.SmallGates
public import Idealize.ShloMosaic.Adequacy
public import Idealize.ShloMosaic.Init

@[expose] public section

noncomputable section

namespace Cert.Proof

open Idealize.ShloMosaic Idealize.SL.Sem

/-- On finite arguments the kernel leaves the reference's gradients. -/
theorem gradients : Cert.algebraic_KernelIdeal_ReferenceIdeal_pre_finite (hKernelIdeal := Cert.KernelIdeal.Gen.facts)
    (hReferenceIdeal := Cert.ReferenceIdeal.Gen.facts) (hPre_finite := Cert.Fox.finite_facts) := fun m g m' g' hF hA =>
  ⟨Cert.KernelIdeal.Fox.out_q m, Cert.KernelIdeal.Fox.out_k m, Cert.KernelIdeal.Fox.out_v m, Cert.KernelIdeal.Fox.out_c m,
    (θ_run Cert.KernelIdeal.defs _ _).mono (fun _ h c => ⟨(h.1 c).1, (h.1 c).2.1, (h.1 c).2.2.1, (h.1 c).2.2.2, h.2.1 c⟩)
      (θ_run_and (Cert.KernelIdeal.Fox.run_outs m g) (Cert.KernelIdeal.Fox.frame m g)),
    (θ_run Cert.ReferenceIdeal.defs _ _).mono
      (fun _ h c => ⟨(h c).1.trans (Cert.Fox.same_q hA hF c), (h c).2.1.trans (Cert.Fox.same_k hA hF c),
        (h c).2.2.1.trans (Cert.Fox.same_v hA hF c), (h c).2.2.2.1.trans (Cert.Fox.same_c hA hF c), (h c).2.2.2.2⟩)
      (Cert.ReferenceIdeal.Value.run m' g')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Fox.finite_facts, Cert.Ffn.finite2_facts,
    fun m g _ => Cert.Kernel.Fox.frame m g, fun m g _ => Cert.KernelIdeal.Fox.frame m g, fun m g _ => Cert.KernelIdeal.Fox.frame m g,
    fun m g _ => Cert.ReferenceIdeal.Fox.frame m g, fun m g _ => Cert.ReferenceIdeal.Fox.frame m g,
    Cert.Ffn.hidden_words, Cert.Ffn.hidden_ideal, fun m g _ => Cert.Kernel2Ideal.Gen.frame m g,
    fun m g _ => Cert.Ffn.hidden_reference m g, fun m g _ => Cert.Ffn.hidden_reference m g,
    Cert.Ffn.down_words, Cert.Ffn.down_ideal, Cert.Ffn.down_reference,
    Cert.Ffn.input_words, Cert.Ffn.input_ideal, Cert.Ffn.input_reference,
    Cert.Ffn.gate_matrix_words, Cert.Ffn.gate_matrix_ideal, Cert.Ffn.gate_matrix_reference,
    Cert.Ffn.up_matrix_words, Cert.Ffn.up_matrix_ideal, Cert.Ffn.up_matrix_reference,
    Cert.Ffn.output_words, Cert.Ffn.output_ideal, Cert.Ffn.output_reference,
    Cert.Proj.delta_words, Cert.Proj.delta_ideal, Cert.Proj.delta_reference,
    Cert.Proj.mixer_words, Cert.Proj.mixer_ideal, Cert.Proj.mixer_reference,
    Cert.Proj.output_gate_words, Cert.Proj.output_gate_ideal, Cert.Proj.output_gate_reference,
    Cert.Proj.delta_grad_words, Cert.Proj.delta_grad_ideal, Cert.Proj.delta_grad_reference,
    Cert.Proj.top_matrix_words, Cert.Proj.top_matrix_ideal, Cert.Proj.top_matrix_reference,
    Cert.Proj.bottom_matrix_words, Cert.Proj.bottom_matrix_ideal, Cert.Proj.bottom_matrix_reference,
    Cert.Proj.attention_words, Cert.Proj.attention_ideal, Cert.Proj.attention_reference,
    Cert.Ffn.ffn_up_words, Cert.Ffn.ffn_up_ideal, Cert.Ffn.ffn_up_reference,
    Cert.Proj.attention_grad_words, Cert.Proj.attention_grad_ideal, Cert.Proj.attention_grad_reference,
    Cert.Proj.input_matrix_words, Cert.Proj.input_matrix_ideal, Cert.Proj.input_matrix_reference,
    Cert.Proj.mixer_input_words, Cert.Proj.mixer_input_ideal, Cert.Proj.mixer_input_reference,
    Cert.Proj.small_gates_words, Cert.Proj.small_gates_ideal, Cert.Proj.small_gates_reference,
    trivial, gradients, trivial, Cert.Ffn.hidden, trivial, Cert.Ffn.down, trivial, Cert.Ffn.input,
    trivial, Cert.Ffn.gate_matrix, trivial, Cert.Ffn.up_matrix, trivial, Cert.Ffn.output, trivial, Cert.Proj.delta, trivial, Cert.Proj.mixer,
    trivial, Cert.Proj.output_gate, trivial, Cert.Proj.delta_grad, trivial, Cert.Proj.top_matrix, trivial, Cert.Proj.bottom_matrix, trivial, Cert.Proj.attention,
    trivial, Cert.Ffn.ffn_up, trivial, Cert.Proj.attention_grad, trivial, Cert.Proj.input_matrix, trivial, Cert.Proj.mixer_input, trivial, Cert.Proj.small_gates⟩

end Cert.Proof
